-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))).2.2 = (fun _ => 1#1)

def Pre_Moe [hPre_tiles : Cert.Pre_tiles.Facts] (m : (ℓ : Loc Cert.Moe.nD Cert.Moe.τ Cert.Moe.sig) → Buf (Elt Bits) ℓ) : Prop :=
  ∀ c : Dev Cert.Moe.nD,
    (Cert.Pre_tiles.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4))).1 = (fun _ => 1#1)
    ∧ (Cert.Pre_tiles.fn (F := Bits) (m ((c.tc : Thread Cert.Moe.nD Cert.Moe.τ).loc Cert.Moe.main_arg0)) (m ((c.tc : Thread Cert.Moe.nD Cert.Moe.τ).loc Cert.Moe.main_arg1)) (m ((c.tc : Thread Cert.Moe.nD Cert.Moe.τ).loc Cert.Moe.main_arg2)) (m ((c.tc : Thread Cert.Moe.nD Cert.Moe.τ).loc Cert.Moe.main_arg3)) (m ((c.tc : Thread Cert.Moe.nD Cert.Moe.τ).loc Cert.Moe.main_arg4))).2 = (fun _ => 1#1)

def Pre_MoeIdeal [hPre_tiles : Cert.Pre_tiles.Facts] (m : (ℓ : Loc Cert.MoeIdeal.nD Cert.MoeIdeal.τ Cert.MoeIdeal.sig) → Buf (Elt Ideal) ℓ) : Prop :=
  ∀ c : Dev Cert.MoeIdeal.nD,
    (Cert.Pre_tiles.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))).1 = (fun _ => 1#1)
    ∧ (Cert.Pre_tiles.fn (F := Ideal) (m ((c.tc : Thread Cert.MoeIdeal.nD Cert.MoeIdeal.τ).loc Cert.MoeIdeal.main_arg0)) (m ((c.tc : Thread Cert.MoeIdeal.nD Cert.MoeIdeal.τ).loc Cert.MoeIdeal.main_arg1)) (m ((c.tc : Thread Cert.MoeIdeal.nD Cert.MoeIdeal.τ).loc Cert.MoeIdeal.main_arg2)) (m ((c.tc : Thread Cert.MoeIdeal.nD Cert.MoeIdeal.τ).loc Cert.MoeIdeal.main_arg3)) (m ((c.tc : Thread Cert.MoeIdeal.nD Cert.MoeIdeal.τ).loc Cert.MoeIdeal.main_arg4))).2 = (fun _ => 1#1)

def Pre_MoeReferenceIdeal (m : (ℓ : Loc Cert.MoeReferenceIdeal.nD Cert.MoeReferenceIdeal.τ Cert.MoeReferenceIdeal.sig) → Buf (Elt Ideal) ℓ) : Prop :=
  True

def Pre_MoeReferenceIdeal_tiles [hPre_tiles : Cert.Pre_tiles.Facts] (m : (ℓ : Loc Cert.MoeReferenceIdeal.nD Cert.MoeReferenceIdeal.τ Cert.MoeReferenceIdeal.sig) → Buf (Elt Ideal) ℓ) : Prop :=
  ∀ c : Dev Cert.MoeReferenceIdeal.nD,
    (Cert.Pre_tiles.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4))).1 = (fun _ => 1#1)
    ∧ (Cert.Pre_tiles.fn (F := Ideal) (m ((c.tc : Thread Cert.MoeReferenceIdeal.nD Cert.MoeReferenceIdeal.τ).loc Cert.MoeReferenceIdeal.main_arg0)) (m ((c.tc : Thread Cert.MoeReferenceIdeal.nD Cert.MoeReferenceIdeal.τ).loc Cert.MoeReferenceIdeal.main_arg1)) (m ((c.tc : Thread Cert.MoeReferenceIdeal.nD Cert.MoeReferenceIdeal.τ).loc Cert.MoeReferenceIdeal.main_arg2)) (m ((c.tc : Thread Cert.MoeReferenceIdeal.nD Cert.MoeReferenceIdeal.τ).loc Cert.MoeReferenceIdeal.main_arg3)) (m ((c.tc : Thread Cert.MoeReferenceIdeal.nD Cert.MoeReferenceIdeal.τ).loc Cert.MoeReferenceIdeal.main_arg4))).2 = (fun _ => 1#1)

def Pre_Ffn (m : (ℓ : Loc Cert.Ffn.nD Cert.Ffn.τ Cert.Ffn.sig) → Buf (Elt Bits) ℓ) : Prop :=
  True

def Pre_FfnIdeal (m : (ℓ : Loc Cert.FfnIdeal.nD Cert.FfnIdeal.τ Cert.FfnIdeal.sig) → Buf (Elt Ideal) ℓ) : Prop :=
  True

def Pre_FfnReferenceIdeal (m : (ℓ : Loc Cert.FfnReferenceIdeal.nD Cert.FfnReferenceIdeal.τ Cert.FfnReferenceIdeal.sig) → Buf (Elt Ideal) ℓ) : Prop :=
  True

def Pre_Proj (m : (ℓ : Loc Cert.Proj.nD Cert.Proj.τ Cert.Proj.sig) → Buf (Elt Bits) ℓ) : Prop :=
  True

def Pre_ProjIdeal (m : (ℓ : Loc Cert.ProjIdeal.nD Cert.ProjIdeal.τ Cert.ProjIdeal.sig) → Buf (Elt Ideal) ℓ) : Prop :=
  True

def Pre_ProjReferenceIdeal (m : (ℓ : Loc Cert.ProjReferenceIdeal.nD Cert.ProjReferenceIdeal.τ Cert.ProjReferenceIdeal.sig) → Buf (Elt Ideal) ℓ) : Prop :=
  True

def Pre_Out (m : (ℓ : Loc Cert.Out.nD Cert.Out.τ Cert.Out.sig) → Buf (Elt Bits) ℓ) : Prop :=
  True

def Pre_OutIdeal (m : (ℓ : Loc Cert.OutIdeal.nD Cert.OutIdeal.τ Cert.OutIdeal.sig) → Buf (Elt Ideal) ℓ) : Prop :=
  True

def Pre_OutReferenceIdeal (m : (ℓ : Loc Cert.OutReferenceIdeal.nD Cert.OutReferenceIdeal.τ Cert.OutReferenceIdeal.sig) → Buf (Elt Ideal) ℓ) : Prop :=
  True

def Pre_Qkv (m : (ℓ : Loc Cert.Qkv.nD Cert.Qkv.τ Cert.Qkv.sig) → Buf (Elt Bits) ℓ) : Prop :=
  True

def Pre_QkvIdeal (m : (ℓ : Loc Cert.QkvIdeal.nD Cert.QkvIdeal.τ Cert.QkvIdeal.sig) → Buf (Elt Ideal) ℓ) : Prop :=
  True

def Pre_QkvReferenceIdeal (m : (ℓ : Loc Cert.QkvReferenceIdeal.nD Cert.QkvReferenceIdeal.τ Cert.QkvReferenceIdeal.sig) → Buf (Elt Ideal) ℓ) : Prop :=
  True

def Pre_Odd (m : (ℓ : Loc Cert.Odd.nD Cert.Odd.τ Cert.Odd.sig) → Buf (Elt Bits) ℓ) : Prop :=
  True

def Pre_OddIdeal (m : (ℓ : Loc Cert.OddIdeal.nD Cert.OddIdeal.τ Cert.OddIdeal.sig) → Buf (Elt Ideal) ℓ) : Prop :=
  True

def Pre_OddReferenceIdeal (m : (ℓ : Loc Cert.OddReferenceIdeal.nD Cert.OddReferenceIdeal.τ Cert.OddReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def quiescent_Moe [hMoe : Cert.Moe.Facts] [hPre_tiles : Cert.Pre_tiles.Facts] : Prop :=
  ∀ (m : (ℓ : Loc Cert.Moe.nD Cert.Moe.τ Cert.Moe.sig) → Buf (Elt Bits) ℓ) (g : Dev Cert.Moe.nD → PrngReg), Pre_Moe m →
    θ_run (Cert.Moe.defs (F := Bits)) (onTc (τ := Cert.Moe.τ) (Cert.Moe.main (F := Bits))) ⟨m, fun _ => 0, g⟩ (fun r => (∀ c : Dev Cert.Moe.nD,
      r.2.mem ((c.tc : Thread Cert.Moe.nD Cert.Moe.τ).loc Cert.Moe.main_arg0) = m ((c.tc : Thread Cert.Moe.nD Cert.Moe.τ).loc Cert.Moe.main_arg0)
      ∧ r.2.mem ((c.tc : Thread Cert.Moe.nD Cert.Moe.τ).loc Cert.Moe.main_arg1) = m ((c.tc : Thread Cert.Moe.nD Cert.Moe.τ).loc Cert.Moe.main_arg1)
      ∧ r.2.mem ((c.tc : Thread Cert.Moe.nD Cert.Moe.τ).loc Cert.Moe.main_arg2) = m ((c.tc : Thread Cert.Moe.nD Cert.Moe.τ).loc Cert.Moe.main_arg2)
      ∧ r.2.mem ((c.tc : Thread Cert.Moe.nD Cert.Moe.τ).loc Cert.Moe.main_arg3) = m ((c.tc : Thread Cert.Moe.nD Cert.Moe.τ).loc Cert.Moe.main_arg3)
      ∧ r.2.mem ((c.tc : Thread Cert.Moe.nD Cert.Moe.τ).loc Cert.Moe.main_arg4) = m ((c.tc : Thread Cert.Moe.nD Cert.Moe.τ).loc Cert.Moe.main_arg4))
      ∧ r.2.sem = fun _ => 0)

def quiescent_MoeIdeal [hMoeIdeal : Cert.MoeIdeal.Facts] [hPre_tiles : Cert.Pre_tiles.Facts] : Prop :=
  ∀ (m : (ℓ : Loc Cert.MoeIdeal.nD Cert.MoeIdeal.τ Cert.MoeIdeal.sig) → Buf (Elt Ideal) ℓ) (g : Dev Cert.MoeIdeal.nD → PrngReg), Pre_MoeIdeal m →
    θ_run (Cert.MoeIdeal.defs (F := Ideal)) (onTc (τ := Cert.MoeIdeal.τ) (Cert.MoeIdeal.main (F := Ideal))) ⟨m, fun _ => 0, g⟩ (fun r => (∀ c : Dev Cert.MoeIdeal.nD,
      r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
      ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
      ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
      ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
      ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ r.2.sem = fun _ => 0)

def quiescent_MoeReferenceIdeal [hMoeReferenceIdeal : Cert.MoeReferenceIdeal.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4))
      ∧ r.2.sem = fun _ => 0)

def quiescent_MoeReferenceIdeal_pre_tiles [hMoeReferenceIdeal : Cert.MoeReferenceIdeal.Facts] [hPre_tiles : Cert.Pre_tiles.Facts] : Prop :=
  ∀ (m : (ℓ : Loc Cert.MoeReferenceIdeal.nD Cert.MoeReferenceIdeal.τ Cert.MoeReferenceIdeal.sig) → Buf (Elt Ideal) ℓ) (g : Dev Cert.MoeReferenceIdeal.nD → PrngReg), Pre_MoeReferenceIdeal_tiles m →
    θ_run (Cert.MoeReferenceIdeal.defs (F := Ideal)) (onTc (τ := Cert.MoeReferenceIdeal.τ) (Cert.MoeReferenceIdeal.main (F := Ideal))) ⟨m, fun _ => 0, g⟩ (fun r => (∀ c : Dev Cert.MoeReferenceIdeal.nD,
      r.2.mem ((c.tc : Thread Cert.MoeReferenceIdeal.nD Cert.MoeReferenceIdeal.τ).loc Cert.MoeReferenceIdeal.main_arg0) = m ((c.tc : Thread Cert.MoeReferenceIdeal.nD Cert.MoeReferenceIdeal.τ).loc Cert.MoeReferenceIdeal.main_arg0)
      ∧ r.2.mem ((c.tc : Thread Cert.MoeReferenceIdeal.nD Cert.MoeReferenceIdeal.τ).loc Cert.MoeReferenceIdeal.main_arg1) = m ((c.tc : Thread Cert.MoeReferenceIdeal.nD Cert.MoeReferenceIdeal.τ).loc Cert.MoeReferenceIdeal.main_arg1)
      ∧ r.2.mem ((c.tc : Thread Cert.MoeReferenceIdeal.nD Cert.MoeReferenceIdeal.τ).loc Cert.MoeReferenceIdeal.main_arg2) = m ((c.tc : Thread Cert.MoeReferenceIdeal.nD Cert.MoeReferenceIdeal.τ).loc Cert.MoeReferenceIdeal.main_arg2)
      ∧ r.2.mem ((c.tc : Thread Cert.MoeReferenceIdeal.nD Cert.MoeReferenceIdeal.τ).loc Cert.MoeReferenceIdeal.main_arg3) = m ((c.tc : Thread Cert.MoeReferenceIdeal.nD Cert.MoeReferenceIdeal.τ).loc Cert.MoeReferenceIdeal.main_arg3)
      ∧ r.2.mem ((c.tc : Thread Cert.MoeReferenceIdeal.nD Cert.MoeReferenceIdeal.τ).loc Cert.MoeReferenceIdeal.main_arg4) = m ((c.tc : Thread Cert.MoeReferenceIdeal.nD Cert.MoeReferenceIdeal.τ).loc Cert.MoeReferenceIdeal.main_arg4))
      ∧ r.2.sem = fun _ => 0)

def quiescent_Ffn [hFfn : Cert.Ffn.Facts] : Prop :=
  ∀ (m : (ℓ : Loc Cert.Ffn.nD Cert.Ffn.τ Cert.Ffn.sig) → Buf (Elt Bits) ℓ) (g : Dev Cert.Ffn.nD → PrngReg), Pre_Ffn m →
    θ_run (Cert.Ffn.defs (F := Bits)) (onTc (τ := Cert.Ffn.τ) (Cert.Ffn.main (F := Bits))) ⟨m, fun _ => 0, g⟩ (fun r => (∀ c : Dev Cert.Ffn.nD,
      r.2.mem ((c.tc : Thread Cert.Ffn.nD Cert.Ffn.τ).loc Cert.Ffn.main_arg0) = m ((c.tc : Thread Cert.Ffn.nD Cert.Ffn.τ).loc Cert.Ffn.main_arg0)
      ∧ r.2.mem ((c.tc : Thread Cert.Ffn.nD Cert.Ffn.τ).loc Cert.Ffn.main_arg1) = m ((c.tc : Thread Cert.Ffn.nD Cert.Ffn.τ).loc Cert.Ffn.main_arg1)
      ∧ r.2.mem ((c.tc : Thread Cert.Ffn.nD Cert.Ffn.τ).loc Cert.Ffn.main_arg2) = m ((c.tc : Thread Cert.Ffn.nD Cert.Ffn.τ).loc Cert.Ffn.main_arg2)
      ∧ r.2.mem ((c.tc : Thread Cert.Ffn.nD Cert.Ffn.τ).loc Cert.Ffn.main_arg3) = m ((c.tc : Thread Cert.Ffn.nD Cert.Ffn.τ).loc Cert.Ffn.main_arg3)
      ∧ r.2.mem ((c.tc : Thread Cert.Ffn.nD Cert.Ffn.τ).loc Cert.Ffn.main_arg4) = m ((c.tc : Thread Cert.Ffn.nD Cert.Ffn.τ).loc Cert.Ffn.main_arg4)
      ∧ r.2.mem ((c.tc : Thread Cert.Ffn.nD Cert.Ffn.τ).loc Cert.Ffn.main_arg5) = m ((c.tc : Thread Cert.Ffn.nD Cert.Ffn.τ).loc Cert.Ffn.main_arg5)
      ∧ r.2.mem ((c.tc : Thread Cert.Ffn.nD Cert.Ffn.τ).loc Cert.Ffn.main_arg6) = m ((c.tc : Thread Cert.Ffn.nD Cert.Ffn.τ).loc Cert.Ffn.main_arg6)
      ∧ r.2.mem ((c.tc : Thread Cert.Ffn.nD Cert.Ffn.τ).loc Cert.Ffn.main_arg7) = m ((c.tc : Thread Cert.Ffn.nD Cert.Ffn.τ).loc Cert.Ffn.main_arg7))
      ∧ r.2.sem = fun _ => 0)

def quiescent_FfnIdeal [hFfnIdeal : Cert.FfnIdeal.Facts] : Prop :=
  ∀ (m : (ℓ : Loc Cert.FfnIdeal.nD Cert.FfnIdeal.τ Cert.FfnIdeal.sig) → Buf (Elt Ideal) ℓ) (g : Dev Cert.FfnIdeal.nD → PrngReg), Pre_FfnIdeal m →
    θ_run (Cert.FfnIdeal.defs (F := Ideal)) (onTc (τ := Cert.FfnIdeal.τ) (Cert.FfnIdeal.main (F := Ideal))) ⟨m, fun _ => 0, g⟩ (fun r => (∀ c : Dev Cert.FfnIdeal.nD,
      r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
      ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
      ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
      ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
      ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
      ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
      ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
      ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ r.2.sem = fun _ => 0)

def quiescent_FfnReferenceIdeal [hFfnReferenceIdeal : Cert.FfnReferenceIdeal.Facts] : Prop :=
  ∀ (m : (ℓ : Loc Cert.FfnReferenceIdeal.nD Cert.FfnReferenceIdeal.τ Cert.FfnReferenceIdeal.sig) → Buf (Elt Ideal) ℓ) (g : Dev Cert.FfnReferenceIdeal.nD → PrngReg), Pre_FfnReferenceIdeal m →
    θ_run (Cert.FfnReferenceIdeal.defs (F := Ideal)) (onTc (τ := Cert.FfnReferenceIdeal.τ) (Cert.FfnReferenceIdeal.main (F := Ideal))) ⟨m, fun _ => 0, g⟩ (fun r => (∀ c : Dev Cert.FfnReferenceIdeal.nD,
      r.2.mem ((c.tc : Thread Cert.FfnReferenceIdeal.nD Cert.FfnReferenceIdeal.τ).loc Cert.FfnReferenceIdeal.main_arg0) = m ((c.tc : Thread Cert.FfnReferenceIdeal.nD Cert.FfnReferenceIdeal.τ).loc Cert.FfnReferenceIdeal.main_arg0)
      ∧ r.2.mem ((c.tc : Thread Cert.FfnReferenceIdeal.nD Cert.FfnReferenceIdeal.τ).loc Cert.FfnReferenceIdeal.main_arg1) = m ((c.tc : Thread Cert.FfnReferenceIdeal.nD Cert.FfnReferenceIdeal.τ).loc Cert.FfnReferenceIdeal.main_arg1)
      ∧ r.2.mem ((c.tc : Thread Cert.FfnReferenceIdeal.nD Cert.FfnReferenceIdeal.τ).loc Cert.FfnReferenceIdeal.main_arg2) = m ((c.tc : Thread Cert.FfnReferenceIdeal.nD Cert.FfnReferenceIdeal.τ).loc Cert.FfnReferenceIdeal.main_arg2)
      ∧ r.2.mem ((c.tc : Thread Cert.FfnReferenceIdeal.nD Cert.FfnReferenceIdeal.τ).loc Cert.FfnReferenceIdeal.main_arg3) = m ((c.tc : Thread Cert.FfnReferenceIdeal.nD Cert.FfnReferenceIdeal.τ).loc Cert.FfnReferenceIdeal.main_arg3)
      ∧ r.2.mem ((c.tc : Thread Cert.FfnReferenceIdeal.nD Cert.FfnReferenceIdeal.τ).loc Cert.FfnReferenceIdeal.main_arg4) = m ((c.tc : Thread Cert.FfnReferenceIdeal.nD Cert.FfnReferenceIdeal.τ).loc Cert.FfnReferenceIdeal.main_arg4)
      ∧ r.2.mem ((c.tc : Thread Cert.FfnReferenceIdeal.nD Cert.FfnReferenceIdeal.τ).loc Cert.FfnReferenceIdeal.main_arg5) = m ((c.tc : Thread Cert.FfnReferenceIdeal.nD Cert.FfnReferenceIdeal.τ).loc Cert.FfnReferenceIdeal.main_arg5)
      ∧ r.2.mem ((c.tc : Thread Cert.FfnReferenceIdeal.nD Cert.FfnReferenceIdeal.τ).loc Cert.FfnReferenceIdeal.main_arg6) = m ((c.tc : Thread Cert.FfnReferenceIdeal.nD Cert.FfnReferenceIdeal.τ).loc Cert.FfnReferenceIdeal.main_arg6)
      ∧ r.2.mem ((c.tc : Thread Cert.FfnReferenceIdeal.nD Cert.FfnReferenceIdeal.τ).loc Cert.FfnReferenceIdeal.main_arg7) = m ((c.tc : Thread Cert.FfnReferenceIdeal.nD Cert.FfnReferenceIdeal.τ).loc Cert.FfnReferenceIdeal.main_arg7))
      ∧ r.2.sem = fun _ => 0)

def quiescent_Proj [hProj : Cert.Proj.Facts] : Prop :=
  ∀ (m : (ℓ : Loc Cert.Proj.nD Cert.Proj.τ Cert.Proj.sig) → Buf (Elt Bits) ℓ) (g : Dev Cert.Proj.nD → PrngReg), Pre_Proj m →
    θ_run (Cert.Proj.defs (F := Bits)) (onTc (τ := Cert.Proj.τ) (Cert.Proj.main (F := Bits))) ⟨m, fun _ => 0, g⟩ (fun r => (∀ c : Dev Cert.Proj.nD,
      r.2.mem ((c.tc : Thread Cert.Proj.nD Cert.Proj.τ).loc Cert.Proj.main_arg0) = m ((c.tc : Thread Cert.Proj.nD Cert.Proj.τ).loc Cert.Proj.main_arg0)
      ∧ r.2.mem ((c.tc : Thread Cert.Proj.nD Cert.Proj.τ).loc Cert.Proj.main_arg1) = m ((c.tc : Thread Cert.Proj.nD Cert.Proj.τ).loc Cert.Proj.main_arg1)
      ∧ r.2.mem ((c.tc : Thread Cert.Proj.nD Cert.Proj.τ).loc Cert.Proj.main_arg2) = m ((c.tc : Thread Cert.Proj.nD Cert.Proj.τ).loc Cert.Proj.main_arg2))
      ∧ r.2.sem = fun _ => 0)

def quiescent_ProjIdeal [hProjIdeal : Cert.ProjIdeal.Facts] : Prop :=
  ∀ (m : (ℓ : Loc Cert.ProjIdeal.nD Cert.ProjIdeal.τ Cert.ProjIdeal.sig) → Buf (Elt Ideal) ℓ) (g : Dev Cert.ProjIdeal.nD → PrngReg), Pre_ProjIdeal m →
    θ_run (Cert.ProjIdeal.defs (F := Ideal)) (onTc (τ := Cert.ProjIdeal.τ) (Cert.ProjIdeal.main (F := Ideal))) ⟨m, fun _ => 0, g⟩ (fun r => (∀ c : Dev Cert.ProjIdeal.nD,
      r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
      ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
      ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ r.2.sem = fun _ => 0)

def quiescent_ProjReferenceIdeal [hProjReferenceIdeal : Cert.ProjReferenceIdeal.Facts] : Prop :=
  ∀ (m : (ℓ : Loc Cert.ProjReferenceIdeal.nD Cert.ProjReferenceIdeal.τ Cert.ProjReferenceIdeal.sig) → Buf (Elt Ideal) ℓ) (g : Dev Cert.ProjReferenceIdeal.nD → PrngReg), Pre_ProjReferenceIdeal m →
    θ_run (Cert.ProjReferenceIdeal.defs (F := Ideal)) (onTc (τ := Cert.ProjReferenceIdeal.τ) (Cert.ProjReferenceIdeal.main (F := Ideal))) ⟨m, fun _ => 0, g⟩ (fun r => (∀ c : Dev Cert.ProjReferenceIdeal.nD,
      r.2.mem ((c.tc : Thread Cert.ProjReferenceIdeal.nD Cert.ProjReferenceIdeal.τ).loc Cert.ProjReferenceIdeal.main_arg0) = m ((c.tc : Thread Cert.ProjReferenceIdeal.nD Cert.ProjReferenceIdeal.τ).loc Cert.ProjReferenceIdeal.main_arg0)
      ∧ r.2.mem ((c.tc : Thread Cert.ProjReferenceIdeal.nD Cert.ProjReferenceIdeal.τ).loc Cert.ProjReferenceIdeal.main_arg1) = m ((c.tc : Thread Cert.ProjReferenceIdeal.nD Cert.ProjReferenceIdeal.τ).loc Cert.ProjReferenceIdeal.main_arg1)
      ∧ r.2.mem ((c.tc : Thread Cert.ProjReferenceIdeal.nD Cert.ProjReferenceIdeal.τ).loc Cert.ProjReferenceIdeal.main_arg2) = m ((c.tc : Thread Cert.ProjReferenceIdeal.nD Cert.ProjReferenceIdeal.τ).loc Cert.ProjReferenceIdeal.main_arg2))
      ∧ r.2.sem = fun _ => 0)

def quiescent_Out [hOut : Cert.Out.Facts] : Prop :=
  ∀ (m : (ℓ : Loc Cert.Out.nD Cert.Out.τ Cert.Out.sig) → Buf (Elt Bits) ℓ) (g : Dev Cert.Out.nD → PrngReg), Pre_Out m →
    θ_run (Cert.Out.defs (F := Bits)) (onTc (τ := Cert.Out.τ) (Cert.Out.main (F := Bits))) ⟨m, fun _ => 0, g⟩ (fun r => (∀ c : Dev Cert.Out.nD,
      r.2.mem ((c.tc : Thread Cert.Out.nD Cert.Out.τ).loc Cert.Out.main_arg0) = m ((c.tc : Thread Cert.Out.nD Cert.Out.τ).loc Cert.Out.main_arg0)
      ∧ r.2.mem ((c.tc : Thread Cert.Out.nD Cert.Out.τ).loc Cert.Out.main_arg1) = m ((c.tc : Thread Cert.Out.nD Cert.Out.τ).loc Cert.Out.main_arg1)
      ∧ r.2.mem ((c.tc : Thread Cert.Out.nD Cert.Out.τ).loc Cert.Out.main_arg2) = m ((c.tc : Thread Cert.Out.nD Cert.Out.τ).loc Cert.Out.main_arg2)
      ∧ r.2.mem ((c.tc : Thread Cert.Out.nD Cert.Out.τ).loc Cert.Out.main_arg3) = m ((c.tc : Thread Cert.Out.nD Cert.Out.τ).loc Cert.Out.main_arg3)
      ∧ r.2.mem ((c.tc : Thread Cert.Out.nD Cert.Out.τ).loc Cert.Out.main_arg4) = m ((c.tc : Thread Cert.Out.nD Cert.Out.τ).loc Cert.Out.main_arg4)
      ∧ r.2.mem ((c.tc : Thread Cert.Out.nD Cert.Out.τ).loc Cert.Out.main_arg5) = m ((c.tc : Thread Cert.Out.nD Cert.Out.τ).loc Cert.Out.main_arg5))
      ∧ r.2.sem = fun _ => 0)

def quiescent_OutIdeal [hOutIdeal : Cert.OutIdeal.Facts] : Prop :=
  ∀ (m : (ℓ : Loc Cert.OutIdeal.nD Cert.OutIdeal.τ Cert.OutIdeal.sig) → Buf (Elt Ideal) ℓ) (g : Dev Cert.OutIdeal.nD → PrngReg), Pre_OutIdeal m →
    θ_run (Cert.OutIdeal.defs (F := Ideal)) (onTc (τ := Cert.OutIdeal.τ) (Cert.OutIdeal.main (F := Ideal))) ⟨m, fun _ => 0, g⟩ (fun r => (∀ c : Dev Cert.OutIdeal.nD,
      r.2.mem ((c.tc : Thread Cert.OutIdeal.nD Cert.OutIdeal.τ).loc Cert.OutIdeal.main_arg0) = m ((c.tc : Thread Cert.OutIdeal.nD Cert.OutIdeal.τ).loc Cert.OutIdeal.main_arg0)
      ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
      ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
      ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
      ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
      ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ r.2.sem = fun _ => 0)

def quiescent_OutReferenceIdeal [hOutReferenceIdeal : Cert.OutReferenceIdeal.Facts] : Prop :=
  ∀ (m : (ℓ : Loc Cert.OutReferenceIdeal.nD Cert.OutReferenceIdeal.τ Cert.OutReferenceIdeal.sig) → Buf (Elt Ideal) ℓ) (g : Dev Cert.OutReferenceIdeal.nD → PrngReg), Pre_OutReferenceIdeal m →
    θ_run (Cert.OutReferenceIdeal.defs (F := Ideal)) (onTc (τ := Cert.OutReferenceIdeal.τ) (Cert.OutReferenceIdeal.main (F := Ideal))) ⟨m, fun _ => 0, g⟩ (fun r => (∀ c : Dev Cert.OutReferenceIdeal.nD,
      r.2.mem ((c.tc : Thread Cert.OutReferenceIdeal.nD Cert.OutReferenceIdeal.τ).loc Cert.OutReferenceIdeal.main_arg0) = m ((c.tc : Thread Cert.OutReferenceIdeal.nD Cert.OutReferenceIdeal.τ).loc Cert.OutReferenceIdeal.main_arg0)
      ∧ r.2.mem ((c.tc : Thread Cert.OutReferenceIdeal.nD Cert.OutReferenceIdeal.τ).loc Cert.OutReferenceIdeal.main_arg1) = m ((c.tc : Thread Cert.OutReferenceIdeal.nD Cert.OutReferenceIdeal.τ).loc Cert.OutReferenceIdeal.main_arg1)
      ∧ r.2.mem ((c.tc : Thread Cert.OutReferenceIdeal.nD Cert.OutReferenceIdeal.τ).loc Cert.OutReferenceIdeal.main_arg2) = m ((c.tc : Thread Cert.OutReferenceIdeal.nD Cert.OutReferenceIdeal.τ).loc Cert.OutReferenceIdeal.main_arg2)
      ∧ r.2.mem ((c.tc : Thread Cert.OutReferenceIdeal.nD Cert.OutReferenceIdeal.τ).loc Cert.OutReferenceIdeal.main_arg3) = m ((c.tc : Thread Cert.OutReferenceIdeal.nD Cert.OutReferenceIdeal.τ).loc Cert.OutReferenceIdeal.main_arg3)
      ∧ r.2.mem ((c.tc : Thread Cert.OutReferenceIdeal.nD Cert.OutReferenceIdeal.τ).loc Cert.OutReferenceIdeal.main_arg4) = m ((c.tc : Thread Cert.OutReferenceIdeal.nD Cert.OutReferenceIdeal.τ).loc Cert.OutReferenceIdeal.main_arg4)
      ∧ r.2.mem ((c.tc : Thread Cert.OutReferenceIdeal.nD Cert.OutReferenceIdeal.τ).loc Cert.OutReferenceIdeal.main_arg5) = m ((c.tc : Thread Cert.OutReferenceIdeal.nD Cert.OutReferenceIdeal.τ).loc Cert.OutReferenceIdeal.main_arg5))
      ∧ r.2.sem = fun _ => 0)

def quiescent_Qkv [hQkv : Cert.Qkv.Facts] : Prop :=
  ∀ (m : (ℓ : Loc Cert.Qkv.nD Cert.Qkv.τ Cert.Qkv.sig) → Buf (Elt Bits) ℓ) (g : Dev Cert.Qkv.nD → PrngReg), Pre_Qkv m →
    θ_run (Cert.Qkv.defs (F := Bits)) (onTc (τ := Cert.Qkv.τ) (Cert.Qkv.main (F := Bits))) ⟨m, fun _ => 0, g⟩ (fun r => (∀ c : Dev Cert.Qkv.nD,
      r.2.mem ((c.tc : Thread Cert.Qkv.nD Cert.Qkv.τ).loc Cert.Qkv.main_arg0) = m ((c.tc : Thread Cert.Qkv.nD Cert.Qkv.τ).loc Cert.Qkv.main_arg0)
      ∧ r.2.mem ((c.tc : Thread Cert.Qkv.nD Cert.Qkv.τ).loc Cert.Qkv.main_arg1) = m ((c.tc : Thread Cert.Qkv.nD Cert.Qkv.τ).loc Cert.Qkv.main_arg1))
      ∧ r.2.sem = fun _ => 0)

def quiescent_QkvIdeal [hQkvIdeal : Cert.QkvIdeal.Facts] : Prop :=
  ∀ (m : (ℓ : Loc Cert.QkvIdeal.nD Cert.QkvIdeal.τ Cert.QkvIdeal.sig) → Buf (Elt Ideal) ℓ) (g : Dev Cert.QkvIdeal.nD → PrngReg), Pre_QkvIdeal m →
    θ_run (Cert.QkvIdeal.defs (F := Ideal)) (onTc (τ := Cert.QkvIdeal.τ) (Cert.QkvIdeal.main (F := Ideal))) ⟨m, fun _ => 0, g⟩ (fun r => (∀ c : Dev Cert.QkvIdeal.nD,
      r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
      ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ r.2.sem = fun _ => 0)

def quiescent_QkvReferenceIdeal [hQkvReferenceIdeal : Cert.QkvReferenceIdeal.Facts] : Prop :=
  ∀ (m : (ℓ : Loc Cert.QkvReferenceIdeal.nD Cert.QkvReferenceIdeal.τ Cert.QkvReferenceIdeal.sig) → Buf (Elt Ideal) ℓ) (g : Dev Cert.QkvReferenceIdeal.nD → PrngReg), Pre_QkvReferenceIdeal m →
    θ_run (Cert.QkvReferenceIdeal.defs (F := Ideal)) (onTc (τ := Cert.QkvReferenceIdeal.τ) (Cert.QkvReferenceIdeal.main (F := Ideal))) ⟨m, fun _ => 0, g⟩ (fun r => (∀ c : Dev Cert.QkvReferenceIdeal.nD,
      r.2.mem ((c.tc : Thread Cert.QkvReferenceIdeal.nD Cert.QkvReferenceIdeal.τ).loc Cert.QkvReferenceIdeal.main_arg0) = m ((c.tc : Thread Cert.QkvReferenceIdeal.nD Cert.QkvReferenceIdeal.τ).loc Cert.QkvReferenceIdeal.main_arg0)
      ∧ r.2.mem ((c.tc : Thread Cert.QkvReferenceIdeal.nD Cert.QkvReferenceIdeal.τ).loc Cert.QkvReferenceIdeal.main_arg1) = m ((c.tc : Thread Cert.QkvReferenceIdeal.nD Cert.QkvReferenceIdeal.τ).loc Cert.QkvReferenceIdeal.main_arg1))
      ∧ r.2.sem = fun _ => 0)

def quiescent_Odd [hOdd : Cert.Odd.Facts] : Prop :=
  ∀ (m : (ℓ : Loc Cert.Odd.nD Cert.Odd.τ Cert.Odd.sig) → Buf (Elt Bits) ℓ) (g : Dev Cert.Odd.nD → PrngReg), Pre_Odd m →
    θ_run (Cert.Odd.defs (F := Bits)) (onTc (τ := Cert.Odd.τ) (Cert.Odd.main (F := Bits))) ⟨m, fun _ => 0, g⟩ (fun r => (∀ c : Dev Cert.Odd.nD,
      r.2.mem ((c.tc : Thread Cert.Odd.nD Cert.Odd.τ).loc Cert.Odd.main_arg0) = m ((c.tc : Thread Cert.Odd.nD Cert.Odd.τ).loc Cert.Odd.main_arg0)
      ∧ r.2.mem ((c.tc : Thread Cert.Odd.nD Cert.Odd.τ).loc Cert.Odd.main_arg1) = m ((c.tc : Thread Cert.Odd.nD Cert.Odd.τ).loc Cert.Odd.main_arg1)
      ∧ r.2.mem ((c.tc : Thread Cert.Odd.nD Cert.Odd.τ).loc Cert.Odd.main_arg2) = m ((c.tc : Thread Cert.Odd.nD Cert.Odd.τ).loc Cert.Odd.main_arg2)
      ∧ r.2.mem ((c.tc : Thread Cert.Odd.nD Cert.Odd.τ).loc Cert.Odd.main_arg3) = m ((c.tc : Thread Cert.Odd.nD Cert.Odd.τ).loc Cert.Odd.main_arg3)
      ∧ r.2.mem ((c.tc : Thread Cert.Odd.nD Cert.Odd.τ).loc Cert.Odd.main_arg4) = m ((c.tc : Thread Cert.Odd.nD Cert.Odd.τ).loc Cert.Odd.main_arg4)
      ∧ r.2.mem ((c.tc : Thread Cert.Odd.nD Cert.Odd.τ).loc Cert.Odd.main_arg5) = m ((c.tc : Thread Cert.Odd.nD Cert.Odd.τ).loc Cert.Odd.main_arg5)
      ∧ r.2.mem ((c.tc : Thread Cert.Odd.nD Cert.Odd.τ).loc Cert.Odd.main_arg6) = m ((c.tc : Thread Cert.Odd.nD Cert.Odd.τ).loc Cert.Odd.main_arg6))
      ∧ r.2.sem = fun _ => 0)

def quiescent_OddIdeal [hOddIdeal : Cert.OddIdeal.Facts] : Prop :=
  ∀ (m : (ℓ : Loc Cert.OddIdeal.nD Cert.OddIdeal.τ Cert.OddIdeal.sig) → Buf (Elt Ideal) ℓ) (g : Dev Cert.OddIdeal.nD → PrngReg), Pre_OddIdeal m →
    θ_run (Cert.OddIdeal.defs (F := Ideal)) (onTc (τ := Cert.OddIdeal.τ) (Cert.OddIdeal.main (F := Ideal))) ⟨m, fun _ => 0, g⟩ (fun r => (∀ c : Dev Cert.OddIdeal.nD,
      r.2.mem ((c.tc : Thread Cert.OddIdeal.nD Cert.OddIdeal.τ).loc Cert.OddIdeal.main_arg0) = m ((c.tc : Thread Cert.OddIdeal.nD Cert.OddIdeal.τ).loc Cert.OddIdeal.main_arg0)
      ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
      ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
      ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
      ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
      ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
      ∧ r.2.mem ((c.tc : Thread Cert.OddIdeal.nD Cert.OddIdeal.τ).loc Cert.OddIdeal.main_arg6) = m ((c.tc : Thread Cert.OddIdeal.nD Cert.OddIdeal.τ).loc Cert.OddIdeal.main_arg6))
      ∧ r.2.sem = fun _ => 0)

def quiescent_OddReferenceIdeal [hOddReferenceIdeal : Cert.OddReferenceIdeal.Facts] : Prop :=
  ∀ (m : (ℓ : Loc Cert.OddReferenceIdeal.nD Cert.OddReferenceIdeal.τ Cert.OddReferenceIdeal.sig) → Buf (Elt Ideal) ℓ) (g : Dev Cert.OddReferenceIdeal.nD → PrngReg), Pre_OddReferenceIdeal m →
    θ_run (Cert.OddReferenceIdeal.defs (F := Ideal)) (onTc (τ := Cert.OddReferenceIdeal.τ) (Cert.OddReferenceIdeal.main (F := Ideal))) ⟨m, fun _ => 0, g⟩ (fun r => (∀ c : Dev Cert.OddReferenceIdeal.nD,
      r.2.mem ((c.tc : Thread Cert.OddReferenceIdeal.nD Cert.OddReferenceIdeal.τ).loc Cert.OddReferenceIdeal.main_arg0) = m ((c.tc : Thread Cert.OddReferenceIdeal.nD Cert.OddReferenceIdeal.τ).loc Cert.OddReferenceIdeal.main_arg0)
      ∧ r.2.mem ((c.tc : Thread Cert.OddReferenceIdeal.nD Cert.OddReferenceIdeal.τ).loc Cert.OddReferenceIdeal.main_arg1) = m ((c.tc : Thread Cert.OddReferenceIdeal.nD Cert.OddReferenceIdeal.τ).loc Cert.OddReferenceIdeal.main_arg1)
      ∧ r.2.mem ((c.tc : Thread Cert.OddReferenceIdeal.nD Cert.OddReferenceIdeal.τ).loc Cert.OddReferenceIdeal.main_arg2) = m ((c.tc : Thread Cert.OddReferenceIdeal.nD Cert.OddReferenceIdeal.τ).loc Cert.OddReferenceIdeal.main_arg2)
      ∧ r.2.mem ((c.tc : Thread Cert.OddReferenceIdeal.nD Cert.OddReferenceIdeal.τ).loc Cert.OddReferenceIdeal.main_arg3) = m ((c.tc : Thread Cert.OddReferenceIdeal.nD Cert.OddReferenceIdeal.τ).loc Cert.OddReferenceIdeal.main_arg3)
      ∧ r.2.mem ((c.tc : Thread Cert.OddReferenceIdeal.nD Cert.OddReferenceIdeal.τ).loc Cert.OddReferenceIdeal.main_arg4) = m ((c.tc : Thread Cert.OddReferenceIdeal.nD Cert.OddReferenceIdeal.τ).loc Cert.OddReferenceIdeal.main_arg4)
      ∧ r.2.mem ((c.tc : Thread Cert.OddReferenceIdeal.nD Cert.OddReferenceIdeal.τ).loc Cert.OddReferenceIdeal.main_arg5) = m ((c.tc : Thread Cert.OddReferenceIdeal.nD Cert.OddReferenceIdeal.τ).loc Cert.OddReferenceIdeal.main_arg5)
      ∧ r.2.mem ((c.tc : Thread Cert.OddReferenceIdeal.nD Cert.OddReferenceIdeal.τ).loc Cert.OddReferenceIdeal.main_arg6) = m ((c.tc : Thread Cert.OddReferenceIdeal.nD Cert.OddReferenceIdeal.τ).loc Cert.OddReferenceIdeal.main_arg6))
      ∧ r.2.sem = fun _ => 0)

def preserves_Kernel_KernelIdeal : Prop :=
  IdealRules.named_const.Statement Cert.KernelIdeal.κ "log2e" .f32 0x3FB8AA3B#32 (((Real.log 2)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v21)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v21) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v40) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def preserves_Moe_MoeIdeal : Prop :=
  True

def algebraic_MoeIdeal_MoeReferenceIdeal [hMoeIdeal : Cert.MoeIdeal.Facts] [hMoeReferenceIdeal : Cert.MoeReferenceIdeal.Facts] [hPre_tiles : Cert.Pre_tiles.Facts] : Prop :=
  ∀ (m : (ℓ : Loc Cert.MoeIdeal.nD Cert.MoeIdeal.τ Cert.MoeIdeal.sig) → Buf (Elt Ideal) ℓ) (g : Dev Cert.MoeIdeal.nD → PrngReg)
    (m' : (ℓ : Loc Cert.MoeReferenceIdeal.nD Cert.MoeReferenceIdeal.τ Cert.MoeReferenceIdeal.sig) → Buf (Elt Ideal) ℓ) (g' : Dev Cert.MoeReferenceIdeal.nD → PrngReg), Pre_MoeIdeal m →
    (∀ c : Dev Cert.MoeIdeal.nD,
      m' ((c.tc : Thread Cert.MoeReferenceIdeal.nD Cert.MoeReferenceIdeal.τ).loc Cert.MoeReferenceIdeal.main_arg0) = m ((c.tc : Thread Cert.MoeIdeal.nD Cert.MoeIdeal.τ).loc Cert.MoeIdeal.main_arg0)
      ∧ m' ((c.tc : Thread Cert.MoeReferenceIdeal.nD Cert.MoeReferenceIdeal.τ).loc Cert.MoeReferenceIdeal.main_arg1) = m ((c.tc : Thread Cert.MoeIdeal.nD Cert.MoeIdeal.τ).loc Cert.MoeIdeal.main_arg1)
      ∧ m' ((c.tc : Thread Cert.MoeReferenceIdeal.nD Cert.MoeReferenceIdeal.τ).loc Cert.MoeReferenceIdeal.main_arg2) = m ((c.tc : Thread Cert.MoeIdeal.nD Cert.MoeIdeal.τ).loc Cert.MoeIdeal.main_arg2)
      ∧ m' ((c.tc : Thread Cert.MoeReferenceIdeal.nD Cert.MoeReferenceIdeal.τ).loc Cert.MoeReferenceIdeal.main_arg3) = m ((c.tc : Thread Cert.MoeIdeal.nD Cert.MoeIdeal.τ).loc Cert.MoeIdeal.main_arg3)
      ∧ m' ((c.tc : Thread Cert.MoeReferenceIdeal.nD Cert.MoeReferenceIdeal.τ).loc Cert.MoeReferenceIdeal.main_arg4) = m ((c.tc : Thread Cert.MoeIdeal.nD Cert.MoeIdeal.τ).loc Cert.MoeIdeal.main_arg4)) →
    ∃ (v0 : (c : Dev Cert.MoeIdeal.nD) → Buf (Elt Ideal) ((c.tc : Thread Cert.MoeIdeal.nD Cert.MoeIdeal.τ).loc Cert.MoeIdeal.main_v8)),
      θ_run (Cert.MoeIdeal.defs (F := Ideal)) (onTc (τ := Cert.MoeIdeal.τ) (Cert.MoeIdeal.main (F := Ideal))) ⟨m, fun _ => 0, g⟩ (fun r => ∀ c : Dev Cert.MoeIdeal.nD,
          r.2.mem ((c.tc : Thread Cert.MoeIdeal.nD Cert.MoeIdeal.τ).loc Cert.MoeIdeal.main_v8) = v0 c
          ∧ r.2.mem ((c.tc : Thread Cert.MoeIdeal.nD Cert.MoeIdeal.τ).loc Cert.MoeIdeal.main_arg0) = m ((c.tc : Thread Cert.MoeIdeal.nD Cert.MoeIdeal.τ).loc Cert.MoeIdeal.main_arg0)
          ∧ r.2.mem ((c.tc : Thread Cert.MoeIdeal.nD Cert.MoeIdeal.τ).loc Cert.MoeIdeal.main_arg1) = m ((c.tc : Thread Cert.MoeIdeal.nD Cert.MoeIdeal.τ).loc Cert.MoeIdeal.main_arg1)
          ∧ r.2.mem ((c.tc : Thread Cert.MoeIdeal.nD Cert.MoeIdeal.τ).loc Cert.MoeIdeal.main_arg2) = m ((c.tc : Thread Cert.MoeIdeal.nD Cert.MoeIdeal.τ).loc Cert.MoeIdeal.main_arg2)
          ∧ r.2.mem ((c.tc : Thread Cert.MoeIdeal.nD Cert.MoeIdeal.τ).loc Cert.MoeIdeal.main_arg3) = m ((c.tc : Thread Cert.MoeIdeal.nD Cert.MoeIdeal.τ).loc Cert.MoeIdeal.main_arg3)
          ∧ r.2.mem ((c.tc : Thread Cert.MoeIdeal.nD Cert.MoeIdeal.τ).loc Cert.MoeIdeal.main_arg4) = m ((c.tc : Thread Cert.MoeIdeal.nD Cert.MoeIdeal.τ).loc Cert.MoeIdeal.main_arg4))
      ∧ θ_run (Cert.MoeReferenceIdeal.defs (F := Ideal)) (onTc (τ := Cert.MoeReferenceIdeal.τ) (Cert.MoeReferenceIdeal.main (F := Ideal))) ⟨m', fun _ => 0, g'⟩ (fun r => ∀ c : Dev Cert.MoeReferenceIdeal.nD,
          r.2.mem ((c.tc : Thread Cert.MoeReferenceIdeal.nD Cert.MoeReferenceIdeal.τ).loc Cert.MoeReferenceIdeal.main_v24) = v0 c
          ∧ r.2.mem ((c.tc : Thread Cert.MoeReferenceIdeal.nD Cert.MoeReferenceIdeal.τ).loc Cert.MoeReferenceIdeal.main_arg0) = m' ((c.tc : Thread Cert.MoeReferenceIdeal.nD Cert.MoeReferenceIdeal.τ).loc Cert.MoeReferenceIdeal.main_arg0)
          ∧ r.2.mem ((c.tc : Thread Cert.MoeReferenceIdeal.nD Cert.MoeReferenceIdeal.τ).loc Cert.MoeReferenceIdeal.main_arg1) = m' ((c.tc : Thread Cert.MoeReferenceIdeal.nD Cert.MoeReferenceIdeal.τ).loc Cert.MoeReferenceIdeal.main_arg1)
          ∧ r.2.mem ((c.tc : Thread Cert.MoeReferenceIdeal.nD Cert.MoeReferenceIdeal.τ).loc Cert.MoeReferenceIdeal.main_arg2) = m' ((c.tc : Thread Cert.MoeReferenceIdeal.nD Cert.MoeReferenceIdeal.τ).loc Cert.MoeReferenceIdeal.main_arg2)
          ∧ r.2.mem ((c.tc : Thread Cert.MoeReferenceIdeal.nD Cert.MoeReferenceIdeal.τ).loc Cert.MoeReferenceIdeal.main_arg3) = m' ((c.tc : Thread Cert.MoeReferenceIdeal.nD Cert.MoeReferenceIdeal.τ).loc Cert.MoeReferenceIdeal.main_arg3)
          ∧ r.2.mem ((c.tc : Thread Cert.MoeReferenceIdeal.nD Cert.MoeReferenceIdeal.τ).loc Cert.MoeReferenceIdeal.main_arg4) = m' ((c.tc : Thread Cert.MoeReferenceIdeal.nD Cert.MoeReferenceIdeal.τ).loc Cert.MoeReferenceIdeal.main_arg4))

def preserves_Ffn_FfnIdeal : Prop :=
  True

def algebraic_FfnIdeal_FfnReferenceIdeal [hFfnIdeal : Cert.FfnIdeal.Facts] [hFfnReferenceIdeal : Cert.FfnReferenceIdeal.Facts] : Prop :=
  ∀ (m : (ℓ : Loc Cert.FfnIdeal.nD Cert.FfnIdeal.τ Cert.FfnIdeal.sig) → Buf (Elt Ideal) ℓ) (g : Dev Cert.FfnIdeal.nD → PrngReg)
    (m' : (ℓ : Loc Cert.FfnReferenceIdeal.nD Cert.FfnReferenceIdeal.τ Cert.FfnReferenceIdeal.sig) → Buf (Elt Ideal) ℓ) (g' : Dev Cert.FfnReferenceIdeal.nD → PrngReg), Pre_FfnIdeal m →
    (∀ c : Dev Cert.FfnIdeal.nD,
      m' ((c.tc : Thread Cert.FfnReferenceIdeal.nD Cert.FfnReferenceIdeal.τ).loc Cert.FfnReferenceIdeal.main_arg0) = m ((c.tc : Thread Cert.FfnIdeal.nD Cert.FfnIdeal.τ).loc Cert.FfnIdeal.main_arg0)
      ∧ m' ((c.tc : Thread Cert.FfnReferenceIdeal.nD Cert.FfnReferenceIdeal.τ).loc Cert.FfnReferenceIdeal.main_arg1) = m ((c.tc : Thread Cert.FfnIdeal.nD Cert.FfnIdeal.τ).loc Cert.FfnIdeal.main_arg1)
      ∧ m' ((c.tc : Thread Cert.FfnReferenceIdeal.nD Cert.FfnReferenceIdeal.τ).loc Cert.FfnReferenceIdeal.main_arg2) = m ((c.tc : Thread Cert.FfnIdeal.nD Cert.FfnIdeal.τ).loc Cert.FfnIdeal.main_arg2)
      ∧ m' ((c.tc : Thread Cert.FfnReferenceIdeal.nD Cert.FfnReferenceIdeal.τ).loc Cert.FfnReferenceIdeal.main_arg3) = m ((c.tc : Thread Cert.FfnIdeal.nD Cert.FfnIdeal.τ).loc Cert.FfnIdeal.main_arg3)
      ∧ m' ((c.tc : Thread Cert.FfnReferenceIdeal.nD Cert.FfnReferenceIdeal.τ).loc Cert.FfnReferenceIdeal.main_arg4) = m ((c.tc : Thread Cert.FfnIdeal.nD Cert.FfnIdeal.τ).loc Cert.FfnIdeal.main_arg4)
      ∧ m' ((c.tc : Thread Cert.FfnReferenceIdeal.nD Cert.FfnReferenceIdeal.τ).loc Cert.FfnReferenceIdeal.main_arg5) = m ((c.tc : Thread Cert.FfnIdeal.nD Cert.FfnIdeal.τ).loc Cert.FfnIdeal.main_arg5)
      ∧ m' ((c.tc : Thread Cert.FfnReferenceIdeal.nD Cert.FfnReferenceIdeal.τ).loc Cert.FfnReferenceIdeal.main_arg6) = m ((c.tc : Thread Cert.FfnIdeal.nD Cert.FfnIdeal.τ).loc Cert.FfnIdeal.main_arg6)
      ∧ m' ((c.tc : Thread Cert.FfnReferenceIdeal.nD Cert.FfnReferenceIdeal.τ).loc Cert.FfnReferenceIdeal.main_arg7) = m ((c.tc : Thread Cert.FfnIdeal.nD Cert.FfnIdeal.τ).loc Cert.FfnIdeal.main_arg7)) →
    ∃ (v0 : (c : Dev Cert.FfnIdeal.nD) → Buf (Elt Ideal) ((c.tc : Thread Cert.FfnIdeal.nD Cert.FfnIdeal.τ).loc Cert.FfnIdeal.main_v7)),
      θ_run (Cert.FfnIdeal.defs (F := Ideal)) (onTc (τ := Cert.FfnIdeal.τ) (Cert.FfnIdeal.main (F := Ideal))) ⟨m, fun _ => 0, g⟩ (fun r => ∀ c : Dev Cert.FfnIdeal.nD,
          r.2.mem ((c.tc : Thread Cert.FfnIdeal.nD Cert.FfnIdeal.τ).loc Cert.FfnIdeal.main_v7) = v0 c
          ∧ r.2.mem ((c.tc : Thread Cert.FfnIdeal.nD Cert.FfnIdeal.τ).loc Cert.FfnIdeal.main_arg0) = m ((c.tc : Thread Cert.FfnIdeal.nD Cert.FfnIdeal.τ).loc Cert.FfnIdeal.main_arg0)
          ∧ r.2.mem ((c.tc : Thread Cert.FfnIdeal.nD Cert.FfnIdeal.τ).loc Cert.FfnIdeal.main_arg1) = m ((c.tc : Thread Cert.FfnIdeal.nD Cert.FfnIdeal.τ).loc Cert.FfnIdeal.main_arg1)
          ∧ r.2.mem ((c.tc : Thread Cert.FfnIdeal.nD Cert.FfnIdeal.τ).loc Cert.FfnIdeal.main_arg2) = m ((c.tc : Thread Cert.FfnIdeal.nD Cert.FfnIdeal.τ).loc Cert.FfnIdeal.main_arg2)
          ∧ r.2.mem ((c.tc : Thread Cert.FfnIdeal.nD Cert.FfnIdeal.τ).loc Cert.FfnIdeal.main_arg3) = m ((c.tc : Thread Cert.FfnIdeal.nD Cert.FfnIdeal.τ).loc Cert.FfnIdeal.main_arg3)
          ∧ r.2.mem ((c.tc : Thread Cert.FfnIdeal.nD Cert.FfnIdeal.τ).loc Cert.FfnIdeal.main_arg4) = m ((c.tc : Thread Cert.FfnIdeal.nD Cert.FfnIdeal.τ).loc Cert.FfnIdeal.main_arg4)
          ∧ r.2.mem ((c.tc : Thread Cert.FfnIdeal.nD Cert.FfnIdeal.τ).loc Cert.FfnIdeal.main_arg5) = m ((c.tc : Thread Cert.FfnIdeal.nD Cert.FfnIdeal.τ).loc Cert.FfnIdeal.main_arg5)
          ∧ r.2.mem ((c.tc : Thread Cert.FfnIdeal.nD Cert.FfnIdeal.τ).loc Cert.FfnIdeal.main_arg6) = m ((c.tc : Thread Cert.FfnIdeal.nD Cert.FfnIdeal.τ).loc Cert.FfnIdeal.main_arg6)
          ∧ r.2.mem ((c.tc : Thread Cert.FfnIdeal.nD Cert.FfnIdeal.τ).loc Cert.FfnIdeal.main_arg7) = m ((c.tc : Thread Cert.FfnIdeal.nD Cert.FfnIdeal.τ).loc Cert.FfnIdeal.main_arg7))
      ∧ θ_run (Cert.FfnReferenceIdeal.defs (F := Ideal)) (onTc (τ := Cert.FfnReferenceIdeal.τ) (Cert.FfnReferenceIdeal.main (F := Ideal))) ⟨m', fun _ => 0, g'⟩ (fun r => ∀ c : Dev Cert.FfnReferenceIdeal.nD,
          r.2.mem ((c.tc : Thread Cert.FfnReferenceIdeal.nD Cert.FfnReferenceIdeal.τ).loc Cert.FfnReferenceIdeal.main_v40) = v0 c
          ∧ r.2.mem ((c.tc : Thread Cert.FfnReferenceIdeal.nD Cert.FfnReferenceIdeal.τ).loc Cert.FfnReferenceIdeal.main_arg0) = m' ((c.tc : Thread Cert.FfnReferenceIdeal.nD Cert.FfnReferenceIdeal.τ).loc Cert.FfnReferenceIdeal.main_arg0)
          ∧ r.2.mem ((c.tc : Thread Cert.FfnReferenceIdeal.nD Cert.FfnReferenceIdeal.τ).loc Cert.FfnReferenceIdeal.main_arg1) = m' ((c.tc : Thread Cert.FfnReferenceIdeal.nD Cert.FfnReferenceIdeal.τ).loc Cert.FfnReferenceIdeal.main_arg1)
          ∧ r.2.mem ((c.tc : Thread Cert.FfnReferenceIdeal.nD Cert.FfnReferenceIdeal.τ).loc Cert.FfnReferenceIdeal.main_arg2) = m' ((c.tc : Thread Cert.FfnReferenceIdeal.nD Cert.FfnReferenceIdeal.τ).loc Cert.FfnReferenceIdeal.main_arg2)
          ∧ r.2.mem ((c.tc : Thread Cert.FfnReferenceIdeal.nD Cert.FfnReferenceIdeal.τ).loc Cert.FfnReferenceIdeal.main_arg3) = m' ((c.tc : Thread Cert.FfnReferenceIdeal.nD Cert.FfnReferenceIdeal.τ).loc Cert.FfnReferenceIdeal.main_arg3)
          ∧ r.2.mem ((c.tc : Thread Cert.FfnReferenceIdeal.nD Cert.FfnReferenceIdeal.τ).loc Cert.FfnReferenceIdeal.main_arg4) = m' ((c.tc : Thread Cert.FfnReferenceIdeal.nD Cert.FfnReferenceIdeal.τ).loc Cert.FfnReferenceIdeal.main_arg4)
          ∧ r.2.mem ((c.tc : Thread Cert.FfnReferenceIdeal.nD Cert.FfnReferenceIdeal.τ).loc Cert.FfnReferenceIdeal.main_arg5) = m' ((c.tc : Thread Cert.FfnReferenceIdeal.nD Cert.FfnReferenceIdeal.τ).loc Cert.FfnReferenceIdeal.main_arg5)
          ∧ r.2.mem ((c.tc : Thread Cert.FfnReferenceIdeal.nD Cert.FfnReferenceIdeal.τ).loc Cert.FfnReferenceIdeal.main_arg6) = m' ((c.tc : Thread Cert.FfnReferenceIdeal.nD Cert.FfnReferenceIdeal.τ).loc Cert.FfnReferenceIdeal.main_arg6)
          ∧ r.2.mem ((c.tc : Thread Cert.FfnReferenceIdeal.nD Cert.FfnReferenceIdeal.τ).loc Cert.FfnReferenceIdeal.main_arg7) = m' ((c.tc : Thread Cert.FfnReferenceIdeal.nD Cert.FfnReferenceIdeal.τ).loc Cert.FfnReferenceIdeal.main_arg7))

def preserves_Proj_ProjIdeal : Prop :=
  True

def algebraic_ProjIdeal_ProjReferenceIdeal [hProjIdeal : Cert.ProjIdeal.Facts] [hProjReferenceIdeal : Cert.ProjReferenceIdeal.Facts] : Prop :=
  ∀ (m : (ℓ : Loc Cert.ProjIdeal.nD Cert.ProjIdeal.τ Cert.ProjIdeal.sig) → Buf (Elt Ideal) ℓ) (g : Dev Cert.ProjIdeal.nD → PrngReg)
    (m' : (ℓ : Loc Cert.ProjReferenceIdeal.nD Cert.ProjReferenceIdeal.τ Cert.ProjReferenceIdeal.sig) → Buf (Elt Ideal) ℓ) (g' : Dev Cert.ProjReferenceIdeal.nD → PrngReg), Pre_ProjIdeal m →
    (∀ c : Dev Cert.ProjIdeal.nD,
      m' ((c.tc : Thread Cert.ProjReferenceIdeal.nD Cert.ProjReferenceIdeal.τ).loc Cert.ProjReferenceIdeal.main_arg0) = m ((c.tc : Thread Cert.ProjIdeal.nD Cert.ProjIdeal.τ).loc Cert.ProjIdeal.main_arg0)
      ∧ m' ((c.tc : Thread Cert.ProjReferenceIdeal.nD Cert.ProjReferenceIdeal.τ).loc Cert.ProjReferenceIdeal.main_arg1) = m ((c.tc : Thread Cert.ProjIdeal.nD Cert.ProjIdeal.τ).loc Cert.ProjIdeal.main_arg1)
      ∧ m' ((c.tc : Thread Cert.ProjReferenceIdeal.nD Cert.ProjReferenceIdeal.τ).loc Cert.ProjReferenceIdeal.main_arg2) = m ((c.tc : Thread Cert.ProjIdeal.nD Cert.ProjIdeal.τ).loc Cert.ProjIdeal.main_arg2)) →
    ∃ (v0 : (c : Dev Cert.ProjIdeal.nD) → Buf (Elt Ideal) ((c.tc : Thread Cert.ProjIdeal.nD Cert.ProjIdeal.τ).loc Cert.ProjIdeal.main_v20_0)) (v1 : (c : Dev Cert.ProjIdeal.nD) → Buf (Elt Ideal) ((c.tc : Thread Cert.ProjIdeal.nD Cert.ProjIdeal.τ).loc Cert.ProjIdeal.main_v20_1)) (v2 : (c : Dev Cert.ProjIdeal.nD) → Buf (Elt Ideal) ((c.tc : Thread Cert.ProjIdeal.nD Cert.ProjIdeal.τ).loc Cert.ProjIdeal.main_v20_2)),
      θ_run (Cert.ProjIdeal.defs (F := Ideal)) (onTc (τ := Cert.ProjIdeal.τ) (Cert.ProjIdeal.main (F := Ideal))) ⟨m, fun _ => 0, g⟩ (fun r => ∀ c : Dev Cert.ProjIdeal.nD,
          r.2.mem ((c.tc : Thread Cert.ProjIdeal.nD Cert.ProjIdeal.τ).loc Cert.ProjIdeal.main_v20_0) = v0 c
          ∧ r.2.mem ((c.tc : Thread Cert.ProjIdeal.nD Cert.ProjIdeal.τ).loc Cert.ProjIdeal.main_v20_1) = v1 c
          ∧ r.2.mem ((c.tc : Thread Cert.ProjIdeal.nD Cert.ProjIdeal.τ).loc Cert.ProjIdeal.main_v20_2) = v2 c
          ∧ r.2.mem ((c.tc : Thread Cert.ProjIdeal.nD Cert.ProjIdeal.τ).loc Cert.ProjIdeal.main_arg0) = m ((c.tc : Thread Cert.ProjIdeal.nD Cert.ProjIdeal.τ).loc Cert.ProjIdeal.main_arg0)
          ∧ r.2.mem ((c.tc : Thread Cert.ProjIdeal.nD Cert.ProjIdeal.τ).loc Cert.ProjIdeal.main_arg1) = m ((c.tc : Thread Cert.ProjIdeal.nD Cert.ProjIdeal.τ).loc Cert.ProjIdeal.main_arg1)
          ∧ r.2.mem ((c.tc : Thread Cert.ProjIdeal.nD Cert.ProjIdeal.τ).loc Cert.ProjIdeal.main_arg2) = m ((c.tc : Thread Cert.ProjIdeal.nD Cert.ProjIdeal.τ).loc Cert.ProjIdeal.main_arg2))
      ∧ θ_run (Cert.ProjReferenceIdeal.defs (F := Ideal)) (onTc (τ := Cert.ProjReferenceIdeal.τ) (Cert.ProjReferenceIdeal.main (F := Ideal))) ⟨m', fun _ => 0, g'⟩ (fun r => ∀ c : Dev Cert.ProjReferenceIdeal.nD,
          r.2.mem ((c.tc : Thread Cert.ProjReferenceIdeal.nD Cert.ProjReferenceIdeal.τ).loc Cert.ProjReferenceIdeal.main_v9) = v0 c
          ∧ r.2.mem ((c.tc : Thread Cert.ProjReferenceIdeal.nD Cert.ProjReferenceIdeal.τ).loc Cert.ProjReferenceIdeal.main_v17) = v1 c
          ∧ r.2.mem ((c.tc : Thread Cert.ProjReferenceIdeal.nD Cert.ProjReferenceIdeal.τ).loc Cert.ProjReferenceIdeal.main_v22) = v2 c
          ∧ r.2.mem ((c.tc : Thread Cert.ProjReferenceIdeal.nD Cert.ProjReferenceIdeal.τ).loc Cert.ProjReferenceIdeal.main_arg0) = m' ((c.tc : Thread Cert.ProjReferenceIdeal.nD Cert.ProjReferenceIdeal.τ).loc Cert.ProjReferenceIdeal.main_arg0)
          ∧ r.2.mem ((c.tc : Thread Cert.ProjReferenceIdeal.nD Cert.ProjReferenceIdeal.τ).loc Cert.ProjReferenceIdeal.main_arg1) = m' ((c.tc : Thread Cert.ProjReferenceIdeal.nD Cert.ProjReferenceIdeal.τ).loc Cert.ProjReferenceIdeal.main_arg1)
          ∧ r.2.mem ((c.tc : Thread Cert.ProjReferenceIdeal.nD Cert.ProjReferenceIdeal.τ).loc Cert.ProjReferenceIdeal.main_arg2) = m' ((c.tc : Thread Cert.ProjReferenceIdeal.nD Cert.ProjReferenceIdeal.τ).loc Cert.ProjReferenceIdeal.main_arg2))

def preserves_Out_OutIdeal : Prop :=
  True

def algebraic_OutIdeal_OutReferenceIdeal [hOutIdeal : Cert.OutIdeal.Facts] [hOutReferenceIdeal : Cert.OutReferenceIdeal.Facts] : Prop :=
  ∀ (m : (ℓ : Loc Cert.OutIdeal.nD Cert.OutIdeal.τ Cert.OutIdeal.sig) → Buf (Elt Ideal) ℓ) (g : Dev Cert.OutIdeal.nD → PrngReg)
    (m' : (ℓ : Loc Cert.OutReferenceIdeal.nD Cert.OutReferenceIdeal.τ Cert.OutReferenceIdeal.sig) → Buf (Elt Ideal) ℓ) (g' : Dev Cert.OutReferenceIdeal.nD → PrngReg), Pre_OutIdeal m →
    (∀ c : Dev Cert.OutIdeal.nD,
      m' ((c.tc : Thread Cert.OutReferenceIdeal.nD Cert.OutReferenceIdeal.τ).loc Cert.OutReferenceIdeal.main_arg0) = m ((c.tc : Thread Cert.OutIdeal.nD Cert.OutIdeal.τ).loc Cert.OutIdeal.main_arg0)
      ∧ m' ((c.tc : Thread Cert.OutReferenceIdeal.nD Cert.OutReferenceIdeal.τ).loc Cert.OutReferenceIdeal.main_arg1) = m ((c.tc : Thread Cert.OutIdeal.nD Cert.OutIdeal.τ).loc Cert.OutIdeal.main_arg1)
      ∧ m' ((c.tc : Thread Cert.OutReferenceIdeal.nD Cert.OutReferenceIdeal.τ).loc Cert.OutReferenceIdeal.main_arg2) = m ((c.tc : Thread Cert.OutIdeal.nD Cert.OutIdeal.τ).loc Cert.OutIdeal.main_arg2)
      ∧ m' ((c.tc : Thread Cert.OutReferenceIdeal.nD Cert.OutReferenceIdeal.τ).loc Cert.OutReferenceIdeal.main_arg3) = m ((c.tc : Thread Cert.OutIdeal.nD Cert.OutIdeal.τ).loc Cert.OutIdeal.main_arg3)
      ∧ m' ((c.tc : Thread Cert.OutReferenceIdeal.nD Cert.OutReferenceIdeal.τ).loc Cert.OutReferenceIdeal.main_arg4) = m ((c.tc : Thread Cert.OutIdeal.nD Cert.OutIdeal.τ).loc Cert.OutIdeal.main_arg4)
      ∧ m' ((c.tc : Thread Cert.OutReferenceIdeal.nD Cert.OutReferenceIdeal.τ).loc Cert.OutReferenceIdeal.main_arg5) = m ((c.tc : Thread Cert.OutIdeal.nD Cert.OutIdeal.τ).loc Cert.OutIdeal.main_arg5)) →
    ∃ (v0 : (c : Dev Cert.OutIdeal.nD) → Buf (Elt Ideal) ((c.tc : Thread Cert.OutIdeal.nD Cert.OutIdeal.τ).loc Cert.OutIdeal.main_v3_0)) (v1 : (c : Dev Cert.OutIdeal.nD) → Buf (Elt Ideal) ((c.tc : Thread Cert.OutIdeal.nD Cert.OutIdeal.τ).loc Cert.OutIdeal.main_v3_1)),
      θ_run (Cert.OutIdeal.defs (F := Ideal)) (onTc (τ := Cert.OutIdeal.τ) (Cert.OutIdeal.main (F := Ideal))) ⟨m, fun _ => 0, g⟩ (fun r => ∀ c : Dev Cert.OutIdeal.nD,
          r.2.mem ((c.tc : Thread Cert.OutIdeal.nD Cert.OutIdeal.τ).loc Cert.OutIdeal.main_v3_0) = v0 c
          ∧ r.2.mem ((c.tc : Thread Cert.OutIdeal.nD Cert.OutIdeal.τ).loc Cert.OutIdeal.main_v3_1) = v1 c
          ∧ r.2.mem ((c.tc : Thread Cert.OutIdeal.nD Cert.OutIdeal.τ).loc Cert.OutIdeal.main_arg0) = m ((c.tc : Thread Cert.OutIdeal.nD Cert.OutIdeal.τ).loc Cert.OutIdeal.main_arg0)
          ∧ r.2.mem ((c.tc : Thread Cert.OutIdeal.nD Cert.OutIdeal.τ).loc Cert.OutIdeal.main_arg1) = m ((c.tc : Thread Cert.OutIdeal.nD Cert.OutIdeal.τ).loc Cert.OutIdeal.main_arg1)
          ∧ r.2.mem ((c.tc : Thread Cert.OutIdeal.nD Cert.OutIdeal.τ).loc Cert.OutIdeal.main_arg2) = m ((c.tc : Thread Cert.OutIdeal.nD Cert.OutIdeal.τ).loc Cert.OutIdeal.main_arg2)
          ∧ r.2.mem ((c.tc : Thread Cert.OutIdeal.nD Cert.OutIdeal.τ).loc Cert.OutIdeal.main_arg3) = m ((c.tc : Thread Cert.OutIdeal.nD Cert.OutIdeal.τ).loc Cert.OutIdeal.main_arg3)
          ∧ r.2.mem ((c.tc : Thread Cert.OutIdeal.nD Cert.OutIdeal.τ).loc Cert.OutIdeal.main_arg4) = m ((c.tc : Thread Cert.OutIdeal.nD Cert.OutIdeal.τ).loc Cert.OutIdeal.main_arg4)
          ∧ r.2.mem ((c.tc : Thread Cert.OutIdeal.nD Cert.OutIdeal.τ).loc Cert.OutIdeal.main_arg5) = m ((c.tc : Thread Cert.OutIdeal.nD Cert.OutIdeal.τ).loc Cert.OutIdeal.main_arg5))
      ∧ θ_run (Cert.OutReferenceIdeal.defs (F := Ideal)) (onTc (τ := Cert.OutReferenceIdeal.τ) (Cert.OutReferenceIdeal.main (F := Ideal))) ⟨m', fun _ => 0, g'⟩ (fun r => ∀ c : Dev Cert.OutReferenceIdeal.nD,
          r.2.mem ((c.tc : Thread Cert.OutReferenceIdeal.nD Cert.OutReferenceIdeal.τ).loc Cert.OutReferenceIdeal.main_v28) = v0 c
          ∧ r.2.mem ((c.tc : Thread Cert.OutReferenceIdeal.nD Cert.OutReferenceIdeal.τ).loc Cert.OutReferenceIdeal.main_v29) = v1 c
          ∧ r.2.mem ((c.tc : Thread Cert.OutReferenceIdeal.nD Cert.OutReferenceIdeal.τ).loc Cert.OutReferenceIdeal.main_arg0) = m' ((c.tc : Thread Cert.OutReferenceIdeal.nD Cert.OutReferenceIdeal.τ).loc Cert.OutReferenceIdeal.main_arg0)
          ∧ r.2.mem ((c.tc : Thread Cert.OutReferenceIdeal.nD Cert.OutReferenceIdeal.τ).loc Cert.OutReferenceIdeal.main_arg1) = m' ((c.tc : Thread Cert.OutReferenceIdeal.nD Cert.OutReferenceIdeal.τ).loc Cert.OutReferenceIdeal.main_arg1)
          ∧ r.2.mem ((c.tc : Thread Cert.OutReferenceIdeal.nD Cert.OutReferenceIdeal.τ).loc Cert.OutReferenceIdeal.main_arg2) = m' ((c.tc : Thread Cert.OutReferenceIdeal.nD Cert.OutReferenceIdeal.τ).loc Cert.OutReferenceIdeal.main_arg2)
          ∧ r.2.mem ((c.tc : Thread Cert.OutReferenceIdeal.nD Cert.OutReferenceIdeal.τ).loc Cert.OutReferenceIdeal.main_arg3) = m' ((c.tc : Thread Cert.OutReferenceIdeal.nD Cert.OutReferenceIdeal.τ).loc Cert.OutReferenceIdeal.main_arg3)
          ∧ r.2.mem ((c.tc : Thread Cert.OutReferenceIdeal.nD Cert.OutReferenceIdeal.τ).loc Cert.OutReferenceIdeal.main_arg4) = m' ((c.tc : Thread Cert.OutReferenceIdeal.nD Cert.OutReferenceIdeal.τ).loc Cert.OutReferenceIdeal.main_arg4)
          ∧ r.2.mem ((c.tc : Thread Cert.OutReferenceIdeal.nD Cert.OutReferenceIdeal.τ).loc Cert.OutReferenceIdeal.main_arg5) = m' ((c.tc : Thread Cert.OutReferenceIdeal.nD Cert.OutReferenceIdeal.τ).loc Cert.OutReferenceIdeal.main_arg5))

def preserves_Qkv_QkvIdeal : Prop :=
  True

def algebraic_QkvIdeal_QkvReferenceIdeal [hQkvIdeal : Cert.QkvIdeal.Facts] [hQkvReferenceIdeal : Cert.QkvReferenceIdeal.Facts] : Prop :=
  ∀ (m : (ℓ : Loc Cert.QkvIdeal.nD Cert.QkvIdeal.τ Cert.QkvIdeal.sig) → Buf (Elt Ideal) ℓ) (g : Dev Cert.QkvIdeal.nD → PrngReg)
    (m' : (ℓ : Loc Cert.QkvReferenceIdeal.nD Cert.QkvReferenceIdeal.τ Cert.QkvReferenceIdeal.sig) → Buf (Elt Ideal) ℓ) (g' : Dev Cert.QkvReferenceIdeal.nD → PrngReg), Pre_QkvIdeal m →
    (∀ c : Dev Cert.QkvIdeal.nD,
      m' ((c.tc : Thread Cert.QkvReferenceIdeal.nD Cert.QkvReferenceIdeal.τ).loc Cert.QkvReferenceIdeal.main_arg0) = m ((c.tc : Thread Cert.QkvIdeal.nD Cert.QkvIdeal.τ).loc Cert.QkvIdeal.main_arg0)
      ∧ m' ((c.tc : Thread Cert.QkvReferenceIdeal.nD Cert.QkvReferenceIdeal.τ).loc Cert.QkvReferenceIdeal.main_arg1) = m ((c.tc : Thread Cert.QkvIdeal.nD Cert.QkvIdeal.τ).loc Cert.QkvIdeal.main_arg1)) →
    ∃ (v0 : (c : Dev Cert.QkvIdeal.nD) → Buf (Elt Ideal) ((c.tc : Thread Cert.QkvIdeal.nD Cert.QkvIdeal.τ).loc Cert.QkvIdeal.main_v71_0)) (v1 : (c : Dev Cert.QkvIdeal.nD) → Buf (Elt Ideal) ((c.tc : Thread Cert.QkvIdeal.nD Cert.QkvIdeal.τ).loc Cert.QkvIdeal.main_v71_1)) (v2 : (c : Dev Cert.QkvIdeal.nD) → Buf (Elt Ideal) ((c.tc : Thread Cert.QkvIdeal.nD Cert.QkvIdeal.τ).loc Cert.QkvIdeal.main_v71_2)),
      θ_run (Cert.QkvIdeal.defs (F := Ideal)) (onTc (τ := Cert.QkvIdeal.τ) (Cert.QkvIdeal.main (F := Ideal))) ⟨m, fun _ => 0, g⟩ (fun r => ∀ c : Dev Cert.QkvIdeal.nD,
          r.2.mem ((c.tc : Thread Cert.QkvIdeal.nD Cert.QkvIdeal.τ).loc Cert.QkvIdeal.main_v71_0) = v0 c
          ∧ r.2.mem ((c.tc : Thread Cert.QkvIdeal.nD Cert.QkvIdeal.τ).loc Cert.QkvIdeal.main_v71_1) = v1 c
          ∧ r.2.mem ((c.tc : Thread Cert.QkvIdeal.nD Cert.QkvIdeal.τ).loc Cert.QkvIdeal.main_v71_2) = v2 c
          ∧ r.2.mem ((c.tc : Thread Cert.QkvIdeal.nD Cert.QkvIdeal.τ).loc Cert.QkvIdeal.main_arg0) = m ((c.tc : Thread Cert.QkvIdeal.nD Cert.QkvIdeal.τ).loc Cert.QkvIdeal.main_arg0)
          ∧ r.2.mem ((c.tc : Thread Cert.QkvIdeal.nD Cert.QkvIdeal.τ).loc Cert.QkvIdeal.main_arg1) = m ((c.tc : Thread Cert.QkvIdeal.nD Cert.QkvIdeal.τ).loc Cert.QkvIdeal.main_arg1))
      ∧ θ_run (Cert.QkvReferenceIdeal.defs (F := Ideal)) (onTc (τ := Cert.QkvReferenceIdeal.τ) (Cert.QkvReferenceIdeal.main (F := Ideal))) ⟨m', fun _ => 0, g'⟩ (fun r => ∀ c : Dev Cert.QkvReferenceIdeal.nD,
          r.2.mem ((c.tc : Thread Cert.QkvReferenceIdeal.nD Cert.QkvReferenceIdeal.τ).loc Cert.QkvReferenceIdeal.main_v63) = v0 c
          ∧ r.2.mem ((c.tc : Thread Cert.QkvReferenceIdeal.nD Cert.QkvReferenceIdeal.τ).loc Cert.QkvReferenceIdeal.main_v65) = v1 c
          ∧ r.2.mem ((c.tc : Thread Cert.QkvReferenceIdeal.nD Cert.QkvReferenceIdeal.τ).loc Cert.QkvReferenceIdeal.main_v67) = v2 c
          ∧ r.2.mem ((c.tc : Thread Cert.QkvReferenceIdeal.nD Cert.QkvReferenceIdeal.τ).loc Cert.QkvReferenceIdeal.main_arg0) = m' ((c.tc : Thread Cert.QkvReferenceIdeal.nD Cert.QkvReferenceIdeal.τ).loc Cert.QkvReferenceIdeal.main_arg0)
          ∧ r.2.mem ((c.tc : Thread Cert.QkvReferenceIdeal.nD Cert.QkvReferenceIdeal.τ).loc Cert.QkvReferenceIdeal.main_arg1) = m' ((c.tc : Thread Cert.QkvReferenceIdeal.nD Cert.QkvReferenceIdeal.τ).loc Cert.QkvReferenceIdeal.main_arg1))

def preserves_Odd_OddIdeal : Prop :=
  True

def algebraic_OddIdeal_OddReferenceIdeal [hOddIdeal : Cert.OddIdeal.Facts] [hOddReferenceIdeal : Cert.OddReferenceIdeal.Facts] : Prop :=
  ∀ (m : (ℓ : Loc Cert.OddIdeal.nD Cert.OddIdeal.τ Cert.OddIdeal.sig) → Buf (Elt Ideal) ℓ) (g : Dev Cert.OddIdeal.nD → PrngReg)
    (m' : (ℓ : Loc Cert.OddReferenceIdeal.nD Cert.OddReferenceIdeal.τ Cert.OddReferenceIdeal.sig) → Buf (Elt Ideal) ℓ) (g' : Dev Cert.OddReferenceIdeal.nD → PrngReg), Pre_OddIdeal m →
    (∀ c : Dev Cert.OddIdeal.nD,
      m' ((c.tc : Thread Cert.OddReferenceIdeal.nD Cert.OddReferenceIdeal.τ).loc Cert.OddReferenceIdeal.main_arg0) = m ((c.tc : Thread Cert.OddIdeal.nD Cert.OddIdeal.τ).loc Cert.OddIdeal.main_arg0)
      ∧ m' ((c.tc : Thread Cert.OddReferenceIdeal.nD Cert.OddReferenceIdeal.τ).loc Cert.OddReferenceIdeal.main_arg1) = m ((c.tc : Thread Cert.OddIdeal.nD Cert.OddIdeal.τ).loc Cert.OddIdeal.main_arg1)
      ∧ m' ((c.tc : Thread Cert.OddReferenceIdeal.nD Cert.OddReferenceIdeal.τ).loc Cert.OddReferenceIdeal.main_arg2) = m ((c.tc : Thread Cert.OddIdeal.nD Cert.OddIdeal.τ).loc Cert.OddIdeal.main_arg2)
      ∧ m' ((c.tc : Thread Cert.OddReferenceIdeal.nD Cert.OddReferenceIdeal.τ).loc Cert.OddReferenceIdeal.main_arg3) = m ((c.tc : Thread Cert.OddIdeal.nD Cert.OddIdeal.τ).loc Cert.OddIdeal.main_arg3)
      ∧ m' ((c.tc : Thread Cert.OddReferenceIdeal.nD Cert.OddReferenceIdeal.τ).loc Cert.OddReferenceIdeal.main_arg4) = m ((c.tc : Thread Cert.OddIdeal.nD Cert.OddIdeal.τ).loc Cert.OddIdeal.main_arg4)
      ∧ m' ((c.tc : Thread Cert.OddReferenceIdeal.nD Cert.OddReferenceIdeal.τ).loc Cert.OddReferenceIdeal.main_arg5) = m ((c.tc : Thread Cert.OddIdeal.nD Cert.OddIdeal.τ).loc Cert.OddIdeal.main_arg5)
      ∧ m' ((c.tc : Thread Cert.OddReferenceIdeal.nD Cert.OddReferenceIdeal.τ).loc Cert.OddReferenceIdeal.main_arg6) = m ((c.tc : Thread Cert.OddIdeal.nD Cert.OddIdeal.τ).loc Cert.OddIdeal.main_arg6)) →
    ∃ (v0 : (c : Dev Cert.OddIdeal.nD) → Buf (Elt Ideal) ((c.tc : Thread Cert.OddIdeal.nD Cert.OddIdeal.τ).loc Cert.OddIdeal.main_v6_0)) (v1 : (c : Dev Cert.OddIdeal.nD) → Buf (Elt Ideal) ((c.tc : Thread Cert.OddIdeal.nD Cert.OddIdeal.τ).loc Cert.OddIdeal.main_v6_1)),
      θ_run (Cert.OddIdeal.defs (F := Ideal)) (onTc (τ := Cert.OddIdeal.τ) (Cert.OddIdeal.main (F := Ideal))) ⟨m, fun _ => 0, g⟩ (fun r => ∀ c : Dev Cert.OddIdeal.nD,
          r.2.mem ((c.tc : Thread Cert.OddIdeal.nD Cert.OddIdeal.τ).loc Cert.OddIdeal.main_v6_0) = v0 c
          ∧ r.2.mem ((c.tc : Thread Cert.OddIdeal.nD Cert.OddIdeal.τ).loc Cert.OddIdeal.main_v6_1) = v1 c
          ∧ r.2.mem ((c.tc : Thread Cert.OddIdeal.nD Cert.OddIdeal.τ).loc Cert.OddIdeal.main_arg0) = m ((c.tc : Thread Cert.OddIdeal.nD Cert.OddIdeal.τ).loc Cert.OddIdeal.main_arg0)
          ∧ r.2.mem ((c.tc : Thread Cert.OddIdeal.nD Cert.OddIdeal.τ).loc Cert.OddIdeal.main_arg1) = m ((c.tc : Thread Cert.OddIdeal.nD Cert.OddIdeal.τ).loc Cert.OddIdeal.main_arg1)
          ∧ r.2.mem ((c.tc : Thread Cert.OddIdeal.nD Cert.OddIdeal.τ).loc Cert.OddIdeal.main_arg2) = m ((c.tc : Thread Cert.OddIdeal.nD Cert.OddIdeal.τ).loc Cert.OddIdeal.main_arg2)
          ∧ r.2.mem ((c.tc : Thread Cert.OddIdeal.nD Cert.OddIdeal.τ).loc Cert.OddIdeal.main_arg3) = m ((c.tc : Thread Cert.OddIdeal.nD Cert.OddIdeal.τ).loc Cert.OddIdeal.main_arg3)
          ∧ r.2.mem ((c.tc : Thread Cert.OddIdeal.nD Cert.OddIdeal.τ).loc Cert.OddIdeal.main_arg4) = m ((c.tc : Thread Cert.OddIdeal.nD Cert.OddIdeal.τ).loc Cert.OddIdeal.main_arg4)
          ∧ r.2.mem ((c.tc : Thread Cert.OddIdeal.nD Cert.OddIdeal.τ).loc Cert.OddIdeal.main_arg5) = m ((c.tc : Thread Cert.OddIdeal.nD Cert.OddIdeal.τ).loc Cert.OddIdeal.main_arg5)
          ∧ r.2.mem ((c.tc : Thread Cert.OddIdeal.nD Cert.OddIdeal.τ).loc Cert.OddIdeal.main_arg6) = m ((c.tc : Thread Cert.OddIdeal.nD Cert.OddIdeal.τ).loc Cert.OddIdeal.main_arg6))
      ∧ θ_run (Cert.OddReferenceIdeal.defs (F := Ideal)) (onTc (τ := Cert.OddReferenceIdeal.τ) (Cert.OddReferenceIdeal.main (F := Ideal))) ⟨m', fun _ => 0, g'⟩ (fun r => ∀ c : Dev Cert.OddReferenceIdeal.nD,
          r.2.mem ((c.tc : Thread Cert.OddReferenceIdeal.nD Cert.OddReferenceIdeal.τ).loc Cert.OddReferenceIdeal.main_v26) = v0 c
          ∧ r.2.mem ((c.tc : Thread Cert.OddReferenceIdeal.nD Cert.OddReferenceIdeal.τ).loc Cert.OddReferenceIdeal.main_v27) = v1 c
          ∧ r.2.mem ((c.tc : Thread Cert.OddReferenceIdeal.nD Cert.OddReferenceIdeal.τ).loc Cert.OddReferenceIdeal.main_arg0) = m' ((c.tc : Thread Cert.OddReferenceIdeal.nD Cert.OddReferenceIdeal.τ).loc Cert.OddReferenceIdeal.main_arg0)
          ∧ r.2.mem ((c.tc : Thread Cert.OddReferenceIdeal.nD Cert.OddReferenceIdeal.τ).loc Cert.OddReferenceIdeal.main_arg1) = m' ((c.tc : Thread Cert.OddReferenceIdeal.nD Cert.OddReferenceIdeal.τ).loc Cert.OddReferenceIdeal.main_arg1)
          ∧ r.2.mem ((c.tc : Thread Cert.OddReferenceIdeal.nD Cert.OddReferenceIdeal.τ).loc Cert.OddReferenceIdeal.main_arg2) = m' ((c.tc : Thread Cert.OddReferenceIdeal.nD Cert.OddReferenceIdeal.τ).loc Cert.OddReferenceIdeal.main_arg2)
          ∧ r.2.mem ((c.tc : Thread Cert.OddReferenceIdeal.nD Cert.OddReferenceIdeal.τ).loc Cert.OddReferenceIdeal.main_arg3) = m' ((c.tc : Thread Cert.OddReferenceIdeal.nD Cert.OddReferenceIdeal.τ).loc Cert.OddReferenceIdeal.main_arg3)
          ∧ r.2.mem ((c.tc : Thread Cert.OddReferenceIdeal.nD Cert.OddReferenceIdeal.τ).loc Cert.OddReferenceIdeal.main_arg4) = m' ((c.tc : Thread Cert.OddReferenceIdeal.nD Cert.OddReferenceIdeal.τ).loc Cert.OddReferenceIdeal.main_arg4)
          ∧ r.2.mem ((c.tc : Thread Cert.OddReferenceIdeal.nD Cert.OddReferenceIdeal.τ).loc Cert.OddReferenceIdeal.main_arg5) = m' ((c.tc : Thread Cert.OddReferenceIdeal.nD Cert.OddReferenceIdeal.τ).loc Cert.OddReferenceIdeal.main_arg5)
          ∧ r.2.mem ((c.tc : Thread Cert.OddReferenceIdeal.nD Cert.OddReferenceIdeal.τ).loc Cert.OddReferenceIdeal.main_arg6) = m' ((c.tc : Thread Cert.OddReferenceIdeal.nD Cert.OddReferenceIdeal.τ).loc Cert.OddReferenceIdeal.main_arg6))

def Claim : Prop :=
  ∃ (hKernel : Cert.Kernel.Facts) (hKernelIdeal : Cert.KernelIdeal.Facts) (hReferenceIdeal : Cert.ReferenceIdeal.Facts) (hMoe : Cert.Moe.Facts) (hMoeIdeal : Cert.MoeIdeal.Facts) (hMoeReferenceIdeal : Cert.MoeReferenceIdeal.Facts) (hFfn : Cert.Ffn.Facts) (hFfnIdeal : Cert.FfnIdeal.Facts) (hFfnReferenceIdeal : Cert.FfnReferenceIdeal.Facts) (hProj : Cert.Proj.Facts) (hProjIdeal : Cert.ProjIdeal.Facts) (hProjReferenceIdeal : Cert.ProjReferenceIdeal.Facts) (hOut : Cert.Out.Facts) (hOutIdeal : Cert.OutIdeal.Facts) (hOutReferenceIdeal : Cert.OutReferenceIdeal.Facts) (hQkv : Cert.Qkv.Facts) (hQkvIdeal : Cert.QkvIdeal.Facts) (hQkvReferenceIdeal : Cert.QkvReferenceIdeal.Facts) (hOdd : Cert.Odd.Facts) (hOddIdeal : Cert.OddIdeal.Facts) (hOddReferenceIdeal : Cert.OddReferenceIdeal.Facts) (hPre_finite : Cert.Pre_finite.Facts) (hPre_tiles : Cert.Pre_tiles.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Moe (hMoe := hMoe) (hPre_tiles := hPre_tiles)
    ∧ quiescent_MoeIdeal (hMoeIdeal := hMoeIdeal) (hPre_tiles := hPre_tiles)
    ∧ quiescent_MoeReferenceIdeal (hMoeReferenceIdeal := hMoeReferenceIdeal)
    ∧ quiescent_MoeReferenceIdeal_pre_tiles (hMoeReferenceIdeal := hMoeReferenceIdeal) (hPre_tiles := hPre_tiles)
    ∧ quiescent_Ffn (hFfn := hFfn)
    ∧ quiescent_FfnIdeal (hFfnIdeal := hFfnIdeal)
    ∧ quiescent_FfnReferenceIdeal (hFfnReferenceIdeal := hFfnReferenceIdeal)
    ∧ quiescent_Proj (hProj := hProj)
    ∧ quiescent_ProjIdeal (hProjIdeal := hProjIdeal)
    ∧ quiescent_ProjReferenceIdeal (hProjReferenceIdeal := hProjReferenceIdeal)
    ∧ quiescent_Out (hOut := hOut)
    ∧ quiescent_OutIdeal (hOutIdeal := hOutIdeal)
    ∧ quiescent_OutReferenceIdeal (hOutReferenceIdeal := hOutReferenceIdeal)
    ∧ quiescent_Qkv (hQkv := hQkv)
    ∧ quiescent_QkvIdeal (hQkvIdeal := hQkvIdeal)
    ∧ quiescent_QkvReferenceIdeal (hQkvReferenceIdeal := hQkvReferenceIdeal)
    ∧ quiescent_Odd (hOdd := hOdd)
    ∧ quiescent_OddIdeal (hOddIdeal := hOddIdeal)
    ∧ quiescent_OddReferenceIdeal (hOddReferenceIdeal := hOddReferenceIdeal)
    ∧ preserves_Kernel_KernelIdeal
    ∧ algebraic_KernelIdeal_ReferenceIdeal_pre_finite (hKernelIdeal := hKernelIdeal) (hReferenceIdeal := hReferenceIdeal) (hPre_finite := hPre_finite)
    ∧ preserves_Moe_MoeIdeal
    ∧ algebraic_MoeIdeal_MoeReferenceIdeal (hMoeIdeal := hMoeIdeal) (hMoeReferenceIdeal := hMoeReferenceIdeal) (hPre_tiles := hPre_tiles)
    ∧ preserves_Ffn_FfnIdeal
    ∧ algebraic_FfnIdeal_FfnReferenceIdeal (hFfnIdeal := hFfnIdeal) (hFfnReferenceIdeal := hFfnReferenceIdeal)
    ∧ preserves_Proj_ProjIdeal
    ∧ algebraic_ProjIdeal_ProjReferenceIdeal (hProjIdeal := hProjIdeal) (hProjReferenceIdeal := hProjReferenceIdeal)
    ∧ preserves_Out_OutIdeal
    ∧ algebraic_OutIdeal_OutReferenceIdeal (hOutIdeal := hOutIdeal) (hOutReferenceIdeal := hOutReferenceIdeal)
    ∧ preserves_Qkv_QkvIdeal
    ∧ algebraic_QkvIdeal_QkvReferenceIdeal (hQkvIdeal := hQkvIdeal) (hQkvReferenceIdeal := hQkvReferenceIdeal)
    ∧ preserves_Odd_OddIdeal
    ∧ algebraic_OddIdeal_OddReferenceIdeal (hOddIdeal := hOddIdeal) (hOddReferenceIdeal := hOddReferenceIdeal)
-- ==== Pre_finite.lean ====
abbrev S4x4096x16x64 : Shape := ⟨4, ![4, 4096, 16, 64]⟩
abbrev S4x4096x2x64 : Shape := ⟨4, ![4, 4096, 2, 64]⟩
abbrev S16 : Shape := ⟨1, ![16]⟩
abbrev S_ : Shape := ⟨0, ![]⟩

class Facts : Prop where
  bcast_S_S4x4096x16x64 : S_.BroadcastsInDim S4x4096x16x64 (![] : Fin 0 → Fin S4x4096x16x64.rank)
  reducesTo_S4x4096x16x64_S_d0_1_2_3 : S4x4096x16x64.ReducesTo [0, 1, 2, 3] S_
  h_S_ : 0 < S_.numel
  bcast_S_S4x4096x2x64 : S_.BroadcastsInDim S4x4096x2x64 (![] : Fin 0 → Fin S4x4096x2x64.rank)
  reducesTo_S4x4096x2x64_S_d0_1_2_3 : S4x4096x2x64.ReducesTo [0, 1, 2, 3] S_
  bcast_S_S16 : S_.BroadcastsInDim S16 (![] : Fin 0 → Fin S16.rank)
  reducesTo_S16_S_d0 : S16.ReducesTo [0] S_

variable [Facts]

def fn {F : FTy → Type} [FloatOps F] (main_arg0 : FVec F S4x4096x16x64 .bf16) (main_arg1 : FVec F S4x4096x2x64 .bf16) (main_arg2 : FVec F S4x4096x2x64 .bf16) (main_arg3 : FVec F S16 .f32) : IVec S_ 1 × IVec S_ 1 × IVec S_ 1 :=
  let main_v0 : FVec F S4x4096x16x64 .bf16 := Host.absf main_arg0
  let main_cst : FVec F S_ .bf16 := constant S_ .bf16 0x7F80#16
  let main_v1 : FVec F S4x4096x16x64 .bf16 := broadcastInDim S4x4096x16x64 ![] bcast_S_S4x4096x16x64 main_cst
  let main_v2 : IVec S4x4096x16x64 1 := cmpf .olt main_v0 main_v1
  let main_c : IVec S_ 1 := constantI S_ 1 1#1
  let main_v3 : IVec S_ 1 := (fun x v => Host.reduce IntOp.andi x v reducesTo_S4x4096x16x64_S_d0_1_2_3 h_S_) main_v2 main_c
  let main_v4 : FVec F S4x4096x2x64 .bf16 := Host.absf main_arg1
  let main_cst_0 : FVec F S_ .bf16 := constant S_ .bf16 0x7F80#16
  let main_v5 : FVec F S4x4096x2x64 .bf16 := broadcastInDim S4x4096x2x64 ![] bcast_S_S4x4096x2x64 main_cst_0
  let main_v6 : IVec S4x4096x2x64 1 := cmpf .olt main_v4 main_v5
  let main_c_1 : IVec S_ 1 := constantI S_ 1 1#1
  let main_v7 : IVec S_ 1 := (fun x v => Host.reduce IntOp.andi x v reducesTo_S4x4096x2x64_S_d0_1_2_3 h_S_) main_v6 main_c_1
  let main_v8 : FVec F S16 .f32 := Host.absf main_arg3
  let main_cst_2 : FVec F S_ .f32 := constant S_ .f32 0x7F800000#32
  let main_v9 : FVec F S16 .f32 := broadcastInDim S16 ![] bcast_S_S16 main_cst_2
  let main_v10 : IVec S16 1 := cmpf .olt main_v8 main_v9
  let main_c_3 : IVec S_ 1 := constantI S_ 1 1#1
  let main_v11 : IVec S_ 1 := (fun x v => Host.reduce IntOp.andi x v reducesTo_S16_S_d0 h_S_) main_v10 main_c_3
  (main_v3, main_v7, main_v11)
-- ==== Pre_tiles.lean ====
abbrev S72 : Shape := ⟨1, ![72]⟩
abbrev S36864x1024 : Shape := ⟨2, ![36864, 1024]⟩
abbrev S16x1024x7168 : Shape := ⟨3, ![16, 1024, 7168]⟩
abbrev S16x3584x1024 : Shape := ⟨3, ![16, 3584, 1024]⟩
abbrev S_ : Shape := ⟨0, ![]⟩
abbrev S71 : Shape := ⟨1, ![71]⟩

class Facts : Prop where
  bcast_S_S72 : S_.BroadcastsInDim S72 (![] : Fin 0 → Fin S72.rank)
  reducesTo_S72_S_d0 : S72.ReducesTo [0] S_
  h_S_ : 0 < S_.numel
  slices_S72_S71_1 : S72.Slices ![1] S71
  bcast_S_S71 : S_.BroadcastsInDim S71 (![] : Fin 0 → Fin S71.rank)
  slices_S72_S71_0 : S72.Slices ![0] S71
  reducesTo_S71_S_d0 : S71.ReducesTo [0] S_

variable [Facts]

def fn {F : FTy → Type} [FloatOps F] (main_arg0 : IVec S72 32) (main_arg1 : IVec S72 32) (main_arg2 : FVec F S36864x1024 .bf16) (main_arg3 : FVec F S16x1024x7168 .f32) (main_arg4 : FVec F S16x3584x1024 .f32) : IVec S_ 1 × IVec S_ 1 :=
  let main_c : IVec S_ 32 := constantI S_ 32 0#32
  let main_v0 : IVec S72 32 := broadcastInDim S72 ![] bcast_S_S72 main_c
  let main_v1 : IVec S72 1 := cmpi .sge main_arg0 main_v0
  let main_c_0 : IVec S_ 32 := constantI S_ 32 16#32
  let main_v2 : IVec S72 32 := broadcastInDim S72 ![] bcast_S_S72 main_c_0
  let main_v3 : IVec S72 1 := cmpi .slt main_arg0 main_v2
  let main_v4 : IVec S72 1 := andi main_v1 main_v3
  let main_c_1 : IVec S_ 1 := constantI S_ 1 1#1
  let main_v5 : IVec S_ 1 := (fun x v => Host.reduce IntOp.andi x v reducesTo_S72_S_d0 h_S_) main_v4 main_c_1
  let main_v6 : IVec S71 32 := (extractStridedSlice S71 ![1] · slices_S72_S71_1) main_arg1
  let main_c_2 : IVec S_ 32 := constantI S_ 32 0#32
  let main_v7 : IVec S71 32 := broadcastInDim S71 ![] bcast_S_S71 main_c_2
  let main_v8 : IVec S71 1 := cmpi .eq main_v6 main_v7
  let main_v9 : IVec S71 32 := (extractStridedSlice S71 ![0] · slices_S72_S71_0) main_arg1
  let main_c_3 : IVec S_ 32 := constantI S_ 32 0#32
  let main_v10 : IVec S71 32 := broadcastInDim S71 ![] bcast_S_S71 main_c_3
  let main_v11 : IVec S71 1 := cmpi .ne main_v9 main_v10
  let main_v12 : IVec S71 1 := ori main_v8 main_v11
  let main_c_4 : IVec S_ 1 := constantI S_ 1 1#1
  let main_v13 : IVec S_ 1 := (fun x v => Host.reduce IntOp.andi x v reducesTo_S71_S_d0 h_S_) main_v12 main_c_4
  (main_v5, main_v13)
-- ==== Kernel.lean ====
abbrev S4x4096x16x64 : Shape := ⟨4, ![4, 4096, 16, 64]⟩
abbrev S4x4096x2x64 : Shape := ⟨4, ![4, 4096, 2, 64]⟩
abbrev S16 : Shape := ⟨1, ![16]⟩
abbrev S4x4096x1024 : Shape := ⟨3, ![4, 4096, 1024]⟩
abbrev S4x1024x4096 : Shape := ⟨3, ![4, 1024, 4096]⟩
abbrev S4x4096x1x64 : Shape := ⟨4, ![4, 4096, 1, 64]⟩
abbrev S4x4096x64 : Shape := ⟨3, ![4, 4096, 64]⟩
abbrev S4x4096x256 : Shape := ⟨3, ![4, 4096, 256]⟩
abbrev S4x256x4096 : Shape := ⟨3, ![4, 256, 4096]⟩
abbrev S1x1024x256 : Shape := ⟨3, ![1, 1024, 256]⟩
abbrev S1x4096x256 : Shape := ⟨3, ![1, 4096, 256]⟩
abbrev S1x256x4096 : Shape := ⟨3, ![1, 256, 4096]⟩
abbrev S1x256x1024 : Shape := ⟨3, ![1, 256, 1024]⟩
abbrev S1x384x256 : Shape := ⟨3, ![1, 384, 256]⟩
abbrev S384x256 : Shape := ⟨2, ![384, 256]⟩
abbrev S1x256x384 : Shape := ⟨3, ![1, 256, 384]⟩
abbrev S256x384 : Shape := ⟨2, ![256, 384]⟩
abbrev S128x256 : Shape := ⟨2, ![128, 256]⟩
abbrev S128x384 : Shape := ⟨2, ![128, 384]⟩
abbrev S1x128x256 : Shape := ⟨3, ![1, 128, 256]⟩
abbrev S384x128 : Shape := ⟨2, ![384, 128]⟩
abbrev S1 : Shape := ⟨1, ![1]⟩
abbrev S256 : Shape := ⟨1, ![256]⟩
abbrev S1x256 : Shape := ⟨2, ![1, 256]⟩
abbrev S256x128 : Shape := ⟨2, ![256, 128]⟩
abbrev S1x256x128 : Shape := ⟨3, ![1, 256, 128]⟩

abbrev nBuf : Space → Nat
  | .hbm => 26
  | .vmem => 8
  | .smem => 1
  | _ => 0

abbrev bufTy : (tb : Table) → Fin (tcTables nBuf tb) → BufTy
  | .hbm, ⟨0, _⟩ => ⟨S4x4096x16x64, .bf16⟩
  | .hbm, ⟨1, _⟩ => ⟨S4x4096x2x64, .bf16⟩
  | .hbm, ⟨2, _⟩ => ⟨S4x4096x2x64, .bf16⟩
  | .hbm, ⟨3, _⟩ => ⟨S16, .f32⟩
  | .hbm, ⟨4, _⟩ => ⟨S4x4096x1024, .bf16⟩
  | .hbm, ⟨5, _⟩ => ⟨S4x1024x4096, .bf16⟩
  | .hbm, ⟨6, _⟩ => ⟨S4x4096x1x64, .bf16⟩
  | .hbm, ⟨7, _⟩ => ⟨S4x4096x64, .bf16⟩
  | .hbm, ⟨8, _⟩ => ⟨S4x4096x1x64, .bf16⟩
  | .hbm, ⟨9, _⟩ => ⟨S4x4096x64, .bf16⟩
  | .hbm, ⟨10, _⟩ => ⟨S4x4096x1x64, .bf16⟩
  | .hbm, ⟨11, _⟩ => ⟨S4x4096x64, .bf16⟩
  | .hbm, ⟨12, _⟩ => ⟨S4x4096x1x64, .bf16⟩
  | .hbm, ⟨13, _⟩ => ⟨S4x4096x64, .bf16⟩
  | .hbm, ⟨14, _⟩ => ⟨S4x4096x256, .bf16⟩
  | .hbm, ⟨15, _⟩ => ⟨S4x4096x1x64, .bf16⟩
  | .hbm, ⟨16, _⟩ => ⟨S4x4096x64, .bf16⟩
  | .hbm, ⟨17, _⟩ => ⟨S4x4096x1x64, .bf16⟩
  | .hbm, ⟨18, _⟩ => ⟨S4x4096x64, .bf16⟩
  | .hbm, ⟨19, _⟩ => ⟨S4x4096x1x64, .bf16⟩
  | .hbm, ⟨20, _⟩ => ⟨S4x4096x64, .bf16⟩
  | .hbm, ⟨21, _⟩ => ⟨S4x4096x1x64, .bf16⟩
  | .hbm, ⟨22, _⟩ => ⟨S4x4096x64, .bf16⟩
  | .hbm, ⟨23, _⟩ => ⟨S4x4096x256, .bf16⟩
  | .hbm, ⟨24, _⟩ => ⟨S4x256x4096, .bf16⟩
  | .hbm, ⟨25, _⟩ => ⟨S4x4096x1024, .bf16⟩
  | .local _ .vmem, ⟨0, _⟩ => ⟨S1x1024x256, .bf16⟩
  | .local _ .vmem, ⟨1, _⟩ => ⟨S1x1024x256, .bf16⟩
  | .local _ .vmem, ⟨2, _⟩ => ⟨S1x4096x256, .bf16⟩
  | .local _ .vmem, ⟨3, _⟩ => ⟨S1x4096x256, .bf16⟩
  | .local _ .vmem, ⟨4, _⟩ => ⟨S1x256x4096, .bf16⟩
  | .local _ .vmem, ⟨5, _⟩ => ⟨S1x256x4096, .bf16⟩
  | .local _ .vmem, ⟨6, _⟩ => ⟨S1x256x1024, .bf16⟩
  | .local _ .vmem, ⟨7, _⟩ => ⟨S1x256x1024, .bf16⟩
  | .local _ .smem, ⟨0, _⟩ => ⟨S16, .f32⟩
  | _, _ => ⟨S4x4096x16x64, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .smem, ⟨0, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨2, ![4, 16], ![false, false]⟩

def k0_mult1 (i : grid0.Coords) : BitVec 32 :=
  let arg1 : BitVec 32 := BitVec.ofNat 32 (i 1).val
  let c256_i32 : BitVec 32 := 256#32
  let v0 : BitVec 32 := Scalar.muli arg1 c256_i32
  let c128_i32 : BitVec 32 := 128#32
  let v1 : BitVec 32 := Scalar.subi v0 c128_i32
  let c0_i32 : BitVec 32 := 0#32
  let v2 : BitVec 32 := Scalar.maxsi v1 c0_i32
  v2
def k0_off1 (i : grid0.Coords) : Fin 3 → Nat :=
  let c0 : Index := 0#32
  let arg1 : BitVec 32 := BitVec.ofNat 32 (i 1).val
  let c256_i32 : BitVec 32 := 256#32
  let v0 : BitVec 32 := Scalar.muli arg1 c256_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let v4 : Index := Scalar.indexCast v3
  let c0_0 : Index := 0#32
  ![0, v4.toNat, 0]
def k0_off2 (i : grid0.Coords) : Fin 3 → Nat :=
  let c0_1 : Index := 0#32
  let c0_2 : Index := 0#32
  let arg1 : BitVec 32 := BitVec.ofNat 32 (i 1).val
  let c256_i32 : BitVec 32 := 256#32
  let v0 : BitVec 32 := Scalar.muli arg1 c256_i32
  let c128_i32 : BitVec 32 := 128#32
  let v1 : BitVec 32 := Scalar.subi v0 c128_i32
  let c0_i32 : BitVec 32 := 0#32
  let v2 : BitVec 32 := Scalar.maxsi v1 c0_i32
  let v3 : BitVec 32 := v2
  let v7 : Index := Scalar.indexCast v3
  ![0, 0, v7.toNat]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 1 → Memref sig .tc .smem S16 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x1024x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x256x4096 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S1x256x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== KernelIdeal.lean ====
variable {F : FTy → Type} [FloatOps F] [Named F]
def κ : String → Option EReal := fun
  | "log2e" => some (((Real.log 2)⁻¹ : ℝ) : EReal)
  | _ => none
-- ==== ReferenceIdeal.lean ====
abbrev S4x4096x16x64 : Shape := ⟨4, ![4, 4096, 16, 64]⟩
abbrev S4x4096x2x64 : Shape := ⟨4, ![4, 4096, 2, 64]⟩
abbrev S16 : Shape := ⟨1, ![16]⟩
abbrev S4x4096x2x8x64 : Shape := ⟨5, ![4, 4096, 2, 8, 64]⟩
abbrev S4x2x4096x4096x8 : Shape := ⟨5, ![4, 2, 4096, 4096, 8]⟩
abbrev S4x2x8x4096x4096 : Shape := ⟨5, ![4, 2, 8, 4096, 4096]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S2x8 : Shape := ⟨2, ![2, 8]⟩
abbrev S1x2x8x1 : Shape := ⟨4, ![1, 2, 8, 1]⟩
abbrev S4x2x8x4096 : Shape := ⟨4, ![4, 2, 8, 4096]⟩
abbrev S4x2x8x4096x1 : Shape := ⟨5, ![4, 2, 8, 4096, 1]⟩
abbrev S4x2x64x8x4096 : Shape := ⟨5, ![4, 2, 64, 8, 4096]⟩
abbrev S4x4096x1024 : Shape := ⟨3, ![4, 4096, 1024]⟩

abbrev nBuf : Space → Nat
  | .hbm => 54
  | .vmem => 0
  | .smem => 0
  | _ => 0

abbrev bufTy : (tb : Table) → Fin (tcTables nBuf tb) → BufTy
  | .hbm, ⟨0, _⟩ => ⟨S4x4096x16x64, .bf16⟩
  | .hbm, ⟨1, _⟩ => ⟨S4x4096x2x64, .bf16⟩
  | .hbm, ⟨2, _⟩ => ⟨S4x4096x2x64, .bf16⟩
  | .hbm, ⟨3, _⟩ => ⟨S16, .f32⟩
  | .hbm, ⟨4, _⟩ => ⟨S4x4096x2x8x64, .bf16⟩
  | .hbm, ⟨5, _⟩ => ⟨S4x2x4096x4096x8, .f32⟩
  | .hbm, ⟨6, _⟩ => ⟨S4x2x8x4096x4096, .f32⟩
  | .hbm, ⟨7, _⟩ => ⟨S_, .f32⟩
  | .hbm, ⟨8, _⟩ => ⟨S_, .f32⟩
  | .hbm, ⟨9, _⟩ => ⟨S4x2x8x4096x4096, .f32⟩
  | .hbm, ⟨10, _⟩ => ⟨S4x2x8x4096x4096, .f32⟩
  | .hbm, ⟨11, _⟩ => ⟨S4096, .i32⟩
  | .hbm, ⟨12, _⟩ => ⟨S4096x1, .i32⟩
  | .hbm, ⟨13, _⟩ => ⟨S4096, .i32⟩
  | .hbm, ⟨14, _⟩ => ⟨S1x4096, .i32⟩
  | .hbm, ⟨15, _⟩ => ⟨S4096x4096, .i32⟩
  | .hbm, ⟨16, _⟩ => ⟨S4096x4096, .i32⟩
  | .hbm, ⟨17, _⟩ => ⟨S4096x4096, .i32⟩
  | .hbm, ⟨18, _⟩ => ⟨S_, .i32⟩
  | .hbm, ⟨19, _⟩ => ⟨S4096x4096, .i32⟩
  | .hbm, ⟨20, _⟩ => ⟨S4096x4096, .i1⟩
  | .hbm, ⟨21, _⟩ => ⟨S_, .i32⟩
  | .hbm, ⟨22, _⟩ => ⟨S4096x4096, .i32⟩
  | .hbm, ⟨23, _⟩ => ⟨S4096x4096, .i1⟩
  | .hbm, ⟨24, _⟩ => ⟨S4096x4096, .i1⟩
  | .hbm, ⟨25, _⟩ => ⟨S_, .f32⟩
  | .hbm, ⟨26, _⟩ => ⟨S_, .f32⟩
  | .hbm, ⟨27, _⟩ => ⟨S4x2x8x4096x4096, .i1⟩
  | .hbm, ⟨28, _⟩ => ⟨S4x2x8x4096x4096, .f32⟩
  | .hbm, ⟨29, _⟩ => ⟨S4x2x8x4096x4096, .f32⟩
  | .hbm, ⟨30, _⟩ => ⟨S2x8, .f32⟩
  | .hbm, ⟨31, _⟩ => ⟨S1x2x8x1, .f32⟩
  | .hbm, ⟨32, _⟩ => ⟨S_, .f32⟩
  | .hbm, ⟨33, _⟩ => ⟨S4x2x8x4096, .f32⟩
  | .hbm, ⟨34, _⟩ => ⟨S4x2x8x4096, .f32⟩
  | .hbm, ⟨35, _⟩ => ⟨S4x2x8x4096, .f32⟩
  | .hbm, ⟨36, _⟩ => ⟨S4x2x8x4096x1, .f32⟩
  | .hbm, ⟨37, _⟩ => ⟨S4x2x8x4096x4096, .f32⟩
  | .hbm, ⟨38, _⟩ => ⟨S4x2x8x4096x4096, .f32⟩
  | .hbm, ⟨39, _⟩ => ⟨S4x2x8x4096x4096, .f32⟩
  | .hbm, ⟨40, _⟩ => ⟨S_, .f32⟩
  | .hbm, ⟨41, _⟩ => ⟨S4x2x8x4096, .f32⟩
  | .hbm, ⟨42, _⟩ => ⟨S4x2x8x4096, .f32⟩
  | .hbm, ⟨43, _⟩ => ⟨S4x2x8x4096, .f32⟩
  | .hbm, ⟨44, _⟩ => ⟨S4x2x8x4096, .f32⟩
  | .hbm, ⟨45, _⟩ => ⟨S4x2x8x4096, .f32⟩
  | .hbm, ⟨46, _⟩ => ⟨S4x2x8x4096x1, .f32⟩
  | .hbm, ⟨47, _⟩ => ⟨S4x2x8x4096x4096, .f32⟩
  | .hbm, ⟨48, _⟩ => ⟨S4x2x8x4096x4096, .f32⟩
  | .hbm, ⟨49, _⟩ => ⟨S4x4096x2x64, .f32⟩
  | .hbm, ⟨50, _⟩ => ⟨S4x2x64x8x4096, .f32⟩
  | .hbm, ⟨51, _⟩ => ⟨S4x4096x2x8x64, .f32⟩
  | .hbm, ⟨52, _⟩ => ⟨S4x4096x1024, .f32⟩
  | .hbm, ⟨53, _⟩ => ⟨S4x4096x1024, .bf16⟩
  | _, _ => ⟨S4x4096x16x64, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_c : Ref sig .tc := ⟨.hbm, 18, rfl⟩
abbrev main_v13 : Ref sig .tc := ⟨.hbm, 19, rfl⟩
abbrev main_v14 : Ref sig .tc := ⟨.hbm, 20, rfl⟩
abbrev main_c_0 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_1 : Ref sig .tc := ⟨.hbm, 25, rfl⟩
abbrev main_call0_v0 : Ref sig .tc := ⟨.hbm, 26, rfl⟩
abbrev main_call0_v1 : Ref sig .tc := ⟨.hbm, 27, rfl⟩
abbrev main_call0_v2 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_cst_2 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_3 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_v36 : Ref sig .tc := ⟨.hbm, 49, rfl⟩
abbrev main_v37 : Ref sig .tc := ⟨.hbm, 50, rfl⟩
abbrev main_v38 : Ref sig .tc := ⟨.hbm, 51, rfl⟩
abbrev main_v39 : Ref sig .tc := ⟨.hbm, 52, rfl⟩
abbrev main_v40 : Ref sig .tc := ⟨.hbm, 53, rfl⟩

abbrev nD : Nat := 1
abbrev τ : Topo := Topo.v7x

variable {F : FTy → Type} [FloatOps F]
-- ==== Moe.lean ====
abbrev S72 : Shape := ⟨1, ![72]⟩
abbrev S36864x1024 : Shape := ⟨2, ![36864, 1024]⟩
abbrev S16x1024x7168 : Shape := ⟨3, ![16, 1024, 7168]⟩
abbrev S16x3584x1024 : Shape := ⟨3, ![16, 3584, 1024]⟩
abbrev S_ : Shape := ⟨0, ![]⟩
abbrev S1 : Shape := ⟨1, ![1]⟩
abbrev S71 : Shape := ⟨1, ![71]⟩
abbrev S512x1024 : Shape := ⟨2, ![512, 1024]⟩
abbrev S1024x3584 : Shape := ⟨2, ![1024, 3584]⟩
abbrev S3584x1024 : Shape := ⟨2, ![3584, 1024]⟩
abbrev S2x1024x512 : Shape := ⟨3, ![2, 1024, 512]⟩
abbrev S2x512x1024 : Shape := ⟨3, ![2, 512, 1024]⟩
abbrev S3x2 : Shape := ⟨2, ![3, 2]⟩
abbrev S1x1 : Shape := ⟨2, ![1, 1]⟩
abbrev S1x1024x512 : Shape := ⟨3, ![1, 1024, 512]⟩
abbrev S1024x512 : Shape := ⟨2, ![1024, 512]⟩
abbrev S1x512x1024 : Shape := ⟨3, ![1, 512, 1024]⟩
abbrev S512x512 : Shape := ⟨2, ![512, 512]⟩

abbrev nBuf : Space → Nat
  | .hbm => 13
  | .vmem => 11
  | .smem => 3
  | _ => 0

abbrev bufTy : (tb : Table) → Fin (tcTables nBuf tb) → BufTy
  | .hbm, ⟨0, _⟩ => ⟨S36864x1024, .bf16⟩
  | .hbm, ⟨1, _⟩ => ⟨S16x1024x7168, .f32⟩
  | .hbm, ⟨2, _⟩ => ⟨S16x3584x1024, .f32⟩
  | .hbm, ⟨3, _⟩ => ⟨S_, .i32⟩
  | .hbm, ⟨4, _⟩ => ⟨S1, .i32⟩
  | .hbm, ⟨5, _⟩ => ⟨S71, .i32⟩
  | .hbm, ⟨6, _⟩ => ⟨S72, .i32⟩
  | .hbm, ⟨7, _⟩ => ⟨S_, .i32⟩
  | .hbm, ⟨8, _⟩ => ⟨S72, .i32⟩
  | .hbm, ⟨9, _⟩ => ⟨S72, .i1⟩
  | .hbm, ⟨10, _⟩ => ⟨S72, .i1⟩
  | .hbm, ⟨11, _⟩ => ⟨S72, .i1⟩
  | .hbm, ⟨12, _⟩ => ⟨S36864x1024, .bf16⟩
  | .local _ .vmem, ⟨0, _⟩ => ⟨S512x1024, .bf16⟩
  | .local _ .vmem, ⟨1, _⟩ => ⟨S512x1024, .bf16⟩
  | .local _ .vmem, ⟨2, _⟩ => ⟨S512x1024, .bf16⟩
  | .local _ .vmem, ⟨3, _⟩ => ⟨S512x1024, .bf16⟩
  | .local _ .vmem, ⟨4, _⟩ => ⟨S1024x3584, .bf16⟩
  | .local _ .vmem, ⟨5, _⟩ => ⟨S1024x3584, .bf16⟩
  | .local _ .vmem, ⟨6, _⟩ => ⟨S3584x1024, .bf16⟩
  | .local _ .vmem, ⟨7, _⟩ => ⟨S2x1024x512, .f32⟩
  | .local _ .vmem, ⟨8, _⟩ => ⟨S2x1024x512, .f32⟩
  | .local _ .vmem, ⟨9, _⟩ => ⟨S2x512x1024, .f32⟩
  | .local _ .vmem, ⟨10, _⟩ => ⟨S512x1024, .f32⟩
  | .local _ .smem, ⟨0, _⟩ => ⟨S72, .i32⟩
  | .local _ .smem, ⟨1, _⟩ => ⟨S72, .i32⟩
  | .local _ .smem, ⟨2, _⟩ => ⟨S72, .i32⟩
  | _, _ => ⟨S36864x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_c : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v8 : Ref sig .tc := ⟨.hbm, 12, rfl⟩
abbrev main_arg0 : Ref sig .tc := ⟨.smem, 0, rfl⟩
abbrev main_arg1 : Ref sig .tc := ⟨.smem, 1, rfl⟩
abbrev main_v7 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_scratch1 : Ref sig .tc := ⟨.vmem, 5, rfl⟩
abbrev cc0_scratch2 : Ref sig .tc := ⟨.vmem, 6, rfl⟩
abbrev cc0_scratch3 : Ref sig .tc := ⟨.vmem, 7, rfl⟩
abbrev cc0_scratch4 : Ref sig .tc := ⟨.vmem, 8, rfl⟩
abbrev cc0_scratch5 : Ref sig .tc := ⟨.vmem, 9, rfl⟩
abbrev cc0_scratch7 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![72], ![false]⟩

abbrev pre0 : Pipeline.Prefetch sig := ⟨3, ![main_arg0.idx, main_arg1.idx, main_v7.idx], fun | 0 => main_arg0.names | 1 => main_arg1.names | 2 => main_v7.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (v1 : BitVec 32) : Fin 3 → Nat :=
  let c0_i32_10 : BitVec 32 := 0#32
  let c0_i32_11 : BitVec 32 := 0#32
  ![v1.toNat, 0, 0]
def k0_cond1 (v3 : BitVec 32) (v6 : BitVec 32) : BitVec 1 :=
  let c0_i32 : BitVec 32 := 0#32
  let v4 : BitVec 1 := Scalar.cmpi .ne v3 c0_i32
  let c0_i32_0 : BitVec 32 := 0#32
  let v7 : BitVec 1 := Scalar.cmpi .ne v6 c0_i32_0
  let v8 : BitVec 1 := Scalar.andi v4 v7
  let v9 : BitVec 32 := Scalar.extui v8
  let c0_i32_1 : BitVec 32 := 0#32
  let v10 : BitVec 1 := Scalar.cmpi .ne v9 c0_i32_1
  v10

def k0_off3 (v1 : BitVec 32) : Fin 3 → Nat :=
  let c0_i32_16 : BitVec 32 := 0#32
  let c3584_i32 : BitVec 32 := 3584#32
  ![v1.toNat, 0, 3584]
def k0_off4 (v1 : BitVec 32) : Fin 3 → Nat :=
  let c0_i32_21 : BitVec 32 := 0#32
  let c0_i32_22 : BitVec 32 := 0#32
  ![v1.toNat, 0, 0]
def k0_off5 (v1 : BitVec 32) : Fin 3 → Nat :=
  let c0_i32_28 : BitVec 32 := 0#32
  let c512_i32 : BitVec 32 := 512#32
  ![v1.toNat, 0, 512]
def k0_off6 (v1 : BitVec 32) : Fin 3 → Nat :=
  let c0_i32_34 : BitVec 32 := 0#32
  let c4096_i32 : BitVec 32 := 4096#32
  ![v1.toNat, 0, 4096]
def k0_off7 (v1 : BitVec 32) : Fin 3 → Nat :=
  let c512_i32_40 : BitVec 32 := 512#32
  let c0_i32_41 : BitVec 32 := 0#32
  ![v1.toNat, 512, 0]
def k0_off8 (v1 : BitVec 32) : Fin 3 → Nat :=
  let c0_i32_94 : BitVec 32 := 0#32
  let c1024_i32 : BitVec 32 := 1024#32
  ![v1.toNat, 0, 1024]
def k0_off9 (v1 : BitVec 32) : Fin 3 → Nat :=
  let c0_i32_100 : BitVec 32 := 0#32
  let c4608_i32 : BitVec 32 := 4608#32
  ![v1.toNat, 0, 4608]
def k0_off10 (v1 : BitVec 32) : Fin 3 → Nat :=
  let c1024_i32_106 : BitVec 32 := 1024#32
  let c0_i32_107 : BitVec 32 := 0#32
  ![v1.toNat, 1024, 0]
def k0_off11 (v1 : BitVec 32) : Fin 3 → Nat :=
  let c0_i32_162 : BitVec 32 := 0#32
  let c1536_i32 : BitVec 32 := 1536#32
  ![v1.toNat, 0, 1536]
def k0_off12 (v1 : BitVec 32) : Fin 3 → Nat :=
  let c0_i32_168 : BitVec 32 := 0#32
  let c5120_i32 : BitVec 32 := 5120#32
  ![v1.toNat, 0, 5120]
def k0_off13 (v1 : BitVec 32) : Fin 3 → Nat :=
  let c1536_i32_174 : BitVec 32 := 1536#32
  let c0_i32_175 : BitVec 32 := 0#32
  ![v1.toNat, 1536, 0]
def k0_off14 (v1 : BitVec 32) : Fin 3 → Nat :=
  let c0_i32_231 : BitVec 32 := 0#32
  let c2048_i32 : BitVec 32 := 2048#32
  ![v1.toNat, 0, 2048]
def k0_off15 (v1 : BitVec 32) : Fin 3 → Nat :=
  let c0_i32_237 : BitVec 32 := 0#32
  let c5632_i32 : BitVec 32 := 5632#32
  ![v1.toNat, 0, 5632]
def k0_off16 (v1 : BitVec 32) : Fin 3 → Nat :=
  let c2048_i32_243 : BitVec 32 := 2048#32
  let c0_i32_244 : BitVec 32 := 0#32
  ![v1.toNat, 2048, 0]
def k0_off17 (v1 : BitVec 32) : Fin 3 → Nat :=
  let c0_i32_300 : BitVec 32 := 0#32
  let c2560_i32 : BitVec 32 := 2560#32
  ![v1.toNat, 0, 2560]
def k0_off18 (v1 : BitVec 32) : Fin 3 → Nat :=
  let c0_i32_306 : BitVec 32 := 0#32
  let c6144_i32 : BitVec 32 := 6144#32
  ![v1.toNat, 0, 6144]
def k0_off19 (v1 : BitVec 32) : Fin 3 → Nat :=
  let c2560_i32_312 : BitVec 32 := 2560#32
  let c0_i32_313 : BitVec 32 := 0#32
  ![v1.toNat, 2560, 0]
def k0_off20 (v1 : BitVec 32) : Fin 3 → Nat :=
  let c0_i32_369 : BitVec 32 := 0#32
  let c3072_i32 : BitVec 32 := 3072#32
  ![v1.toNat, 0, 3072]
def k0_off21 (v1 : BitVec 32) : Fin 3 → Nat :=
  let c0_i32_375 : BitVec 32 := 0#32
  let c6656_i32 : BitVec 32 := 6656#32
  ![v1.toNat, 0, 6656]
def k0_off22 (v1 : BitVec 32) : Fin 3 → Nat :=
  let c3072_i32_381 : BitVec 32 := 3072#32
  let c0_i32_382 : BitVec 32 := 0#32
  ![v1.toNat, 3072, 0]

def k0_chk1 (v1 : BitVec 32) (v3 : BitVec 32) (v6 : BitVec 32) : Prop :=
  (∀ (k0_h1 : k0_cond1 v3 v6 = 1#1), ∀ a, (k0_off2 v1) a + S1x1024x512.size a ≤ S16x1024x7168.size a) ∧
  (∀ (k0_h1 : k0_cond1 v3 v6 = 1#1), ∀ a, (k0_off3 v1) a + S1x1024x512.size a ≤ S16x1024x7168.size a) ∧
  (∀ (k0_h1 : k0_cond1 v3 v6 = 1#1), ∀ a, (k0_off4 v1) a + S1x512x1024.size a ≤ S16x3584x1024.size a) ∧
  (∀ (k0_h1 : k0_cond1 v3 v6 = 1#1), ∀ a, (k0_off5 v1) a + S1x1024x512.size a ≤ S16x1024x7168.size a) ∧
  (∀ (k0_h1 : k0_cond1 v3 v6 = 1#1), ∀ a, (k0_off6 v1) a + S1x1024x512.size a ≤ S16x1024x7168.size a) ∧
  (∀ (k0_h1 : k0_cond1 v3 v6 = 1#1), ∀ a, (k0_off7 v1) a + S1x512x1024.size a ≤ S16x3584x1024.size a) ∧
  (∀ (k0_h1 : k0_cond1 v3 v6 = 1#1), ∀ a, (k0_off8 v1) a + S1x1024x512.size a ≤ S16x1024x7168.size a) ∧
  (∀ (k0_h1 : k0_cond1 v3 v6 = 1#1), ∀ a, (k0_off9 v1) a + S1x1024x512.size a ≤ S16x1024x7168.size a) ∧
  (∀ (k0_h1 : k0_cond1 v3 v6 = 1#1), ∀ a, (k0_off10 v1) a + S1x512x1024.size a ≤ S16x3584x1024.size a) ∧
  (∀ (k0_h1 : k0_cond1 v3 v6 = 1#1), ∀ a, (k0_off11 v1) a + S1x1024x512.size a ≤ S16x1024x7168.size a) ∧
  (∀ (k0_h1 : k0_cond1 v3 v6 = 1#1), ∀ a, (k0_off12 v1) a + S1x1024x512.size a ≤ S16x1024x7168.size a) ∧
  (∀ (k0_h1 : k0_cond1 v3 v6 = 1#1), ∀ a, (k0_off13 v1) a + S1x512x1024.size a ≤ S16x3584x1024.size a) ∧
  (∀ (k0_h1 : k0_cond1 v3 v6 = 1#1), ∀ a, (k0_off14 v1) a + S1x1024x512.size a ≤ S16x1024x7168.size a) ∧
  (∀ (k0_h1 : k0_cond1 v3 v6 = 1#1), ∀ a, (k0_off15 v1) a + S1x1024x512.size a ≤ S16x1024x7168.size a) ∧
  (∀ (k0_h1 : k0_cond1 v3 v6 = 1#1), ∀ a, (k0_off16 v1) a + S1x512x1024.size a ≤ S16x3584x1024.size a) ∧
  (∀ (k0_h1 : k0_cond1 v3 v6 = 1#1), ∀ a, (k0_off17 v1) a + S1x1024x512.size a ≤ S16x1024x7168.size a) ∧
  (∀ (k0_h1 : k0_cond1 v3 v6 = 1#1), ∀ a, (k0_off18 v1) a + S1x1024x512.size a ≤ S16x1024x7168.size a) ∧
  (∀ (k0_h1 : k0_cond1 v3 v6 = 1#1), ∀ a, (k0_off19 v1) a + S1x512x1024.size a ≤ S16x3584x1024.size a) ∧
  (∀ (k0_h1 : k0_cond1 v3 v6 = 1#1), ∀ a, (k0_off20 v1) a + S1x1024x512.size a ≤ S16x1024x7168.size a) ∧
  (∀ (k0_h1 : k0_cond1 v3 v6 = 1#1), ∀ a, (k0_off21 v1) a + S1x1024x512.size a ≤ S16x1024x7168.size a) ∧
  (∀ (k0_h1 : k0_cond1 v3 v6 = 1#1), ∀ a, (k0_off22 v1) a + S1x512x1024.size a ≤ S16x3584x1024.size a)
theorem k0_off2_inb : ∀ (v1 : BitVec 32) (v3 : BitVec 32) (v6 : BitVec 32) (k0_hw1 : k0_chk1 v1 v3 v6), ∀ (k0_h1 : k0_cond1 v3 v6 = 1#1), ∀ a, (k0_off2 v1) a + S1x1024x512.size a ≤ S16x1024x7168.size a := fun v1 v3 v6 k0_hw1 k0_h1 => k0_hw1.1 k0_h1
theorem k0_off3_inb : ∀ (v1 : BitVec 32) (v3 : BitVec 32) (v6 : BitVec 32) (k0_hw1 : k0_chk1 v1 v3 v6), ∀ (k0_h1 : k0_cond1 v3 v6 = 1#1), ∀ a, (k0_off3 v1) a + S1x1024x512.size a ≤ S16x1024x7168.size a := fun v1 v3 v6 k0_hw1 k0_h1 => k0_hw1.2.1 k0_h1
theorem k0_off4_inb : ∀ (v1 : BitVec 32) (v3 : BitVec 32) (v6 : BitVec 32) (k0_hw1 : k0_chk1 v1 v3 v6), ∀ (k0_h1 : k0_cond1 v3 v6 = 1#1), ∀ a, (k0_off4 v1) a + S1x512x1024.size a ≤ S16x3584x1024.size a := fun v1 v3 v6 k0_hw1 k0_h1 => k0_hw1.2.2.1 k0_h1
theorem k0_off5_inb : ∀ (v1 : BitVec 32) (v3 : BitVec 32) (v6 : BitVec 32) (k0_hw1 : k0_chk1 v1 v3 v6), ∀ (k0_h1 : k0_cond1 v3 v6 = 1#1), ∀ a, (k0_off5 v1) a + S1x1024x512.size a ≤ S16x1024x7168.size a := fun v1 v3 v6 k0_hw1 k0_h1 => k0_hw1.2.2.2.1 k0_h1
theorem k0_off6_inb : ∀ (v1 : BitVec 32) (v3 : BitVec 32) (v6 : BitVec 32) (k0_hw1 : k0_chk1 v1 v3 v6), ∀ (k0_h1 : k0_cond1 v3 v6 = 1#1), ∀ a, (k0_off6 v1) a + S1x1024x512.size a ≤ S16x1024x7168.size a := fun v1 v3 v6 k0_hw1 k0_h1 => k0_hw1.2.2.2.2.1 k0_h1
theorem k0_off7_inb : ∀ (v1 : BitVec 32) (v3 : BitVec 32) (v6 : BitVec 32) (k0_hw1 : k0_chk1 v1 v3 v6), ∀ (k0_h1 : k0_cond1 v3 v6 = 1#1), ∀ a, (k0_off7 v1) a + S1x512x1024.size a ≤ S16x3584x1024.size a := fun v1 v3 v6 k0_hw1 k0_h1 => k0_hw1.2.2.2.2.2.1 k0_h1
theorem k0_off8_inb : ∀ (v1 : BitVec 32) (v3 : BitVec 32) (v6 : BitVec 32) (k0_hw1 : k0_chk1 v1 v3 v6), ∀ (k0_h1 : k0_cond1 v3 v6 = 1#1), ∀ a, (k0_off8 v1) a + S1x1024x512.size a ≤ S16x1024x7168.size a := fun v1 v3 v6 k0_hw1 k0_h1 => k0_hw1.2.2.2.2.2.2.1 k0_h1
theorem k0_off9_inb : ∀ (v1 : BitVec 32) (v3 : BitVec 32) (v6 : BitVec 32) (k0_hw1 : k0_chk1 v1 v3 v6), ∀ (k0_h1 : k0_cond1 v3 v6 = 1#1), ∀ a, (k0_off9 v1) a + S1x1024x512.size a ≤ S16x1024x7168.size a := fun v1 v3 v6 k0_hw1 k0_h1 => k0_hw1.2.2.2.2.2.2.2.1 k0_h1
theorem k0_off10_inb : ∀ (v1 : BitVec 32) (v3 : BitVec 32) (v6 : BitVec 32) (k0_hw1 : k0_chk1 v1 v3 v6), ∀ (k0_h1 : k0_cond1 v3 v6 = 1#1), ∀ a, (k0_off10 v1) a + S1x512x1024.size a ≤ S16x3584x1024.size a := fun v1 v3 v6 k0_hw1 k0_h1 => k0_hw1.2.2.2.2.2.2.2.2.1 k0_h1
theorem k0_off11_inb : ∀ (v1 : BitVec 32) (v3 : BitVec 32) (v6 : BitVec 32) (k0_hw1 : k0_chk1 v1 v3 v6), ∀ (k0_h1 : k0_cond1 v3 v6 = 1#1), ∀ a, (k0_off11 v1) a + S1x1024x512.size a ≤ S16x1024x7168.size a := fun v1 v3 v6 k0_hw1 k0_h1 => k0_hw1.2.2.2.2.2.2.2.2.2.1 k0_h1
theorem k0_off12_inb : ∀ (v1 : BitVec 32) (v3 : BitVec 32) (v6 : BitVec 32) (k0_hw1 : k0_chk1 v1 v3 v6), ∀ (k0_h1 : k0_cond1 v3 v6 = 1#1), ∀ a, (k0_off12 v1) a + S1x1024x512.size a ≤ S16x1024x7168.size a := fun v1 v3 v6 k0_hw1 k0_h1 => k0_hw1.2.2.2.2.2.2.2.2.2.2.1 k0_h1
theorem k0_off13_inb : ∀ (v1 : BitVec 32) (v3 : BitVec 32) (v6 : BitVec 32) (k0_hw1 : k0_chk1 v1 v3 v6), ∀ (k0_h1 : k0_cond1 v3 v6 = 1#1), ∀ a, (k0_off13 v1) a + S1x512x1024.size a ≤ S16x3584x1024.size a := fun v1 v3 v6 k0_hw1 k0_h1 => k0_hw1.2.2.2.2.2.2.2.2.2.2.2.1 k0_h1
theorem k0_off14_inb : ∀ (v1 : BitVec 32) (v3 : BitVec 32) (v6 : BitVec 32) (k0_hw1 : k0_chk1 v1 v3 v6), ∀ (k0_h1 : k0_cond1 v3 v6 = 1#1), ∀ a, (k0_off14 v1) a + S1x1024x512.size a ≤ S16x1024x7168.size a := fun v1 v3 v6 k0_hw1 k0_h1 => k0_hw1.2.2.2.2.2.2.2.2.2.2.2.2.1 k0_h1
theorem k0_off15_inb : ∀ (v1 : BitVec 32) (v3 : BitVec 32) (v6 : BitVec 32) (k0_hw1 : k0_chk1 v1 v3 v6), ∀ (k0_h1 : k0_cond1 v3 v6 = 1#1), ∀ a, (k0_off15 v1) a + S1x1024x512.size a ≤ S16x1024x7168.size a := fun v1 v3 v6 k0_hw1 k0_h1 => k0_hw1.2.2.2.2.2.2.2.2.2.2.2.2.2.1 k0_h1
theorem k0_off16_inb : ∀ (v1 : BitVec 32) (v3 : BitVec 32) (v6 : BitVec 32) (k0_hw1 : k0_chk1 v1 v3 v6), ∀ (k0_h1 : k0_cond1 v3 v6 = 1#1), ∀ a, (k0_off16 v1) a + S1x512x1024.size a ≤ S16x3584x1024.size a := fun v1 v3 v6 k0_hw1 k0_h1 => k0_hw1.2.2.2.2.2.2.2.2.2.2.2.2.2.2.1 k0_h1
theorem k0_off17_inb : ∀ (v1 : BitVec 32) (v3 : BitVec 32) (v6 : BitVec 32) (k0_hw1 : k0_chk1 v1 v3 v6), ∀ (k0_h1 : k0_cond1 v3 v6 = 1#1), ∀ a, (k0_off17 v1) a + S1x1024x512.size a ≤ S16x1024x7168.size a := fun v1 v3 v6 k0_hw1 k0_h1 => k0_hw1.2.2.2.2.2.2.2.2.2.2.2.2.2.2.2.1 k0_h1
theorem k0_off18_inb : ∀ (v1 : BitVec 32) (v3 : BitVec 32) (v6 : BitVec 32) (k0_hw1 : k0_chk1 v1 v3 v6), ∀ (k0_h1 : k0_cond1 v3 v6 = 1#1), ∀ a, (k0_off18 v1) a + S1x1024x512.size a ≤ S16x1024x7168.size a := fun v1 v3 v6 k0_hw1 k0_h1 => k0_hw1.2.2.2.2.2.2.2.2.2.2.2.2.2.2.2.2.1 k0_h1
theorem k0_off19_inb : ∀ (v1 : BitVec 32) (v3 : BitVec 32) (v6 : BitVec 32) (k0_hw1 : k0_chk1 v1 v3 v6), ∀ (k0_h1 : k0_cond1 v3 v6 = 1#1), ∀ a, (k0_off19 v1) a + S1x512x1024.size a ≤ S16x3584x1024.size a := fun v1 v3 v6 k0_hw1 k0_h1 => k0_hw1.2.2.2.2.2.2.2.2.2.2.2.2.2.2.2.2.2.1 k0_h1
theorem k0_off20_inb : ∀ (v1 : BitVec 32) (v3 : BitVec 32) (v6 : BitVec 32) (k0_hw1 : k0_chk1 v1 v3 v6), ∀ (k0_h1 : k0_cond1 v3 v6 = 1#1), ∀ a, (k0_off20 v1) a + S1x1024x512.size a ≤ S16x1024x7168.size a := fun v1 v3 v6 k0_hw1 k0_h1 => k0_hw1.2.2.2.2.2.2.2.2.2.2.2.2.2.2.2.2.2.2.1 k0_h1
theorem k0_off21_inb : ∀ (v1 : BitVec 32) (v3 : BitVec 32) (v6 : BitVec 32) (k0_hw1 : k0_chk1 v1 v3 v6), ∀ (k0_h1 : k0_cond1 v3 v6 = 1#1), ∀ a, (k0_off21 v1) a + S1x1024x512.size a ≤ S16x1024x7168.size a := fun v1 v3 v6 k0_hw1 k0_h1 => k0_hw1.2.2.2.2.2.2.2.2.2.2.2.2.2.2.2.2.2.2.2.1 k0_h1
theorem k0_off22_inb : ∀ (v1 : BitVec 32) (v3 : BitVec 32) (v6 : BitVec 32) (k0_hw1 : k0_chk1 v1 v3 v6), ∀ (k0_h1 : k0_cond1 v3 v6 = 1#1), ∀ a, (k0_off22 v1) a + S1x512x1024.size a ≤ S16x3584x1024.size a := fun v1 v3 v6 k0_hw1 k0_h1 => k0_hw1.2.2.2.2.2.2.2.2.2.2.2.2.2.2.2.2.2.2.2.2 k0_h1

def k0_cond2 (v3 : BitVec 32) (v6 : BitVec 32) : BitVec 1 :=
  let c0_i32 : BitVec 32 := 0#32
  let v4 : BitVec 1 := Scalar.cmpi .ne v3 c0_i32
  let c0_i32_0 : BitVec 32 := 0#32
  let v7 : BitVec 1 := Scalar.cmpi .ne v6 c0_i32_0
  let v_true : BitVec 1 := 1#1
  let v11 : BitVec 1 := Scalar.xori v7 v_true
  let v12 : BitVec 1 := Scalar.andi v4 v11
  let v13 : BitVec 32 := Scalar.extui v12
  let c0_i32_2 : BitVec 32 := 0#32
  let v14 : BitVec 1 := Scalar.cmpi .ne v13 c0_i32_2
  v14

def k0_cond3 (v3 : BitVec 32) : BitVec 1 :=
  let c0_i32 : BitVec 32 := 0#32
  let v4 : BitVec 1 := Scalar.cmpi .ne v3 c0_i32
  let true_3 : BitVec 1 := 1#1
  let v15 : BitVec 1 := Scalar.xori v4 true_3
  let v16 : BitVec 32 := Scalar.extui v15
  let c0_i32_4 : BitVec 32 := 0#32
  let v17 : BitVec 1 := Scalar.cmpi .ne v16 c0_i32_4
  v17

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== MoeReferenceIdeal.lean ====
abbrev S72 : Shape := ⟨1, ![72]⟩
abbrev S36864x1024 : Shape := ⟨2, ![36864, 1024]⟩
abbrev S16x1024x7168 : Shape := ⟨3, ![16, 1024, 7168]⟩
abbrev S16x3584x1024 : Shape := ⟨3, ![16, 3584, 1024]⟩
abbrev S36864x16x7168 : Shape := ⟨3, ![36864, 16, 7168]⟩
abbrev S36864x16x3584 : Shape := ⟨3, ![36864, 16, 3584]⟩
abbrev S_ : Shape := ⟨0, ![]⟩
abbrev S16x1024x36864 : Shape := ⟨3, ![16, 1024, 36864]⟩
abbrev S36864x16x1024 : Shape := ⟨3, ![36864, 16, 1024]⟩
abbrev S72x1 : Shape := ⟨2, ![72, 1]⟩
abbrev S16 : Shape := ⟨1, ![16]⟩
abbrev S1x16 : Shape := ⟨2, ![1, 16]⟩
abbrev S72x16 : Shape := ⟨2, ![72, 16]⟩
abbrev S72x512x16 : Shape := ⟨3, ![72, 512, 16]⟩
abbrev S36864x16 : Shape := ⟨2, ![36864, 16]⟩
abbrev S36864x16x1 : Shape := ⟨3, ![36864, 16, 1]⟩

abbrev nBuf : Space → Nat
  | .hbm => 44
  | .vmem => 0
  | .smem => 0
  | _ => 0

abbrev bufTy : (tb : Table) → Fin (tcTables nBuf tb) → BufTy
  | .hbm, ⟨0, _⟩ => ⟨S72, .i32⟩
  | .hbm, ⟨1, _⟩ => ⟨S72, .i32⟩
  | .hbm, ⟨2, _⟩ => ⟨S36864x1024, .bf16⟩
  | .hbm, ⟨3, _⟩ => ⟨S16x1024x7168, .f32⟩
  | .hbm, ⟨4, _⟩ => ⟨S16x3584x1024, .f32⟩
  | .hbm, ⟨5, _⟩ => ⟨S36864x1024, .f32⟩
  | .hbm, ⟨6, _⟩ => ⟨S36864x16x7168, .f32⟩
  | .hbm, ⟨7, _⟩ => ⟨S36864x16x3584, .f32⟩
  | .hbm, ⟨8, _⟩ => ⟨S36864x16x3584, .f32⟩
  | .hbm, ⟨9, _⟩ => ⟨S36864x16x3584, .f32⟩
  | .hbm, ⟨10, _⟩ => ⟨S36864x16x3584, .f32⟩
  | .hbm, ⟨11, _⟩ => ⟨S_, .f32⟩
  | .hbm, ⟨12, _⟩ => ⟨S36864x16x3584, .f32⟩
  | .hbm, ⟨13, _⟩ => ⟨S36864x16x3584, .f32⟩
  | .hbm, ⟨14, _⟩ => ⟨S_, .f32⟩
  | .hbm, ⟨15, _⟩ => ⟨S36864x16x3584, .f32⟩
  | .hbm, ⟨16, _⟩ => ⟨S36864x16x3584, .f32⟩
  | .hbm, ⟨17, _⟩ => ⟨S36864x16x3584, .f32⟩
  | .hbm, ⟨18, _⟩ => ⟨S36864x16x3584, .f32⟩
  | .hbm, ⟨19, _⟩ => ⟨S16x1024x36864, .f32⟩
  | .hbm, ⟨20, _⟩ => ⟨S36864x16x1024, .f32⟩
  | .hbm, ⟨21, _⟩ => ⟨S72x1, .i32⟩
  | .hbm, ⟨22, _⟩ => ⟨S16, .i32⟩
  | .hbm, ⟨23, _⟩ => ⟨S1x16, .i32⟩
  | .hbm, ⟨24, _⟩ => ⟨S72x16, .i32⟩
  | .hbm, ⟨25, _⟩ => ⟨S72x16, .i32⟩
  | .hbm, ⟨26, _⟩ => ⟨S72x16, .i1⟩
  | .hbm, ⟨27, _⟩ => ⟨S_, .i32⟩
  | .hbm, ⟨28, _⟩ => ⟨S72, .i32⟩
  | .hbm, ⟨29, _⟩ => ⟨S72, .i1⟩
  | .hbm, ⟨30, _⟩ => ⟨S72x1, .i1⟩
  | .hbm, ⟨31, _⟩ => ⟨S72x16, .i1⟩
  | .hbm, ⟨32, _⟩ => ⟨S72x16, .i1⟩
  | .hbm, ⟨33, _⟩ => ⟨S72x512x16, .i1⟩
  | .hbm, ⟨34, _⟩ => ⟨S36864x16, .i1⟩
  | .hbm, ⟨35, _⟩ => ⟨S36864x16x1, .i1⟩
  | .hbm, ⟨36, _⟩ => ⟨S_, .f32⟩
  | .hbm, ⟨37, _⟩ => ⟨S_, .f32⟩
  | .hbm, ⟨38, _⟩ => ⟨S36864x16x1024, .i1⟩
  | .hbm, ⟨39, _⟩ => ⟨S36864x16x1024, .f32⟩
  | .hbm, ⟨40, _⟩ => ⟨S36864x16x1024, .f32⟩
  | .hbm, ⟨41, _⟩ => ⟨S_, .f32⟩
  | .hbm, ⟨42, _⟩ => ⟨S36864x1024, .f32⟩
  | .hbm, ⟨43, _⟩ => ⟨S36864x1024, .bf16⟩
  | _, _ => ⟨S72, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_call0_v5 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_cst : Ref sig .tc := ⟨.hbm, 36, rfl⟩
abbrev main_call1_v0 : Ref sig .tc := ⟨.hbm, 37, rfl⟩
abbrev main_call1_v1 : Ref sig .tc := ⟨.hbm, 38, rfl⟩
abbrev main_call1_v2 : Ref sig .tc := ⟨.hbm, 39, rfl⟩
abbrev main_v22 : Ref sig .tc := ⟨.hbm, 40, rfl⟩
abbrev main_cst_0 : Ref sig .tc := ⟨.hbm, 41, rfl⟩
abbrev main_v23 : Ref sig .tc := ⟨.hbm, 42, rfl⟩
abbrev main_v24 : Ref sig .tc := ⟨.hbm, 43, rfl⟩

abbrev nD : Nat := 1
abbrev τ : Topo := Topo.v7x

variable {F : FTy → Type} [FloatOps F]
-- ==== Ffn.lean ====
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S16384x256 : Shape := ⟨2, ![16384, 256]⟩
abbrev S1024x1024 : Shape := ⟨2, ![1024, 1024]⟩
abbrev S256x1024 : Shape := ⟨2, ![256, 1024]⟩
abbrev S1x1024 : Shape := ⟨2, ![1, 1024]⟩
abbrev S512x1024 : Shape := ⟨2, ![512, 1024]⟩
abbrev S512x256 : Shape := ⟨2, ![512, 256]⟩
abbrev S1024x1408 : Shape := ⟨2, ![1024, 1408]⟩
abbrev S512x1408 : Shape := ⟨2, ![512, 1408]⟩
abbrev S1408x1024 : Shape := ⟨2, ![1408, 1024]⟩
abbrev S512 : Shape := ⟨1, ![512]⟩
abbrev S512x1 : Shape := ⟨2, ![512, 1]⟩

abbrev nBuf : Space → Nat
  | .hbm => 16
  | .vmem => 15
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S16384x256, .f32⟩
  | .hbm, ⟨6, _⟩ => ⟨S1024x1024, .f32⟩
  | .hbm, ⟨7, _⟩ => ⟨S256x1024, .f32⟩
  | .hbm, ⟨8, _⟩ => ⟨S16384x1024, .bf16⟩
  | .hbm, ⟨9, _⟩ => ⟨S1024x5632, .bf16⟩
  | .hbm, ⟨10, _⟩ => ⟨S2816x1024, .bf16⟩
  | .hbm, ⟨11, _⟩ => ⟨S1x1024, .f32⟩
  | .hbm, ⟨12, _⟩ => ⟨S1x1024, .f32⟩
  | .hbm, ⟨13, _⟩ => ⟨S1024x1024, .bf16⟩
  | .hbm, ⟨14, _⟩ => ⟨S256x1024, .bf16⟩
  | .hbm, ⟨15, _⟩ => ⟨S16384x1024, .f32⟩
  | .local _ .vmem, ⟨0, _⟩ => ⟨S512x1024, .bf16⟩
  | .local _ .vmem, ⟨1, _⟩ => ⟨S512x1024, .bf16⟩
  | .local _ .vmem, ⟨2, _⟩ => ⟨S1024x5632, .bf16⟩
  | .local _ .vmem, ⟨3, _⟩ => ⟨S2816x1024, .bf16⟩
  | .local _ .vmem, ⟨4, _⟩ => ⟨S512x1024, .f32⟩
  | .local _ .vmem, ⟨5, _⟩ => ⟨S512x1024, .f32⟩
  | .local _ .vmem, ⟨6, _⟩ => ⟨S1x1024, .f32⟩
  | .local _ .vmem, ⟨7, _⟩ => ⟨S1x1024, .f32⟩
  | .local _ .vmem, ⟨8, _⟩ => ⟨S512x256, .f32⟩
  | .local _ .vmem, ⟨9, _⟩ => ⟨S512x256, .f32⟩
  | .local _ .vmem, ⟨10, _⟩ => ⟨S1024x1024, .bf16⟩
  | .local _ .vmem, ⟨11, _⟩ => ⟨S256x1024, .bf16⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg9_1 : Ref sig .tc := ⟨.vmem, 13, rfl⟩
abbrev cc0_scratch0 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem5_0 : DmaSem sig := 7
abbrev cc0_sem6_0 : DmaSem sig := 8
abbrev cc0_sem6_1 : DmaSem sig := 9
abbrev cc0_sem7_0 : DmaSem sig := 10
abbrev cc0_sem8_0 : DmaSem sig := 11
abbrev cc0_sem9_0 : DmaSem sig := 12
abbrev cc0_sem9_1 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x5632 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2816x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1024x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S256x1024 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S512x1024 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== FfnReferenceIdeal.lean ====
abbrev S16384x1024 : Shape := ⟨2, ![16384, 1024]⟩
abbrev S1024x5632 : Shape := ⟨2, ![1024, 5632]⟩
abbrev S2816x1024 : Shape := ⟨2, ![2816, 1024]⟩
abbrev S1024 : Shape := ⟨1, ![1024]⟩
abbrev S16384x256 : Shape := ⟨2, ![16384, 256]⟩
abbrev S1024x1024 : Shape := ⟨2, ![1024, 1024]⟩
abbrev S256x1024 : Shape := ⟨2, ![256, 1024]⟩
abbrev S16384x5632 : Shape := ⟨2, ![16384, 5632]⟩
abbrev S16384x2816 : Shape := ⟨2, ![16384, 2816]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 65
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x5632, .f32⟩
  | .hbm, ⟨2, _⟩ => ⟨S2816x1024, .f32⟩
  | .hbm, ⟨3, _⟩ => ⟨S1024, .f32⟩
  | .hbm, ⟨4, _⟩ => ⟨S1024, .f32⟩
  | .hbm, ⟨5, _⟩ => ⟨S16384x256, .f32⟩
  | .hbm, ⟨6, _⟩ => ⟨S1024x1024, .f32⟩
  | .hbm, ⟨7, _⟩ => ⟨S256x1024, .f32⟩
  | .hbm, ⟨8, _⟩ => ⟨S16384x5632, .f32⟩
  | .hbm, ⟨9, _⟩ => ⟨S16384x2816, .f32⟩
  | .hbm, ⟨10, _⟩ => ⟨S16384x2816, .f32⟩
  | .hbm, ⟨11, _⟩ => ⟨S_, .f32⟩
  | .hbm, ⟨12, _⟩ => ⟨S16384x1024, .f32⟩
  | .hbm, ⟨13, _⟩ => ⟨S16384x1024, .f32⟩
  | .hbm, ⟨14, _⟩ => ⟨S16384x2816, .f32⟩
  | .hbm, ⟨15, _⟩ => ⟨S16384x2816, .f32⟩
  | .hbm, ⟨16, _⟩ => ⟨S_, .f32⟩
  | .hbm, ⟨17, _⟩ => ⟨S16384x2816, .f32⟩
  | .hbm, ⟨18, _⟩ => ⟨S16384x2816, .f32⟩
  | .hbm, ⟨19, _⟩ => ⟨S_, .f32⟩
  | .hbm, ⟨20, _⟩ => ⟨S16384x2816, .f32⟩
  | .hbm, ⟨21, _⟩ => ⟨S16384x2816, .f32⟩
  | .hbm, ⟨22, _⟩ => ⟨S16384x2816, .f32⟩
  | .hbm, ⟨23, _⟩ => ⟨S16384x2816, .f32⟩
  | .hbm, ⟨24, _⟩ => ⟨S16384x1024, .f32⟩
  | .hbm, ⟨25, _⟩ => ⟨S16384x1024, .f32⟩
  | .hbm, ⟨26, _⟩ => ⟨S_, .f32⟩
  | .hbm, ⟨27, _⟩ => ⟨S16384, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S16384x1024, .f32⟩
  | .hbm, ⟨35, _⟩ => ⟨S_, .f32⟩
  | .hbm, ⟨36, _⟩ => ⟨S16384, .f32⟩
  | .hbm, ⟨37, _⟩ => ⟨S16384x1, .f32⟩
  | .hbm, ⟨38, _⟩ => ⟨S_, .f32⟩
  | .hbm, ⟨39, _⟩ => ⟨S16384x1, .f32⟩
  | .hbm, ⟨40, _⟩ => ⟨S16384x1, .f32⟩
  | .hbm, ⟨41, _⟩ => ⟨S_, .f32⟩
  | .hbm, ⟨42, _⟩ => ⟨S16384x1, .f32⟩
  | .hbm, ⟨43, _⟩ => ⟨S16384x1, .f32⟩
  | .hbm, ⟨44, _⟩ => ⟨S16384x1, .f32⟩
  | .hbm, ⟨45, _⟩ => ⟨S16384x1024, .f32⟩
  | .hbm, ⟨46, _⟩ => ⟨S16384x1024, .f32⟩
  | .hbm, ⟨47, _⟩ => ⟨S1x1024, .f32⟩
  | .hbm, ⟨48, _⟩ => ⟨S16384x1024, .f32⟩
  | .hbm, ⟨49, _⟩ => ⟨S16384x1024, .f32⟩
  | .hbm, ⟨50, _⟩ => ⟨S1x1024, .f32⟩
  | .hbm, ⟨51, _⟩ => ⟨S16384x1024, .f32⟩
  | .hbm, ⟨52, _⟩ => ⟨S16384x1024, .f32⟩
  | .hbm, ⟨53, _⟩ => ⟨S16384x1024, .f32⟩
  | .hbm, ⟨54, _⟩ => ⟨S16384x1024, .f32⟩
  | .hbm, ⟨55, _⟩ => ⟨S16384x1024, .f32⟩
  | .hbm, ⟨56, _⟩ => ⟨S_, .f32⟩
  | .hbm, ⟨57, _⟩ => ⟨S16384x1024, .f32⟩
  | .hbm, ⟨58, _⟩ => ⟨S16384x1024, .f32⟩
  | .hbm, ⟨59, _⟩ => ⟨S_, .f32⟩
  | .hbm, ⟨60, _⟩ => ⟨S16384x1024, .f32⟩
  | .hbm, ⟨61, _⟩ => ⟨S16384x1024, .f32⟩
  | .hbm, ⟨62, _⟩ => ⟨S16384x1024, .f32⟩
  | .hbm, ⟨63, _⟩ => ⟨S16384x1024, .f32⟩
  | .hbm, ⟨64, _⟩ => ⟨S16384x1024, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_cst : Ref sig .tc := ⟨.hbm, 11, rfl⟩
abbrev main_v3 : Ref sig .tc := ⟨.hbm, 12, rfl⟩
abbrev main_v4 : Ref sig .tc := ⟨.hbm, 13, rfl⟩
abbrev main_call0_v0 : Ref sig .tc := ⟨.hbm, 14, rfl⟩
abbrev main_call0_v1 : Ref sig .tc := ⟨.hbm, 15, rfl⟩
abbrev main_call0_cst : Ref sig .tc := ⟨.hbm, 16, rfl⟩
abbrev main_call0_v2 : Ref sig .tc := ⟨.hbm, 17, rfl⟩
abbrev main_call0_v3 : Ref sig .tc := ⟨.hbm, 18, rfl⟩
abbrev main_call0_cst_0 : Ref sig .tc := ⟨.hbm, 19, rfl⟩
abbrev main_call0_v4 : Ref sig .tc := ⟨.hbm, 20, rfl⟩
abbrev main_call0_v5 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_cst_0 : Ref sig .tc := ⟨.hbm, 26, rfl⟩
abbrev main_v9 : Ref sig .tc := ⟨.hbm, 27, rfl⟩
abbrev main_v10 : Ref sig .tc := ⟨.hbm, 28, rfl⟩
abbrev main_cst_1 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_cst_2 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩
abbrev main_v30 : Ref sig .tc := ⟨.hbm, 52, rfl⟩
abbrev main_v31 : Ref sig .tc := ⟨.hbm, 53, rfl⟩
abbrev main_v32 : Ref sig .tc := ⟨.hbm, 54, rfl⟩
abbrev main_v33 : Ref sig .tc := ⟨.hbm, 55, rfl⟩
abbrev main_cst_5 : Ref sig .tc := ⟨.hbm, 56, rfl⟩
abbrev main_v34 : Ref sig .tc := ⟨.hbm, 57, rfl⟩
abbrev main_v35 : Ref sig .tc := ⟨.hbm, 58, rfl⟩
abbrev main_cst_6 : Ref sig .tc := ⟨.hbm, 59, rfl⟩
abbrev main_v36 : Ref sig .tc := ⟨.hbm, 60, rfl⟩
abbrev main_v37 : Ref sig .tc := ⟨.hbm, 61, rfl⟩
abbrev main_v38 : Ref sig .tc := ⟨.hbm, 62, rfl⟩
abbrev main_v39 : Ref sig .tc := ⟨.hbm, 63, rfl⟩
abbrev main_v40 : Ref sig .tc := ⟨.hbm, 64, rfl⟩

abbrev nD : Nat := 1
abbrev τ : Topo := Topo.v7x

variable {F : FTy → Type} [FloatOps F]
-- ==== Proj.lean ====
abbrev S16384x1024 : Shape := ⟨2, ![16384, 1024]⟩
abbrev S1024x3080 : Shape := ⟨2, ![1024, 3080]⟩
abbrev S8 : Shape := ⟨1, ![8]⟩
abbrev S1024x512 : Shape := ⟨2, ![1024, 512]⟩
abbrev S1024x1024 : Shape := ⟨2, ![1024, 1024]⟩
abbrev S_ : Shape := ⟨0, ![]⟩
abbrev S1024x2048 : Shape := ⟨2, ![1024, 2048]⟩
abbrev S2048x1024 : Shape := ⟨2, ![2048, 1024]⟩
abbrev S1024x8 : Shape := ⟨2, ![1024, 8]⟩
abbrev S1024x128 : Shape := ⟨2, ![1024, 128]⟩
abbrev S128 : Shape := ⟨1, ![128]⟩
abbrev S1x128 : Shape := ⟨2, ![1, 128]⟩
abbrev S4x2048x4096 : Shape := ⟨3, ![4, 2048, 4096]⟩
abbrev S16384x128 : Shape := ⟨2, ![16384, 128]⟩
abbrev S512x1024 : Shape := ⟨2, ![512, 1024]⟩
abbrev S1x2048x512 : Shape := ⟨3, ![1, 2048, 512]⟩
abbrev S512x128 : Shape := ⟨2, ![512, 128]⟩
abbrev S2048x512 : Shape := ⟨2, ![2048, 512]⟩

abbrev nBuf : Space → Nat
  | .hbm => 32
  | .vmem => 12
  | .smem => 0
  | _ => 0

abbrev bufTy : (tb : Table) → Fin (tcTables nBuf tb) → BufTy
  | .hbm, ⟨0, _⟩ => ⟨S16384x1024, .f32⟩
  | .hbm, ⟨1, _⟩ => ⟨S1024x3080, .f32⟩
  | .hbm, ⟨2, _⟩ => ⟨S8, .f32⟩
  | .hbm, ⟨3, _⟩ => ⟨S1024x512, .f32⟩
  | .hbm, ⟨4, _⟩ => ⟨S1024x512, .f32⟩
  | .hbm, ⟨5, _⟩ => ⟨S1024x512, .f32⟩
  | .hbm, ⟨6, _⟩ => ⟨S1024x512, .f32⟩
  | .hbm, ⟨7, _⟩ => ⟨S1024x512, .f32⟩
  | .hbm, ⟨8, _⟩ => ⟨S1024x512, .f32⟩
  | .hbm, ⟨9, _⟩ => ⟨S1024x1024, .f32⟩
  | .hbm, ⟨10, _⟩ => ⟨S1024x1024, .bf16⟩
  | .hbm, ⟨11, _⟩ => ⟨S_, .f32⟩
  | .hbm, ⟨12, _⟩ => ⟨S1024x512, .f32⟩
  | .hbm, ⟨13, _⟩ => ⟨S1024x512, .f32⟩
  | .hbm, ⟨14, _⟩ => ⟨S_, .f32⟩
  | .hbm, ⟨15, _⟩ => ⟨S1024x512, .f32⟩
  | .hbm, ⟨16, _⟩ => ⟨S1024x512, .f32⟩
  | .hbm, ⟨17, _⟩ => ⟨S1024x2048, .f32⟩
  | .hbm, ⟨18, _⟩ => ⟨S2048x1024, .f32⟩
  | .hbm, ⟨19, _⟩ => ⟨S2048x1024, .bf16⟩
  | .hbm, ⟨20, _⟩ => ⟨S1024x8, .f32⟩
  | .hbm, ⟨21, _⟩ => ⟨S_, .i32⟩
  | .hbm, ⟨22, _⟩ => ⟨S_, .f32⟩
  | .hbm, ⟨23, _⟩ => ⟨S1024x128, .f32⟩
  | .hbm, ⟨24, _⟩ => ⟨S1024x128, .bf16⟩
  | .hbm, ⟨25, _⟩ => ⟨S_, .i32⟩
  | .hbm, ⟨26, _⟩ => ⟨S_, .f32⟩
  | .hbm, ⟨27, _⟩ => ⟨S128, .f32⟩
  | .hbm, ⟨28, _⟩ => ⟨S1x128, .f32⟩
  | .hbm, ⟨29, _⟩ => ⟨S16384x1024, .bf16⟩
  | .hbm, ⟨30, _⟩ => ⟨S4x2048x4096, .bf16⟩
  | .hbm, ⟨31, _⟩ => ⟨S16384x128, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S2048x1024, .bf16⟩
  | .local _ .vmem, ⟨4, _⟩ => ⟨S1024x128, .bf16⟩
  | .local _ .vmem, ⟨5, _⟩ => ⟨S1x128, .f32⟩
  | .local _ .vmem, ⟨6, _⟩ => ⟨S512x1024, .bf16⟩
  | .local _ .vmem, ⟨7, _⟩ => ⟨S512x1024, .bf16⟩
  | .local _ .vmem, ⟨8, _⟩ => ⟨S1x2048x512, .bf16⟩
  | .local _ .vmem, ⟨9, _⟩ => ⟨S1x2048x512, .bf16⟩
  | .local _ .vmem, ⟨10, _⟩ => ⟨S512x128, .f32⟩
  | .local _ .vmem, ⟨11, _⟩ => ⟨S512x128, .f32⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_cst : Ref sig .tc := ⟨.hbm, 11, rfl⟩
abbrev main_v8 : Ref sig .tc := ⟨.hbm, 12, rfl⟩
abbrev main_v9 : Ref sig .tc := ⟨.hbm, 13, rfl⟩
abbrev main_cst_0 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_c : Ref sig .tc := ⟨.hbm, 21, rfl⟩
abbrev main_call0_v0 : Ref sig .tc := ⟨.hbm, 22, rfl⟩
abbrev main_v16 : Ref sig .tc := ⟨.hbm, 23, rfl⟩
abbrev main_v17 : Ref sig .tc := ⟨.hbm, 24, rfl⟩
abbrev main_c_1 : Ref sig .tc := ⟨.hbm, 25, rfl⟩
abbrev main_call1_v0 : Ref sig .tc := ⟨.hbm, 26, rfl⟩
abbrev main_v18 : Ref sig .tc := ⟨.hbm, 27, rfl⟩
abbrev main_v19 : Ref sig .tc := ⟨.hbm, 28, rfl⟩
abbrev main_v20_0 : Ref sig .tc := ⟨.hbm, 29, rfl⟩
abbrev main_v20_1 : Ref sig .tc := ⟨.hbm, 30, rfl⟩
abbrev main_v20_2 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S2048x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S1x2048x512 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== ProjReferenceIdeal.lean ====
abbrev S16384x1024 : Shape := ⟨2, ![16384, 1024]⟩
abbrev S1024x3080 : Shape := ⟨2, ![1024, 3080]⟩
abbrev S8 : Shape := ⟨1, ![8]⟩
abbrev S16384x3080 : Shape := ⟨2, ![16384, 3080]⟩
abbrev S16384x512 : Shape := ⟨2, ![16384, 512]⟩
abbrev S16384x8 : Shape := ⟨2, ![16384, 8]⟩
abbrev S_ : Shape := ⟨0, ![]⟩
abbrev S16384x2048 : Shape := ⟨2, ![16384, 2048]⟩
abbrev S4x4096x2048 : Shape := ⟨3, ![4, 4096, 2048]⟩
abbrev S4x2048x4096 : Shape := ⟨3, ![4, 2048, 4096]⟩
abbrev S1x8 : Shape := ⟨2, ![1, 8]⟩
abbrev S16384x128 : Shape := ⟨2, ![16384, 128]⟩

abbrev nBuf : Space → Nat
  | .hbm => 45
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x3080, .f32⟩
  | .hbm, ⟨2, _⟩ => ⟨S8, .f32⟩
  | .hbm, ⟨3, _⟩ => ⟨S16384x3080, .f32⟩
  | .hbm, ⟨4, _⟩ => ⟨S16384x512, .f32⟩
  | .hbm, ⟨5, _⟩ => ⟨S16384x512, .f32⟩
  | .hbm, ⟨6, _⟩ => ⟨S16384x512, .f32⟩
  | .hbm, ⟨7, _⟩ => ⟨S16384x8, .f32⟩
  | .hbm, ⟨8, _⟩ => ⟨S16384x512, .f32⟩
  | .hbm, ⟨9, _⟩ => ⟨S16384x512, .f32⟩
  | .hbm, ⟨10, _⟩ => ⟨S16384x512, .f32⟩
  | .hbm, ⟨11, _⟩ => ⟨S16384x1024, .f32⟩
  | .hbm, ⟨12, _⟩ => ⟨S16384x1024, .bf16⟩
  | .hbm, ⟨13, _⟩ => ⟨S_, .f32⟩
  | .hbm, ⟨14, _⟩ => ⟨S16384x512, .f32⟩
  | .hbm, ⟨15, _⟩ => ⟨S16384x512, .f32⟩
  | .hbm, ⟨16, _⟩ => ⟨S_, .f32⟩
  | .hbm, ⟨17, _⟩ => ⟨S16384x512, .f32⟩
  | .hbm, ⟨18, _⟩ => ⟨S16384x512, .f32⟩
  | .hbm, ⟨19, _⟩ => ⟨S16384x2048, .f32⟩
  | .hbm, ⟨20, _⟩ => ⟨S4x4096x2048, .f32⟩
  | .hbm, ⟨21, _⟩ => ⟨S4x2048x4096, .f32⟩
  | .hbm, ⟨22, _⟩ => ⟨S4x2048x4096, .bf16⟩
  | .hbm, ⟨23, _⟩ => ⟨S1x8, .f32⟩
  | .hbm, ⟨24, _⟩ => ⟨S16384x8, .f32⟩
  | .hbm, ⟨25, _⟩ => ⟨S16384x8, .f32⟩
  | .hbm, ⟨26, _⟩ => ⟨S_, .i32⟩
  | .hbm, ⟨27, _⟩ => ⟨S_, .f32⟩
  | .hbm, ⟨28, _⟩ => ⟨S16384x128, .f32⟩
  | .hbm, ⟨29, _⟩ => ⟨S16384x128, .f32⟩
  | .hbm, ⟨30, _⟩ => ⟨S_, .f32⟩
  | .hbm, ⟨31, _⟩ => ⟨S16384x128, .f32⟩
  | .hbm, ⟨32, _⟩ => ⟨S16384x128, .f32⟩
  | .hbm, ⟨33, _⟩ => ⟨S16384x128, .f32⟩
  | .hbm, ⟨34, _⟩ => ⟨S16384x128, .f32⟩
  | .hbm, ⟨35, _⟩ => ⟨S16384x128, .i1⟩
  | .hbm, ⟨36, _⟩ => ⟨S16384x128, .f32⟩
  | .hbm, ⟨37, _⟩ => ⟨S16384x128, .f32⟩
  | .hbm, ⟨38, _⟩ => ⟨S16384x128, .f32⟩
  | .hbm, ⟨39, _⟩ => ⟨S16384x128, .f32⟩
  | .hbm, ⟨40, _⟩ => ⟨S16384x128, .f32⟩
  | .hbm, ⟨41, _⟩ => ⟨S16384x128, .f32⟩
  | .hbm, ⟨42, _⟩ => ⟨S16384x128, .f32⟩
  | .hbm, ⟨43, _⟩ => ⟨S16384x128, .f32⟩
  | .hbm, ⟨44, _⟩ => ⟨S16384x128, .f32⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_cst : Ref sig .tc := ⟨.hbm, 13, rfl⟩
abbrev main_v10 : Ref sig .tc := ⟨.hbm, 14, rfl⟩
abbrev main_v11 : Ref sig .tc := ⟨.hbm, 15, rfl⟩
abbrev main_cst_0 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_c : Ref sig .tc := ⟨.hbm, 26, rfl⟩
abbrev main_call0_v0 : Ref sig .tc := ⟨.hbm, 27, rfl⟩
abbrev main_v21 : Ref sig .tc := ⟨.hbm, 28, rfl⟩
abbrev main_call1_v0 : Ref sig .tc := ⟨.hbm, 29, rfl⟩
abbrev main_call1_call0_cst : Ref sig .tc := ⟨.hbm, 30, rfl⟩
abbrev main_call1_call0_v0 : Ref sig .tc := ⟨.hbm, 31, rfl⟩
abbrev main_call1_call0_v1 : Ref sig .tc := ⟨.hbm, 32, rfl⟩
abbrev main_call1_call0_v2 : Ref sig .tc := ⟨.hbm, 33, rfl⟩
abbrev main_call1_call0_v3 : Ref sig .tc := ⟨.hbm, 34, rfl⟩
abbrev main_call1_call0_v4 : Ref sig .tc := ⟨.hbm, 35, rfl⟩
abbrev main_call1_call0_v5 : Ref sig .tc := ⟨.hbm, 36, rfl⟩
abbrev main_call1_call0_v6 : Ref sig .tc := ⟨.hbm, 37, rfl⟩
abbrev main_call1_call0_v7 : Ref sig .tc := ⟨.hbm, 38, rfl⟩
abbrev main_call1_call0_v8 : Ref sig .tc := ⟨.hbm, 39, rfl⟩
abbrev main_call1_call0_v9 : Ref sig .tc := ⟨.hbm, 40, rfl⟩
abbrev main_call1_call0_v10 : Ref sig .tc := ⟨.hbm, 41, rfl⟩
abbrev main_call1_call0_v11 : Ref sig .tc := ⟨.hbm, 42, rfl⟩
abbrev main_call1_v1 : Ref sig .tc := ⟨.hbm, 43, rfl⟩
abbrev main_v22 : Ref sig .tc := ⟨.hbm, 44, rfl⟩

abbrev nD : Nat := 1
abbrev τ : Topo := Topo.v7x

variable {F : FTy → Type} [FloatOps F]
-- ==== Out.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S1x1024 : Shape := ⟨2, ![1, 1024]⟩
abbrev S512x512 : Shape := ⟨2, ![512, 512]⟩
abbrev S512x1024 : Shape := ⟨2, ![512, 1024]⟩
abbrev S512 : Shape := ⟨1, ![512]⟩
abbrev S512x1 : Shape := ⟨2, ![512, 1]⟩

abbrev nBuf : Space → Nat
  | .hbm => 11
  | .vmem => 13
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S1x1024, .f32⟩
  | .hbm, ⟨8, _⟩ => ⟨S1x1024, .f32⟩
  | .hbm, ⟨9, _⟩ => ⟨S16384x1024, .f32⟩
  | .hbm, ⟨10, _⟩ => ⟨S16384x1024, .bf16⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S1024x1024, .bf16⟩
  | .local _ .vmem, ⟨5, _⟩ => ⟨S512x1024, .f32⟩
  | .local _ .vmem, ⟨6, _⟩ => ⟨S512x1024, .f32⟩
  | .local _ .vmem, ⟨7, _⟩ => ⟨S1x1024, .f32⟩
  | .local _ .vmem, ⟨8, _⟩ => ⟨S1x1024, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | _, _ => ⟨S16384x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3_0 : Ref sig .tc := ⟨.hbm, 9, rfl⟩
abbrev main_v3_1 : Ref sig .tc := ⟨.hbm, 10, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== OutReferenceIdeal.lean ====
abbrev S16384x512 : Shape := ⟨2, ![16384, 512]⟩
abbrev S1024x1024 : Shape := ⟨2, ![1024, 1024]⟩
abbrev S16384x1024 : Shape := ⟨2, ![16384, 1024]⟩
abbrev S1024 : Shape := ⟨1, ![1024]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 42
  | .vmem => 0
  | .smem => 0
  | _ => 0

abbrev bufTy : (tb : Table) → Fin (tcTables nBuf tb) → BufTy
  | .hbm, ⟨0, _⟩ => ⟨S16384x512, .bf16⟩
  | .hbm, ⟨1, _⟩ => ⟨S16384x512, .bf16⟩
  | .hbm, ⟨2, _⟩ => ⟨S1024x1024, .f32⟩
  | .hbm, ⟨3, _⟩ => ⟨S16384x1024, .f32⟩
  | .hbm, ⟨4, _⟩ => ⟨S1024, .f32⟩
  | .hbm, ⟨5, _⟩ => ⟨S1024, .f32⟩
  | .hbm, ⟨6, _⟩ => ⟨S16384x512, .f32⟩
  | .hbm, ⟨7, _⟩ => ⟨S16384x512, .f32⟩
  | .hbm, ⟨8, _⟩ => ⟨S16384x1024, .f32⟩
  | .hbm, ⟨9, _⟩ => ⟨S_, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S16384x1024, .f32⟩
  | .hbm, ⟨14, _⟩ => ⟨S_, .f32⟩
  | .hbm, ⟨15, _⟩ => ⟨S16384, .f32⟩
  | .hbm, ⟨16, _⟩ => ⟨S16384x1, .f32⟩
  | .hbm, ⟨17, _⟩ => ⟨S_, .f32⟩
  | .hbm, ⟨18, _⟩ => ⟨S16384x1, .f32⟩
  | .hbm, ⟨19, _⟩ => ⟨S16384x1, .f32⟩
  | .hbm, ⟨20, _⟩ => ⟨S16384x1024, .f32⟩
  | .hbm, ⟨21, _⟩ => ⟨S16384x1024, .f32⟩
  | .hbm, ⟨22, _⟩ => ⟨S16384x1024, .f32⟩
  | .hbm, ⟨23, _⟩ => ⟨S_, .f32⟩
  | .hbm, ⟨24, _⟩ => ⟨S16384, .f32⟩
  | .hbm, ⟨25, _⟩ => ⟨S16384x1, .f32⟩
  | .hbm, ⟨26, _⟩ => ⟨S_, .f32⟩
  | .hbm, ⟨27, _⟩ => ⟨S16384x1, .f32⟩
  | .hbm, ⟨28, _⟩ => ⟨S16384x1, .f32⟩
  | .hbm, ⟨29, _⟩ => ⟨S_, .f32⟩
  | .hbm, ⟨30, _⟩ => ⟨S16384x1, .f32⟩
  | .hbm, ⟨31, _⟩ => ⟨S16384x1, .f32⟩
  | .hbm, ⟨32, _⟩ => ⟨S16384x1, .f32⟩
  | .hbm, ⟨33, _⟩ => ⟨S16384x1024, .f32⟩
  | .hbm, ⟨34, _⟩ => ⟨S16384x1024, .f32⟩
  | .hbm, ⟨35, _⟩ => ⟨S1x1024, .f32⟩
  | .hbm, ⟨36, _⟩ => ⟨S16384x1024, .f32⟩
  | .hbm, ⟨37, _⟩ => ⟨S16384x1024, .f32⟩
  | .hbm, ⟨38, _⟩ => ⟨S1x1024, .f32⟩
  | .hbm, ⟨39, _⟩ => ⟨S16384x1024, .f32⟩
  | .hbm, ⟨40, _⟩ => ⟨S16384x1024, .f32⟩
  | .hbm, ⟨41, _⟩ => ⟨S16384x1024, .bf16⟩
  | _, _ => ⟨S16384x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_cst : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_0 : Ref sig .tc := ⟨.hbm, 14, rfl⟩
abbrev main_v7 : Ref sig .tc := ⟨.hbm, 15, rfl⟩
abbrev main_v8 : Ref sig .tc := ⟨.hbm, 16, rfl⟩
abbrev main_cst_1 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩

abbrev nD : Nat := 1
abbrev τ : Topo := Topo.v7x

variable {F : FTy → Type} [FloatOps F]
-- ==== Qkv.lean ====
abbrev S16384x1024 : Shape := ⟨2, ![16384, 1024]⟩
abbrev S1024x1280 : Shape := ⟨2, ![1024, 1280]⟩
abbrev S1024x1024 : Shape := ⟨2, ![1024, 1024]⟩
abbrev S1024x64 : Shape := ⟨2, ![1024, 64]⟩
abbrev S1024x256 : Shape := ⟨2, ![1024, 256]⟩
abbrev S_ : Shape := ⟨0, ![]⟩
abbrev S1280x1024 : Shape := ⟨2, ![1280, 1024]⟩
abbrev S8 : Shape := ⟨1, ![8]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S128 : Shape := ⟨1, ![128]⟩
abbrev S1x128 : Shape := ⟨2, ![1, 128]⟩
abbrev S128x1 : Shape := ⟨2, ![128, 1]⟩
abbrev S4096x128 : Shape := ⟨2, ![4096, 128]⟩
abbrev S8x4096 : Shape := ⟨2, ![8, 4096]⟩
abbrev S16384x256 : Shape := ⟨2, ![16384, 256]⟩
abbrev S4x1024x4096 : Shape := ⟨3, ![4, 1024, 4096]⟩
abbrev S4x256x4096 : Shape := ⟨3, ![4, 256, 4096]⟩
abbrev S512x1024 : Shape := ⟨2, ![512, 1024]⟩
abbrev S512x128 : Shape := ⟨2, ![512, 128]⟩
abbrev S8x512 : Shape := ⟨2, ![8, 512]⟩
abbrev S512x256 : Shape := ⟨2, ![512, 256]⟩
abbrev S1x1024x512 : Shape := ⟨3, ![1, 1024, 512]⟩
abbrev S1x256x512 : Shape := ⟨3, ![1, 256, 512]⟩
abbrev S1280x512 : Shape := ⟨2, ![1280, 512]⟩
abbrev S16x512 : Shape := ⟨2, ![16, 512]⟩
abbrev S1x16x512 : Shape := ⟨3, ![1, 16, 512]⟩
abbrev S48x512 : Shape := ⟨2, ![48, 512]⟩
abbrev S1x48x512 : Shape := ⟨3, ![1, 48, 512]⟩
abbrev S256x512 : Shape := ⟨2, ![256, 512]⟩

abbrev nBuf : Space → Nat
  | .hbm => 144
  | .vmem => 20
  | .smem => 0
  | _ => 0

abbrev hbmTy0_0 (i : Nat) : BufTy := match i % 128 with
  | 0 => ⟨S16384x1024, .f32⟩
  | 1 => ⟨S1024x1280, .f32⟩
  | 2 => ⟨S1024x1024, .f32⟩
  | 3 => ⟨S1024x64, .f32⟩
  | 4 => ⟨S1024x64, .f32⟩
  | 5 => ⟨S1024x64, .f32⟩
  | 6 => ⟨S1024x64, .f32⟩
  | 7 => ⟨S1024x256, .f32⟩
  | 8 => ⟨S1024x256, .bf16⟩
  | 9 => ⟨S_, .f32⟩
  | 10 => ⟨S1024x1024, .f32⟩
  | 11 => ⟨S1024x1024, .f32⟩
  | 12 => ⟨S1024x1280, .f32⟩
  | 13 => ⟨S1280x1024, .f32⟩
  | 14 => ⟨S1280x1024, .bf16⟩
  | 15 => ⟨S8, .f32⟩
  | 16 => ⟨S8, .f32⟩
  | 17 => ⟨S_, .f32⟩
  | 18 => ⟨S8, .f32⟩
  | 19 => ⟨S8, .f32⟩
  | 20 => ⟨S_, .f32⟩
  | 21 => ⟨S8, .f32⟩
  | 22 => ⟨S8, .f32⟩
  | 23 => ⟨S_, .f32⟩
  | 24 => ⟨S8, .f32⟩
  | 25 => ⟨S8, .f32⟩
  | 26 => ⟨S4096, .f32⟩
  | 27 => ⟨S4096x1, .f32⟩
  | 28 => ⟨S1x8, .f32⟩
  | 29 => ⟨S4096x8, .f32⟩
  | 30 => ⟨S4096x8, .f32⟩
  | 31 => ⟨S4096x8, .f32⟩
  | 32 => ⟨S4096x8, .f32⟩
  | 33 => ⟨S4096x8, .f32⟩
  | 34 => ⟨S128, .i32⟩
  | 35 => ⟨S_, .i32⟩
  | 36 => ⟨S_, .i32⟩
  | 37 => ⟨S_, .i32⟩
  | 38 => ⟨S_, .i1⟩
  | 39 => ⟨S_, .i32⟩
  | 40 => ⟨S_, .i32⟩
  | 41 => ⟨S128, .i32⟩
  | 42 => ⟨S128, .i32⟩
  | 43 => ⟨S_, .i32⟩
  | 44 => ⟨S128, .i32⟩
  | 45 => ⟨S128, .i1⟩
  | 46 => ⟨S_, .i32⟩
  | 47 => ⟨S128, .i32⟩
  | 48 => ⟨S128, .i1⟩
  | 49 => ⟨S_, .i32⟩
  | 50 => ⟨S_, .i1⟩
  | 51 => ⟨S128, .i1⟩
  | 52 => ⟨S128, .i1⟩
  | 53 => ⟨S128, .i1⟩
  | 54 => ⟨S128, .i32⟩
  | 55 => ⟨S128, .i32⟩
  | 56 => ⟨S128, .i32⟩
  | 57 => ⟨S_, .i32⟩
  | 58 => ⟨S_, .i32⟩
  | 59 => ⟨S_, .i32⟩
  | 60 => ⟨S_, .i1⟩
  | 61 => ⟨S_, .i32⟩
  | 62 => ⟨S_, .i32⟩
  | 63 => ⟨S128, .i32⟩
  | 64 => ⟨S128, .i32⟩
  | 65 => ⟨S_, .i32⟩
  | 66 => ⟨S128, .i32⟩
  | 67 => ⟨S128, .i1⟩
  | 68 => ⟨S_, .i32⟩
  | 69 => ⟨S128, .i32⟩
  | 70 => ⟨S128, .i1⟩
  | 71 => ⟨S_, .i32⟩
  | 72 => ⟨S_, .i1⟩
  | 73 => ⟨S128, .i1⟩
  | 74 => ⟨S128, .i1⟩
  | 75 => ⟨S128, .i1⟩
  | 76 => ⟨S128, .i32⟩
  | 77 => ⟨S128, .i32⟩
  | 78 => ⟨S128, .i32⟩
  | 79 => ⟨S1x128, .i32⟩
  | 80 => ⟨S_, .i32⟩
  | 81 => ⟨S1x128, .i32⟩
  | 82 => ⟨S1x128, .i1⟩
  | 83 => ⟨S_, .i32⟩
  | 84 => ⟨S128, .i32⟩
  | 85 => ⟨S128, .i1⟩
  | 86 => ⟨S_, .i32⟩
  | 87 => ⟨S128, .i32⟩
  | 88 => ⟨S128, .i32⟩
  | 89 => ⟨S128, .i32⟩
  | 90 => ⟨S128x1, .i32⟩
  | 91 => ⟨S4096x128, .f32⟩
  | 92 => ⟨S_, .f32⟩
  | 93 => ⟨S_, .f32⟩
  | 94 => ⟨S4096x128, .i1⟩
  | 95 => ⟨S4096x128, .f32⟩
  | 96 => ⟨S4096x128, .f32⟩
  | 97 => ⟨S1x128, .i32⟩
  | 98 => ⟨S_, .i32⟩
  | 99 => ⟨S1x128, .i32⟩
  | 100 => ⟨S1x128, .i1⟩
  | 101 => ⟨S1x128, .i32⟩
  | 102 => ⟨S_, .i32⟩
  | 103 => ⟨S1x128, .i32⟩
  | 104 => ⟨S1x128, .i1⟩
  | 105 => ⟨S1x128, .i1⟩
  | 106 => ⟨S_, .i32⟩
  | 107 => ⟨S128, .i32⟩
  | 108 => ⟨S128, .i1⟩
  | 109 => ⟨S_, .i32⟩
  | 110 => ⟨S128, .i32⟩
  | 111 => ⟨S128, .i32⟩
  | 112 => ⟨S128, .i32⟩
  | 113 => ⟨S128x1, .i32⟩
  | 114 => ⟨S4096x128, .f32⟩
  | 115 => ⟨S_, .f32⟩
  | 116 => ⟨S_, .f32⟩
  | 117 => ⟨S4096x128, .i1⟩
  | 118 => ⟨S4096x128, .f32⟩
  | 119 => ⟨S4096x128, .f32⟩
  | 120 => ⟨S1x128, .i32⟩
  | 121 => ⟨S_, .i32⟩
  | 122 => ⟨S1x128, .i32⟩
  | 123 => ⟨S1x128, .i1⟩
  | 124 => ⟨S_, .i32⟩
  | 125 => ⟨S128, .i32⟩
  | 126 => ⟨S128, .i1⟩
  | 127 => ⟨S_, .i32⟩
  | _ => ⟨S16384x1024, .f32⟩

abbrev hbmTy0_1 (i : Nat) : BufTy := match i % 128 with
  | 0 => ⟨S128, .i32⟩
  | 1 => ⟨S128, .i32⟩
  | 2 => ⟨S128, .i32⟩
  | 3 => ⟨S128x1, .i32⟩
  | 4 => ⟨S4096x128, .f32⟩
  | 5 => ⟨S4096x128, .f32⟩
  | 6 => ⟨S_, .f32⟩
  | 7 => ⟨S_, .f32⟩
  | 8 => ⟨S4096x128, .i1⟩
  | 9 => ⟨S4096x128, .f32⟩
  | 10 => ⟨S4096x128, .f32⟩
  | 11 => ⟨S8x4096, .f32⟩
  | 12 => ⟨S8x4096, .f32⟩
  | 13 => ⟨S16384x256, .bf16⟩
  | 14 => ⟨S4x1024x4096, .bf16⟩
  | 15 => ⟨S4x256x4096, .bf16⟩
  | _ => ⟨S16384x1024, .f32⟩

abbrev hbmTy (i : Nat) : BufTy := match i / 128 with
  | 0 => hbmTy0_0 i
  | 1 => hbmTy0_1 i
  | _ => ⟨S16384x1024, .f32⟩

abbrev bufTy : (tb : Table) → Fin (tcTables nBuf tb) → BufTy
  | .hbm, ⟨i, _⟩ => hbmTy i
  | .local _ .vmem, ⟨0, _⟩ => ⟨S512x1024, .f32⟩
  | .local _ .vmem, ⟨1, _⟩ => ⟨S512x1024, .f32⟩
  | .local _ .vmem, ⟨2, _⟩ => ⟨S1024x256, .bf16⟩
  | .local _ .vmem, ⟨3, _⟩ => ⟨S1280x1024, .bf16⟩
  | .local _ .vmem, ⟨4, _⟩ => ⟨S512x128, .f32⟩
  | .local _ .vmem, ⟨5, _⟩ => ⟨S512x128, .f32⟩
  | .local _ .vmem, ⟨6, _⟩ => ⟨S512x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S8x512, .f32⟩
  | .local _ .vmem, ⟨11, _⟩ => ⟨S8x512, .f32⟩
  | .local _ .vmem, ⟨12, _⟩ => ⟨S8x512, .f32⟩
  | .local _ .vmem, ⟨13, _⟩ => ⟨S8x512, .f32⟩
  | .local _ .vmem, ⟨14, _⟩ => ⟨S512x256, .bf16⟩
  | .local _ .vmem, ⟨15, _⟩ => ⟨S512x256, .bf16⟩
  | .local _ .vmem, ⟨16, _⟩ => ⟨S1x1024x512, .bf16⟩
  | .local _ .vmem, ⟨17, _⟩ => ⟨S1x1024x512, .bf16⟩
  | .local _ .vmem, ⟨18, _⟩ => ⟨S1x256x512, .bf16⟩
  | .local _ .vmem, ⟨19, _⟩ => ⟨S1x256x512, .bf16⟩
  | _, _ => ⟨S16384x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_cst : Ref sig .tc := ⟨.hbm, 9, rfl⟩
abbrev main_v7 : Ref sig .tc := ⟨.hbm, 10, rfl⟩
abbrev main_v8 : Ref sig .tc := ⟨.hbm, 11, rfl⟩
abbrev main_v9 : Ref sig .tc := ⟨.hbm, 12, rfl⟩
abbrev main_v10 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_0 : Ref sig .tc := ⟨.hbm, 17, rfl⟩
abbrev main_v14 : Ref sig .tc := ⟨.hbm, 18, rfl⟩
abbrev main_v15 : Ref sig .tc := ⟨.hbm, 19, rfl⟩
abbrev main_cst_1 : Ref sig .tc := ⟨.hbm, 20, rfl⟩
abbrev main_v16 : Ref sig .tc := ⟨.hbm, 21, rfl⟩
abbrev main_v17 : Ref sig .tc := ⟨.hbm, 22, rfl⟩
abbrev main_cst_2 : Ref sig .tc := ⟨.hbm, 23, rfl⟩
abbrev main_v18 : Ref sig .tc := ⟨.hbm, 24, rfl⟩
abbrev main_v19 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_c : Ref sig .tc := ⟨.hbm, 35, rfl⟩
abbrev main_call0_v0 : Ref sig .tc := ⟨.hbm, 36, rfl⟩
abbrev main_call0_c : Ref sig .tc := ⟨.hbm, 37, rfl⟩
abbrev main_call0_v1 : Ref sig .tc := ⟨.hbm, 38, rfl⟩
abbrev main_call0_c_0 : Ref sig .tc := ⟨.hbm, 39, rfl⟩
abbrev main_call0_v2 : Ref sig .tc := ⟨.hbm, 40, rfl⟩
abbrev main_call0_v3 : Ref sig .tc := ⟨.hbm, 41, rfl⟩
abbrev main_call0_v4 : Ref sig .tc := ⟨.hbm, 42, rfl⟩
abbrev main_call0_c_1 : Ref sig .tc := ⟨.hbm, 43, rfl⟩
abbrev main_call0_v5 : Ref sig .tc := ⟨.hbm, 44, rfl⟩
abbrev main_call0_v6 : Ref sig .tc := ⟨.hbm, 45, rfl⟩
abbrev main_call0_c_2 : Ref sig .tc := ⟨.hbm, 46, rfl⟩
abbrev main_call0_v7 : Ref sig .tc := ⟨.hbm, 47, rfl⟩
abbrev main_call0_v8 : Ref sig .tc := ⟨.hbm, 48, rfl⟩
abbrev main_call0_c_3 : Ref sig .tc := ⟨.hbm, 49, rfl⟩
abbrev main_call0_v9 : Ref sig .tc := ⟨.hbm, 50, rfl⟩
abbrev main_call0_v10 : Ref sig .tc := ⟨.hbm, 51, rfl⟩
abbrev main_call0_v11 : Ref sig .tc := ⟨.hbm, 52, rfl⟩
abbrev main_call0_v12 : Ref sig .tc := ⟨.hbm, 53, rfl⟩
abbrev main_call0_v13 : Ref sig .tc := ⟨.hbm, 54, rfl⟩
abbrev main_call0_v14 : Ref sig .tc := ⟨.hbm, 55, rfl⟩
abbrev main_v29 : Ref sig .tc := ⟨.hbm, 56, rfl⟩
abbrev main_c_3 : Ref sig .tc := ⟨.hbm, 57, rfl⟩
abbrev main_call1_v0 : Ref sig .tc := ⟨.hbm, 58, rfl⟩
abbrev main_call1_c : Ref sig .tc := ⟨.hbm, 59, rfl⟩
abbrev main_call1_v1 : Ref sig .tc := ⟨.hbm, 60, rfl⟩
abbrev main_call1_c_0 : Ref sig .tc := ⟨.hbm, 61, rfl⟩
abbrev main_call1_v2 : Ref sig .tc := ⟨.hbm, 62, rfl⟩
abbrev main_call1_v3 : Ref sig .tc := ⟨.hbm, 63, rfl⟩
abbrev main_call1_v4 : Ref sig .tc := ⟨.hbm, 64, rfl⟩
abbrev main_call1_c_1 : Ref sig .tc := ⟨.hbm, 65, rfl⟩
abbrev main_call1_v5 : Ref sig .tc := ⟨.hbm, 66, rfl⟩
abbrev main_call1_v6 : Ref sig .tc := ⟨.hbm, 67, rfl⟩
abbrev main_call1_c_2 : Ref sig .tc := ⟨.hbm, 68, rfl⟩
abbrev main_call1_v7 : Ref sig .tc := ⟨.hbm, 69, rfl⟩
abbrev main_call1_v8 : Ref sig .tc := ⟨.hbm, 70, rfl⟩
abbrev main_call1_c_3 : Ref sig .tc := ⟨.hbm, 71, rfl⟩
abbrev main_call1_v9 : Ref sig .tc := ⟨.hbm, 72, rfl⟩
abbrev main_call1_v10 : Ref sig .tc := ⟨.hbm, 73, rfl⟩
abbrev main_call1_v11 : Ref sig .tc := ⟨.hbm, 74, rfl⟩
abbrev main_call1_v12 : Ref sig .tc := ⟨.hbm, 75, rfl⟩
abbrev main_call1_v13 : Ref sig .tc := ⟨.hbm, 76, rfl⟩
abbrev main_call1_v14 : Ref sig .tc := ⟨.hbm, 77, rfl⟩
abbrev main_v30 : Ref sig .tc := ⟨.hbm, 78, rfl⟩
abbrev main_v31 : Ref sig .tc := ⟨.hbm, 79, rfl⟩
abbrev main_c_4 : Ref sig .tc := ⟨.hbm, 80, rfl⟩
abbrev main_v32 : Ref sig .tc := ⟨.hbm, 81, rfl⟩
abbrev main_v33 : Ref sig .tc := ⟨.hbm, 82, rfl⟩
abbrev main_c_5 : Ref sig .tc := ⟨.hbm, 83, rfl⟩
abbrev main_v34 : Ref sig .tc := ⟨.hbm, 84, rfl⟩
abbrev main_v35 : Ref sig .tc := ⟨.hbm, 85, rfl⟩
abbrev main_c_6 : Ref sig .tc := ⟨.hbm, 86, rfl⟩
abbrev main_v36 : Ref sig .tc := ⟨.hbm, 87, rfl⟩
abbrev main_v37 : Ref sig .tc := ⟨.hbm, 88, rfl⟩
abbrev main_v38 : Ref sig .tc := ⟨.hbm, 89, rfl⟩
abbrev main_v39 : Ref sig .tc := ⟨.hbm, 90, rfl⟩
abbrev main_v40 : Ref sig .tc := ⟨.hbm, 91, rfl⟩
abbrev main_cst_7 : Ref sig .tc := ⟨.hbm, 92, rfl⟩
abbrev main_call2_v0 : Ref sig .tc := ⟨.hbm, 93, rfl⟩
abbrev main_call2_v1 : Ref sig .tc := ⟨.hbm, 94, rfl⟩
abbrev main_call2_v2 : Ref sig .tc := ⟨.hbm, 95, rfl⟩
abbrev main_v41 : Ref sig .tc := ⟨.hbm, 96, rfl⟩
abbrev main_v42 : Ref sig .tc := ⟨.hbm, 97, rfl⟩
abbrev main_c_8 : Ref sig .tc := ⟨.hbm, 98, rfl⟩
abbrev main_v43 : Ref sig .tc := ⟨.hbm, 99, rfl⟩
abbrev main_v44 : Ref sig .tc := ⟨.hbm, 100, rfl⟩
abbrev main_v45 : Ref sig .tc := ⟨.hbm, 101, rfl⟩
abbrev main_c_9 : Ref sig .tc := ⟨.hbm, 102, rfl⟩
abbrev main_v46 : Ref sig .tc := ⟨.hbm, 103, rfl⟩
abbrev main_v47 : Ref sig .tc := ⟨.hbm, 104, rfl⟩
abbrev main_v48 : Ref sig .tc := ⟨.hbm, 105, rfl⟩
abbrev main_c_10 : Ref sig .tc := ⟨.hbm, 106, rfl⟩
abbrev main_v49 : Ref sig .tc := ⟨.hbm, 107, rfl⟩
abbrev main_v50 : Ref sig .tc := ⟨.hbm, 108, rfl⟩
abbrev main_c_11 : Ref sig .tc := ⟨.hbm, 109, rfl⟩
abbrev main_v51 : Ref sig .tc := ⟨.hbm, 110, rfl⟩
abbrev main_v52 : Ref sig .tc := ⟨.hbm, 111, rfl⟩
abbrev main_v53 : Ref sig .tc := ⟨.hbm, 112, rfl⟩
abbrev main_v54 : Ref sig .tc := ⟨.hbm, 113, rfl⟩
abbrev main_v55 : Ref sig .tc := ⟨.hbm, 114, rfl⟩
abbrev main_cst_12 : Ref sig .tc := ⟨.hbm, 115, rfl⟩
abbrev main_call3_v0 : Ref sig .tc := ⟨.hbm, 116, rfl⟩
abbrev main_call3_v1 : Ref sig .tc := ⟨.hbm, 117, rfl⟩
abbrev main_call3_v2 : Ref sig .tc := ⟨.hbm, 118, rfl⟩
abbrev main_v56 : Ref sig .tc := ⟨.hbm, 119, rfl⟩
abbrev main_v57 : Ref sig .tc := ⟨.hbm, 120, rfl⟩
abbrev main_c_13 : Ref sig .tc := ⟨.hbm, 121, rfl⟩
abbrev main_v58 : Ref sig .tc := ⟨.hbm, 122, rfl⟩
abbrev main_v59 : Ref sig .tc := ⟨.hbm, 123, rfl⟩
abbrev main_c_14 : Ref sig .tc := ⟨.hbm, 124, rfl⟩
abbrev main_v60 : Ref sig .tc := ⟨.hbm, 125, rfl⟩
abbrev main_v61 : Ref sig .tc := ⟨.hbm, 126, rfl⟩
abbrev main_c_15 : Ref sig .tc := ⟨.hbm, 127, rfl⟩
abbrev main_v62 : Ref sig .tc := ⟨.hbm, 128, rfl⟩
abbrev main_v63 : Ref sig .tc := ⟨.hbm, 129, rfl⟩
abbrev main_v64 : Ref sig .tc := ⟨.hbm, 130, rfl⟩
abbrev main_v65 : Ref sig .tc := ⟨.hbm, 131, rfl⟩
abbrev main_v66 : Ref sig .tc := ⟨.hbm, 132, rfl⟩
abbrev main_v67 : Ref sig .tc := ⟨.hbm, 133, rfl⟩
abbrev main_cst_16 : Ref sig .tc := ⟨.hbm, 134, rfl⟩
abbrev main_call4_v0 : Ref sig .tc := ⟨.hbm, 135, rfl⟩
abbrev main_call4_v1 : Ref sig .tc := ⟨.hbm, 136, rfl⟩
abbrev main_call4_v2 : Ref sig .tc := ⟨.hbm, 137, rfl⟩
abbrev main_v68 : Ref sig .tc := ⟨.hbm, 138, rfl⟩
abbrev main_v69 : Ref sig .tc := ⟨.hbm, 139, rfl⟩
abbrev main_v70 : Ref sig .tc := ⟨.hbm, 140, rfl⟩
abbrev main_v71_0 : Ref sig .tc := ⟨.hbm, 141, rfl⟩
abbrev main_v71_1 : Ref sig .tc := ⟨.hbm, 142, rfl⟩
abbrev main_v71_2 : Ref sig .tc := ⟨.hbm, 143, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg7_1 : Ref sig .tc := ⟨.vmem, 13, rfl⟩
abbrev cc0_stg8_0 : Ref sig .tc := ⟨.vmem, 14, rfl⟩
abbrev cc0_stg8_1 : Ref sig .tc := ⟨.vmem, 15, rfl⟩
abbrev cc0_stg9_0 : Ref sig .tc := ⟨.vmem, 16, rfl⟩
abbrev cc0_stg9_1 : Ref sig .tc := ⟨.vmem, 17, rfl⟩
abbrev cc0_stg10_0 : Ref sig .tc := ⟨.vmem, 18, rfl⟩
abbrev cc0_stg10_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem7_1 : DmaSem sig := 13
abbrev cc0_sem8_0 : DmaSem sig := 14
abbrev cc0_sem8_1 : DmaSem sig := 15
abbrev cc0_sem9_0 : DmaSem sig := 16
abbrev cc0_sem9_1 : DmaSem sig := 17
abbrev cc0_sem10_0 : DmaSem sig := 18
abbrev cc0_sem10_1 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_4 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_5 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![v9.toNat, c0_i32_3.toNat]

def cc0_transform_6 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_7 (i : grid0.Coords) : Fin 2 → Nat :=
  let arg0 : BitVec 32 := BitVec.ofNat 32 (i 0).val
  let c8_i32 : BitVec 32 := 8#32
  let c0_i32 : BitVec 32 := 0#32
  let v0 : BitVec 1 := Scalar.cmpi .eq c8_i32 c0_i32
  let c1_i32 : BitVec 32 := 1#32
  let v1 : BitVec 32 := Scalar.select v0 c1_i32 c8_i32
  let v2 : BitVec 32 := Scalar.remsi arg0 v1
  let c0_i32_0 : BitVec 32 := 0#32
  let v3 : BitVec 1 := Scalar.cmpi .ne v2 c0_i32_0
  let c0_i32_1 : BitVec 32 := 0#32
  let v4 : BitVec 1 := Scalar.cmpi .slt v2 c0_i32_1
  let c0_i32_2 : BitVec 32 := 0#32
  let v5 : BitVec 1 := Scalar.cmpi .slt v1 c0_i32_2
  let v6 : BitVec 1 := Scalar.xori v4 v5
  let v7 : BitVec 1 := Scalar.andi v6 v3
  let v8 : BitVec 32 := Scalar.addi v2 v1
  let v9 : BitVec 32 := Scalar.select v7 v8 v2
  let c0_i32_3 : BitVec 32 := 0#32
  let c0_i32_4 : BitVec 32 := 0#32
  ![c0_i32_3.toNat, v9.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

def cc0_transform_10 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, c0_i32_10.toNat, v26.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1280x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S8x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S1x1024x512 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S1x256x512 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== QkvReferenceIdeal.lean ====
abbrev S16384x1024 : Shape := ⟨2, ![16384, 1024]⟩
abbrev S1024x1280 : Shape := ⟨2, ![1024, 1280]⟩
abbrev S16384x1280 : Shape := ⟨2, ![16384, 1280]⟩
abbrev S16384x128 : Shape := ⟨2, ![16384, 128]⟩
abbrev S8 : Shape := ⟨1, ![8]⟩
abbrev S_ : Shape := ⟨0, ![]⟩
abbrev S4096 : Shape := ⟨1, ![4096]⟩
abbrev S4096x1 : Shape := ⟨2, ![4096, 1]⟩
abbrev S1x8 : Shape := ⟨2, ![1, 8]⟩
abbrev S4096x8 : Shape := ⟨2, ![4096, 8]⟩
abbrev S1x4096x1x8 : Shape := ⟨4, ![1, 4096, 1, 8]⟩
abbrev S4x4096x16x64 : Shape := ⟨4, ![4, 4096, 16, 64]⟩
abbrev S4x4096x16x8 : Shape := ⟨4, ![4, 4096, 16, 8]⟩
abbrev S4x4096x16x48 : Shape := ⟨4, ![4, 4096, 16, 48]⟩
abbrev S4x4096x1024 : Shape := ⟨3, ![4, 4096, 1024]⟩
abbrev S4x4096x2x64 : Shape := ⟨4, ![4, 4096, 2, 64]⟩
abbrev S4x4096x2x8 : Shape := ⟨4, ![4, 4096, 2, 8]⟩
abbrev S4x4096x2x48 : Shape := ⟨4, ![4, 4096, 2, 48]⟩
abbrev S4x4096x2x2x64 : Shape := ⟨5, ![4, 4096, 2, 2, 64]⟩
abbrev S4x4096x4x64 : Shape := ⟨4, ![4, 4096, 4, 64]⟩
abbrev S16384x256 : Shape := ⟨2, ![16384, 256]⟩
abbrev S4x4096x256 : Shape := ⟨3, ![4, 4096, 256]⟩
abbrev S4x1024x4096 : Shape := ⟨3, ![4, 1024, 4096]⟩
abbrev S4x256x4096 : Shape := ⟨3, ![4, 256, 4096]⟩

abbrev nBuf : Space → Nat
  | .hbm => 74
  | .vmem => 0
  | .smem => 0
  | _ => 0

abbrev bufTy : (tb : Table) → Fin (tcTables nBuf tb) → BufTy
  | .hbm, ⟨0, _⟩ => ⟨S16384x1024, .f32⟩
  | .hbm, ⟨1, _⟩ => ⟨S1024x1280, .f32⟩
  | .hbm, ⟨2, _⟩ => ⟨S16384x1280, .f32⟩
  | .hbm, ⟨3, _⟩ => ⟨S16384x1024, .f32⟩
  | .hbm, ⟨4, _⟩ => ⟨S16384x128, .f32⟩
  | .hbm, ⟨5, _⟩ => ⟨S16384x128, .f32⟩
  | .hbm, ⟨6, _⟩ => ⟨S8, .f32⟩
  | .hbm, ⟨7, _⟩ => ⟨S8, .f32⟩
  | .hbm, ⟨8, _⟩ => ⟨S_, .f32⟩
  | .hbm, ⟨9, _⟩ => ⟨S8, .f32⟩
  | .hbm, ⟨10, _⟩ => ⟨S8, .f32⟩
  | .hbm, ⟨11, _⟩ => ⟨S_, .f32⟩
  | .hbm, ⟨12, _⟩ => ⟨S8, .f32⟩
  | .hbm, ⟨13, _⟩ => ⟨S8, .f32⟩
  | .hbm, ⟨14, _⟩ => ⟨S_, .f32⟩
  | .hbm, ⟨15, _⟩ => ⟨S8, .f32⟩
  | .hbm, ⟨16, _⟩ => ⟨S8, .f32⟩
  | .hbm, ⟨17, _⟩ => ⟨S4096, .i32⟩
  | .hbm, ⟨18, _⟩ => ⟨S4096, .f32⟩
  | .hbm, ⟨19, _⟩ => ⟨S4096x1, .f32⟩
  | .hbm, ⟨20, _⟩ => ⟨S1x8, .f32⟩
  | .hbm, ⟨21, _⟩ => ⟨S4096x8, .f32⟩
  | .hbm, ⟨22, _⟩ => ⟨S4096x8, .f32⟩
  | .hbm, ⟨23, _⟩ => ⟨S4096x8, .f32⟩
  | .hbm, ⟨24, _⟩ => ⟨S4096x8, .f32⟩
  | .hbm, ⟨25, _⟩ => ⟨S1x4096x1x8, .f32⟩
  | .hbm, ⟨26, _⟩ => ⟨S4096x8, .f32⟩
  | .hbm, ⟨27, _⟩ => ⟨S1x4096x1x8, .f32⟩
  | .hbm, ⟨28, _⟩ => ⟨S_, .f32⟩
  | .hbm, ⟨29, _⟩ => ⟨S16384x1024, .f32⟩
  | .hbm, ⟨30, _⟩ => ⟨S16384x1024, .f32⟩
  | .hbm, ⟨31, _⟩ => ⟨S4x4096x16x64, .f32⟩
  | .hbm, ⟨32, _⟩ => ⟨S4x4096x16x8, .f32⟩
  | .hbm, ⟨33, _⟩ => ⟨S4x4096x16x8, .f32⟩
  | .hbm, ⟨34, _⟩ => ⟨S4x4096x16x8, .f32⟩
  | .hbm, ⟨35, _⟩ => ⟨S4x4096x16x8, .f32⟩
  | .hbm, ⟨36, _⟩ => ⟨S4x4096x16x8, .f32⟩
  | .hbm, ⟨37, _⟩ => ⟨S4x4096x16x8, .f32⟩
  | .hbm, ⟨38, _⟩ => ⟨S4x4096x16x8, .f32⟩
  | .hbm, ⟨39, _⟩ => ⟨S4x4096x16x8, .f32⟩
  | .hbm, ⟨40, _⟩ => ⟨S4x4096x16x8, .f32⟩
  | .hbm, ⟨41, _⟩ => ⟨S4x4096x16x8, .f32⟩
  | .hbm, ⟨42, _⟩ => ⟨S4x4096x16x8, .f32⟩
  | .hbm, ⟨43, _⟩ => ⟨S4x4096x16x8, .f32⟩
  | .hbm, ⟨44, _⟩ => ⟨S4x4096x16x48, .f32⟩
  | .hbm, ⟨45, _⟩ => ⟨S4x4096x16x64, .f32⟩
  | .hbm, ⟨46, _⟩ => ⟨S4x4096x1024, .f32⟩
  | .hbm, ⟨47, _⟩ => ⟨S4x4096x2x64, .f32⟩
  | .hbm, ⟨48, _⟩ => ⟨S4x4096x2x8, .f32⟩
  | .hbm, ⟨49, _⟩ => ⟨S4x4096x2x8, .f32⟩
  | .hbm, ⟨50, _⟩ => ⟨S4x4096x2x8, .f32⟩
  | .hbm, ⟨51, _⟩ => ⟨S4x4096x2x8, .f32⟩
  | .hbm, ⟨52, _⟩ => ⟨S4x4096x2x8, .f32⟩
  | .hbm, ⟨53, _⟩ => ⟨S4x4096x2x8, .f32⟩
  | .hbm, ⟨54, _⟩ => ⟨S4x4096x2x8, .f32⟩
  | .hbm, ⟨55, _⟩ => ⟨S4x4096x2x8, .f32⟩
  | .hbm, ⟨56, _⟩ => ⟨S4x4096x2x8, .f32⟩
  | .hbm, ⟨57, _⟩ => ⟨S4x4096x2x8, .f32⟩
  | .hbm, ⟨58, _⟩ => ⟨S4x4096x2x8, .f32⟩
  | .hbm, ⟨59, _⟩ => ⟨S4x4096x2x8, .f32⟩
  | .hbm, ⟨60, _⟩ => ⟨S4x4096x2x48, .f32⟩
  | .hbm, ⟨61, _⟩ => ⟨S4x4096x2x64, .f32⟩
  | .hbm, ⟨62, _⟩ => ⟨S4x4096x2x2x64, .f32⟩
  | .hbm, ⟨63, _⟩ => ⟨S4x4096x4x64, .f32⟩
  | .hbm, ⟨64, _⟩ => ⟨S16384x256, .f32⟩
  | .hbm, ⟨65, _⟩ => ⟨S4x4096x2x64, .f32⟩
  | .hbm, ⟨66, _⟩ => ⟨S4x4096x2x2x64, .f32⟩
  | .hbm, ⟨67, _⟩ => ⟨S4x4096x4x64, .f32⟩
  | .hbm, ⟨68, _⟩ => ⟨S4x4096x256, .f32⟩
  | .hbm, ⟨69, _⟩ => ⟨S16384x256, .bf16⟩
  | .hbm, ⟨70, _⟩ => ⟨S4x1024x4096, .f32⟩
  | .hbm, ⟨71, _⟩ => ⟨S4x1024x4096, .bf16⟩
  | .hbm, ⟨72, _⟩ => ⟨S4x256x4096, .f32⟩
  | .hbm, ⟨73, _⟩ => ⟨S4x256x4096, .bf16⟩
  | _, _ => ⟨S16384x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_cst : Ref sig .tc := ⟨.hbm, 8, rfl⟩
abbrev main_v6 : Ref sig .tc := ⟨.hbm, 9, rfl⟩
abbrev main_v7 : Ref sig .tc := ⟨.hbm, 10, rfl⟩
abbrev main_cst_0 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_2 : Ref sig .tc := ⟨.hbm, 28, rfl⟩
abbrev main_v23 : Ref sig .tc := ⟨.hbm, 29, rfl⟩
abbrev main_v24 : Ref sig .tc := ⟨.hbm, 30, rfl⟩
abbrev main_v25 : Ref sig .tc := ⟨.hbm, 31, rfl⟩
abbrev main_v26 : Ref sig .tc := ⟨.hbm, 32, rfl⟩
abbrev main_v27 : Ref sig .tc := ⟨.hbm, 33, rfl⟩
abbrev main_v28 : Ref sig .tc := ⟨.hbm, 34, rfl⟩
abbrev main_v29 : Ref sig .tc := ⟨.hbm, 35, rfl⟩
abbrev main_v30 : Ref sig .tc := ⟨.hbm, 36, rfl⟩
abbrev main_v31 : Ref sig .tc := ⟨.hbm, 37, rfl⟩
abbrev main_v32 : Ref sig .tc := ⟨.hbm, 38, rfl⟩
abbrev main_v33 : Ref sig .tc := ⟨.hbm, 39, rfl⟩
abbrev main_v34 : Ref sig .tc := ⟨.hbm, 40, rfl⟩
abbrev main_v35 : Ref sig .tc := ⟨.hbm, 41, rfl⟩
abbrev main_v36 : Ref sig .tc := ⟨.hbm, 42, rfl⟩
abbrev main_v37 : Ref sig .tc := ⟨.hbm, 43, rfl⟩
abbrev main_v38 : Ref sig .tc := ⟨.hbm, 44, rfl⟩
abbrev main_v39 : Ref sig .tc := ⟨.hbm, 45, rfl⟩
abbrev main_v40 : Ref sig .tc := ⟨.hbm, 46, rfl⟩
abbrev main_v41 : Ref sig .tc := ⟨.hbm, 47, rfl⟩
abbrev main_v42 : Ref sig .tc := ⟨.hbm, 48, rfl⟩
abbrev main_v43 : Ref sig .tc := ⟨.hbm, 49, rfl⟩
abbrev main_v44 : Ref sig .tc := ⟨.hbm, 50, rfl⟩
abbrev main_v45 : Ref sig .tc := ⟨.hbm, 51, rfl⟩
abbrev main_v46 : Ref sig .tc := ⟨.hbm, 52, rfl⟩
abbrev main_v47 : Ref sig .tc := ⟨.hbm, 53, rfl⟩
abbrev main_v48 : Ref sig .tc := ⟨.hbm, 54, rfl⟩
abbrev main_v49 : Ref sig .tc := ⟨.hbm, 55, rfl⟩
abbrev main_v50 : Ref sig .tc := ⟨.hbm, 56, rfl⟩
abbrev main_v51 : Ref sig .tc := ⟨.hbm, 57, rfl⟩
abbrev main_v52 : Ref sig .tc := ⟨.hbm, 58, rfl⟩
abbrev main_v53 : Ref sig .tc := ⟨.hbm, 59, rfl⟩
abbrev main_v54 : Ref sig .tc := ⟨.hbm, 60, rfl⟩
abbrev main_v55 : Ref sig .tc := ⟨.hbm, 61, rfl⟩
abbrev main_v56 : Ref sig .tc := ⟨.hbm, 62, rfl⟩
abbrev main_v57 : Ref sig .tc := ⟨.hbm, 63, rfl⟩
abbrev main_v58 : Ref sig .tc := ⟨.hbm, 64, rfl⟩
abbrev main_v59 : Ref sig .tc := ⟨.hbm, 65, rfl⟩
abbrev main_v60 : Ref sig .tc := ⟨.hbm, 66, rfl⟩
abbrev main_v61 : Ref sig .tc := ⟨.hbm, 67, rfl⟩
abbrev main_v62 : Ref sig .tc := ⟨.hbm, 68, rfl⟩
abbrev main_v63 : Ref sig .tc := ⟨.hbm, 69, rfl⟩
abbrev main_v64 : Ref sig .tc := ⟨.hbm, 70, rfl⟩
abbrev main_v65 : Ref sig .tc := ⟨.hbm, 71, rfl⟩
abbrev main_v66 : Ref sig .tc := ⟨.hbm, 72, rfl⟩
abbrev main_v67 : Ref sig .tc := ⟨.hbm, 73, rfl⟩

abbrev nD : Nat := 1
abbrev τ : Topo := Topo.v7x

variable {F : FTy → Type} [FloatOps F]
-- ==== Odd.lean ====
abbrev S16384x1024 : Shape := ⟨2, ![16384, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S1024x128 : Shape := ⟨2, ![1024, 128]⟩
abbrev S128 : Shape := ⟨1, ![128]⟩
abbrev S1x128 : Shape := ⟨2, ![1, 128]⟩
abbrev S1x1024 : Shape := ⟨2, ![1, 1024]⟩
abbrev S16384x128 : Shape := ⟨2, ![16384, 128]⟩
abbrev S512x1024 : Shape := ⟨2, ![512, 1024]⟩
abbrev S512x128 : Shape := ⟨2, ![512, 128]⟩
abbrev S512 : Shape := ⟨1, ![512]⟩
abbrev S512x1 : Shape := ⟨2, ![512, 1]⟩

abbrev nBuf : Space → Nat
  | .hbm => 20
  | .vmem => 15
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024x8, .f32⟩
  | .hbm, ⟨6, _⟩ => ⟨S8, .f32⟩
  | .hbm, ⟨7, _⟩ => ⟨S_, .i32⟩
  | .hbm, ⟨8, _⟩ => ⟨S_, .f32⟩
  | .hbm, ⟨9, _⟩ => ⟨S1024x128, .f32⟩
  | .hbm, ⟨10, _⟩ => ⟨S_, .i32⟩
  | .hbm, ⟨11, _⟩ => ⟨S_, .f32⟩
  | .hbm, ⟨12, _⟩ => ⟨S128, .f32⟩
  | .hbm, ⟨13, _⟩ => ⟨S1x128, .f32⟩
  | .hbm, ⟨14, _⟩ => ⟨S1024x1024, .bf16⟩
  | .hbm, ⟨15, _⟩ => ⟨S1x1024, .f32⟩
  | .hbm, ⟨16, _⟩ => ⟨S1x1024, .f32⟩
  | .hbm, ⟨17, _⟩ => ⟨S16384x1024, .f32⟩
  | .hbm, ⟨18, _⟩ => ⟨S16384x1024, .bf16⟩
  | .hbm, ⟨19, _⟩ => ⟨S16384x128, .f32⟩
  | .local _ .vmem, ⟨0, _⟩ => ⟨S512x1024, .bf16⟩
  | .local _ .vmem, ⟨1, _⟩ => ⟨S512x1024, .bf16⟩
  | .local _ .vmem, ⟨2, _⟩ => ⟨S1024x1024, .bf16⟩
  | .local _ .vmem, ⟨3, _⟩ => ⟨S512x1024, .f32⟩
  | .local _ .vmem, ⟨4, _⟩ => ⟨S512x1024, .f32⟩
  | .local _ .vmem, ⟨5, _⟩ => ⟨S1x1024, .f32⟩
  | .local _ .vmem, ⟨6, _⟩ => ⟨S1x1024, .f32⟩
  | .local _ .vmem, ⟨7, _⟩ => ⟨S1024x128, .f32⟩
  | .local _ .vmem, ⟨8, _⟩ => ⟨S1x128, .f32⟩
  | .local _ .vmem, ⟨9, _⟩ => ⟨S512x1024, .f32⟩
  | .local _ .vmem, ⟨10, _⟩ => ⟨S512x1024, .f32⟩
  | .local _ .vmem, ⟨11, _⟩ => ⟨S512x1024, .bf16⟩
  | .local _ .vmem, ⟨12, _⟩ => ⟨S512x1024, .bf16⟩
  | .local _ .vmem, ⟨13, _⟩ => ⟨S512x128, .f32⟩
  | .local _ .vmem, ⟨14, _⟩ => ⟨S512x128, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_c : Ref sig .tc := ⟨.hbm, 7, rfl⟩
abbrev main_call0_v0 : Ref sig .tc := ⟨.hbm, 8, rfl⟩
abbrev main_v0 : Ref sig .tc := ⟨.hbm, 9, rfl⟩
abbrev main_c_0 : Ref sig .tc := ⟨.hbm, 10, rfl⟩
abbrev main_call1_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6_0 : Ref sig .tc := ⟨.hbm, 17, rfl⟩
abbrev main_v6_1 : Ref sig .tc := ⟨.hbm, 18, rfl⟩
abbrev main_v6_2 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x128 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]
-- ==== OddReferenceIdeal.lean ====
abbrev S16384x1024 : Shape := ⟨2, ![16384, 1024]⟩
abbrev S1024x1024 : Shape := ⟨2, ![1024, 1024]⟩
abbrev S1024 : Shape := ⟨1, ![1024]⟩
abbrev S1024x8 : Shape := ⟨2, ![1024, 8]⟩
abbrev S8 : Shape := ⟨1, ![8]⟩
abbrev S_ : Shape := ⟨0, ![]⟩
abbrev S16384 : Shape := ⟨1, ![16384]⟩
abbrev S16384x1 : Shape := ⟨2, ![16384, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S1024x1024, .f32⟩
  | .hbm, ⟨2, _⟩ => ⟨S16384x1024, .f32⟩
  | .hbm, ⟨3, _⟩ => ⟨S1024, .f32⟩
  | .hbm, ⟨4, _⟩ => ⟨S1024, .f32⟩
  | .hbm, ⟨5, _⟩ => ⟨S1024x8, .f32⟩
  | .hbm, ⟨6, _⟩ => ⟨S8, .f32⟩
  | .hbm, ⟨7, _⟩ => ⟨S_, .f32⟩
  | .hbm, ⟨8, _⟩ => ⟨S16384x1024, .f32⟩
  | .hbm, ⟨9, _⟩ => ⟨S16384x1024, .f32⟩
  | .hbm, ⟨10, _⟩ => ⟨S16384x1024, .f32⟩
  | .hbm, ⟨11, _⟩ => ⟨S16384x1024, .f32⟩
  | .hbm, ⟨12, _⟩ => ⟨S16384x1024, .f32⟩
  | .hbm, ⟨13, _⟩ => ⟨S_, .f32⟩
  | .hbm, ⟨14, _⟩ => ⟨S16384, .f32⟩
  | .hbm, ⟨15, _⟩ => ⟨S16384x1, .f32⟩
  | .hbm, ⟨16, _⟩ => ⟨S_, .f32⟩
  | .hbm, ⟨17, _⟩ => ⟨S16384x1, .f32⟩
  | .hbm, ⟨18, _⟩ => ⟨S16384x1, .f32⟩
  | .hbm, ⟨19, _⟩ => ⟨S16384x1024, .f32⟩
  | .hbm, ⟨20, _⟩ => ⟨S16384x1024, .f32⟩
  | .hbm, ⟨21, _⟩ => ⟨S16384x1024, .f32⟩
  | .hbm, ⟨22, _⟩ => ⟨S_, .f32⟩
  | .hbm, ⟨23, _⟩ => ⟨S16384, .f32⟩
  | .hbm, ⟨24, _⟩ => ⟨S16384x1, .f32⟩
  | .hbm, ⟨25, _⟩ => ⟨S_, .f32⟩
  | .hbm, ⟨26, _⟩ => ⟨S16384x1, .f32⟩
  | .hbm, ⟨27, _⟩ => ⟨S16384x1, .f32⟩
  | .hbm, ⟨28, _⟩ => ⟨S_, .f32⟩
  | .hbm, ⟨29, _⟩ => ⟨S16384x1, .f32⟩
  | .hbm, ⟨30, _⟩ => ⟨S16384x1, .f32⟩
  | .hbm, ⟨31, _⟩ => ⟨S16384x1, .f32⟩
  | .hbm, ⟨32, _⟩ => ⟨S16384x1024, .f32⟩
  | .hbm, ⟨33, _⟩ => ⟨S16384x1024, .f32⟩
  | .hbm, ⟨34, _⟩ => ⟨S1x1024, .f32⟩
  | .hbm, ⟨35, _⟩ => ⟨S16384x1024, .f32⟩
  | .hbm, ⟨36, _⟩ => ⟨S16384x1024, .f32⟩
  | .hbm, ⟨37, _⟩ => ⟨S1x1024, .f32⟩
  | .hbm, ⟨38, _⟩ => ⟨S16384x1024, .f32⟩
  | .hbm, ⟨39, _⟩ => ⟨S16384x1024, .f32⟩
  | .hbm, ⟨40, _⟩ => ⟨S16384x1024, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst_0 : Ref sig .tc := ⟨.hbm, 13, rfl⟩
abbrev main_v5 : Ref sig .tc := ⟨.hbm, 14, rfl⟩
abbrev main_v6 : Ref sig .tc := ⟨.hbm, 15, rfl⟩
abbrev main_cst_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_cst_2 : Ref sig .tc := ⟨.hbm, 22, rfl⟩
abbrev main_v12 : Ref sig .tc := ⟨.hbm, 23, rfl⟩
abbrev main_v13 : Ref sig .tc := ⟨.hbm, 24, rfl⟩
abbrev main_cst_3 : Ref sig .tc := ⟨.hbm, 25, rfl⟩
abbrev main_v14 : Ref sig .tc := ⟨.hbm, 26, rfl⟩
abbrev main_v15 : Ref sig .tc := ⟨.hbm, 27, rfl⟩
abbrev main_cst_4 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩

abbrev nD : Nat := 1
abbrev τ : Topo := Topo.v7x

variable {F : FTy → Type} [FloatOps F]
-- ==== Proof.Consts.lean ====
/- The float constants the two programs spell, as the extended reals they denote. -/
module

public import Idealize.ShloMosaic.PureOps.Ideal

@[expose] public section

noncomputable section

namespace Cert.Consts

open Idealize.ShloMosaic

/-- The f32 zero. -/
theorem f32_zero : Ideal.ofBits .f32 0x00000000#32 = 0 := by
  simp [Ideal.ofBits, Ideal.ieee]

/-- The f32 one. -/
theorem f32_one : Ideal.ofBits .f32 0x3F800000#32 = 1 := by
  simp [Ideal.ofBits, Ideal.ieee, -EReal.coe_mul]; norm_num

/-- The f32 two, whose logarithm the reference takes. -/
theorem f32_two : Ideal.ofBits .f32 0x40000000#32 = ((2 : ℝ) : EReal) := by
  simp [Ideal.ofBits, Ideal.ieee, -EReal.coe_mul]; norm_num

/-- The f32 minus infinity, the score of a masked key. -/
theorem f32_ninf : Ideal.ofBits .f32 0xFF800000#32 = ⊥ := by
  simp [Ideal.ofBits, Ideal.ieee]

/-- The f32 infinity of the precondition. -/
theorem f32_inf : Ideal.ofBits .f32 0x7F800000#32 = ⊤ := by
  simp [Ideal.ofBits, Ideal.ieee]

/-- The bf16 infinity of the precondition. -/
theorem bf16_inf : Ideal.ofBits .bf16 0x7F80#16 = ⊤ := by
  simp [Ideal.ofBits, Ideal.ieee]

end Cert.Consts

end
-- ==== Proof.Soft.lean ====
/- The softmax with a sink, over the extended reals: what both programs compute, whatever real number they subtract
   from the scores before the exponential. -/
module

public import Idealize.ShloMosaic.PureOps.Ideal

@[expose] public section

noncomputable section

namespace Cert.Soft

open Idealize.ShloMosaic

/-- A score kept by the mask, and minus infinity for a masked one. -/
def masked (p : Prop) [Decidable p] (a : ℝ) : EReal := if p then (a : EReal) else ⊥

/-- The unnormalised weight of a key: zero under the mask. -/
def weight (p : Prop) [Decidable p] (a : ℝ) : ℝ := if p then Real.exp a else 0

theorem weight_nonneg (p : Prop) [Decidable p] (a : ℝ) : 0 ≤ weight p a := by
  unfold weight; split_ifs
  · exact (Real.exp_pos a).le
  · exact le_rfl

theorem two_rpow (x : ℝ) : Real.rpow 2 x = Real.exp (Real.log 2 * x) := Real.rpow_def_of_pos two_pos x

theorem log_two_ne : Real.log 2 ≠ 0 := (Real.log_pos one_lt_two).ne'

/-- The exponential in base 2 of a masked score less `M`. -/
theorem exp2_masked (p : Prop) [Decidable p] (a M : ℝ) :
    Ideal.exp2 (masked p a - (M : EReal)) =
      ((weight p (a * Real.log 2) * Real.exp (-(Real.log 2 * M)) : ℝ) : EReal) := by
  unfold masked weight
  split_ifs
  · rw [← EReal.coe_sub]
    change ((Real.rpow 2 (a - M) : ℝ) : EReal) = _
    rw [two_rpow, ← Real.exp_add]; congr 2; ring
  · rw [EReal.bot_sub, show Ideal.exp2 ⊥ = 0 from rfl, zero_mul, EReal.coe_zero]

/-- The natural exponential of a masked score less `M`. -/
theorem exp_masked (p : Prop) [Decidable p] (a M : ℝ) :
    Ideal.exp (masked p a - (M : EReal)) = ((weight p a * Real.exp (-M) : ℝ) : EReal) := by
  unfold masked weight
  split_ifs
  · rw [← EReal.coe_sub]
    change ((Real.exp (a - M) : ℝ) : EReal) = _
    rw [← Real.exp_add]; congr 2
  · rw [EReal.bot_sub, show Ideal.exp ⊥ = 0 from rfl, zero_mul, EReal.coe_zero]

/-- The sink's term in base 2, its logit scaled by the reciprocal of `log 2`. -/
theorem exp2_sink (z M : ℝ) :
    Ideal.exp2 ((z : EReal) * (((Real.log 2)⁻¹ : ℝ) : EReal) - (M : EReal)) =
      ((Real.exp z * Real.exp (-(Real.log 2 * M)) : ℝ) : EReal) := by
  rw [← EReal.coe_mul, ← EReal.coe_sub]
  change ((Real.rpow 2 (z * (Real.log 2)⁻¹ - M) : ℝ) : EReal) = _
  rw [two_rpow, ← Real.exp_add]; congr 2
  have := log_two_ne
  field_simp; ring

theorem exp_sink (z M : ℝ) :
    Ideal.exp ((z : EReal) - (M : EReal)) = ((Real.exp z * Real.exp (-M) : ℝ) : EReal) := by
  rw [← EReal.coe_sub]
  change ((Real.exp (z - M) : ℝ) : EReal) = _
  rw [← Real.exp_add]; rfl

theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A real number times a sum of extended reals. -/
theorem mul_sum {ι : Type*} (s : Finset ι) (r : ℝ) (hr : 0 ≤ r) (f : ι → EReal) :
    (r : EReal) * ∑ i ∈ s, f i = ∑ i ∈ s, (r : EReal) * f i := by
  classical
  induction s using Finset.induction_on with
  | empty => simp
  | insert a s ha ih =>
    rw [Finset.sum_insert ha, Finset.sum_insert ha, EReal.left_distrib_of_nonneg_of_ne_top (EReal.coe_nonneg.mpr hr) (EReal.coe_ne_top r), ih]

theorem div_real (x : EReal) (d : ℝ) (hd : 0 < d) : Ideal.div x (d : EReal) = ((d⁻¹ : ℝ) : EReal) * x := by
  unfold Ideal.div
  rw [if_neg (by exact_mod_cast hd.ne'), mul_comm, EReal.coe_inv]

/-- The weights' common factor and their sum divided out of the weighted sum. -/
theorem quotient {n : ℕ} (E : Fin n → ℝ) (v : Fin n → EReal) (c D : ℝ) (hc : 0 < c) (hD : 0 < D) :
    Ideal.div (∑ s, v s * ((E s * c : ℝ) : EReal)) ((D * c : ℝ) : EReal) = ∑ s, ((E s / D : ℝ) : EReal) * v s := by
  rw [div_real _ _ (mul_pos hD hc), mul_sum _ _ (inv_nonneg.mpr (mul_pos hD hc).le)]
  refine Finset.sum_congr rfl fun s _ => ?_
  rw [mul_comm (v s), ← mul_assoc, ← EReal.coe_mul]
  congr 2
  field_simp

/-- One weight normalised. -/
theorem normalised (e c D : ℝ) (hc : 0 < c) (hD : 0 < D) :
    Ideal.div ((e * c : ℝ) : EReal) ((D * c : ℝ) : EReal) = ((e / D : ℝ) : EReal) := by
  rw [div_real _ _ (mul_pos hD hc), ← EReal.coe_mul]
  congr 1
  field_simp

/-- The maximum of masked scores is below plus infinity, so that with a real sink the number subtracted is real. -/
theorem max_real {ι : Type*} (s : Finset ι) (f : ι → EReal) (hf : ∀ i ∈ s, f i ≠ ⊤) (z : ℝ) :
    ∃ M : ℝ, max (s.fold max ⊥ f) (z : EReal) = (M : EReal) := by
  classical
  have h1 : s.fold max ⊥ f ≠ ⊤ := by
    induction s using Finset.induction_on with
    | empty => simp
    | insert a s ha ih =>
      rw [Finset.fold_insert ha]
      intro h
      rcases max_choice (f a) (s.fold max ⊥ f) with h' | h' <;> rw [h'] at h
      · exact hf a (Finset.mem_insert_self a s) h
      · exact ih (fun i hi => hf i (Finset.mem_insert_of_mem hi)) h
  generalize s.fold max ⊥ f = y at h1
  induction y using EReal.rec with
  | bot => exact ⟨z, by simp⟩
  | coe r => exact ⟨max r z, (EReal.coe_strictMono.monotone.map_max).symm⟩
  | top => exact absurd rfl h1

theorem masked_ne_top (p : Prop) [Decidable p] (a : ℝ) : masked p a ≠ ⊤ := by
  unfold masked; split_ifs
  · exact EReal.coe_ne_top a
  · exact bot_ne_top

/-- The attention of one query: weights over the keys kept, the sink in the denominator only. -/
def attend {n : ℕ} (keep : Fin n → Prop) [∀ s, Decidable (keep s)] (S : Fin n → ℝ) (z : ℝ) (v : Fin n → EReal) : EReal :=
  ∑ s, ((weight (keep s) (S s) / (∑ s', weight (keep s') (S s') + Real.exp z) : ℝ) : EReal) * v s

theorem den_pos {n : ℕ} (keep : Fin n → Prop) [∀ s, Decidable (keep s)] (S : Fin n → ℝ) (z : ℝ) :
    0 < ∑ s', weight (keep s') (S s') + Real.exp z :=
  add_pos_of_nonneg_of_pos (Finset.sum_nonneg fun _ _ => weight_nonneg _ _) (Real.exp_pos z)

/-- The kernel's order of work: base 2, the division after the weighted sum. -/
theorem attend_base2 {n : ℕ} (keep : Fin n → Prop) [∀ s, Decidable (keep s)] (S : Fin n → ℝ) (z M : ℝ) (v : Fin n → EReal) :
    Ideal.div (∑ s, v s * Ideal.exp2 (masked (keep s) (S s) - (M : EReal)))
        (∑ s, Ideal.exp2 (masked (keep s) (S s) - (M : EReal)) +
          Ideal.exp2 ((z : EReal) * (((Real.log 2)⁻¹ : ℝ) : EReal) - (M : EReal))) =
      attend keep (fun s => S s * Real.log 2) z v := by
  simp only [exp2_masked, exp2_sink, ← coe_sum, ← EReal.coe_add]
  rw [← Finset.sum_mul, ← add_mul]
  exact quotient _ _ _ _ (Real.exp_pos _) (den_pos _ _ _)

/-- The reference's order of work: natural base, the weights normalised before the weighted sum. -/
theorem attend_natural {n : ℕ} (keep : Fin n → Prop) [∀ s, Decidable (keep s)] (S : Fin n → ℝ) (z M : ℝ) (v : Fin n → EReal) :
    ∑ s, Ideal.div (Ideal.exp (masked (keep s) (S s) - (M : EReal)))
        (∑ s', Ideal.exp (masked (keep s') (S s') - (M : EReal)) + Ideal.exp ((z : EReal) - (M : EReal))) * v s =
      attend keep S z v := by
  simp only [exp_masked, exp_sink, ← coe_sum, ← EReal.coe_add]
  rw [← Finset.sum_mul, ← add_mul]
  refine Finset.sum_congr rfl fun s _ => ?_
  rw [normalised _ _ _ (Real.exp_pos _) (den_pos _ _ _)]

end Cert.Soft

end
-- ==== Proof.Pair.lean ====
/- One pair of heads of the kernel's block: the function every one of the eight stores computes, and its value. -/
module

public import proofs.«01_k».proof.Proof.Gen.KernelIdeal.Value
public import Idealize.ShloMosaic.Lib.Pipeline.ValueKit
public import Idealize.ShloMosaic.Lib.Pointwise
public import proofs.«01_k».proof.Proof.Consts
public import proofs.«01_k».proof.Proof.Soft

@[expose] public section

noncomputable section

open Idealize.ShloMosaic Idealize.ShloMosaic.TcCoe Idealize.SL.Sem
open Idealize.ShloMosaic.ValueIdx (ix4 ix5)

namespace Cert.KernelIdeal.Swa

open Cert.KernelIdeal Cert.KernelIdeal.Gen

section
variable {F : FTy → Type} [FloatOps F] [Named F]

/-- The masked scores of a head: the keys' lane tile times the pair's queries, the other head's rows zeroed. -/
def headScore (keep : IVec S384x256 1) (own : IVec S128x256 1) (kw : FVec F S384x128 .bf16) (q : FVec F S1x128x256 .bf16) :
    FVec F S384x256 .f32 :=
  select keep
    (matmul dot_S384x128_S128x256_S384x256_1_0_0_1_n_n none kw
      (select own (shapeCast S128x256 q shapeCasts_S1x128x256_S128x256)
        (broadcast S128x256 (Scalar.truncf .bf16 bitsLt_bf16_f32 (Scalar.ofBits .f32 0x00000000#32))))
      (constant S384x256 .f32 0x00000000#32))
    (broadcast S384x256 (Scalar.ofBits .f32 0xFF800000#32))

/-- The sink's logit in base 2. -/
def sinkScore (z : F .f32) : FVec F S1x256 .f32 := broadcast S1x256 (Scalar.mulf z (Named.named κ "log2e" 0x3FB8AA3B#32))

/-- What is subtracted before the exponential. -/
def headMax (sc : FVec F S384x256 .f32) (z : F .f32) : FVec F S1x256 .f32 :=
  maximumf (shapeCast S1x256 (multiReduction .maximumf [0] S256 sc 0xFF800000#32 reduces_S384x256_S256 (.inl rfl) rfl)
    shapeCasts_S256_S1x256) (sinkScore z)

/-- The values' rows of a head with ones in the other head's rows, times the weights. -/
def headAcc (ownv : IVec S128x384 1) (vw : FVec F S128x384 .bf16) (sc : FVec F S384x256 .f32) (m : FVec F S1x256 .f32) :
    FVec F S128x256 .f32 :=
  matmul dot_S128x384_S384x256_S128x256_1_0_0_1_n_n none
    (select ownv vw (broadcast S128x384 (Scalar.truncf .bf16 bitsLt_bf16_f32 (Scalar.ofBits .f32 0x3F800000#32))))
    (truncf .bf16 (exp2 (subf sc (broadcastTo S384x256 m broadcasts_S1x256_S384x256))) bitsLt_bf16_f32)
    (constant S128x256 .f32 0x00000000#32)

/-- The quotient of a head: its rows over the ones' row plus the sink's term. -/
def headOut (acc : FVec F S128x256 .f32) (ones : FVec F S1x256 .f32) (m : FVec F S1x256 .f32) (z : F .f32) : FVec F S128x256 .f32 :=
  divf acc (broadcastTo S128x256 (addf ones (exp2 (subf (sinkScore z) m))) broadcasts_S1x256_S128x256)

def evenOut (keep : IVec S384x256 1) (kw : FVec F S384x128 .bf16) (vw : FVec F S128x384 .bf16) (q : FVec F S1x128x256 .bf16)
    (z : F .f32) : FVec F S128x256 .f32 :=
  let sc := headScore keep k0_pay5 kw q
  let acc := headAcc k0_pay7 vw sc (headMax sc z)
  headOut acc (extractStridedSlice S1x256 ![64, 0] acc slices_S128x256_o64_0_S1x256) (headMax sc z) z

def oddOut (keep : IVec S384x256 1) (kw : FVec F S384x128 .bf16) (vw : FVec F S128x384 .bf16) (q : FVec F S1x128x256 .bf16)
    (z : F .f32) : FVec F S128x256 .f32 :=
  let sc := headScore keep k0_pay6 kw q
  let acc := headAcc k0_pay8 vw sc (headMax sc z)
  headOut acc (extractStridedSlice S1x256 ![0, 0] acc slices_S128x256_o0_0_S1x256) (headMax sc z) z

/-- A pair of heads: the even one in rows 0..63, the odd one in rows 64..127, transposed to the result's lanes. -/
def pairOut (keep : IVec S384x256 1) (kw : FVec F S384x128 .bf16) (vw : FVec F S128x384 .bf16) (q : FVec F S1x128x256 .bf16)
    (z z' : F .f32) : FVec F S1x256x128 .bf16 :=
  shapeCast S1x256x128 (truncf .bf16 (transpose S256x128 [1, 0]
    (select k0_pay5 (evenOut keep kw vw q z) (oddOut keep kw vw q z')) transposes_S128x256_p1_0_S256x128) bitsLt_bf16_f32)
    shapeCasts_S256x128_S1x256x128

/-- The window of keys of tile `i`. -/
def keyWin (i : grid0.Coords) (x2 : Vec F S1x4096x256 .bf16) : FVec F S384x256 .bf16 :=
  k0_pay2 (View.ld x2 (Rect.unit (s := S1x4096x256) (k0_off1 i) S1x384x256.size (k0_off1_inb i)))
def valWin (i : grid0.Coords) (x3 : Vec F S1x256x4096 .bf16) : FVec F S256x384 .bf16 :=
  k0_pay3 (View.ld x3 (Rect.unit (s := S1x256x4096) (k0_off2 i) S1x256x384.size (k0_off2_inb i)))

theorem out_eq (c : Dev nD) (i : grid0.Coords) (a2 : Memref sig .tc .smem S16 .f32) (h2 : a2.IsWhole) (a3 : Memref sig .tc .vmem S1x1024x256 .bf16) (h3 : a3.IsWhole) (a4 : Memref sig .tc .vmem S1x4096x256 .bf16) (h4 : a4.IsWhole) (a5 : Memref sig .tc .vmem S1x256x4096 .bf16) (h5 : a5.IsWhole) (a6 : Memref sig .tc .vmem S1x256x1024 .bf16) (h6 : a6.IsWhole)
    (x0 : Vec F S16 .f32) (x1 : Vec F S1x1024x256 .bf16) (x2 : Vec F S1x4096x256 .bf16) (x3 : Vec F S1x256x4096 .bf16)
    (G : Vec F S1x256x1024 .bf16)
    (hlo : ∀ (n : Nat) (hn : n < 4) (off : Fin 3 → Nat) (inb) (ho : off = ![0, 128 * n, 0]) (z z' : F .f32), z = x0 (ix1 ⟨2 * n, by omega⟩) →
      z' = x0 (ix1 ⟨2 * n + 1, by omega⟩) → ∀ (x : S1x256x128.Idx) (y : S1x256x1024.Idx),
      (∀ a, (y a : Nat) = (![0, 0, 128 * n] : Fin 3 → Nat) a + x a) →
      pairOut (k0_pay4 i) (extractStridedSlice S384x128 ![0, 0] (keyWin i x2) slices_S384x256_o0_0_S384x128)
        (extractStridedSlice S128x384 ![0, 0] (valWin i x3) slices_S256x384_o0_0_S128x384)
        (View.ld x1 (Rect.unit (s := S1x1024x256) off S1x128x256.size inb)) z z' x = G y)
    (hhi : ∀ (n : Nat) (hn : n < 8) (hn' : 4 ≤ n) (off : Fin 3 → Nat) (inb) (ho : off = ![0, 128 * n, 0]) (z z' : F .f32), z = x0 (ix1 ⟨2 * n, by omega⟩) →
      z' = x0 (ix1 ⟨2 * n + 1, by omega⟩) → ∀ (x : S1x256x128.Idx) (y : S1x256x1024.Idx),
      (∀ a, (y a : Nat) = (![0, 0, 128 * n] : Fin 3 → Nat) a + x a) →
      pairOut (k0_pay4 i) (extractStridedSlice S384x128 ![0, 128] (keyWin i x2) slices_S384x256_o0_128_S384x128)
        (extractStridedSlice S128x384 ![128, 0] (valWin i x3) slices_S256x384_o128_0_S128x384)
        (View.ld x1 (Rect.unit (s := S1x1024x256) off S1x128x256.size inb)) z z' x = G y)  :
    out0_A_4 c i a2 h2 a3 h3 a4 h4 a5 h5 a6 h6 x0 x1 x2 x3 = G := by
  have hs : ∀ (off : Fin 1 → Nat) (inb) (n : Fin 16) (x), off = ![n.val] →
      View.ld x0 (Rect.unit (s := S16) off S1.size inb) x = x0 (ix1 n) := by
    intro off inb n x ho
    refine View.ld_unit_apply_of _ _ _ _ _ _ fun a => ?_
    subst ho
    have := (x a).isLt
    match a with | 0 => have h : (x 0 : Nat) < 1 := (x 0).isLt; show n.val = n.val + (x 0 : Nat); omega
  have hcov := cover0_A_4 c i a2 h2 a3 h3 a4 h4 a5 h5 a6 h6 x0 x1 x2 x3
  unfold out0_A_4
  rw [View.read_writes_eq_canon _ _ _ hcov]
  revert hcov
  unfold kernelRun0_A
  dsimp only
  sl_unfold_words
  simp only [View.readAt_eq_ld, h2.read_unread, h3.read_unread, h4.read_unread, h5.read_unread]
  intro hcov
  funext y
  refine View.canon_eq_of_allAt _ y _ (hcov y) ?_
  iterate 8 (refine View.allAt_cons_unit _ _ _ _ _ ?_ ?_; rotate_left)
  · exact View.allAt_nil _ _
  · exact fun x hx => hhi 7 (by omega) (by omega) _ _ rfl _ _ (hs _ _ 14 _ rfl) (hs _ _ 15 _ rfl) x y hx
  · exact fun x hx => hhi 6 (by omega) (by omega) _ _ rfl _ _ (hs _ _ 12 _ rfl) (hs _ _ 13 _ rfl) x y hx
  · exact fun x hx => hhi 5 (by omega) (by omega) _ _ rfl _ _ (hs _ _ 10 _ rfl) (hs _ _ 11 _ rfl) x y hx
  · exact fun x hx => hhi 4 (by omega) (by omega) _ _ rfl _ _ (hs _ _ 8 _ rfl) (hs _ _ 9 _ rfl) x y hx
  · exact fun x hx => hlo 3 (by omega) _ _ rfl _ _ (hs _ _ 6 _ rfl) (hs _ _ 7 _ rfl) x y hx
  · exact fun x hx => hlo 2 (by omega) _ _ rfl _ _ (hs _ _ 4 _ rfl) (hs _ _ 5 _ rfl) x y hx
  · exact fun x hx => hlo 1 (by omega) _ _ rfl _ _ (hs _ _ 2 _ rfl) (hs _ _ 3 _ rfl) x y hx
  · exact fun x hx => hlo 0 (by omega) _ _ rfl _ _ (hs _ _ 0 _ rfl) (hs _ _ 1 _ rfl) x y hx

end

end Cert.KernelIdeal.Swa

end
-- ==== Proof.HeadValue.lean ====
/- The value of one head of the kernel's block: the attention of a query over the window of keys. -/
module

public import proofs.«01_k».proof.Proof.Pair
public import Idealize.ShloMosaic.Lib.Tactic.WordOmega

@[expose] public section

noncomputable section

open Idealize.ShloMosaic Idealize.ShloMosaic.TcCoe Idealize.SL.Sem

namespace Cert.KernelIdeal.Swa

open Cert.KernelIdeal Cert.KernelIdeal.Gen Cert.Soft

/-- The first key of tile `i`'s window. -/
def kst (i : grid0.Coords) : ℕ := 256 * (i 1).val - 128

theorem tile_lt (i : grid0.Coords) : (i 1).val < 16 := (i 1).isLt

theorem off_eq (i : grid0.Coords) :
    BitVec.toNat (Scalar.indexCast (Scalar.maxsi (Scalar.subi (Scalar.muli (BitVec.ofNat 32 (i 1).val) 256#32) 128#32) 0#32)) = kst i := by
  have h := tile_lt i
  unfold kst
  generalize (i 1).val = n at h ⊢
  interval_cases n <;> rfl

theorem off1_eq (i : grid0.Coords) : k0_off1 i = ![0, kst i, 0] := by rw [← off_eq]; rfl
theorem off2_eq (i : grid0.Coords) : k0_off2 i = ![0, 0, kst i] := by rw [← off_eq]; rfl

/-- The mask keeps the 128 positions up to the query's own. -/
theorem keep_iff (i : grid0.Coords) (s : Fin 384) (t : Fin 256) :
    k0_pay4 i (ix2 s t) = 1#1 ↔ kst i + s.val ≤ 256 * (i 1).val + t.val ∧ 256 * (i 1).val + t.val < kst i + s.val + 128 := by
  have h := tile_lt i
  have hs := s.isLt
  have ht := t.isLt
  pointwise [k0_pay4]
  have e : Scalar.maxsi (Scalar.subi (Scalar.muli (BitVec.ofNat 32 (i 1).val) 256#32) 128#32) 0#32 = BitVec.ofNat 32 (kst i) := by
    unfold kst
    generalize (i 1).val = n at h ⊢
    interval_cases n <;> rfl
  rw [e, show Scalar.muli (BitVec.ofNat 32 (i 1).val) 256#32 = BitVec.ofNat 32 (256 * (i 1).val) by
    generalize (i 1).val = n at h ⊢; interval_cases n <;> rfl]
  have hk : kst i ≤ 256 * (i 1).val := Nat.sub_le _ _
  clear e
  generalize kst i = k at *
  generalize (i 1).val = n at *
  rw [WordCmp.andi_sge_zero_slt_ofNat (by norm_num)]
  simp only [IntOp.subi, IntOp.addi, BitVec.toNat_sub, BitVec.toNat_add, BitVec.toNat_ofNat]
  word_omega

theorem low_iff (l : Fin 128) (t : Fin 256) : k0_pay5 (ix2 l t) = 1#1 ↔ l.val < 64 := by
  pointwise [k0_pay5]; have := l.isLt; word_omega
theorem high_iff (l : Fin 128) (t : Fin 256) : k0_pay6 (ix2 l t) = 1#1 ↔ 64 ≤ l.val := by
  pointwise [k0_pay6]; have := l.isLt; word_omega
theorem vlow_iff (l : Fin 128) (t : Fin 384) : k0_pay7 (ix2 l t) = 1#1 ↔ l.val < 64 := by
  pointwise [k0_pay7]; have := l.isLt; word_omega
theorem vhigh_iff (l : Fin 128) (t : Fin 384) : k0_pay8 (ix2 l t) = 1#1 ↔ 64 ≤ l.val := by
  pointwise [k0_pay8]; have := l.isLt; word_omega

theorem select_iff {α : Type} {c : BitVec 1} {p : Prop} [Decidable p] (h : c = 1#1 ↔ p) (a b : α) :
    Scalar.select c a b = if p then a else b := if_congr h rfl rfl

theorem named_log2e : (Named.named κ "log2e" 0x3FB8AA3B#32 : Ideal .f32) = (((Real.log 2)⁻¹ : ℝ) : EReal) :=
  IdealRules.named_const.ideal_named_scalar _ _ _ _ rfl

section
variable (keep : IVec S384x256 1) (own : IVec S128x256 1) (ownv : IVec S128x384 1) (kw : FVec Ideal S384x128 .bf16)
  (vw : FVec Ideal S128x384 .bf16) (q : FVec Ideal S1x128x256 .bf16) (t : Fin 256)
  (K : Fin 384 → Prop) [∀ s, Decidable (K s)] (S : Fin 384 → ℝ) (z : ℝ)

theorem headScore_value (hK : ∀ s, keep (ix2 s t) = 1#1 ↔ K s)
    (hS : ∀ s, ∑ x, Scalar.select (own (ix2 x t)) (kw (ix2 s x) * q (ix3 0 x t)) 0 = ((S s : ℝ) : EReal)) (s : Fin 384) :
    headScore keep own kw q (ix2 s t) = masked (K s) (S s) := by
  pointwise [headScore]
  rw [hS s, select_iff (hK s), Cert.Consts.f32_ninf]
  rfl

theorem headMax_value (sc : FVec Ideal S384x256 .f32) (hsc : ∀ s, sc (ix2 s t) = masked (K s) (S s)) :
    ∃ M : ℝ, headMax sc (z : EReal) (ix2 0 t) = (M : EReal) := by
  obtain ⟨M, hM⟩ := max_real Finset.univ (fun s => masked (K s) (S s)) (fun s _ => masked_ne_top _ _) (z * (Real.log 2)⁻¹)
  refine ⟨M, ?_⟩
  rw [← hM]
  pointwise [headMax, sinkScore]
  simp only [hsc, named_log2e, Cert.Consts.f32_ninf, EReal.coe_mul]

theorem head_value (sc : FVec Ideal S384x256 .f32) (hsc : ∀ s, sc (ix2 s t) = masked (K s) (S s)) (l r : Fin 128)
    (hl : ∀ s, ownv (ix2 l s) = 1#1) (hr : ∀ s, ownv (ix2 r s) ≠ 1#1) :
    Ideal.div (headAcc ownv vw sc (headMax sc (z : EReal)) (ix2 l t))
      (headAcc ownv vw sc (headMax sc (z : EReal)) (ix2 r t) +
        FloatOps.exp2 (sinkScore (z : EReal) (ix2 0 t) - headMax sc (z : EReal) (ix2 0 t))) =
      attend K (fun s => S s * Real.log 2) z (fun s => vw (ix2 l s)) := by
  obtain ⟨M, hM⟩ := headMax_value t K S z sc hsc
  rw [hM, ← attend_base2 K S z M]
  have h1 : headAcc ownv vw sc (headMax sc (z : EReal)) (ix2 l t) = ∑ s, vw (ix2 l s) * Ideal.exp2 (masked (K s) (S s) - (M : EReal)) := by
    pointwise [headAcc]
    refine Finset.sum_congr rfl fun s _ => ?_
    rw [hM, hsc, hl]; rfl
  have h2 : headAcc ownv vw sc (headMax sc (z : EReal)) (ix2 r t) = ∑ s, Ideal.exp2 (masked (K s) (S s) - (M : EReal)) := by
    pointwise [headAcc]
    refine Finset.sum_congr rfl fun s _ => ?_
    rw [hM, hsc, show ∀ a b : EReal, Scalar.select (ownv (ix2 r s)) a b = b from fun a b => if_neg (hr s), one_mul]; rfl
  rw [h1, h2]
  pointwise [sinkScore]
  rw [named_log2e]; rfl

/-- The even head's rows of the pair's block. -/
theorem even_value (hK : ∀ s, keep (ix2 s t) = 1#1 ↔ K s)
    (hS : ∀ s, ∑ x : Fin 64, kw (ix2 s ⟨x.val, by omega⟩) * q (ix3 0 ⟨x.val, by omega⟩ t) = ((S s : ℝ) : EReal)) (l : Fin 128) (hl : l.val < 64) :
    evenOut keep kw vw q (z : EReal) (ix2 l t) = attend K (fun s => S s * Real.log 2) z (fun s => vw (ix2 l s)) := by
  have hsc := headScore_value keep k0_pay5 kw q t K S hK fun s => by
    rw [← hS s, Fin.sum_univ_add (a := 64) (b := 64)]
    rw [Finset.sum_congr rfl fun x _ => select_iff (low_iff _ t) _ _, Finset.sum_congr (s₁ := Finset.univ) rfl fun (x : Fin 64) _ => select_iff (low_iff (Fin.natAdd 64 x) t) _ _]
    simp
    rfl
  rw [← head_value k0_pay7 vw t K S z _ hsc l 64 (fun s => (vlow_iff l s).mpr hl) (fun s => (vlow_iff 64 s).not.mpr (by decide))]
  pointwise [evenOut, headOut]

/-- The odd head's rows. -/
theorem odd_value (hK : ∀ s, keep (ix2 s t) = 1#1 ↔ K s)
    (hS : ∀ s, ∑ x : Fin 64, kw (ix2 s ⟨64 + x.val, by omega⟩) * q (ix3 0 ⟨64 + x.val, by omega⟩ t) = ((S s : ℝ) : EReal)) (l : Fin 128) (hl : 64 ≤ l.val) :
    oddOut keep kw vw q (z : EReal) (ix2 l t) = attend K (fun s => S s * Real.log 2) z (fun s => vw (ix2 l s)) := by
  have hsc := headScore_value keep k0_pay6 kw q t K S hK fun s => by
    rw [← hS s, Fin.sum_univ_add (a := 64) (b := 64)]
    rw [Finset.sum_congr rfl fun x _ => select_iff (high_iff _ t) _ _, Finset.sum_congr (s₁ := Finset.univ) rfl fun (x : Fin 64) _ => select_iff (high_iff (Fin.natAdd 64 x) t) _ _]
    simp only [show ∀ x : Fin 64, ¬ 64 ≤ (Fin.castAdd 64 x : Fin (64 + 64)).val from fun x => by simp, if_false, Finset.sum_const_zero, zero_add]
    refine Finset.sum_congr rfl fun x _ => ?_
    rw [if_pos (by simp)]
    rfl
  rw [← head_value k0_pay8 vw t K S z _ hsc l 0 (fun s => (vhigh_iff l s).mpr hl) (fun s => (vhigh_iff 0 s).not.mpr (by decide))]
  pointwise [oddOut, headOut]

end

end Cert.KernelIdeal.Swa

end
-- ==== Proof.HostRead.lean ====
/- The arrays the kernel's region is launched on, read back in the four arguments. -/
module

public import proofs.«01_k».proof.Proof.Gen.KernelIdeal.Value
public import Idealize.ShloMosaic.Lib.Pointwise
public import Idealize.ShloMosaic.Lib.StableHlo.ReadAt

@[expose] public section

noncomputable section

open Idealize.ShloMosaic Idealize.ShloMosaic.TcCoe Idealize.SL.Sem StableHlo

namespace Cert.KernelIdeal.Swa

open Cert.KernelIdeal Cert.KernelIdeal.Gen

variable (m : (ℓ : Loc nD τ sig) → Buf (Elt Ideal) ℓ) (c : Dev nD)

/-- The four arguments, at their shapes. -/
abbrev argQ : FVec Ideal S4x4096x16x64 .bf16 := m ((c : Thread nD τ).loc main_arg0)
abbrev argK : FVec Ideal S4x4096x2x64 .bf16 := m ((c : Thread nD τ).loc main_arg1)
abbrev argV : FVec Ideal S4x4096x2x64 .bf16 := m ((c : Thread nD τ).loc main_arg2)
abbrev argZ : FVec Ideal S16 .f32 := m ((c : Thread nD τ).loc main_arg3)

/-- The three arrays launched on, at their shapes. -/
abbrev arrQ : FVec Ideal S4x1024x4096 .bf16 := V m c main_v1
abbrev arrK : FVec Ideal S4x4096x256 .bf16 := V m c main_v10
abbrev arrV : FVec Ideal S4x256x4096 .bf16 := V m c main_v20

theorem arrQ_apply (b : Fin 4) (r : Fin 1024) (t : Fin 4096) :
    arrQ m c (ix3 b r t) = argQ m c (ix4 b t ⟨r.val / 64, by omega⟩ ⟨r.val % 64, by omega⟩) := by
  after_reads_at

theorem ix4_congr {n0 n1 n2 n3 : ℕ} {α : Type} (f : (⟨4, ![n0, n1, n2, n3]⟩ : Shape).Idx → α) {a a' : Fin n0} {b b' : Fin n1} {c c' : Fin n2} {d d' : Fin n3}
    (ha : a.val = a'.val) (hb : b.val = b'.val) (hc : c.val = c'.val) (hd : d.val = d'.val) : f (ix4 a b c d) = f (ix4 a' b' c' d') := by
  rw [Fin.ext ha, Fin.ext hb, Fin.ext hc, Fin.ext hd]

/-- Each of the two heads of keys stands twice in the lanes. -/
theorem arrK_apply (b : Fin 4) (l : Fin 256) (s : Fin 4096) :
    arrK m c (ix3 b s l) = argK m c (ix4 b s ⟨l.val / 128, by omega⟩ ⟨l.val % 64, by omega⟩) := by
  have hl := l.isLt
  after_reads_at
  split_ifs <;> after_reads_at <;> refine ix4_congr (argK m c) ?_ ?_ ?_ ?_ <;> first | rfl | (simp only []; omega)

theorem arrV_apply (b : Fin 4) (l : Fin 256) (s : Fin 4096) :
    arrV m c (ix3 b l s) = argV m c (ix4 b s ⟨l.val / 128, by omega⟩ ⟨l.val % 64, by omega⟩) := by
  have hl := l.isLt
  after_reads_at
  split_ifs <;> after_reads_at <;> refine ix4_congr (argV m c) ?_ ?_ ?_ ?_ <;> first | rfl | (simp only []; omega)

end Cert.KernelIdeal.Swa

end
-- ==== Proof.Spec.lean ====
/- The result both programs compute: sliding-window attention with a sink, an element at a time. -/
module

public import proofs.«01_k».proof.Proof.Soft
public import Idealize.ShloMosaic.Lib.Pointwise
public import Idealize.ShloMosaic.Lib.FinSumWindow

@[expose] public section

noncomputable section

namespace Cert.Soft

open Idealize.ShloMosaic

/-- The query at position `t` sees the 128 positions up to its own. -/
abbrev sees (t s : ℕ) : Prop := s ≤ t ∧ t < s + 128

abbrev QIdx := (⟨4, ![4, 4096, 16, 64]⟩ : Shape).Idx
abbrev KIdx := (⟨4, ![4, 4096, 2, 64]⟩ : Shape).Idx
abbrev ZIdx := (⟨1, ![16]⟩ : Shape).Idx

/-- The score of query `t` of head `h` against key `s`, eight heads of queries on each head of keys. -/
def scoreAt (q : QIdx → EReal) (k : KIdx → EReal) (b : Fin 4) (t : Fin 4096) (h : Fin 16) (s : Fin 4096) : EReal :=
  ∑ d : Fin 64, k (ix4 b s ⟨h.val / 8, by omega⟩ d) * q (ix4 b t h d)

/-- The result at one element. -/
def specAt (q : QIdx → EReal) (k v : KIdx → EReal) (z : ZIdx → EReal) (b : Fin 4) (t : Fin 4096) (h : Fin 16) (d : Fin 64) : EReal :=
  attend (fun s : Fin 4096 => sees t.val s.val) (fun s => (scoreAt q k b t h s).toReal * Real.log 2) (z (ix1 h)).toReal
    (fun s => v (ix4 b s ⟨h.val / 8, by omega⟩ d))

/-- An array whose every element is a real number. -/
def AllReal {ι : Type*} (f : ι → EReal) : Prop := ∀ i, ∃ r : ℝ, f i = (r : EReal)

theorem AllReal.eq {ι : Type*} {f : ι → EReal} (h : AllReal f) (i : ι) : f i = ((f i).toReal : EReal) := by
  obtain ⟨r, hr⟩ := h i
  rw [hr, EReal.toReal_coe]

theorem score_real {q : QIdx → EReal} {k : KIdx → EReal} (hq : AllReal q) (hk : AllReal k) (b : Fin 4) (t : Fin 4096) (h : Fin 16) (s : Fin 4096) :
    scoreAt q k b t h s = ((scoreAt q k b t h s).toReal : EReal) := by
  have e : scoreAt q k b t h s = ((∑ d : Fin 64, (k (ix4 b s ⟨h.val / 8, by omega⟩ d)).toReal * (q (ix4 b t h d)).toReal : ℝ) : EReal) := by
    unfold scoreAt
    rw [coe_sum]
    refine Finset.sum_congr rfl fun d _ => ?_
    rw [EReal.coe_mul, ← hq.eq, ← hk.eq]
  rw [e, EReal.toReal_coe]

/-- The keys outside a window that holds every key kept may be left out. -/
theorem attend_window {N W : ℕ} (lo : ℕ) (hlo : lo + W ≤ N) (keep : Fin N → Prop) [∀ s, Decidable (keep s)]
    (hk : ∀ P : Fin N, keep P → lo ≤ P.val ∧ P.val < lo + W) (S : Fin N → ℝ) (z : ℝ) (v : Fin N → EReal) :
    attend keep S z v = attend (n := W) (fun p => keep ⟨lo + p.val, by omega⟩) (fun p => S ⟨lo + p.val, by omega⟩) z (fun p => v ⟨lo + p.val, by omega⟩) := by
  have h0 : ∀ P : Fin N, ¬(lo ≤ P.val ∧ P.val < lo + W) → weight (keep P) (S P) = 0 := fun P hP => if_neg fun h => hP (hk P h)
  unfold attend
  rw [FinSumWindow.sum_window lo hlo (fun P => weight (keep P) (S P)) (fun P hP => h0 P (by omega))]
  rw [FinSumWindow.sum_window lo hlo _ (fun P hP => by rw [h0 P (by omega)]; simp)]

end Cert.Soft

end
-- ==== Proof.Array.lean ====
/- The kernel's result array: each point's block, and the blocks together. -/
module

public import proofs.«01_k».proof.Proof.HeadValue
public import proofs.«01_k».proof.Proof.HostRead
public import proofs.«01_k».proof.Proof.Spec

@[expose] public section

noncomputable section

open Idealize.ShloMosaic Idealize.ShloMosaic.TcCoe Idealize.SL.Sem

namespace Cert.KernelIdeal.Swa

open Cert.KernelIdeal Cert.KernelIdeal.Gen Cert.Soft
open Idealize.ShloMosaic.Pipeline (Dat)

theorem kst_le (i : grid0.Coords) : kst i + 384 ≤ 4096 := by
  have := tile_lt i; unfold kst; omega

/-- A key's number in the whole sequence. -/
def keyAt (i : grid0.Coords) (s : Fin 384) : Fin 4096 := ⟨kst i + s.val, by have := kst_le i; omega⟩
/-- A query's. -/
def queryAt (i : grid0.Coords) (t : Fin 256) : Fin 4096 := ⟨256 * (i 1).val + t.val, by have := tile_lt i; omega⟩
/-- The head of lane or row `x` of pair `n`. -/
def headAt (n : ℕ) (hn : n < 8) (x : Fin 128) : Fin 16 := ⟨2 * n + x.val / 64, by omega⟩

section
variable (q : QIdx → EReal) (k v : KIdx → EReal) (z : ZIdx → EReal)

/-- The kernel's window of 384 keys holds every key a query of the tile sees. -/
theorem spec_window (i : grid0.Coords) (b : Fin 4) (t : Fin 256) (h : Fin 16) (d : Fin 64) :
    specAt q k v z b (queryAt i t) h d =
      attend (fun s : Fin 384 => kst i + s.val ≤ 256 * (i 1).val + t.val ∧ 256 * (i 1).val + t.val < kst i + s.val + 128)
        (fun s => (scoreAt q k b (queryAt i t) h (keyAt i s)).toReal * Real.log 2) (z (ix1 h)).toReal
        (fun s => v (ix4 b (keyAt i s) ⟨h.val / 8, by omega⟩ d)) := by
  unfold specAt
  rw [attend_window (kst i) (kst_le i)]
  · rfl
  · intro P hP
    have ht := t.isLt
    have hs : P.val ≤ 256 * (i 1).val + t.val ∧ 256 * (i 1).val + t.val < P.val + 128 := hP
    unfold kst
    omega

variable (hq : AllReal q) (hk : AllReal k) (hz : AllReal z)
include hq hk hz

/-- One pair's block is the specification at its two heads. -/
theorem pair_value (i : grid0.Coords) (b : Fin 4) (n : ℕ) (hn : n < 8) (kw : FVec Ideal S384x128 .bf16) (vw : FVec Ideal S128x384 .bf16)
    (qb : FVec Ideal S1x128x256 .bf16) (w w' : EReal)
    (hkw : ∀ (s : Fin 384) (x : Fin 128), kw (ix2 s x) = k (ix4 b (keyAt i s) ⟨n / 4, by omega⟩ ⟨x.val % 64, by omega⟩))
    (hvw : ∀ (x : Fin 128) (s : Fin 384), vw (ix2 x s) = v (ix4 b (keyAt i s) ⟨n / 4, by omega⟩ ⟨x.val % 64, by omega⟩))
    (hqb : ∀ (x : Fin 128) (t : Fin 256), qb (ix3 0 x t) = q (ix4 b (queryAt i t) (headAt n hn x) ⟨x.val % 64, by omega⟩))
    (hw : w = z (ix1 ⟨2 * n, by omega⟩)) (hw' : w' = z (ix1 ⟨2 * n + 1, by omega⟩)) (t : Fin 256) (l : Fin 128) :
    pairOut (k0_pay4 i) kw vw qb w w' (ix3 0 t l) = specAt q k v z b (queryAt i t) (headAt n hn l) ⟨l.val % 64, by omega⟩ := by
  pointwise [pairOut]
  rw [select_iff (low_iff l t), spec_window]
  have hl := l.isLt
  split_ifs with h
  · have hh : headAt n hn l = ⟨2 * n, by omega⟩ := Fin.ext (by show 2 * n + l.val / 64 = 2 * n; omega)
    rw [hw, hz.eq, even_value _ _ _ _ t _ (fun s => (scoreAt q k b (queryAt i t) ⟨2 * n, by omega⟩ (keyAt i s)).toReal) _
      (fun s => keep_iff i s t) ?_ l h]
    · rw [hh]; congr 1; funext s; rw [hvw]; exact ix4_congr v rfl rfl (by show n / 4 = 2 * n / 8; omega) rfl
    · intro s
      rw [← score_real hq hk]
      refine Finset.sum_congr rfl fun x _ => ?_
      have hx := x.isLt
      rw [hkw, hqb]
      exact congrArg₂ (· * ·) (ix4_congr k rfl rfl (by show n / 4 = 2 * n / 8; omega) (by show x.val % 64 = x.val; omega))
        (ix4_congr q rfl rfl (by show 2 * n + x.val / 64 = 2 * n; omega) (by show x.val % 64 = x.val; omega))
  · have hh : headAt n hn l = ⟨2 * n + 1, by omega⟩ := Fin.ext (by show 2 * n + l.val / 64 = 2 * n + 1; omega)
    rw [hw', hz.eq, odd_value _ _ _ _ t _ (fun s => (scoreAt q k b (queryAt i t) ⟨2 * n + 1, by omega⟩ (keyAt i s)).toReal) _
      (fun s => keep_iff i s t) ?_ l (by omega)]
    · rw [hh]; congr 1; funext s; rw [hvw]; exact ix4_congr v rfl rfl (by show n / 4 = (2 * n + 1) / 8; omega) rfl
    · intro s
      rw [← score_real hq hk]
      refine Finset.sum_congr rfl fun x _ => ?_
      have hx := x.isLt
      rw [hkw, hqb]
      exact congrArg₂ (· * ·) (ix4_congr k rfl rfl (by show n / 4 = (2 * n + 1) / 8; omega) (by show (64 + x.val) % 64 = x.val; omega))
        (ix4_congr q rfl rfl (by show 2 * n + (64 + x.val) / 64 = 2 * n + 1; omega) (by show (64 + x.val) % 64 = x.val; omega))

end

variable (m : (ℓ : Loc nD τ sig) → Buf (Elt Ideal) ℓ) (c : Dev nD)

/-- The result array. -/
def result : FVec Ideal S4x4096x1024 .bf16 := fun y =>
  specAt (argQ m c) (argK m c) (argV m c) (argZ m c) (y 0) (y 1) ⟨(y 2).val / 64, by have : (y 2).val < 1024 := (y 2).isLt; omega⟩
    ⟨(y 2).val % 64, by omega⟩

/-! The input blocks of a point, in the arrays launched on. -/

theorem tr1 : ∀ i : grid0.Coords, cc0_transform_1 i = ![(i 0).val, 0, (i 1).val] := by decide +kernel
theorem tr2 : ∀ i : grid0.Coords, cc0_transform_2 i = ![(i 0).val, 0, 0] := by decide +kernel
theorem tr3 : ∀ i : grid0.Coords, cc0_transform_3 i = ![(i 0).val, 0, 0] := by decide +kernel
theorem tr4 : ∀ i : grid0.Coords, cc0_transform_4 i = ![(i 0).val, (i 1).val, 0] := by decide +kernel

/-- A point's batch. -/
def batchOf (p : Fin cfg0.N) : Fin 4 := grid0.coords p 0

theorem blk1 (p : Fin cfg0.N) (r : Fin 1024) (t : Fin 256) :
    (iblk m c 1 p : FVec Ideal S1x1024x256 .bf16) (ix3 0 r t) = arrQ m c (ix3 (batchOf p) r (queryAt (grid0.coords p) t)) := by
  unfold iblk
  rw [View.read_apply]
  show arrQ m c _ = _
  congr 1
  funext a
  apply Fin.ext
  have e := tr1 (grid0.coords p)
  match a with
  | ⟨0, _⟩ => show cc0_transform_1 (grid0.coords p) 0 * 1 + 1 * 0 = (grid0.coords p 0).val; rw [e]; show (grid0.coords p 0).val * 1 + 1 * 0 = _; omega
  | ⟨1, _⟩ => show cc0_transform_1 (grid0.coords p) 1 * 1024 + 1 * r.val = r.val; rw [e]; show 0 * 1024 + 1 * r.val = _; omega
  | ⟨2, _⟩ => show cc0_transform_1 (grid0.coords p) 2 * 256 + 1 * t.val = 256 * (grid0.coords p 1).val + t.val; rw [e]; show (grid0.coords p 1).val * 256 + 1 * t.val = _; omega

theorem blk2 (p : Fin cfg0.N) (s : Fin 4096) (l : Fin 256) :
    (iblk m c 2 p : FVec Ideal S1x4096x256 .bf16) (ix3 0 s l) = arrK m c (ix3 (batchOf p) s l) := by
  unfold iblk
  rw [View.read_apply]
  show arrK m c _ = _
  congr 1
  funext a
  apply Fin.ext
  have e := tr2 (grid0.coords p)
  match a with
  | ⟨0, _⟩ => show cc0_transform_2 (grid0.coords p) 0 * 1 + 1 * 0 = (grid0.coords p 0).val; rw [e]; show (grid0.coords p 0).val * 1 + 1 * 0 = _; omega
  | ⟨1, _⟩ => show cc0_transform_2 (grid0.coords p) 1 * 4096 + 1 * s.val = s.val; rw [e]; show 0 * 4096 + 1 * s.val = _; omega
  | ⟨2, _⟩ => show cc0_transform_2 (grid0.coords p) 2 * 256 + 1 * l.val = l.val; rw [e]; show 0 * 256 + 1 * l.val = _; omega

theorem blk3 (p : Fin cfg0.N) (l : Fin 256) (s : Fin 4096) :
    (iblk m c 3 p : FVec Ideal S1x256x4096 .bf16) (ix3 0 l s) = arrV m c (ix3 (batchOf p) l s) := by
  unfold iblk
  rw [View.read_apply]
  show arrV m c _ = _
  congr 1
  funext a
  apply Fin.ext
  have e := tr3 (grid0.coords p)
  match a with
  | ⟨0, _⟩ => show cc0_transform_3 (grid0.coords p) 0 * 1 + 1 * 0 = (grid0.coords p 0).val; rw [e]; show (grid0.coords p 0).val * 1 + 1 * 0 = _; omega
  | ⟨1, _⟩ => show cc0_transform_3 (grid0.coords p) 1 * 256 + 1 * l.val = l.val; rw [e]; show 0 * 256 + 1 * l.val = _; omega
  | ⟨2, _⟩ => show cc0_transform_3 (grid0.coords p) 2 * 4096 + 1 * s.val = s.val; rw [e]; show 0 * 4096 + 1 * s.val = _; omega

theorem blk0 (p : Fin cfg0.N) (h : Fin 16) : (iblk m c 0 p : FVec Ideal S16 .f32) (ix1 h) = argZ m c (ix1 h) := by
  unfold iblk
  rw [View.read_apply]
  show V m c main_arg3 _ = _
  rw [V_main_arg3]
  show argZ m c _ = _
  congr 1
  funext a
  apply Fin.ext
  match a with
  | ⟨0, _⟩ => show 0 * 16 + 1 * h.val = h.val; omega

theorem ld_query (x1 : Vec Ideal S1x1024x256 .bf16) (n : ℕ) (hn : n < 8) (off : Fin 3 → Nat) (inb) (ho : off = ![0, 128 * n, 0]) (x : Fin 128) (t : Fin 256) :
    View.ld x1 (Rect.unit (s := S1x1024x256) off S1x128x256.size inb) (ix3 0 x t) = x1 (ix3 0 ⟨128 * n + x.val, by omega⟩ t) := by
  subst ho
  refine View.ld_unit_apply_of x1 _ _ _ (ix3 0 x t) (ix3 0 ⟨128 * n + x.val, by omega⟩ t) fun a => ?_
  match a with
  | ⟨0, _⟩ => rfl
  | ⟨1, _⟩ => rfl
  | ⟨2, _⟩ => show t.val = 0 + t.val; omega

theorem keyWin_apply (i : grid0.Coords) (x2 : FVec Ideal S1x4096x256 .bf16) (s : Fin 384) (l : Fin 256) :
    keyWin i x2 (ix2 s l) = x2 (ix3 0 (keyAt i s) l) := by
  pointwise [keyWin, k0_pay2]
  congr 1
  funext a
  apply Fin.ext
  have e := off1_eq i
  match a with
  | ⟨0, _⟩ => show k0_off1 i 0 = 0; rw [e]; rfl
  | ⟨1, _⟩ => show k0_off1 i 1 + s.val = kst i + s.val; rw [e]; rfl
  | ⟨2, _⟩ => show k0_off1 i 2 + l.val = l.val; rw [e]; show 0 + l.val = l.val; omega

theorem valWin_apply (i : grid0.Coords) (x3 : FVec Ideal S1x256x4096 .bf16) (l : Fin 256) (s : Fin 384) :
    valWin i x3 (ix2 l s) = x3 (ix3 0 l (keyAt i s)) := by
  pointwise [valWin, k0_pay3]
  congr 1
  funext a
  apply Fin.ext
  have e := off2_eq i
  match a with
  | ⟨0, _⟩ => show k0_off2 i 0 = 0; rw [e]; rfl
  | ⟨1, _⟩ => show k0_off2 i 1 + l.val = l.val; rw [e]; show 0 + l.val = l.val; omega
  | ⟨2, _⟩ => show k0_off2 i 2 + s.val = kst i + s.val; rw [e]; rfl

variable (hq : AllReal (argQ m c)) (hk : AllReal (argK m c)) (hz : AllReal (argZ m c))

/-- The block of a point in the result array. -/
def blockOf (p : Fin cfg0.N) : FVec Ideal S1x256x1024 .bf16 := fun y =>
  specAt (argQ m c) (argK m c) (argV m c) (argZ m c) (batchOf p) (queryAt (grid0.coords p) (y 1))
    ⟨(y 2).val / 64, by have : (y 2).val < 1024 := (y 2).isLt; omega⟩ ⟨(y 2).val % 64, by omega⟩

include hq hk hz in
/-- One of the eight stores of a point, whichever half of the lanes its keys and values come from. -/
theorem store_value (p : Fin cfg0.N) (n : ℕ) (hn : n < 8) (kw : FVec Ideal S384x128 .bf16) (vw : FVec Ideal S128x384 .bf16)
    (hkw : ∀ (s : Fin 384) (x : Fin 128), kw (ix2 s x) = keyWin (grid0.coords p) (iblk m c 2 p) (ix2 s ⟨128 * (n / 4) + x.val, by omega⟩))
    (hvw : ∀ (x : Fin 128) (s : Fin 384), vw (ix2 x s) = valWin (grid0.coords p) (iblk m c 3 p) (ix2 ⟨128 * (n / 4) + x.val, by omega⟩ s))
    (off : Fin 3 → Nat) (inb) (ho : off = ![0, 128 * n, 0]) (w w' : EReal)
    (hw : w = (iblk m c 0 p : FVec Ideal S16 .f32) (ix1 ⟨2 * n, by omega⟩))
    (hw' : w' = (iblk m c 0 p : FVec Ideal S16 .f32) (ix1 ⟨2 * n + 1, by omega⟩))
    (x : S1x256x128.Idx) (y : S1x256x1024.Idx) (hy : ∀ a, (y a : Nat) = (![0, 0, 128 * n] : Fin 3 → Nat) a + x a) :
    pairOut (k0_pay4 (grid0.coords p)) kw vw (View.ld (iblk m c 1 p : FVec Ideal S1x1024x256 .bf16) (Rect.unit (s := S1x1024x256) off S1x128x256.size inb)) w w' x
      = blockOf m c p y := by
  obtain ⟨t, l, rfl⟩ : ∃ (t : Fin 256) (l : Fin 128), x = ix3 0 t l := ⟨x 1, x 2, by
    conv_lhs => rw [eq_ix3 x]
    congr 1
    exact Subsingleton.elim (α := Fin 1) _ _⟩
  rw [blk0] at hw hw'
  rw [pair_value (argQ m c) (argK m c) (argV m c) (argZ m c) hq hk hz (grid0.coords p) (batchOf p) n hn kw vw _ w w' ?_ ?_ ?_ hw hw' t l]
  · have h1 : (y 1 : Nat) = 0 + t.val := hy 1
    have h2 : (y 2 : Nat) = 128 * n + l.val := hy 2
    have hl := l.isLt
    have e1 : y 1 = t := Fin.ext (by rw [h1]; omega)
    unfold blockOf
    rw [e1]
    congr 1
    · exact Fin.ext (by show 2 * n + l.val / 64 = (y 2).val / 64; omega)
    · exact Fin.ext (by show l.val % 64 = (y 2).val % 64; omega)
  · intro s x
    have hx := x.isLt
    rw [hkw, keyWin_apply, blk2, arrK_apply]
    exact ix4_congr (argK m c) rfl rfl (by show (128 * (n / 4) + x.val) / 128 = n / 4; omega) (by show (128 * (n / 4) + x.val) % 64 = x.val % 64; omega)
  · intro x s
    have hx := x.isLt
    rw [hvw, valWin_apply, blk3, arrV_apply]
    exact ix4_congr (argV m c) rfl rfl (by show (128 * (n / 4) + x.val) / 128 = n / 4; omega) (by show (128 * (n / 4) + x.val) % 64 = x.val % 64; omega)
  · intro x t
    have hx := x.isLt
    rw [ld_query _ n hn off inb ho, blk1, arrQ_apply]
    exact ix4_congr (argQ m c) rfl rfl (by show (128 * n + x.val) / 64 = 2 * n + x.val / 64; omega) (by show (128 * n + x.val) % 64 = x.val % 64; omega)

include hq hk hz in
theorem block_value (p : Fin cfg0.N) :
    out0_A_4 c (grid0.coords p) (ms0_0 p) (hs0_0 p) (ms0_1 p) (hs0_1 p) (ms0_2 p) (hs0_2 p) (ms0_3 p) (hs0_3 p) (ms0_4 p) (hs0_4 p)
      (iblk m c 0 p) (iblk m c 1 p) (iblk m c 2 p) (iblk m c 3 p) = blockOf m c p := by
  refine out_eq c _ _ _ _ _ _ _ _ _ _ _ _ _ _ _ _ ?_ ?_
  · intro n hn off inb ho w w' hw hw' x y hy
    refine store_value m c hq hk hz p n (by omega) _ _ ?_ ?_ off inb ho w w' hw hw' x y hy
    · intro s x
      pointwise
      congr 2; exact Fin.ext (by show x.val = 128 * (n / 4) + x.val; omega)
    · intro x s
      pointwise
      congr 2; exact Fin.ext (by show x.val = 128 * (n / 4) + x.val; omega)
  · intro n hn hn' off inb ho w w' hw hw' x y hy
    refine store_value m c hq hk hz p n (by omega) _ _ ?_ ?_ off inb ho w w' hw hw' x y hy
    · intro s x
      pointwise
      congr 2; exact Fin.ext (by show 128 + x.val = 128 * (n / 4) + x.val; omega)
    · intro x s
      pointwise
      congr 2; exact Fin.ext (by show 128 + x.val = 128 * (n / 4) + x.val; omega)

include hq hk hz in
theorem flushed_eq (p : Fin cfg0.N) (hf : (cfg0.win 4).flush p = true) :
    (dats m 0 c).flushed 4 p = ((cfg0.win 4).blk p).view.read (Elt Ideal) (result m c) := by
  rw [Value.flushed4_A, block_value m c hq hk hz p]
  funext y
  rw [View.read_apply]
  show blockOf m c p y = result m c _
  have e := tr4 (grid0.coords p)
  unfold blockOf result
  congr 1
  · apply Fin.ext
    show (grid0.coords p 0).val = cc0_transform_4 (grid0.coords p) 0 * 1 + 1 * (y 0).val
    have : (y 0).val < 1 := (y 0).isLt
    rw [e]; show _ = (grid0.coords p 0).val * 1 + 1 * (y 0).val; omega
  · apply Fin.ext
    show 256 * (grid0.coords p 1).val + (y 1).val = cc0_transform_4 (grid0.coords p) 1 * 256 + 1 * (y 1).val
    rw [e]; show _ = (grid0.coords p 1).val * 256 + 1 * (y 1).val; omega
  · apply Fin.ext
    show (y 2).val / 64 = (cc0_transform_4 (grid0.coords p) 2 * 1024 + 1 * (y 2).val) / 64
    rw [e]; show _ = (0 * 1024 + 1 * (y 2).val) / 64; omega
  · apply Fin.ext
    show (y 2).val % 64 = (cc0_transform_4 (grid0.coords p) 2 * 1024 + 1 * (y 2).val) % 64
    rw [e]; show _ = (0 * 1024 + 1 * (y 2).val) % 64; omega

/-- The point that writes batch `b`, tile `j`. -/
theorem point_of : ∀ (b : Fin 4) (j : Fin 16), ∃ p : Fin grid0.N, cc0_transform_4 (grid0.coords p) = ![b.val, j.val, 0] := by decide +kernel

include hq hk hz in
theorem final : (dats m 0 c).arrAt 4 cfg0.N = result m c :=
  (dats m 0 c).arrAt_eq_of_cover 4 (result m c) (flushed_eq m c hq hk hz) fun y => by
    have h0 : (y 0 : Nat) < 4 := (y 0).isLt
    have h1 : (y 1 : Nat) < 4096 := (y 1).isLt
    have h2 : (y 2 : Nat) < 1024 := (y 2).isLt
    obtain ⟨p, hp⟩ := point_of ⟨(y 0).val, h0⟩ ⟨(y 1).val / 256, by omega⟩
    refine ⟨p, flush0_4 p, ?_⟩
    show y ∈ ((View.whole main_v21).slice (win0_4.rect p)).set
    rw [View.set_slice_whole, Rect.mem_set_unit]
    intro a
    match a with
    | ⟨0, _⟩ => show cc0_transform_4 (grid0.coords p) 0 * 1 ≤ (y 0 : Nat) ∧ (y 0 : Nat) < cc0_transform_4 (grid0.coords p) 0 * 1 + 1
                rw [hp]; show (y 0).val * 1 ≤ (y 0).val ∧ (y 0).val < (y 0).val * 1 + 1; omega
    | ⟨1, _⟩ => show cc0_transform_4 (grid0.coords p) 1 * 256 ≤ (y 1 : Nat) ∧ (y 1 : Nat) < cc0_transform_4 (grid0.coords p) 1 * 256 + 256
                rw [hp]; show (y 1).val / 256 * 256 ≤ (y 1).val ∧ (y 1).val < (y 1).val / 256 * 256 + 256; omega
    | ⟨2, _⟩ => show cc0_transform_4 (grid0.coords p) 2 * 1024 ≤ (y 2 : Nat) ∧ (y 2 : Nat) < cc0_transform_4 (grid0.coords p) 2 * 1024 + 1024
                rw [hp]; show 0 * 1024 ≤ (y 2).val ∧ (y 2).val < 0 * 1024 + 1024; omega

end Cert.KernelIdeal.Swa

end
-- ==== Proof.RefScore.lean ====
/- The reference's masked scores, their maximum with the sink, and the weights, an element at a time. -/
module

public import proofs.«01_k».proof.Proof.Gen.ReferenceIdeal.Read
public import proofs.«01_k».proof.Proof.Spec
public import proofs.«01_k».proof.Proof.Consts
public import Idealize.ShloMosaic.Lib.Tactic.WordOmega

@[expose] public section

noncomputable section

open Idealize.ShloMosaic Idealize.ShloMosaic.TcCoe Idealize.SL.Sem

namespace Cert.ReferenceIdeal.Swa

open Cert.ReferenceIdeal Cert.ReferenceIdeal.Gen Cert.ReferenceIdeal.Read Cert.Soft

variable (q : FVec Ideal S4x4096x16x64 .bf16) (k v : FVec Ideal S4x4096x2x64 .bf16) (z : FVec Ideal S16 .f32)

/-- Head `r` of the eight that share key head `g`. -/
abbrev headOf (g : Fin 2) (r : Fin 8) : Fin 16 := ⟨g.val * 8 + r.val, by omega⟩

theorem logTwo : Ideal.log (Ideal.ofBits FTy.f32 1073741824#32) = ((Real.log 2 : ℝ) : EReal) := by
  rw [Cert.Consts.f32_two]
  exact if_neg (by norm_num)

/-- The natural score the reference keeps where the query sees the key. -/
def natScore (b : Fin 4) (t : Fin 4096) (h : Fin 16) (s : Fin 4096) : ℝ := (scoreAt q k b t h s).toReal * Real.log 2

theorem dot_value (b : Fin 4) (g : Fin 2) (r : Fin 8) (t s : Fin 4096) :
    val_main_v1 (F := Ideal) q k (ix5 b g s t r) = scoreAt q k b t (headOf g r) s := by
  have hb := b.isLt; have hg := g.isLt; have hr := r.isLt; have ht := t.isLt
  rw [val_main_v1_apply]
  simp only [val_main_v0_apply]
  unfold scoreAt
  refine Finset.sum_congr rfl fun d _ => ?_
  have hd := d.isLt
  congr 1
  · congr 1
    funext a
    refine Fin.ext ?_
    match a with
    | ⟨0, _⟩ => rfl
    | ⟨1, _⟩ => rfl
    | ⟨2, _⟩ => show g.val = (g.val * 8 + r.val) / 8; omega
    | ⟨3, _⟩ => rfl
  · congr 1
    funext a
    refine Fin.ext ?_
    match a with
    | ⟨0, _⟩ => show ((((b.val * 4096 + t.val) * 2 + g.val) * 8 + r.val) * 64 + d.val) / 4194304 = b.val; omega
    | ⟨1, _⟩ => show ((((b.val * 4096 + t.val) * 2 + g.val) * 8 + r.val) * 64 + d.val) / 1024 % 4096 = t.val; omega
    | ⟨2, _⟩ => show ((((b.val * 4096 + t.val) * 2 + g.val) * 8 + r.val) * 64 + d.val) / 64 % 16 = g.val * 8 + r.val; omega
    | ⟨3, _⟩ => show ((((b.val * 4096 + t.val) * 2 + g.val) * 8 + r.val) * 64 + d.val) % 64 = d.val; omega

theorem sees_iff (t s : Fin 4096) :
    IntOp.andi (IntOp.cmpi CmpIPredicate.sge (IntOp.subi (BitVec.ofNat 32 t.val) (BitVec.ofNat 32 s.val)) 0#32)
      (IntOp.cmpi CmpIPredicate.slt (IntOp.subi (BitVec.ofNat 32 t.val) (BitVec.ofNat 32 s.val)) 128#32) = 1#1 ↔ sees t.val s.val := by
  have ht := t.isLt
  have hs := s.isLt
  generalize t.val = a at *
  generalize s.val = b at *
  rw [WordCmp.andi_sge_zero_slt_ofNat (by norm_num)]
  simp only [IntOp.subi, BitVec.toNat_sub, BitVec.toNat_ofNat]
  unfold sees
  word_omega

theorem select_masked (c : BitVec 1) (p : Prop) [Decidable p] (h : c = 1#1 ↔ p) (a : ℝ) : Scalar.select c (a : EReal) ⊥ = masked p a := by
  unfold Scalar.select masked
  exact if_congr h rfl rfl

theorem score_value (hq : AllReal q) (hk : AllReal k) (b : Fin 4) (g : Fin 2) (r : Fin 8) (t s : Fin 4096) :
    val_main_v18 (F := Ideal) q k (ix5 b g r t s) = masked (sees t.val s.val) (natScore q k b t (headOf g r) s) := by
  pointwise [val_main_v18, val_main_v5, val_main_call0_v1, val_main_call0_v2, val_main_call0_v0, val_main_cst_1, val_main_v2, val_main_v4,
    val_main_v3, val_main_cst, val_main_v17, val_main_v16, val_main_v14, val_main_v12, val_main_v13, val_main_v15, val_main_c, val_main_c_0,
    val_main_v10, val_main_v11, val_main_v9, val_main_v8, val_main_v7, val_main_v6]
  rw [dot_value, logTwo, score_real hq hk, ← EReal.coe_mul]
  rw [show (id (constant (F := Ideal) S_ FTy.f32 4286578688#32) ix0 : EReal) = ⊥ from Cert.Consts.f32_ninf]
  exact select_masked _ _ (sees_iff t s) _

theorem max_fold (b : Fin 4) (g : Fin 2) (r : Fin 8) (t : Fin 4096) :
    (val_main_v21 (F := Ideal) q k (ix4 b g r t) : EReal)
      = Finset.fold (max : EReal → EReal → EReal) (⊥ : EReal) (fun s : Fin 4096 => (val_main_v18 (F := Ideal) q k (ix5 b g r t s) : EReal)) Finset.univ := by
  rw [← Cert.Consts.f32_ninf]
  pointwise [val_main_v21, val_main_cst_2]

theorem sink_value (b : Fin 4) (g : Fin 2) (r : Fin 8) (t : Fin 4096) :
    val_main_v22 (F := Ideal) z (ix4 b g r t) = z (ix1 (headOf g r)) := by
  rw [val_main_v22_apply, val_main_v20_apply, val_main_v19_apply]
  congr 1
  funext a
  match a with
  | ⟨0, _⟩ => rfl

theorem larger (a b : Ideal .f32) : (FloatOps.maximumf a b : Ideal .f32) = (max (a : EReal) (b : EReal) : EReal) := rfl

/-- What the reference subtracts is a real number. -/
theorem max_value (hq : AllReal q) (hk : AllReal k) (hz : AllReal z) (b : Fin 4) (g : Fin 2) (r : Fin 8) (t : Fin 4096) :
    ∃ M : ℝ, val_main_v23 (F := Ideal) q k z (ix4 b g r t) = (M : EReal) := by
  obtain ⟨M, hM⟩ := max_real Finset.univ (fun s : Fin 4096 => (val_main_v18 (F := Ideal) q k (ix5 b g r t s) : EReal))
    (fun s _ => by rw [score_value q k hq hk]; exact masked_ne_top _ _) (z (ix1 (headOf g r))).toReal
  rw [← hz.eq] at hM
  refine ⟨M, ?_⟩
  rw [val_main_v23_apply, max_fold, sink_value]
  generalize Finset.fold (max : EReal → EReal → EReal) (⊥ : EReal) _ (Finset.univ : Finset (Fin 4096)) = A at hM ⊢
  exact (larger _ _).trans hM

theorem weight_value (b : Fin 4) (g : Fin 2) (r : Fin 8) (t s : Fin 4096) :
    val_main_v35 (F := Ideal) q k z (ix5 b g r t s)
      = Ideal.div (Ideal.exp (val_main_v18 (F := Ideal) q k (ix5 b g r t s) - val_main_v23 (F := Ideal) q k z (ix4 b g r t)))
          (∑ x : Fin 4096, Ideal.exp (val_main_v18 (F := Ideal) q k (ix5 b g r t x) - val_main_v23 (F := Ideal) q k z (ix4 b g r t))
            + Ideal.exp (z (ix1 (headOf g r)) - val_main_v23 (F := Ideal) q k z (ix4 b g r t))) := by
  pointwise [val_main_v35, val_main_v27, val_main_v34, val_main_v33, val_main_v32, val_main_v31, val_main_v30, val_main_v29, val_main_v28,
    val_main_v26, val_main_v25, val_main_v24, val_main_v20, val_main_v19, val_main_cst_3]

end Cert.ReferenceIdeal.Swa

end
-- ==== Proof.RefValue.lean ====
/- The value of the reference: the attention of the specification at every element. -/
module

public import proofs.«01_k».proof.Proof.RefScore

@[expose] public section

noncomputable section

open Idealize.ShloMosaic Idealize.ShloMosaic.TcCoe Idealize.SL.Sem

namespace Cert.ReferenceIdeal.Swa

open Cert.ReferenceIdeal Cert.ReferenceIdeal.Gen Cert.ReferenceIdeal.Read Cert.Soft

variable (q : FVec Ideal S4x4096x16x64 .bf16) (k v : FVec Ideal S4x4096x2x64 .bf16) (z : FVec Ideal S16 .f32)

theorem attend_value (hq : AllReal q) (hk : AllReal k) (hz : AllReal z) (b : Fin 4) (g : Fin 2) (r : Fin 8) (t : Fin 4096) (d : Fin 64) :
    ∑ s : Fin 4096, v (ix4 b s g d) * val_main_v35 (F := Ideal) q k z (ix5 b g r t s) = specAt q k v z b t (headOf g r) d := by
  obtain ⟨M, hM⟩ := max_value q k z hq hk hz b g r t
  unfold specAt
  rw [← attend_natural _ _ _ M]
  refine Finset.sum_congr rfl fun s _ => ?_
  have eg : (⟨(headOf g r).val / 8, by omega⟩ : Fin 2) = g := Fin.ext (by show (g.val * 8 + r.val) / 8 = g.val; omega)
  rw [weight_value, hM, mul_comm, eg]
  simp only [score_value q k hq hk, natScore]
  rw [← hz.eq]

theorem value (hq : AllReal q) (hk : AllReal k) (hz : AllReal z) (y : S4x4096x1024.Idx) :
    val_main_v40 (F := Ideal) q k v z y
      = specAt q k v z (y 0) (y 1) ⟨(y 2).val / 64, by have : (y 2).val < 1024 := (y 2).isLt; omega⟩ ⟨(y 2).val % 64, Nat.mod_lt _ (by norm_num)⟩ := by
  obtain ⟨b, t, c, rfl⟩ : ∃ (b : Fin 4) (t : Fin 4096) (c : Fin 1024), y = ix3 b t c := ⟨y 0, y 1, y 2, by funext a; match a with | ⟨0, _⟩ => rfl | ⟨1, _⟩ => rfl | ⟨2, _⟩ => rfl⟩
  have hb := b.isLt; have ht := t.isLt; have hc := c.isLt
  have e : headOf ⟨c.val / 512, by omega⟩ ⟨c.val / 64 % 8, by omega⟩ = ⟨c.val / 64, by omega⟩ := Fin.ext (by show c.val / 512 * 8 + c.val / 64 % 8 = c.val / 64; omega)
  refine Eq.trans ?_ ((attend_value q k v z hq hk hz b ⟨c.val / 512, by omega⟩ ⟨c.val / 64 % 8, by omega⟩ t ⟨c.val % 64, by omega⟩).trans
    (by rw [e]; rfl))
  rw [val_main_v40_apply, val_main_v39_apply, val_main_v38_apply, val_main_v37_apply]
  simp only [val_main_v36_apply]
  refine Finset.sum_congr rfl fun s _ => ?_
  congr 1
  · show v _ = v _
    congr 1
    funext a
    refine Fin.ext ?_
    match a with
    | ⟨0, _⟩ => show ((b.val * 4096 + t.val) * 1024 + c.val) / 4194304 = b.val; omega
    | ⟨1, _⟩ => rfl
    | ⟨2, _⟩ => show ((b.val * 4096 + t.val) * 1024 + c.val) / 512 % 2 = c.val / 512; omega
    | ⟨3, _⟩ => show ((b.val * 4096 + t.val) * 1024 + c.val) % 64 = c.val % 64; omega
  · congr 1
    funext a
    refine Fin.ext ?_
    match a with
    | ⟨0, _⟩ => show ((b.val * 4096 + t.val) * 1024 + c.val) / 4194304 = b.val; omega
    | ⟨1, _⟩ => show ((b.val * 4096 + t.val) * 1024 + c.val) / 512 % 2 = c.val / 512; omega
    | ⟨2, _⟩ => show ((b.val * 4096 + t.val) * 1024 + c.val) / 64 % 8 = c.val / 64 % 8; omega
    | ⟨3, _⟩ => show ((b.val * 4096 + t.val) * 1024 + c.val) / 1024 % 4096 = t.val; omega
    | ⟨4, _⟩ => rfl

end Cert.ReferenceIdeal.Swa

end
-- ==== Proof.Finite.lean ====
/- What the precondition gives: the queries, the keys and the sinks are real numbers. -/
module

public import proofs.«01_k».proof.Defs
public import proofs.«01_k».proof.Proof.Gen.Pre_finite
public import proofs.«01_k».proof.Proof.HostRead
public import proofs.«01_k».proof.Proof.Spec
public import proofs.«01_k».proof.Proof.Consts
public import Idealize.ShloMosaic.Lib.ReduceAll

@[expose] public section

noncomputable section

open Idealize.ShloMosaic Idealize.ShloMosaic.TcCoe Idealize.SL.Sem

namespace Cert.Finite

open Cert.Soft

/-- A magnitude below `+inf` is that of a real number. -/
theorem real_of_lt (x : EReal) (h : BitVec.ofBool (decide (max x (-x) < ⊤)) = 1#1) : ∃ r : ℝ, x = (r : EReal) := by
  have h' : max x (-x) < ⊤ := by
    by_contra hc
    rw [decide_eq_false hc] at h
    exact absurd h (by decide)
  rw [max_lt_iff] at h'
  induction x with
  | bot => exact absurd h'.2 (by simp)
  | top => exact absurd h'.1 (by simp)
  | coe r => exact ⟨r, rfl⟩

instance : Subsingleton (Cert.Pre_finite.S_).Idx := ⟨fun a b => by funext i; exact i.elim0⟩

/-- An array whose magnitudes all lie below `+inf` is an array of real numbers. -/
theorem allReal_of {s u : Shape} {φ : FTy} {axes : List (Fin s.rank)} (x : FVec Ideal s φ) (top : FVec Ideal s φ) (init : u.Idx → BitVec 1)
    (hr : s.ReducesTo axes Cert.Pre_finite.S_) (hu : 0 < u.numel) (htop : ∀ i, top i = (⊤ : EReal))
    (e : Host.reduce IntOp.andi (cmpf .olt (Host.absf x) top) init hr hu = fun _ => 1#1) : AllReal x := fun i => by
  have h := Host.reduce_andi_all _ init hr hu ix0 (congrFun e ix0) i
  refine real_of_lt (x i) ?_
  rw [← htop i]
  exact h

section
open Cert.Pre_finite
variable (x0 : FVec Ideal S4x4096x16x64 .bf16) (x1 x2 : FVec Ideal S4x4096x2x64 .bf16) (x3 : FVec Ideal S16 .f32)

theorem first (h : (fn (F := Ideal) x0 x1 x2 x3).1 = fun _ => 1#1) : AllReal x0 := by
  unfold fn at h
  dsimp only at h
  exact allReal_of _ _ _ _ _ (fun _ => Cert.Consts.bf16_inf) h

theorem second (h : (fn (F := Ideal) x0 x1 x2 x3).2.1 = fun _ => 1#1) : AllReal x1 := by
  unfold fn at h
  dsimp only at h
  exact allReal_of _ _ _ _ _ (fun _ => Cert.Consts.bf16_inf) h

theorem third (h : (fn (F := Ideal) x0 x1 x2 x3).2.2 = fun _ => 1#1) : AllReal x3 := by
  unfold fn at h
  dsimp only at h
  exact allReal_of _ _ _ _ _ (fun _ => Cert.Consts.f32_inf) h

end

variable {m : (ℓ : Loc Cert.KernelIdeal.nD Cert.KernelIdeal.τ Cert.KernelIdeal.sig) → Buf (Elt Ideal) ℓ}

theorem queries (h : Cert.Pre_KernelIdeal_finite m) (c : Dev Cert.KernelIdeal.nD) : AllReal (Cert.KernelIdeal.Swa.argQ m c) :=
  first _ _ _ _ (h c).1

theorem keys (h : Cert.Pre_KernelIdeal_finite m) (c : Dev Cert.KernelIdeal.nD) : AllReal (Cert.KernelIdeal.Swa.argK m c) :=
  second _ _ _ _ (h c).2.1

theorem sinks (h : Cert.Pre_KernelIdeal_finite m) (c : Dev Cert.KernelIdeal.nD) : AllReal (Cert.KernelIdeal.Swa.argZ m c) :=
  third _ _ _ _ (h c).2.2

end Cert.Finite

end
-- ==== Proof.SwaClaims.lean ====
/- The claims about the attention call, assembled. -/
module

public import proofs.«01_k».proof.Defs
public import proofs.«01_k».proof.Proof.Gen.Kernel
public import proofs.«01_k».proof.Proof.Gen.Kernel.Frame
public import proofs.«01_k».proof.Proof.Gen.KernelIdeal.Frame
public import proofs.«01_k».proof.Proof.Gen.ReferenceIdeal.Run
public import proofs.«01_k».proof.Proof.Array
public import proofs.«01_k».proof.Proof.RefValue
public import proofs.«01_k».proof.Proof.Finite
public import Idealize.ShloMosaic.Adequacy
public import Idealize.ShloMosaic.Init

@[expose] public section

noncomputable section

open Idealize.ShloMosaic Idealize.ShloMosaic.TcCoe Idealize.SL.Sem

namespace Cert.SwaClaims

theorem frame_p : Cert.quiescent_Kernel := fun m ρ _ => Cert.Kernel.Gen.frame m ρ
theorem frame_pi : Cert.quiescent_KernelIdeal := fun m ρ _ => Cert.KernelIdeal.Gen.frame m ρ
theorem frame_pi_finite : Cert.quiescent_KernelIdeal_pre_finite := fun m ρ _ => Cert.KernelIdeal.Gen.frame m ρ

theorem frame_ri : Cert.quiescent_ReferenceIdeal := fun m ρ _ =>
  (θ_run Cert.ReferenceIdeal.defs _ _).mono (fun r h => ⟨fun c => (h c).2, Idealize.ShloMosaic.sem_eq_zero_of_no_sems (by decide) r.2⟩)
    (Cert.ReferenceIdeal.Value.run (F := Ideal) m ρ)
theorem frame_ri_finite : Cert.quiescent_ReferenceIdeal_pre_finite := fun m ρ _ => frame_ri m ρ trivial

/-- The one named constant is the reciprocal of the natural logarithm of two. -/
theorem preserves : Cert.preserves_Kernel_KernelIdeal :=
  IdealRules.named_const.statement Cert.KernelIdeal.κ "log2e" .f32 0x3FB8AA3B#32 (((Real.log 2)⁻¹ : ℝ) : EReal) rfl

/-- Both programs end at the specification's attention of arguments that agree. -/
theorem algebraic : Cert.algebraic_KernelIdeal_ReferenceIdeal_pre_finite := by
  intro m ρ m' ρ' hpre hagree
  have hq := fun c => Cert.Finite.queries hpre c
  have hk := fun c => Cert.Finite.keys hpre c
  have hz := fun c => Cert.Finite.sinks hpre c
  refine ⟨fun c => Cert.KernelIdeal.Swa.result m c, ?_, ?_⟩
  · exact (θ_run Cert.KernelIdeal.defs _ _).mono (fun _ h c => ⟨(h c).1.trans (Cert.KernelIdeal.Swa.final m c (hq c) (hk c) (hz c)), (h c).2⟩)
      (Cert.KernelIdeal.Value.run_blocks (F := Ideal) m ρ)
  · refine (θ_run Cert.ReferenceIdeal.defs _ _).mono (fun _ h c => ⟨(h c).1.trans ?_, (h c).2⟩) (Cert.ReferenceIdeal.Value.run (F := Ideal) m' ρ')
    obtain ⟨e0, e1, e2, e3⟩ := hagree c
    rw [Cert.ReferenceIdeal.Read.val_main_v40_eq, e0, e1, e2, e3]
    funext y
    exact Cert.ReferenceIdeal.Swa.value _ _ _ _ (hq c) (hk c) (hz c) y

end Cert.SwaClaims

end
-- ==== Proof.MoeKit.lean ====
/- The expert call: what the region finds, its tables, windows, scratch and copy cells. -/
module

public import proofs.«01_k».proof.Proof.Gen.MoeIdeal.Launch
public import proofs.«01_k».proof.Proof.Gen.MoeIdeal.Skeleton
public import Idealize.ShloMosaic.Lib.Pipeline.FrameBody
public import Idealize.ShloMosaic.Lib.Pipeline.Quiescent
public import Idealize.ShloMosaic.Lib.Ring
public import Idealize.ShloMosaic.Lib.Tactic
public import Idealize.ShloMosaic.Lib.WordCmp

@[expose] public section

set_option maxRecDepth 16384

noncomputable section

namespace Cert.MoeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The region's entry -/

/-- A core's buffers once the host operations have run. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

set_option maxHeartbeats 800000 in
theorem hmain (𝒱₀ : Variants) : Pipeline.HMainP (Ix := Unit) (Name := ℕ) (U := Pipeline.UD sig nD τ) (Lvl := ℕ) pcfgs 0 defs₀ 𝒱₀ m (main (F := F)) (V m) :=
  Pipeline.hmainP_prefix pcfgs 0 defs₀ 𝒱₀ m main hostOps0 hostOps0_sub hostOps0_fresh main_chain

/-- A buffer none of the ten host operations writes is found as launched. -/
theorem V_kept (c : Dev nD) (b : Ref sig .tc)
    (h : b ≠ main_c ∧ b ≠ main_v0 ∧ b ≠ main_v1 ∧ b ≠ main_v2 ∧ b ≠ main_c_0 ∧ b ≠ main_v3 ∧ b ≠ main_v4 ∧ b ≠ main_v5 ∧ b ≠ main_v6 ∧ b ≠ main_v7) :
    V m c b = m ((c : Thread nD τ).loc b) := by
  obtain ⟨h0, h1, h2, h3, h4, h5, h6, h7, h8, h9⟩ := h
  exact StableHlo.after_of_forall_not_mem (b := Proc.devRef .tc b) _ _ (List.forall_iff_forall_mem.mp (by
    simp only [hostOps0, List.flatten_cons, List.flatten_nil, List.append_nil, List.cons_append,
      List.nil_append, List.Forall, StableHlo.nullary_writes, StableHlo.unary_writes, StableHlo.binary_writes, Finset.mem_singleton]
    exact ⟨StableHlo.devRef_ne_of_ne h0, StableHlo.devRef_ne_of_ne h1, StableHlo.devRef_ne_of_ne h2, StableHlo.devRef_ne_of_ne h3,
      StableHlo.devRef_ne_of_ne h4, StableHlo.devRef_ne_of_ne h5, StableHlo.devRef_ne_of_ne h6, StableHlo.devRef_ne_of_ne h7,
      StableHlo.devRef_ne_of_ne h8, StableHlo.devRef_ne_of_ne h9⟩))

theorem V_main_arg0 (c : Dev nD) : V m c main_arg0 = m ((c : Thread nD τ).loc main_arg0) := V_kept m c _ (by decide)
theorem V_main_arg1 (c : Dev nD) : V m c main_arg1 = m ((c : Thread nD τ).loc main_arg1) := V_kept m c _ (by decide)
theorem V_main_arg2 (c : Dev nD) : V m c main_arg2 = m ((c : Thread nD τ).loc main_arg2) := V_kept m c _ (by decide)
theorem V_main_arg3 (c : Dev nD) : V m c main_arg3 = m ((c : Thread nD τ).loc main_arg3) := V_kept m c _ (by decide)
theorem V_main_arg4 (c : Dev nD) : V m c main_arg4 = m ((c : Thread nD τ).loc main_arg4) := V_kept m c _ (by decide)

/-! ## The prefetched tables: the experts, the validity flags and the heads of the groups -/

def tbl : pre0.Contents (Elt F) := fun j => V m (0 : Dev nD) (pre0.ref j)
theorem V_pre (c : Dev nD) (j : Fin 3) : V m c (pre0.ref j) = tbl m j := by
  obtain rfl : c = 0 := Subsingleton.elim _ _; rfl
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

abbrev tbM0_0 : Memref sig .tc .smem S72 .i32 := Memref.whole main_arg0
abbrev htbM0_0 : tbM0_0.IsWhole := Memref.isWhole_whole _
abbrev tbM0_1 : Memref sig .tc .smem S72 .i32 := Memref.whole main_arg1
abbrev htbM0_1 : tbM0_1.IsWhole := Memref.isWhole_whole _
abbrev tbM0_2 : Memref sig .tc .smem S72 .i32 := Memref.whole main_v7
abbrev htbM0_2 : tbM0_2.IsWhole := Memref.isWhole_whole _

/-- A table's buffer at half the share: the pipeline keeps the other half. -/
abbrev TbBuf0 (c : Dev nD) {S : Shape} {e : EltTy} (M : Memref sig .tc .smem S e) : Type := Buf (Elt F) (M.view.loc (c : Thread nD τ))
abbrev tbPt0 (c : Dev nD) {S : Shape} {e : EltTy} (M : Memref sig .tc .smem S e) (f : TbBuf0 (F := F) c M) : sProp 𝕄 :=
  M.view.loc (c : Thread nD τ) ↦{fullShare.right} f

theorem PhiT0_eq (c : Dev nD) : (Pipeline.ΦT pre0 (tbl m) c : sProp 𝕄) = iprop(tbPt0 c tbM0_0 (tbl m 0) ∗ tbPt0 c tbM0_1 (tbl m 1) ∗ tbPt0 c tbM0_2 (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-! ## The windows -/

def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

theorem before0_0_of (hO : Ok m) {c : Dev nD} (dat : Dat τ (Elt F) Unit ℕ (Pipeline.UD sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

abbrev ms0_0 (hO : Ok m) (t : Fin (cfgM m hO).N) : Memref sig .tc .vmem S512x1024 .bf16 := spec0_0.stage ((cfgM m hO).slots t 0)
abbrev hs0_0 (hO : Ok m) (t : Fin (cfgM m hO).N) : (ms0_0 m hO t).IsWhole := hstage0_0 (((cfgM m hO).slots t 0).cast nbuf0_0)
abbrev ms0_1 (hO : Ok m) (t : Fin (cfgM m hO).N) : Memref sig .tc .vmem S512x1024 .bf16 := spec0_1.stage ((cfgM m hO).slots t 1)
abbrev hs0_1 (hO : Ok m) (t : Fin (cfgM m hO).N) : (ms0_1 m hO t).IsWhole := hstage0_1 (((cfgM m hO).slots t 1).cast nbuf0_1)

/-- The body as the pipeline calls it at a point. -/
abbrev bodyAt0 (a : (pcfg0 (F := F)).Adm) (t : Fin (cfg0 a).N) : Prog (TpuEff nD τ sig (Elt F) Λ₀ .tc) PUnit :=
  cc0_ffn_moe (grid0.coords t) tbM0_0 htbM0_0 tbM0_1 htbM0_1 tbM0_2 htbM0_2 (spec0_0.stage ((cfg0 a).slots t 0)) (hstage0_0 (((cfg0 a).slots t 0).cast nbuf0_0)) (Memref.whole main_arg3) (Memref.isWhole_whole _) (Memref.whole main_arg4) (Memref.isWhole_whole _) (spec0_1.stage ((cfg0 a).slots t 1)) (hstage0_1 (((cfg0 a).slots t 1).cast nbuf0_1)) (Memref.whole cc0_scratch0) (Memref.isWhole_whole _) (Memref.whole cc0_scratch1) (Memref.isWhole_whole _) (Memref.whole cc0_scratch2) (Memref.isWhole_whole _) (Memref.whole cc0_scratch3) (Memref.isWhole_whole _) (Memref.whole cc0_scratch4) (Memref.isWhole_whole _) (Memref.whole cc0_scratch5) (Memref.isWhole_whole _) cc0_scratch6 (Memref.whole cc0_scratch7) (Memref.isWhole_whole _)

theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-! ## The scratch, the weights and the copy cells -/

abbrev scM0_0 : Memref sig .tc .vmem S1024x3584 .bf16 := Memref.whole cc0_scratch0
abbrev scM0_1 : Memref sig .tc .vmem S1024x3584 .bf16 := Memref.whole cc0_scratch1
abbrev scM0_2 : Memref sig .tc .vmem S3584x1024 .bf16 := Memref.whole cc0_scratch2
abbrev scM0_3 : Memref sig .tc .vmem S2x1024x512 .f32 := Memref.whole cc0_scratch3
abbrev scM0_4 : Memref sig .tc .vmem S2x1024x512 .f32 := Memref.whole cc0_scratch4
abbrev scM0_5 : Memref sig .tc .vmem S2x512x1024 .f32 := Memref.whole cc0_scratch5
abbrev scM0_6 : Memref sig .tc .vmem S512x1024 .f32 := Memref.whole cc0_scratch7
abbrev hbM0_0 : Memref sig .tc .hbm S16x1024x7168 .f32 := Memref.whole main_arg3
abbrev hbM0_1 : Memref sig .tc .hbm S16x3584x1024 .f32 := Memref.whole main_arg4
abbrev HbBuf0 (c : Dev nD) {sp : Space} {S : Shape} {e : EltTy} (M : Memref sig .tc sp S e) : Type := Buf (Elt F) (M.view.loc (c : Thread nD τ))
abbrev hbPt0 (c : Dev nD) {sp : Space} {S : Shape} {e : EltTy} (M : Memref sig .tc sp S e) (f : HbBuf0 (F := F) c M) : sProp 𝕄 :=
  M.view.loc (c : Thread nD τ) ↦{fullShare} f

abbrev osem0 : Fin 6 → SemLoc sig := fun j => (![SemLoc.dma 4, SemLoc.dma 5, SemLoc.dma 6, SemLoc.dma 7, SemLoc.dma 8, SemLoc.dma 9] : Fin 6 → SemLoc sig) j
theorem ownSemFacts0 : Pipeline.OwnSemFacts spec0 osem0 := by decide

/-- The six copy cells at zero. -/
abbrev cells0 (c : Dev nD) : sProp 𝕄 :=
  iprop(semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0)

theorem ownSems00_eq (c : Dev nD) :
    (Pipeline.ownSems0 (Ix := Unit) (Name := ℕ) (U := Pipeline.UD sig nD τ) (Lvl := ℕ) (Val := Elt F) (τ := τ) osem0 c : sProp 𝕄) = cells0 c := by
  rw [Pipeline.ownSems0_eq_of_list c osem0 [0, 1, 2, 3, 4, 5] (by decide) (by decide)]; rfl

def H0 : Finset (Ref sig .tc) := {main_arg3, main_arg4}
theorem H0_sub : H0 ⊆ Pipeline.restRefsP sig pre0 spec0 := by decide
theorem hbmPts0_eq (c : Dev nD) :
    (bigSep H0 (fun b => ((c : Thread nD τ).loc b) ↦{fullShare} V m c b) : sProp 𝕄) = iprop(hbPt0 c hbM0_0 (V m c main_arg3) ∗ hbPt0 c hbM0_1 (V m c main_arg4)) := by
  rw [BI.bigSep_eq_bigSepL_of_eq [main_arg3, main_arg4] (by decide) (by decide)]; rfl

/-- A scratch buffer at some contents. -/
abbrev some0 (c : Dev nD) {S : Shape} {e : EltTy} (M : Memref sig .tc .vmem S e) : sProp 𝕄 := iprop(∃ d, owns (c : Thread nD τ) M fullShare d)

theorem PhiD0_eq (c : Dev nD) :
    (Pipeline.ΦD osem0 spec0 H0 (V m) c : sProp 𝕄)
      = iprop(iprop(some0 c scM0_0 ∗ some0 c scM0_1 ∗ some0 c scM0_2 ∗ some0 c scM0_3 ∗ some0 c scM0_4 ∗ some0 c scM0_5 ∗ some0 c scM0_6)
          ∗ (∃ r, prngReg c r) ∗ cells0 c ∗ iprop(hbPt0 c hbM0_0 (V m c main_arg3) ∗ hbPt0 c hbM0_1 (V m c main_arg4))) := by
  rw [Pipeline.ΦD_eq, scopedRest0_eq, ownSems00_eq, hbmPts0_eq]; simp only [some0, scM0_0, scM0_1, scM0_2, scM0_3, scM0_4, scM0_5, scM0_6, owns_whole]; try rfl

/-- The word a point reads of a table. -/
abbrev word0 (c : Dev nD) (i : grid0.Coords) (M : Memref sig .tc .smem S72 .i32) (x : TbBuf0 (F := F) c M) : BitVec 32 :=
  M.view.readAt (Elt F) (Rect.unit (s := S72) (k0_off1 i) S1.size (k0_off1_inb i)).toLoadRect x (Shape.Idx.first (numel1_S1.symm ▸ Nat.one_pos))

end Cert.MoeIdeal.Gen

end
-- ==== Proof.MoeVal.lean ====
/- The value of the expert call: one expert's weights as cached, a chunk of its layer, the tile they give. -/
module

public import proofs.«01_k».proof.Proof.MoeKit
public import Idealize.ShloMosaic.Lib.Pointwise
public import Idealize.ShloMosaic.Lib.ValueLayout

@[expose] public section

set_option maxRecDepth 16384

noncomputable section

namespace Cert.MoeIdeal.Gen

open Idealize.ShloMosaic Idealize.ShloMosaic.TcCoe Idealize.ShloMosaic.Tactic

variable {F : FTy → Type} [FloatOps F]

/-! ## The mathematics of a tile -/

/-- The gate half of an expert's first weights, as cached. -/
def gW (w : Vec F S16x1024x7168 .f32) (e : Fin 16) : FVec F S1024x3584 .bf16 :=
  truncf .bf16 (fun y : S1024x3584.Idx => w (ix3 e (y (0 : Fin 2) : Fin 1024) ⟨(y (1 : Fin 2)).val, by have h : (y (1 : Fin 2)).val < 3584 := (y (1 : Fin 2)).isLt; omega⟩)) bitsLt_bf16_f32

/-- The other half. -/
def uW (w : Vec F S16x1024x7168 .f32) (e : Fin 16) : FVec F S1024x3584 .bf16 :=
  truncf .bf16 (fun y : S1024x3584.Idx => w (ix3 e (y (0 : Fin 2) : Fin 1024) ⟨3584 + (y (1 : Fin 2)).val, by have h : (y (1 : Fin 2)).val < 3584 := (y (1 : Fin 2)).isLt; omega⟩)) bitsLt_bf16_f32

/-- Its second weights. -/
def dW (w : Vec F S16x3584x1024 .f32) (e : Fin 16) : FVec F S3584x1024 .bf16 :=
  truncf .bf16 (fun y : S3584x1024.Idx => w (ix3 e (y (0 : Fin 2) : Fin 3584) (y (1 : Fin 2) : Fin 1024))) bitsLt_bf16_f32

/-- 512 columns of a cache from column `o`. -/
def col (g : Vec F S1024x3584 .bf16) (o : ℕ) (ho : o + 512 ≤ 3584) : Vec F S1024x512 .bf16 :=
  fun y => g (ix2 (y (0 : Fin 2) : Fin 1024) ⟨o + (y (1 : Fin 2)).val, by have h : (y (1 : Fin 2)).val < 512 := (y (1 : Fin 2)).isLt; omega⟩)

/-- 512 rows of a cache from row `o`. -/
def row (d : Vec F S3584x1024 .bf16) (o : ℕ) (ho : o + 512 ≤ 3584) : Vec F S512x1024 .bf16 :=
  fun y => d (ix2 ⟨o + (y (0 : Fin 2)).val, by have h : (y (0 : Fin 2)).val < 512 := (y (0 : Fin 2)).isLt; omega⟩ (y (1 : Fin 2) : Fin 1024))

/-- The hidden layer of a tile on 512 columns. -/
def hid (x : Vec F S512x1024 .bf16) (g u : Vec F S1024x512 .bf16) : FVec F S512x512 .bf16 :=
  truncf .bf16
    (mulf
      (mulf (matmul dot_S512x1024_S1024x512_S512x512_1_0_0_1_n_n none x g (constant S512x512 .f32 0x00000000#32))
        (logistic (matmul dot_S512x1024_S1024x512_S512x512_1_0_0_1_n_n none x g (constant S512x512 .f32 0x00000000#32))))
      (matmul dot_S512x1024_S1024x512_S512x512_1_0_0_1_n_n none x u (constant S512x512 .f32 0x00000000#32))) bitsLt_bf16_f32

/-- What 512 columns of the hidden layer add to the tile's result. -/
def con (h : FVec F S512x512 .bf16) (d : Vec F S512x1024 .bf16) : FVec F S512x1024 .f32 :=
  matmul dot_S512x512_S512x1024_S512x1024_1_0_0_1_n_n none h d (constant S512x1024 .f32 0x00000000#32)

/-- The part from column `o`. -/
def part (x : Vec F S512x1024 .bf16) (g u : Vec F S1024x3584 .bf16) (d : Vec F S3584x1024 .bf16) (o : ℕ) (ho : o + 512 ≤ 3584) : FVec F S512x1024 .f32 :=
  con (hid x (col g o ho) (col u o ho)) (row d o ho)

/-- The tile's result: seven parts, added in turn. -/
def outV (x : Vec F S512x1024 .bf16) (g u : Vec F S1024x3584 .bf16) (d : Vec F S3584x1024 .bf16) : FVec F S512x1024 .bf16 :=
  truncf .bf16
    (addf (addf (addf (addf (addf (addf (part x g u d 0 (by omega)) (part x g u d 512 (by omega))) (part x g u d 1024 (by omega)))
      (part x g u d 1536 (by omega))) (part x g u d 2048 (by omega))) (part x g u d 2560 (by omega))) (part x g u d 3072 (by omega))) bitsLt_bf16_f32

/-! ## Reads -/

theorem emb_unit {s : Shape} (off size : Fin s.rank → ℕ) (inb) (x : (Rect.unit (s := s) off size inb).shape.Idx) (a : Fin s.rank) :
    ((Rect.unit (s := s) off size inb).emb x a).val = off a + (x a).val := by
  show ((Rect.unit (s := s) off size inb).idx x a).val = _
  simp [LoadRect.idx]

section Reads

variable {sp : Space}

theorem rd_whole {m : Memref sig .tc sp S512x1024 .bf16} (h : m.IsWhole) (x : Vec F S512x1024 .bf16) (inb) :
    View.readAt (Elt F) m.view (Rect.unit (s := S512x1024) ![0, 0] ![512, 1024] inb).toLoadRect (h.unread x) = x := by
  funext y
  refine (congrFun (h.read_unread x) _).trans (congrArg x (funext fun a => Fin.ext ?_))
  fin_cases a <;> simp [LoadRect.idx]

theorem rd_col {m : Memref sig .tc sp S1024x3584 .bf16} (h : m.IsWhole) (g : Vec F S1024x3584 .bf16) (o : ℕ) (inb) :
    View.readAt (Elt F) m.view (Rect.unit (s := S1024x3584) ![0, o] ![1024, 512] inb).toLoadRect (h.unread g) = col g o (inb 1) := by
  funext y
  refine (congrFun (h.read_unread g) _).trans (congrArg g (funext fun a => Fin.ext ?_))
  fin_cases a <;> simp [LoadRect.idx, ix2]

theorem rd_row {m : Memref sig .tc sp S3584x1024 .bf16} (h : m.IsWhole) (g : Vec F S3584x1024 .bf16) (o : ℕ) (inb) :
    View.readAt (Elt F) m.view (Rect.unit (s := S3584x1024) ![o, 0] ![512, 1024] inb).toLoadRect (h.unread g) = row g o (inb 0) := by
  funext y
  refine (congrFun (h.read_unread g) _).trans (congrArg g (funext fun a => Fin.ext ?_))
  fin_cases a <;> simp [LoadRect.idx, ix2]

/-- A slot read after a copy into it is what was copied; -/
theorem slot_hit {s s' : Shape} {e : EltTy} (v : View sig .tc sp s e) (r : Rect s) (hn : s'.numel = r.shape.numel) (hc : r.shape.ShapeCasts s')
    (f : v.ty.Contents (Elt F)) (w : s'.Idx → Elt F e) :
    shapeCast s' (View.readAt (Elt F) v r.toLoadRect (View.write (Elt F) ((v.slice r).reshape s' hn) f w Finset.univ)) hc = w :=
  View.read_write_univ (v := (v.slice r).reshape s' hn) f w

/-- after a copy into another, what it held. -/
theorem slot_miss {s s' : Shape} {e : EltTy} (v : View sig .tc sp s e) (r r' : Rect s) (hn : s'.numel = r'.shape.numel)
    (hd : Disjoint r.set r'.set) (f : v.ty.Contents (Elt F)) (w : s'.Idx → Elt F e) :
    View.readAt (Elt F) v r.toLoadRect (View.write (Elt F) ((v.slice r').reshape s' hn) f w Finset.univ) = View.readAt (Elt F) v r.toLoadRect f := by
  funext x
  rw [View.readAt_apply, View.readAt_apply, View.read_apply, View.read_apply, View.write_of_not_mem]
  intro h
  have h2 : v.emb (r.toLoadRect.idx x) ∈ (v.slice r').set := (Finset.ext_iff.mp (View.set_reshape (v.slice r') hn) _).mp h
  rw [View.set_slice, Finset.mem_map'] at h2
  exact Finset.disjoint_left.mp hd (r.toLoadRect.idx_mem x) h2

theorem miss01g {e : EltTy} (v : View sig .tc sp S2x1024x512 e) (inb inb' hn) (f : v.ty.Contents (Elt F)) (w : S1024x512.Idx → Elt F e) :
    View.readAt (Elt F) v (Rect.unit (s := S2x1024x512) ![0, 0, 0] ![1, 1024, 512] inb).toLoadRect (View.write (Elt F) ((v.slice (Rect.unit (s := S2x1024x512) ![1, 0, 0] ![1, 1024, 512] inb')).reshape S1024x512 hn) f w Finset.univ)
      = View.readAt (Elt F) v (Rect.unit (s := S2x1024x512) ![0, 0, 0] ![1, 1024, 512] inb).toLoadRect f :=
  slot_miss v _ _ _ (Rect.unit_disjoint (s := S2x1024x512) (0 : Fin 3) (Or.inl (by decide))) f w

theorem miss10g {e : EltTy} (v : View sig .tc sp S2x1024x512 e) (inb inb' hn) (f : v.ty.Contents (Elt F)) (w : S1024x512.Idx → Elt F e) :
    View.readAt (Elt F) v (Rect.unit (s := S2x1024x512) ![1, 0, 0] ![1, 1024, 512] inb).toLoadRect (View.write (Elt F) ((v.slice (Rect.unit (s := S2x1024x512) ![0, 0, 0] ![1, 1024, 512] inb')).reshape S1024x512 hn) f w Finset.univ)
      = View.readAt (Elt F) v (Rect.unit (s := S2x1024x512) ![1, 0, 0] ![1, 1024, 512] inb).toLoadRect f :=
  slot_miss v _ _ _ (Rect.unit_disjoint (s := S2x1024x512) (0 : Fin 3) (Or.inr (by decide))) f w

theorem miss01d {e : EltTy} (v : View sig .tc sp S2x512x1024 e) (inb inb' hn) (f : v.ty.Contents (Elt F)) (w : S512x1024.Idx → Elt F e) :
    View.readAt (Elt F) v (Rect.unit (s := S2x512x1024) ![0, 0, 0] ![1, 512, 1024] inb).toLoadRect (View.write (Elt F) ((v.slice (Rect.unit (s := S2x512x1024) ![1, 0, 0] ![1, 512, 1024] inb')).reshape S512x1024 hn) f w Finset.univ)
      = View.readAt (Elt F) v (Rect.unit (s := S2x512x1024) ![0, 0, 0] ![1, 512, 1024] inb).toLoadRect f :=
  slot_miss v _ _ _ (Rect.unit_disjoint (s := S2x512x1024) (0 : Fin 3) (Or.inl (by decide))) f w

theorem miss10d {e : EltTy} (v : View sig .tc sp S2x512x1024 e) (inb inb' hn) (f : v.ty.Contents (Elt F)) (w : S512x1024.Idx → Elt F e) :
    View.readAt (Elt F) v (Rect.unit (s := S2x512x1024) ![1, 0, 0] ![1, 512, 1024] inb).toLoadRect (View.write (Elt F) ((v.slice (Rect.unit (s := S2x512x1024) ![0, 0, 0] ![1, 512, 1024] inb')).reshape S512x1024 hn) f w Finset.univ)
      = View.readAt (Elt F) v (Rect.unit (s := S2x512x1024) ![1, 0, 0] ![1, 512, 1024] inb).toLoadRect f :=
  slot_miss v _ _ _ (Rect.unit_disjoint (s := S2x512x1024) (0 : Fin 3) (Or.inr (by decide))) f w

theorem hitg (v : View sig .tc sp S2x1024x512 .f32) (off : Fin 3 → ℕ) (inb inb' hn hc) (f : v.ty.Contents (Elt F)) (w : S1024x512.Idx → F .f32) :
    shapeCast (α := F .f32) (s := S1x1024x512) S1024x512 (View.readAt (Elt F) v (Rect.unit (s := S2x1024x512) off ![1, 1024, 512] inb).toLoadRect (View.write (Elt F) ((v.slice (Rect.unit (s := S2x1024x512) off ![1, 1024, 512] inb')).reshape S1024x512 hn) f w Finset.univ)) hc = w :=
  slot_hit v (Rect.unit (s := S2x1024x512) off ![1, 1024, 512] inb) hn hc f w

theorem hitd (v : View sig .tc sp S2x512x1024 .f32) (off : Fin 3 → ℕ) (inb inb' hn hc) (f : v.ty.Contents (Elt F)) (w : S512x1024.Idx → F .f32) :
    shapeCast (α := F .f32) (s := S1x512x1024) S512x1024 (View.readAt (Elt F) v (Rect.unit (s := S2x512x1024) off ![1, 512, 1024] inb).toLoadRect (View.write (Elt F) ((v.slice (Rect.unit (s := S2x512x1024) off ![1, 512, 1024] inb')).reshape S512x1024 hn) f w Finset.univ)) hc = w :=
  slot_hit v (Rect.unit (s := S2x512x1024) off ![1, 512, 1024] inb) hn hc f w

end Reads

/-! ## Copies -/

/-- The weights the memory holds. -/
def wts0 (c : Dev nD) (fh0 : HbBuf0 (F := F) c hbM0_0) : Vec F S16x1024x7168 .f32 := hbM0_0.view.read (Elt F) fh0

def wts1 (c : Dev nD) (fh1 : HbBuf0 (F := F) c hbM0_1) : Vec F S16x3584x1024 .f32 := hbM0_1.view.read (Elt F) fh1

section Copies

variable {c : Dev nD} {e : Fin 16} {v : BitVec 32}

theorem copy0 (he : v.toNat = e.val) (fh0 : HbBuf0 (F := F) c hbM0_0) (o : ℕ) (ho : o + 512 ≤ 7168) (inb) (hr) (hq) :
    (ReadAs.same.apply (View.read (Elt F) ((hbM0_0.slice (Rect.unit ![v.toNat, 0, o] S1x1024x512.size inb) hr).squeeze S1024x512 hq).view fh0) : FVec F S1024x512 .f32)
      = fun y : S1024x512.Idx => wts0 c fh0 (ix3 e (y (0 : Fin 2) : Fin 1024) ⟨o + (y (1 : Fin 2)).val, by have h : (y (1 : Fin 2)).val < 512 := (y (1 : Fin 2)).isLt; omega⟩) := by
  funext y
  obtain ⟨a, b, rfl⟩ : ∃ (a : Fin 1024) (b : Fin 512), y = ix2 a b := ⟨y 0, y 1, by funext i; fin_cases i <;> rfl⟩
  unfold wts0
  show View.read (Elt F) hbM0_0.view fh0 ((Rect.unit (s := S16x1024x7168) ![v.toNat, 0, o] S1x1024x512.size inb).emb (Shape.reshapeEquiv _ (ix2 a b))) = _
  erw [ValueIdx.reshapeEquiv_ix2_1ab]
  refine congrArg (View.read (Elt F) hbM0_0.view fh0) (funext fun i => Fin.ext ?_)
  fin_cases i <;> simp [emb_unit, ix3, ix2, he]

theorem copy1 (he : v.toNat = e.val) (fh1 : HbBuf0 (F := F) c hbM0_1) (o : ℕ) (ho : o + 512 ≤ 3584) (inb) (hr) (hq) :
    (ReadAs.same.apply (View.read (Elt F) ((hbM0_1.slice (Rect.unit ![v.toNat, o, 0] S1x512x1024.size inb) hr).squeeze S512x1024 hq).view fh1) : FVec F S512x1024 .f32)
      = fun y : S512x1024.Idx => wts1 c fh1 (ix3 e ⟨o + (y (0 : Fin 2)).val, by have h : (y (0 : Fin 2)).val < 512 := (y (0 : Fin 2)).isLt; omega⟩ (y (1 : Fin 2) : Fin 1024)) := by
  funext y
  obtain ⟨a, b, rfl⟩ : ∃ (a : Fin 512) (b : Fin 1024), y = ix2 a b := ⟨y 0, y 1, by funext i; fin_cases i <;> rfl⟩
  unfold wts1
  show View.read (Elt F) hbM0_1.view fh1 ((Rect.unit (s := S16x3584x1024) ![v.toNat, o, 0] S1x512x1024.size inb).emb (Shape.reshapeEquiv _ (ix2 a b))) = _
  erw [ValueIdx.reshapeEquiv_ix2_1ab]
  refine congrArg (View.read (Elt F) hbM0_1.view fh1) (funext fun i => Fin.ext ?_)
  fin_cases i <;> simp [emb_unit, ix3, ix2, he]

theorem copy_gate (he : v.toNat = e.val) (fh0 : HbBuf0 (F := F) c hbM0_0) (o : ℕ) (inb) (hr) (hq) (ho : o + 512 ≤ 3584) :
    truncf .bf16 (ReadAs.same.apply (View.read (Elt F) ((hbM0_0.slice (Rect.unit ![v.toNat, 0, o] S1x1024x512.size inb) hr).squeeze S1024x512 hq).view fh0) : FVec F S1024x512 .f32) bitsLt_bf16_f32
      = col (gW (wts0 c fh0) e) o ho := by
  rw [copy0 he fh0 o (by omega)]; rfl

theorem copy_up (he : v.toNat = e.val) (fh0 : HbBuf0 (F := F) c hbM0_0) (o o' : ℕ) (inb) (hr) (hq) (h' : o' = 3584 + o) (ho : o + 512 ≤ 3584) :
    truncf .bf16 (ReadAs.same.apply (View.read (Elt F) ((hbM0_0.slice (Rect.unit ![v.toNat, 0, o'] S1x1024x512.size inb) hr).squeeze S1024x512 hq).view fh0) : FVec F S1024x512 .f32) bitsLt_bf16_f32
      = col (uW (wts0 c fh0) e) o ho := by
  subst h'
  rw [copy0 he fh0 (3584 + o) (by omega)]
  simp only [Nat.add_assoc]; rfl

theorem copy_down (he : v.toNat = e.val) (fh1 : HbBuf0 (F := F) c hbM0_1) (o : ℕ) (inb) (hr) (hq) (ho : o + 512 ≤ 3584) :
    truncf .bf16 (ReadAs.same.apply (View.read (Elt F) ((hbM0_1.slice (Rect.unit ![v.toNat, o, 0] S1x512x1024.size inb) hr).squeeze S512x1024 hq).view fh1) : FVec F S512x1024 .f32) bitsLt_bf16_f32
      = row (dW (wts1 c fh1) e) o ho := by
  rw [copy1 he fh1 o ho]; rfl

end Copies

/-! ## Caches filled a strip at a time -/

/-- Writes that cover and each leave what `G` holds leave `G`. -/
theorem read_writes_eq_of_agree {sp : Space} {s : Shape} {e : EltTy} (v : View sig .tc sp s e) (f : v.ty.Contents (Elt F)) (G : s.Idx → Elt F e) :
    ∀ (L : List (View.Piece (Elt F) s e)) (y : s.Idx), (∀ p ∈ L, ∀ x, p.2 x = G (p.1.emb x)) → (∃ p ∈ L, y ∈ p.1.set) → v.read (Elt F) (v.writes (Elt F) f L) y = G y
  | [], _, _, h => by obtain ⟨_, hm, _⟩ := h; exact absurd hm List.not_mem_nil
  | p :: L, y, ha, h => by
    by_cases hy : y ∈ p.1.set
    · obtain ⟨r, w⟩ := p
      obtain ⟨x, rfl⟩ : ∃ x, r.emb x = y := r.exists_idx_of_mem hy
      rw [View.read_writes_cons_emb]
      exact ha _ List.mem_cons_self x
    · have hL : ∃ p' ∈ L, y ∈ p'.1.set := by
        obtain ⟨p', hm, hy'⟩ := h
        rcases List.mem_cons.mp hm with rfl | hm
        · exact absurd hy' hy
        · exact ⟨p', hm, hy'⟩
      have hy' : y ∉ Finset.univ.map p.1.emb := by rwa [Rect.map_emb_univ]
      rw [View.writes_cons, View.read_slice_write_of_not_mem p.1 _ _ _ hy']
      exact read_writes_eq_of_agree v f G L y (fun q hq => ha q (List.mem_cons_of_mem _ hq)) hL

theorem cols_all {sp : Space} (v : View sig .tc sp S1024x3584 .bf16) (f : v.ty.Contents (Elt F)) (G : Vec F S1024x3584 .bf16) (i0 i1 i2 i3 i4 i5 i6) :
    v.read (Elt F) (v.writes (Elt F) f
      [⟨Rect.unit ![0, 3072] S1024x512.size i6, col G 3072 (by omega)⟩, ⟨Rect.unit ![0, 2560] S1024x512.size i5, col G 2560 (by omega)⟩, ⟨Rect.unit ![0, 2048] S1024x512.size i4, col G 2048 (by omega)⟩,
       ⟨Rect.unit ![0, 1536] S1024x512.size i3, col G 1536 (by omega)⟩, ⟨Rect.unit ![0, 1024] S1024x512.size i2, col G 1024 (by omega)⟩, ⟨Rect.unit ![0, 512] S1024x512.size i1, col G 512 (by omega)⟩,
       ⟨Rect.unit ![0, 0] S1024x512.size i0, col G 0 (by omega)⟩]) = G := by
  have key : ∀ (o : ℕ) (ho : o + 512 ≤ 3584) (i), ∀ x, col G o ho x = G ((Rect.unit (s := S1024x3584) ![0, o] S1024x512.size i).emb x) := fun o ho i x => by
    unfold col
    refine congrArg G (funext fun a => Fin.ext ?_)
    fin_cases a <;> simp [emb_unit, ix2]
  funext y
  refine read_writes_eq_of_agree v f G _ y (fun p hp => ?_) (View.cover_of_tiledL (s := S1024x3584) _ S1024x512.size (by sl_kernel_rfl) y)
  simp only [List.mem_cons, List.not_mem_nil, or_false] at hp
  rcases hp with rfl | rfl | rfl | rfl | rfl | rfl | rfl
  exacts [key 3072 (by omega) i6, key 2560 (by omega) i5, key 2048 (by omega) i4, key 1536 (by omega) i3, key 1024 (by omega) i2, key 512 (by omega) i1, key 0 (by omega) i0]

theorem rows_all {sp : Space} (v : View sig .tc sp S3584x1024 .bf16) (f : v.ty.Contents (Elt F)) (G : Vec F S3584x1024 .bf16) (i0 i1 i2 i3 i4 i5 i6) :
    v.read (Elt F) (v.writes (Elt F) f
      [⟨Rect.unit ![3072, 0] S512x1024.size i6, row G 3072 (by omega)⟩, ⟨Rect.unit ![2560, 0] S512x1024.size i5, row G 2560 (by omega)⟩, ⟨Rect.unit ![2048, 0] S512x1024.size i4, row G 2048 (by omega)⟩,
       ⟨Rect.unit ![1536, 0] S512x1024.size i3, row G 1536 (by omega)⟩, ⟨Rect.unit ![1024, 0] S512x1024.size i2, row G 1024 (by omega)⟩, ⟨Rect.unit ![512, 0] S512x1024.size i1, row G 512 (by omega)⟩,
       ⟨Rect.unit ![0, 0] S512x1024.size i0, row G 0 (by omega)⟩]) = G := by
  have key : ∀ (o : ℕ) (ho : o + 512 ≤ 3584) (i), ∀ x, row G o ho x = G ((Rect.unit (s := S3584x1024) ![o, 0] S512x1024.size i).emb x) := fun o ho i x => by
    unfold row
    refine congrArg G (funext fun a => Fin.ext ?_)
    fin_cases a <;> simp [emb_unit, ix2]
  funext y
  refine read_writes_eq_of_agree v f G _ y (fun p hp => ?_) (View.cover_of_tiledL (s := S3584x1024) _ S512x1024.size (by sl_kernel_rfl) y)
  simp only [List.mem_cons, List.not_mem_nil, or_false] at hp
  rcases hp with rfl | rfl | rfl | rfl | rfl | rfl | rfl
  exacts [key 3072 (by omega) i6, key 2560 (by omega) i5, key 2048 (by omega) i4, key 1536 (by omega) i3, key 1024 (by omega) i2, key 512 (by omega) i1, key 0 (by omega) i0]

/-- A tile written whole reads back as written. -/
theorem tile_all {sp : Space} {e : EltTy} (v : View sig .tc sp S512x1024 e) (f : v.ty.Contents (Elt F)) (w : S512x1024.Idx → Elt F e) (i) (L : List (View.Piece (Elt F) S512x1024 e)) :
    v.read (Elt F) (v.writes (Elt F) f (⟨Rect.unit ![0, 0] S512x1024.size i, w⟩ :: L)) = w := by
  funext y
  refine (congrArg _ (?_ : y = (Rect.unit (s := S512x1024) ![0, 0] S512x1024.size i).emb y)).trans (View.read_writes_cons_emb _ _ _ _ _ _)
  funext a
  refine Fin.ext ?_
  fin_cases a <;> simp [emb_unit]

end Cert.MoeIdeal.Gen

end
-- ==== Proof.MoeRunA.lean ====
/- The expert call at the first point of a group. -/
module

public import proofs.«01_k».proof.Proof.MoeVal

@[expose] public section

set_option maxRecDepth 16384

noncomputable section

namespace Cert.MoeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

-- the run's proof term is long: its epilogue walks it past the default budget
set_option maxHeartbeats 4000000 in set_option sl_exec.dmaWindow true in set_option sl_exec.dmaWindowSet true in
/-- The body at the head of a group: seven chunks of the expert's weights copied two at a time, cached and used. -/
theorem runA (c : Dev nD) (i : grid0.Coords) (arg4 : Memref sig .tc .vmem S512x1024 .bf16) (harg4 : arg4.IsWhole) (arg7 : Memref sig .tc .vmem S512x1024 .bf16) (harg7 : arg7.IsWhole)
    (arg8 : Memref sig .tc .vmem S1024x3584 .bf16) (harg8 : arg8.IsWhole) (arg9 : Memref sig .tc .vmem S1024x3584 .bf16) (harg9 : arg9.IsWhole) (arg10 : Memref sig .tc .vmem S3584x1024 .bf16) (harg10 : arg10.IsWhole)
    (arg11 : Memref sig .tc .vmem S2x1024x512 .f32) (harg11 : arg11.IsWhole) (arg12 : Memref sig .tc .vmem S2x1024x512 .f32) (harg12 : arg12.IsWhole) (arg13 : Memref sig .tc .vmem S2x512x1024 .f32) (harg13 : arg13.IsWhole)
    (arg15 : Memref sig .tc .vmem S512x1024 .f32) (harg15 : arg15.IsWhole)
    (x0 : Vec F S512x1024 .bf16)
    (xt0 : TbBuf0 (F := F) c tbM0_0) (xt1 : TbBuf0 (F := F) c tbM0_1) (xt2 : TbBuf0 (F := F) c tbM0_2) (fh0 : HbBuf0 (F := F) c hbM0_0) (fh1 : HbBuf0 (F := F) c hbM0_1)
    (e : Fin 16) (he : (word0 c i tbM0_0 xt0).toNat = e.val)
    (hw : k0_chk1 (word0 c i tbM0_0 xt0) (word0 c i tbM0_1 xt1) (word0 c i tbM0_2 xt2))
    (h1 : k0_cond1 (word0 c i tbM0_1 xt1) (word0 c i tbM0_2 xt2) = 1#1) (h2 : ¬ k0_cond2 (word0 c i tbM0_1 xt1) (word0 c i tbM0_2 xt2) = 1#1) (h3 : ¬ k0_cond3 (word0 c i tbM0_1 xt1) = 1#1) :
    ∀ (W : Waits sig Unit) (K : PUnit → sProp 𝕄),
        iprop(owns (c : Thread nD τ) arg4 fullShare x0 ∗ some0 c arg7 ∗ some0 c arg8 ∗ some0 c arg9 ∗ some0 c arg10 ∗ some0 c arg11 ∗ some0 c arg12 ∗ some0 c arg13 ∗ some0 c arg15
            ∗ tbPt0 c tbM0_0 xt0 ∗ tbPt0 c tbM0_1 xt1 ∗ tbPt0 c tbM0_2 xt2 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ owes (c : Thread nD τ) 0 W
            ∗ (iprop(owns (c : Thread nD τ) arg4 fullShare x0 ∗ owns (c : Thread nD τ) arg7 fullShare (outV x0 (gW (wts0 c fh0) e) (uW (wts0 c fh0) e) (dW (wts1 c fh1) e)) ∗ owns (c : Thread nD τ) arg8 fullShare (gW (wts0 c fh0) e) ∗ owns (c : Thread nD τ) arg9 fullShare (uW (wts0 c fh0) e) ∗ owns (c : Thread nD τ) arg10 fullShare (dW (wts1 c fh1) e) ∗ some0 c arg11 ∗ some0 c arg12 ∗ some0 c arg13 ∗ some0 c arg15
                ∗ tbPt0 c tbM0_0 xt0 ∗ tbPt0 c tbM0_1 xt1 ∗ tbPt0 c tbM0_2 xt2 ∗ semVal ((c : Thread nD τ), SemLoc.dma 4) 0 ∗ semVal ((c : Thread nD τ), SemLoc.dma 5) 0 ∗ semVal ((c : Thread nD τ), SemLoc.dma 6) 0 ∗ semVal ((c : Thread nD τ), SemLoc.dma 7) 0 ∗ semVal ((c : Thread nD τ), SemLoc.dma 8) 0 ∗ semVal ((c : Thread nD τ), SemLoc.dma 9) 0 ∗ hbPt0 c hbM0_0 fh0 ∗ hbPt0 c hbM0_1 fh1 ∗ (∃ W', owes (c : Thread nD τ) 0 W')) -∗ K ⟨⟩))
          ⊢ wp frame (wpE (defs₀ (F := F)) Variants.none c none) Set.univ (cc0_ffn_moe i tbM0_0 htbM0_0 tbM0_1 htbM0_1 tbM0_2 htbM0_2 arg4 harg4 hbM0_0 (Memref.isWhole_whole _) hbM0_1 (Memref.isWhole_whole _) arg7 harg7 arg8 harg8 arg9 harg9 arg10 harg10 arg11 harg11 arg12 harg12 arg13 harg13 cc0_scratch6 arg15 harg15) K := by
  intro W K
  simp only [cc0_ffn_moe_eq_skeleton]; unfold cc0_ffn_moe_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton]
  unfold some0 owns
  iintro ⟨⟨%f0, %hf0, H0⟩, ⟨%d7, %f7, -, H7⟩, ⟨%d8, %f8, -, H8⟩, ⟨%d9, %f9, -, H9⟩, ⟨%d10, %f10, -, H10⟩, ⟨%d11, %f11, -, H11⟩, ⟨%d12, %f12, -, H12⟩, ⟨%d13, %f13, -, H13⟩, ⟨%d15, %f15, -, H15⟩, HT0, HT1, HT2, Hq0, Hq1, Hq2, Hq3, Hq4, Hq5, Hh0, Hh1, HW, Hk⟩
  obtain rfl := harg4.eq_unread hf0
  sl_exec (disch := first | sl_exact hw | sl_exact h1 | sl_exact h2 | sl_exact h3)
  sl_step
  iapply Hk
  isplitl [H0]
  · iexists _; isplitr; · ipureintro; exact harg4.read_unread _
    iexact H0
  have he' : (runA.sl.r c i xt0).toNat = e.val := he
  have g0 : truncf .bf16 (runA.sl.dma3 c i xt0 xt1 xt2 fh0 hw h1 : FVec F S1024x512 .f32) bitsLt_bf16_f32 = col (gW (wts0 c fh0) e) 0 (by omega) := copy_gate he' fh0 0 _ _ _ (by omega)
  have g1 : truncf .bf16 (runA.sl.dma3_3 c i xt0 xt1 xt2 fh0 hw h1 : FVec F S1024x512 .f32) bitsLt_bf16_f32 = col (gW (wts0 c fh0) e) 512 (by omega) := copy_gate he' fh0 512 _ _ _ (by omega)
  have g2 : truncf .bf16 (runA.sl.dma18 c i xt0 xt1 xt2 fh0 hw h1 : FVec F S1024x512 .f32) bitsLt_bf16_f32 = col (gW (wts0 c fh0) e) 1024 (by omega) := copy_gate he' fh0 1024 _ _ _ (by omega)
  have g3 : truncf .bf16 (runA.sl.dma34 c i xt0 xt1 xt2 fh0 hw h1 : FVec F S1024x512 .f32) bitsLt_bf16_f32 = col (gW (wts0 c fh0) e) 1536 (by omega) := copy_gate he' fh0 1536 _ _ _ (by omega)
  have g4 : truncf .bf16 (runA.sl.dma50 c i xt0 xt1 xt2 fh0 hw h1 : FVec F S1024x512 .f32) bitsLt_bf16_f32 = col (gW (wts0 c fh0) e) 2048 (by omega) := copy_gate he' fh0 2048 _ _ _ (by omega)
  have g5 : truncf .bf16 (runA.sl.dma66 c i xt0 xt1 xt2 fh0 hw h1 : FVec F S1024x512 .f32) bitsLt_bf16_f32 = col (gW (wts0 c fh0) e) 2560 (by omega) := copy_gate he' fh0 2560 _ _ _ (by omega)
  have g6 : truncf .bf16 (runA.sl.dma82 c i xt0 xt1 xt2 fh0 hw h1 : FVec F S1024x512 .f32) bitsLt_bf16_f32 = col (gW (wts0 c fh0) e) 3072 (by omega) := copy_gate he' fh0 3072 _ _ _ (by omega)
  have u0 : truncf .bf16 (runA.sl.dma3_1 c i xt0 xt1 xt2 fh0 hw h1 : FVec F S1024x512 .f32) bitsLt_bf16_f32 = col (uW (wts0 c fh0) e) 0 (by omega) := copy_up he' fh0 0 3584 _ _ _ rfl (by omega)
  have u1 : truncf .bf16 (runA.sl.dma3_4 c i xt0 xt1 xt2 fh0 hw h1 : FVec F S1024x512 .f32) bitsLt_bf16_f32 = col (uW (wts0 c fh0) e) 512 (by omega) := copy_up he' fh0 512 4096 _ _ _ rfl (by omega)
  have u2 : truncf .bf16 (runA.sl.dma18_1 c i xt0 xt1 xt2 fh0 hw h1 : FVec F S1024x512 .f32) bitsLt_bf16_f32 = col (uW (wts0 c fh0) e) 1024 (by omega) := copy_up he' fh0 1024 4608 _ _ _ rfl (by omega)
  have u3 : truncf .bf16 (runA.sl.dma34_1 c i xt0 xt1 xt2 fh0 hw h1 : FVec F S1024x512 .f32) bitsLt_bf16_f32 = col (uW (wts0 c fh0) e) 1536 (by omega) := copy_up he' fh0 1536 5120 _ _ _ rfl (by omega)
  have u4 : truncf .bf16 (runA.sl.dma50_1 c i xt0 xt1 xt2 fh0 hw h1 : FVec F S1024x512 .f32) bitsLt_bf16_f32 = col (uW (wts0 c fh0) e) 2048 (by omega) := copy_up he' fh0 2048 5632 _ _ _ rfl (by omega)
  have u5 : truncf .bf16 (runA.sl.dma66_1 c i xt0 xt1 xt2 fh0 hw h1 : FVec F S1024x512 .f32) bitsLt_bf16_f32 = col (uW (wts0 c fh0) e) 2560 (by omega) := copy_up he' fh0 2560 6144 _ _ _ rfl (by omega)
  have u6 : truncf .bf16 (runA.sl.dma82_1 c i xt0 xt1 xt2 fh0 hw h1 : FVec F S1024x512 .f32) bitsLt_bf16_f32 = col (uW (wts0 c fh0) e) 3072 (by omega) := copy_up he' fh0 3072 6656 _ _ _ rfl (by omega)
  have d0 : truncf .bf16 (runA.sl.dma3_2 c i xt0 xt1 xt2 fh1 hw h1 : FVec F S512x1024 .f32) bitsLt_bf16_f32 = row (dW (wts1 c fh1) e) 0 (by omega) := copy_down he' fh1 0 _ _ _ (by omega)
  have d1 : truncf .bf16 (runA.sl.dma3_5 c i xt0 xt1 xt2 fh1 hw h1 : FVec F S512x1024 .f32) bitsLt_bf16_f32 = row (dW (wts1 c fh1) e) 512 (by omega) := copy_down he' fh1 512 _ _ _ (by omega)
  have d2 : truncf .bf16 (runA.sl.dma18_2 c i xt0 xt1 xt2 fh1 hw h1 : FVec F S512x1024 .f32) bitsLt_bf16_f32 = row (dW (wts1 c fh1) e) 1024 (by omega) := copy_down he' fh1 1024 _ _ _ (by omega)
  have d3 : truncf .bf16 (runA.sl.dma34_2 c i xt0 xt1 xt2 fh1 hw h1 : FVec F S512x1024 .f32) bitsLt_bf16_f32 = row (dW (wts1 c fh1) e) 1536 (by omega) := copy_down he' fh1 1536 _ _ _ (by omega)
  have d4 : truncf .bf16 (runA.sl.dma50_2 c i xt0 xt1 xt2 fh1 hw h1 : FVec F S512x1024 .f32) bitsLt_bf16_f32 = row (dW (wts1 c fh1) e) 2048 (by omega) := copy_down he' fh1 2048 _ _ _ (by omega)
  have d5 : truncf .bf16 (runA.sl.dma66_2 c i xt0 xt1 xt2 fh1 hw h1 : FVec F S512x1024 .f32) bitsLt_bf16_f32 = row (dW (wts1 c fh1) e) 2560 (by omega) := copy_down he' fh1 2560 _ _ _ (by omega)
  have d6 : truncf .bf16 (runA.sl.dma82_2 c i xt0 xt1 xt2 fh1 hw h1 : FVec F S512x1024 .f32) bitsLt_bf16_f32 = row (dW (wts1 c fh1) e) 3072 (by omega) := copy_down he' fh1 3072 _ _ _ (by omega)
  isplitl [H7]
  · iexists _; isplitr; swap; · iexact H7
    ipureintro
    refine (tile_all _ _ _ _ _).trans ?_
    delta runA.sl.v_1 runA.sl.H15_7
    rw [View.readCov_cons_toLoadRect]
    delta runA.sl.v501 runA.sl.H15_6
    rw [View.readCov_cons_toLoadRect]
    delta runA.sl.v449 runA.sl.H15_5
    rw [View.readCov_cons_toLoadRect]
    delta runA.sl.v379 runA.sl.H15_4
    rw [View.readCov_cons_toLoadRect]
    delta runA.sl.v309 runA.sl.H15_3
    rw [View.readCov_cons_toLoadRect]
    delta runA.sl.v239 runA.sl.H15_2
    rw [View.readCov_cons_toLoadRect]
    delta runA.sl.v169 runA.sl.H15_1
    rw [View.readCov_cons_toLoadRect]
    delta runA.sl.r_3 runA.sl.r_4 runA.sl.r_6 runA.sl.r_7 runA.sl.r_8 runA.sl.v91 runA.sl.v159 runA.sl.v229 runA.sl.v299 runA.sl.v369 runA.sl.v439 runA.sl.v491 runA.sl.v93 runA.sl.v161 runA.sl.v231 runA.sl.v301 runA.sl.v371 runA.sl.v441 runA.sl.v493 runA.sl.v99 runA.sl.v167 runA.sl.v237 runA.sl.v307 runA.sl.v377 runA.sl.v447 runA.sl.v499 runA.sl.H8_7 runA.sl.H8_6 runA.sl.H8_5 runA.sl.H8_4 runA.sl.H8_3 runA.sl.H8_2 runA.sl.H8_1 runA.sl.H9_7 runA.sl.H9_6 runA.sl.H9_5 runA.sl.H9_4 runA.sl.H9_3 runA.sl.H9_2 runA.sl.H9_1 runA.sl.H10_7 runA.sl.H10_6 runA.sl.H10_5 runA.sl.H10_4 runA.sl.H10_3 runA.sl.H10_2 runA.sl.H10_1
    simp only [View.readCov_cons_toLoadRect]
    delta runA.sl.v72 runA.sl.v140 runA.sl.v210 runA.sl.v280 runA.sl.v350 runA.sl.v420 runA.sl.v472 runA.sl.v78 runA.sl.v146 runA.sl.v216 runA.sl.v286 runA.sl.v356 runA.sl.v426 runA.sl.v478 runA.sl.v84 runA.sl.v152 runA.sl.v222 runA.sl.v292 runA.sl.v362 runA.sl.v432 runA.sl.v runA.sl.r_5 runA.sl.r_9
    simp only [k0_pay1, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, miss01g, miss10g, miss01d, miss10d, hitg, hitd, shapeCast_self, rd_whole]
    simp only [g0, g1, g2, g3, g4, g5, g6, u0, u1, u2, u3, u4, u5, u6, d0, d1, d2, d3, d4, d5, d6]
    rfl
  isplitl [H8]
  · iexists _; isplitr; swap; · iexact H8
    ipureintro
    delta runA.sl.H8_7 runA.sl.H8_6 runA.sl.H8_5 runA.sl.H8_4 runA.sl.H8_3 runA.sl.H8_2 runA.sl.H8_1 runA.sl.v72 runA.sl.v140 runA.sl.v210 runA.sl.v280 runA.sl.v350 runA.sl.v420 runA.sl.v472
    simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, miss01g, miss10g, miss01d, miss10d, hitg, hitd, shapeCast_self]
    simp only [g0, g1, g2, g3, g4, g5, g6]
    exact cols_all _ _ _ _ _ _ _ _ _ _
  isplitl [H9]
  · iexists _; isplitr; swap; · iexact H9
    ipureintro
    delta runA.sl.H9_7 runA.sl.H9_6 runA.sl.H9_5 runA.sl.H9_4 runA.sl.H9_3 runA.sl.H9_2 runA.sl.H9_1 runA.sl.v78 runA.sl.v146 runA.sl.v216 runA.sl.v286 runA.sl.v356 runA.sl.v426 runA.sl.v478 runA.sl.r_5 runA.sl.r_9
    simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, miss01g, miss10g, miss01d, miss10d, hitg, hitd, shapeCast_self]
    simp only [u0, u1, u2, u3, u4, u5, u6]
    exact cols_all _ _ _ _ _ _ _ _ _ _
  isplitl [H10]
  · iexists _; isplitr; swap; · iexact H10
    ipureintro
    delta runA.sl.H10_7 runA.sl.H10_6 runA.sl.H10_5 runA.sl.H10_4 runA.sl.H10_3 runA.sl.H10_2 runA.sl.H10_1 runA.sl.v84 runA.sl.v152 runA.sl.v222 runA.sl.v292 runA.sl.v362 runA.sl.v432 runA.sl.v
    simp only [k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, miss01g, miss10g, miss01d, miss10d, hitg, hitd, shapeCast_self]
    simp only [d0, d1, d2, d3, d4, d5, d6]
    exact rows_all _ _ _ _ _ _ _ _ _ _
  isplitl [H11]
  · iexists _; iexists _; isplitr; swap; · iexact H11
    ipureintro; rfl
  isplitl [H12]
  · iexists _; iexists _; isplitr; swap; · iexact H12
    ipureintro; rfl
  isplitl [H13]
  · iexists _; iexists _; isplitr; swap; · iexact H13
    ipureintro; rfl
  isplitl [H15]
  · iexists _; iexists _; isplitr; swap; · iexact H15
    ipureintro; rfl
  isplitl [HT0]; · iexact HT0
  isplitl [HT1]; · iexact HT1
  isplitl [HT2]; · iexact HT2
  isplitl [Hq0]; · iexact Hq0
  isplitl [Hq1]; · iexact Hq1
  isplitl [Hq2]; · iexact Hq2
  isplitl [Hq3]; · iexact Hq3
  isplitl [Hq4]; · iexact Hq4
  isplitl [Hq5]; · iexact Hq5
  isplitl [Hh0]; · iexact Hh0
  isplitl [Hh1]; · iexact Hh1
  iexists _; iexact HW

end Cert.MoeIdeal.Gen

end
-- ==== Proof.MoeRunB.lean ====
/- The expert call at a point of a group already begun. -/
module

public import proofs.«01_k».proof.Proof.MoeVal

@[expose] public section

set_option maxRecDepth 16384

noncomputable section

namespace Cert.MoeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The body where the caches hold the expert's weights: it reads them and leaves them. -/
theorem runB (c : Dev nD) (i : grid0.Coords) (arg4 : Memref sig .tc .vmem S512x1024 .bf16) (harg4 : arg4.IsWhole) (arg7 : Memref sig .tc .vmem S512x1024 .bf16) (harg7 : arg7.IsWhole)
    (arg8 : Memref sig .tc .vmem S1024x3584 .bf16) (harg8 : arg8.IsWhole) (arg9 : Memref sig .tc .vmem S1024x3584 .bf16) (harg9 : arg9.IsWhole) (arg10 : Memref sig .tc .vmem S3584x1024 .bf16) (harg10 : arg10.IsWhole)
    (arg11 : Memref sig .tc .vmem S2x1024x512 .f32) (harg11 : arg11.IsWhole) (arg12 : Memref sig .tc .vmem S2x1024x512 .f32) (harg12 : arg12.IsWhole) (arg13 : Memref sig .tc .vmem S2x512x1024 .f32) (harg13 : arg13.IsWhole)
    (arg15 : Memref sig .tc .vmem S512x1024 .f32) (harg15 : arg15.IsWhole)
    (x0 : Vec F S512x1024 .bf16) (g0 g1 : Vec F S1024x3584 .bf16) (g2 : Vec F S3584x1024 .bf16)
    (xt0 : TbBuf0 (F := F) c tbM0_0) (xt1 : TbBuf0 (F := F) c tbM0_1) (xt2 : TbBuf0 (F := F) c tbM0_2)
    (hw : k0_chk1 (word0 c i tbM0_0 xt0) (word0 c i tbM0_1 xt1) (word0 c i tbM0_2 xt2))
    (h1 : ¬ k0_cond1 (word0 c i tbM0_1 xt1) (word0 c i tbM0_2 xt2) = 1#1) (h2 : k0_cond2 (word0 c i tbM0_1 xt1) (word0 c i tbM0_2 xt2) = 1#1) (h3 : ¬ k0_cond3 (word0 c i tbM0_1 xt1) = 1#1) :
    ∀ (W : Waits sig Unit) (K : PUnit → sProp 𝕄),
        iprop(owns (c : Thread nD τ) arg4 fullShare x0 ∗ some0 c arg7 ∗ owns (c : Thread nD τ) arg8 fullShare g0 ∗ owns (c : Thread nD τ) arg9 fullShare g1 ∗ owns (c : Thread nD τ) arg10 fullShare g2 ∗ some0 c arg15
            ∗ tbPt0 c tbM0_0 xt0 ∗ tbPt0 c tbM0_1 xt1 ∗ tbPt0 c tbM0_2 xt2 ∗ owes (c : Thread nD τ) 0 W
            ∗ (iprop(owns (c : Thread nD τ) arg4 fullShare x0 ∗ owns (c : Thread nD τ) arg7 fullShare (outV x0 g0 g1 g2)
                ∗ owns (c : Thread nD τ) arg8 fullShare g0 ∗ owns (c : Thread nD τ) arg9 fullShare g1 ∗ owns (c : Thread nD τ) arg10 fullShare g2
                ∗ some0 c arg15
                ∗ tbPt0 c tbM0_0 xt0 ∗ tbPt0 c tbM0_1 xt1 ∗ tbPt0 c tbM0_2 xt2 ∗ (∃ W', owes (c : Thread nD τ) 0 W')) -∗ K ⟨⟩))
          ⊢ wp frame (wpE (defs₀ (F := F)) Variants.none c none) Set.univ (cc0_ffn_moe i tbM0_0 htbM0_0 tbM0_1 htbM0_1 tbM0_2 htbM0_2 arg4 harg4 hbM0_0 (Memref.isWhole_whole _) hbM0_1 (Memref.isWhole_whole _) arg7 harg7 arg8 harg8 arg9 harg9 arg10 harg10 arg11 harg11 arg12 harg12 arg13 harg13 cc0_scratch6 arg15 harg15) K := by
  intro W K
  simp only [cc0_ffn_moe_eq_skeleton]; unfold cc0_ffn_moe_skel
  simp only [k0_part19_eq_skeleton, k0_part20_eq_skeleton, k0_part21_eq_skeleton]
  unfold some0 owns
  iintro ⟨⟨%f0, %hf0, H0⟩, ⟨%d1, %f1, -, H1⟩, ⟨%e0, %he0, HS0⟩, ⟨%e1, %he1, HS1⟩, ⟨%e2, %he2, HS2⟩, ⟨%ds6, %fs6, -, HS6⟩, HT0, HT1, HT2, HW, Hk⟩
  obtain rfl := harg4.eq_unread hf0
  obtain rfl := harg8.eq_unread he0
  obtain rfl := harg9.eq_unread he1
  obtain rfl := harg10.eq_unread he2
  sl_exec (disch := first | sl_exact hw | sl_exact h1 | sl_exact h2 | sl_exact h3)
  sl_step
  iapply Hk
  isplitl [H0]
  · iexists _; isplitr; · ipureintro; exact harg4.read_unread _
    iexact H0
  isplitl [H1]
  · iexists _; isplitr; swap; · iexact H1
    ipureintro
    refine (tile_all _ _ _ _ _).trans ?_
    delta runB.sl.v128 runB.sl.HS6_7
    rw [View.readCov_cons_toLoadRect]
    delta runB.sl.v123 runB.sl.HS6_6
    rw [View.readCov_cons_toLoadRect]
    delta runB.sl.v107 runB.sl.HS6_5
    rw [View.readCov_cons_toLoadRect]
    delta runB.sl.v91 runB.sl.HS6_4
    rw [View.readCov_cons_toLoadRect]
    delta runB.sl.r_3 runB.sl.r_4
    delta runB.sl.v75 runB.sl.HS6_3
    rw [View.readCov_cons_toLoadRect]
    delta runB.sl.v59 runB.sl.HS6_2
    rw [View.readCov_cons_toLoadRect]
    delta runB.sl.v43 runB.sl.HS6_1
    rw [View.readCov_cons_toLoadRect]
    simp only [rd_whole, rd_col, rd_row]
    simp only [k0_pay2, k0_pay3, k0_pay4, k0_pay41, k0_pay42, k0_pay43, k0_pay44, k0_pay45, k0_pay46, k0_pay47, shapeCast_self]
    rfl
  isplitl [HS0]
  · iexists _; isplitr; · ipureintro; exact harg8.read_unread _
    iexact HS0
  isplitl [HS1]
  · iexists _; isplitr; · ipureintro; exact harg9.read_unread _
    iexact HS1
  isplitl [HS2]
  · iexists _; isplitr; · ipureintro; exact harg10.read_unread _
    iexact HS2
  isplitl [HS6]
  · iexists _; iexists _; isplitr; swap; · iexact HS6
    ipureintro; rfl
  isplitl [HT0]; · iexact HT0
  isplitl [HT1]; · iexact HT1
  isplitl [HT2]; · iexact HT2
  iexists _; iexact HW

end Cert.MoeIdeal.Gen

end
-- ==== Proof.MoeRunC.lean ====
/- The expert call at a point whose tile holds no rows. -/
module

public import proofs.«01_k».proof.Proof.MoeVal

@[expose] public section

set_option maxRecDepth 16384

noncomputable section

namespace Cert.MoeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

/-- The body where the tile is empty: it stores zeros and touches nothing else. -/
theorem runC (c : Dev nD) (i : grid0.Coords) (arg4 : Memref sig .tc .vmem S512x1024 .bf16) (harg4 : arg4.IsWhole) (arg7 : Memref sig .tc .vmem S512x1024 .bf16) (harg7 : arg7.IsWhole)
    (arg8 : Memref sig .tc .vmem S1024x3584 .bf16) (harg8 : arg8.IsWhole) (arg9 : Memref sig .tc .vmem S1024x3584 .bf16) (harg9 : arg9.IsWhole) (arg10 : Memref sig .tc .vmem S3584x1024 .bf16) (harg10 : arg10.IsWhole)
    (arg11 : Memref sig .tc .vmem S2x1024x512 .f32) (harg11 : arg11.IsWhole) (arg12 : Memref sig .tc .vmem S2x1024x512 .f32) (harg12 : arg12.IsWhole) (arg13 : Memref sig .tc .vmem S2x512x1024 .f32) (harg13 : arg13.IsWhole)
    (arg15 : Memref sig .tc .vmem S512x1024 .f32) (harg15 : arg15.IsWhole)
    (xt0 : TbBuf0 (F := F) c tbM0_0) (xt1 : TbBuf0 (F := F) c tbM0_1) (xt2 : TbBuf0 (F := F) c tbM0_2)
    (hw : k0_chk1 (word0 c i tbM0_0 xt0) (word0 c i tbM0_1 xt1) (word0 c i tbM0_2 xt2))
    (h1 : ¬ k0_cond1 (word0 c i tbM0_1 xt1) (word0 c i tbM0_2 xt2) = 1#1) (h2 : ¬ k0_cond2 (word0 c i tbM0_1 xt1) (word0 c i tbM0_2 xt2) = 1#1) (h3 : k0_cond3 (word0 c i tbM0_1 xt1) = 1#1) :
    ∀ (W : Waits sig Unit) (K : PUnit → sProp 𝕄),
        iprop(some0 c arg7 ∗ tbPt0 c tbM0_0 xt0 ∗ tbPt0 c tbM0_1 xt1 ∗ tbPt0 c tbM0_2 xt2 ∗ owes (c : Thread nD τ) 0 W
            ∗ (iprop(owns (c : Thread nD τ) arg7 fullShare (k0_pay5 (F := F)) ∗ tbPt0 c tbM0_0 xt0 ∗ tbPt0 c tbM0_1 xt1 ∗ tbPt0 c tbM0_2 xt2 ∗ (∃ W', owes (c : Thread nD τ) 0 W')) -∗ K ⟨⟩))
          ⊢ wp frame (wpE (defs₀ (F := F)) Variants.none c none) Set.univ (cc0_ffn_moe i tbM0_0 htbM0_0 tbM0_1 htbM0_1 tbM0_2 htbM0_2 arg4 harg4 hbM0_0 (Memref.isWhole_whole _) hbM0_1 (Memref.isWhole_whole _) arg7 harg7 arg8 harg8 arg9 harg9 arg10 harg10 arg11 harg11 arg12 harg12 arg13 harg13 cc0_scratch6 arg15 harg15) K := by
  intro W K
  simp only [cc0_ffn_moe_eq_skeleton]; unfold cc0_ffn_moe_skel
  unfold some0 owns
  iintro ⟨⟨%d1, %f1, -, H1⟩, HT0, HT1, HT2, HW, Hk⟩
  sl_exec (disch := first | sl_exact hw | sl_exact h1 | sl_exact h2 | sl_exact h3)
  sl_step
  iapply Hk
  isplitl [H1]
  · iexists _; isplitr; swap; · iexact H1
    ipureintro
    exact tile_all _ _ _ _ _
  isplitl [HT0]; · iexact HT0
  isplitl [HT1]; · iexact HT1
  isplitl [HT2]; · iexact HT2
  iexists _; iexact HW

end Cert.MoeIdeal.Gen

end
-- ==== Proof.MoeFrame.lean ====
/- The expert call's launch: the caches between the points, what each point leaves, the frame. -/
module

public import proofs.«01_k».proof.Proof.MoeRunA
public import proofs.«01_k».proof.Proof.MoeRunB
public import proofs.«01_k».proof.Proof.MoeRunC
public import Idealize.ShloMosaic.Lib.Claim

@[expose] public section

set_option maxRecDepth 16384

noncomputable section

namespace Cert.MoeIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

local notation "𝕄" => MT nD τ sig Unit (Elt F) ℕ (Pipeline.UD sig nD τ) ℕ

variable (m : (ℓ : Loc nD τ sig) → Buf (Elt F) ℓ) (ρ : Dev nD → PrngReg)

/-! ## The three words of a point, and the branch they choose -/

/-- The head branch: a valid tile, the first of its group. -/
theorem cond1_iff (v h : BitVec 32) : k0_cond1 v h = 1#1 ↔ v ≠ 0#32 ∧ h ≠ 0#32 := by
  by_cases hv : v = 0#32 <;> by_cases hh : h = 0#32 <;>
    simp [k0_cond1, Scalar.cmpi, Scalar.andi, Scalar.extui, WordCmp.cmpi_ne_eq, hv, hh] <;> decide
/-- The branch of a valid tile that is not the first of its group. -/
theorem cond2_iff (v h : BitVec 32) : k0_cond2 v h = 1#1 ↔ v ≠ 0#32 ∧ h = 0#32 := by
  by_cases hv : v = 0#32 <;> by_cases hh : h = 0#32 <;>
    simp [k0_cond2, Scalar.cmpi, Scalar.andi, Scalar.xori, Scalar.extui, WordCmp.cmpi_ne_eq, hv, hh] <;> decide
/-- The branch of an empty tile. -/
theorem cond3_iff (v : BitVec 32) : k0_cond3 v = 1#1 ↔ v = 0#32 := by
  by_cases hv : v = 0#32 <;> simp [k0_cond3, Scalar.cmpi, Scalar.xori, Scalar.extui, WordCmp.cmpi_ne_eq, hv] <;> decide

/-- An expert's index within the sixteen keeps every copy inside the weights. -/
theorem chk_of_lt (v1 v3 v6 : BitVec 32) (h : v1.toNat < 16) : k0_chk1 v1 v3 v6 := by
  unfold k0_chk1
  refine ⟨?_, ?_, ?_, ?_, ?_, ?_, ?_, ?_, ?_, ?_, ?_, ?_, ?_, ?_, ?_, ?_, ?_, ?_, ?_, ?_, ?_⟩ <;>
    intro _ a <;> fin_cases a <;>
    simp [k0_off2, k0_off3, k0_off4, k0_off5, k0_off6, k0_off7, k0_off8, k0_off9, k0_off10, k0_off11, k0_off12, k0_off13, k0_off14, k0_off15,
      k0_off16, k0_off17, k0_off18, k0_off19, k0_off20, k0_off21, k0_off22] <;> omega

/-- Point `n` of the grid. -/
def pt (n : ℕ) : Fin grid0.N := ⟨min n 71, by rw [N_0]; omega⟩
theorem pt_val (t : Fin grid0.N) : pt t.val = t := Fin.ext (by have h : t.val < 72 := lt_of_lt_of_eq t.isLt N_0; simp [pt]; omega)

def wE (n : ℕ) : BitVec 32 := word0 0 (grid0.coords (pt n)) tbM0_0 (tbl m 0)
def wV (n : ℕ) : BitVec 32 := word0 0 (grid0.coords (pt n)) tbM0_1 (tbl m 1)
def wH (n : ℕ) : BitVec 32 := word0 0 (grid0.coords (pt n)) tbM0_2 (tbl m 2)
/-- The expert of point `n`'s tile. -/
def eAt (n : ℕ) : Fin 16 := ⟨(wE m n).toNat % 16, Nat.mod_lt _ (by decide)⟩

/-- What the tables must say: experts among the sixteen, and a tile that does not begin its group follows a valid tile of
    the same expert. -/
structure Tiles : Prop where
  lt : ∀ n, (wE m n).toNat < 16
  prev : ∀ n, n < 72 → wV m n ≠ 0#32 → wH m n = 0#32 → 0 < n ∧ wV m (n - 1) ≠ 0#32 ∧ eAt m (n - 1) = eAt m n

/-! ## The invariant and what each point leaves -/

abbrev gAt (c : Dev nD) (n : ℕ) : FVec F S1024x3584 .bf16 := gW (wts0 c (V m c main_arg3)) (eAt m n)
abbrev uAt (c : Dev nD) (n : ℕ) : FVec F S1024x3584 .bf16 := uW (wts0 c (V m c main_arg3)) (eAt m n)
abbrev dAt (c : Dev nD) (n : ℕ) : FVec F S3584x1024 .bf16 := dW (wts1 c (V m c main_arg4)) (eAt m n)

/-- After a valid tile the caches hold its expert's weights. -/
def Cached (c : Dev nD) (n : ℕ) (g u : Vec F S1024x3584 .bf16) (d : Vec F S3584x1024 .bf16) : Prop :=
  0 < n → wV m (n - 1) ≠ 0#32 → g = gAt m c (n - 1) ∧ u = uAt m c (n - 1) ∧ d = dAt m c (n - 1)

def Inv (c : Dev nD) (n : ℕ) : sProp 𝕄 :=
  iprop((∃ g u d, ⌜Cached m c n g u d⌝ ∗ owns (c : Thread nD τ) scM0_0 fullShare g ∗ owns (c : Thread nD τ) scM0_1 fullShare u ∗ owns (c : Thread nD τ) scM0_2 fullShare d)
    ∗ some0 c scM0_3 ∗ some0 c scM0_4 ∗ some0 c scM0_5 ∗ some0 c scM0_6 ∗ (∃ r, prngReg c r) ∗ cells0 c
    ∗ hbPt0 c hbM0_0 (V m c main_arg3) ∗ hbPt0 c hbM0_1 (V m c main_arg4) ∗ tbPt0 c tbM0_0 (tbl m 0) ∗ tbPt0 c tbM0_1 (tbl m 1) ∗ tbPt0 c tbM0_2 (tbl m 2))

theorem inv_in (c : Dev nD) : iprop(Pipeline.ΦD osem0 spec0 H0 (V m) c ∗ Pipeline.ΦT pre0 (tbl m) c) ⊢ (Inv m c 0 : sProp 𝕄) := by
  rw [PhiD0_eq, PhiT0_eq]; unfold Inv
  iintro ⟨⟨⟨⟨%g, HS0⟩, ⟨%u, HS1⟩, ⟨%d, HS2⟩, HS3, HS4, HS5, HS6⟩, Hg, Hq, ⟨Hh0, Hh1⟩⟩, ⟨HT0, HT1, HT2⟩⟩
  isplitl [HS0 HS1 HS2]
  · iexists g; iexists u; iexists d
    isplitr; · ipureintro; intro h; exact absurd h (lt_irrefl 0)
    isplitl [HS0]; · iexact HS0
    isplitl [HS1]; · iexact HS1
    iexact HS2
  isplitl [HS3]; · iexact HS3
  isplitl [HS4]; · iexact HS4
  isplitl [HS5]; · iexact HS5
  isplitl [HS6]; · iexact HS6
  isplitl [Hg]; · iexact Hg
  isplitl [Hq]; · iexact Hq
  isplitl [Hh0]; · iexact Hh0
  isplitl [Hh1]; · iexact Hh1
  isplitl [HT0]; · iexact HT0
  isplitl [HT1]; · iexact HT1
  iexact HT2

theorem inv_out (c : Dev nD) (n : ℕ) : (Inv m c n : sProp 𝕄) ⊢ Pipeline.ΦD osem0 spec0 H0 (V m) c := by
  rw [PhiD0_eq]; unfold Inv
  iintro ⟨⟨%g, %u, %d, -, HS0, HS1, HS2⟩, HS3, HS4, HS5, HS6, Hg, Hq, Hh0, Hh1, -⟩
  isplitl [HS0 HS1 HS2 HS3 HS4 HS5 HS6]
  · isplitl [HS0]; · iexists _; iexact HS0
    isplitl [HS1]; · iexists _; iexact HS1
    isplitl [HS2]; · iexists _; iexact HS2
    isplitl [HS3]; · iexact HS3
    isplitl [HS4]; · iexact HS4
    isplitl [HS5]; · iexact HS5
    iexact HS6
  isplitl [Hg]; · iexact Hg
  isplitl [Hq]; · iexact Hq
  isplitl [Hh0]; · iexact Hh0
  iexact Hh1

/-- What the output's staging buffer holds after point `t`. -/
def outAt (hO : Ok m) (c : Dev nD) (t : Fin (cfgM m hO).N) : Vec F S512x1024 .bf16 :=
  if wV m t.val = 0#32 then k0_pay5 (F := F) else outV (iblk m hO c 0 t) (gAt m c t.val) (uAt m c t.val) (dAt m c t.val)

/-- The proof data of the pipeline. -/
def dats (hO : Ok m) (_ : Fin 1) (c : Dev nD) : Dat τ (Elt F) Unit ℕ (Pipeline.UD sig nD τ) ℕ (cfgM m hO) c where
  A w := V m c (Pipeline.arrRef spec0 w)
  after w t := match w with
    | ⟨0, _⟩ => iblk m hO c 0 t
    | ⟨1, _⟩ => outAt m hO c t
  Φ n := Inv m c n.val
  q _ := fullShare
  owed _ := 0

theorem A_eq (hO : Ok m) (c : Dev nD) (w : Fin (cfgM m hO).W) : (dats m hO 0 c).A w = V m c (Pipeline.arrRef spec0 w) := by
  dsimp only [dats]
theorem after0_0 (hO : Ok m) (c : Dev nD) (t : Fin (cfgM m hO).N) : (dats m hO 0 c).after 0 t = iblk m hO c 0 t := by dsimp only [dats]; try rfl
theorem after0_1 (hO : Ok m) (c : Dev nD) (t : Fin (cfgM m hO).N) : (dats m hO 0 c).after 1 t = outAt m hO c t := by dsimp only [dats]; try rfl
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d

/-! ## The body at a point -/

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d)))

def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t))

set_option maxHeartbeats 1600000 in
/-- The body at any point, by the branch its words choose. -/
theorem sound_body (hO : Ok m) (hT : Tiles m) (c : Dev nD) (t : Fin (cfgM m hO).N) :
    bodyPre m hO c t ⊢ wp frame (wpE (defs₀ (F := F)) Variants.none c none) Set.univ (bodyAt0 (adm m hO) t) (fun _ => bodyPost m hO c t) := by
  obtain rfl : c = 0 := Subsingleton.elim _ _
  have hp : pt t.val = t := pt_val t
  have hE : word0 0 (grid0.coords t) tbM0_0 (tbl m 0) = wE m t.val := by unfold wE; rw [hp]
  have hV : word0 0 (grid0.coords t) tbM0_1 (tbl m 1) = wV m t.val := by unfold wV; rw [hp]
  have hH : word0 0 (grid0.coords t) tbM0_2 (tbl m 2) = wH m t.val := by unfold wH; rw [hp]
  have hw : k0_chk1 (word0 0 (grid0.coords t) tbM0_0 (tbl m 0)) (word0 0 (grid0.coords t) tbM0_1 (tbl m 1)) (word0 0 (grid0.coords t) tbM0_2 (tbl m 2)) :=
    chk_of_lt _ _ _ (by rw [hE]; exact hT.lt _)
  have he : (word0 0 (grid0.coords t) tbM0_0 (tbl m 0)).toNat = (eAt m t.val).val := by
    rw [hE]; exact (Nat.mod_eq_of_lt (hT.lt _)).symm
  unfold bodyPre bodyPost bodyAt0
  simp only [before0_0]
  rw [show (dats m hO 0 0).Φ t.castSucc = Inv m 0 t.val from rfl, show (dats m hO 0 0).Φ t.succ = Inv m 0 (t.val + 1) from rfl, after0_0, after0_1]
  unfold Dat.owesAt Pipeline.owesWithin
  rw [show (dats m hO 0 0).owed t.castSucc = 0 from rfl, show (dats m hO 0 0).owed t.succ = 0 from rfl]
  unfold Inv outAt
  by_cases hv : wV m t.val = 0#32
  · rw [if_pos hv]
    iintro ⟨⟨⟨%g, %u, %d, -, HS0, HS1, HS2⟩, HS3, HS4, HS5, HS6, Hg, Hq, Hh0, Hh1, HT0, HT1, HT2⟩, ⟨%W, -, HW⟩, ⟨%d0, H0⟩, ⟨%d1, H1⟩⟩
    iapply (runC 0 (grid0.coords t) (ms0_0 m hO t) (hs0_0 m hO t) (ms0_1 m hO t) (hs0_1 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (tbl m 0) (tbl m 1) (tbl m 2) hw
      (by rw [hV, hH, cond1_iff]; exact fun h => h.1 hv) (by rw [hV, hH, cond2_iff]; exact fun h => h.1 hv) (by rw [hV, cond3_iff]; exact hv) W _)
    isplitl [H1]; · iexists _; iexact H1
    isplitl [HT0]; · iexact HT0
    isplitl [HT1]; · iexact HT1
    isplitl [HT2]; · iexact HT2
    isplitl [HW]; · iexact HW
    iintro ⟨H1, HT0, HT1, HT2, ⟨%W', HW'⟩⟩
    isplitl [HS0 HS1 HS2 HS3 HS4 HS5 HS6 Hg Hq Hh0 Hh1 HT0 HT1 HT2]
    · isplitl [HS0 HS1 HS2]
      · iexists g; iexists u; iexists d
        isplitr; · ipureintro; intro _ h; exact absurd hv h
        isplitl [HS0]; · iexact HS0
        isplitl [HS1]; · iexact HS1
        iexact HS2
      isplitl [HS3]; · iexact HS3
      isplitl [HS4]; · iexact HS4
      isplitl [HS5]; · iexact HS5
      isplitl [HS6]; · iexact HS6
      isplitl [Hg]; · iexact Hg
      isplitl [Hq]; · iexact Hq
      isplitl [Hh0]; · iexact Hh0
      isplitl [Hh1]; · iexact Hh1
      isplitl [HT0]; · iexact HT0
      isplitl [HT1]; · iexact HT1
      iexact HT2
    isplitl [HW']
    · iexists W'; isplitr; · ipureintro; exact fun _ _ => Or.inl trivial
      iexact HW'
    isplitl [H0]; · iexact H0
    iexact H1
  rw [if_neg hv]
  by_cases hh : wH m t.val = 0#32
  · obtain ⟨h0, hpv, hpe⟩ := hT.prev t.val (lt_of_lt_of_eq t.isLt N_0) hv hh
    iintro ⟨⟨⟨%g, %u, %d, %hC, HS0, HS1, HS2⟩, HS3, HS4, HS5, HS6, Hg, Hq, Hh0, Hh1, HT0, HT1, HT2⟩, ⟨%W, -, HW⟩, ⟨%d0, H0⟩, ⟨%d1, H1⟩⟩
    obtain ⟨rfl, rfl, rfl⟩ := hC h0 hpv
    unfold gAt uAt dAt
    rw [hpe]
    iapply (runB 0 (grid0.coords t) (ms0_0 m hO t) (hs0_0 m hO t) (ms0_1 m hO t) (hs0_1 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m hO 0 0 t) _ _ _ (tbl m 0) (tbl m 1) (tbl m 2) hw
      (by rw [hV, hH, cond1_iff]; exact fun h => h.2 hh) (by rw [hV, hH, cond2_iff]; exact ⟨hv, hh⟩) (by rw [hV, cond3_iff]; exact hv) W _)
    isplitl [H0]; · iexact H0
    isplitl [H1]; · iexists _; iexact H1
    isplitl [HS0]; · iexact HS0
    isplitl [HS1]; · iexact HS1
    isplitl [HS2]; · iexact HS2
    isplitl [HS6]; · iexact HS6
    isplitl [HT0]; · iexact HT0
    isplitl [HT1]; · iexact HT1
    isplitl [HT2]; · iexact HT2
    isplitl [HW]; · iexact HW
    iintro ⟨H0, H1, HS0, HS1, HS2, HS6, HT0, HT1, HT2, ⟨%W', HW'⟩⟩
    isplitl [HS0 HS1 HS2 HS3 HS4 HS5 HS6 Hg Hq Hh0 Hh1 HT0 HT1 HT2]
    · isplitl [HS0 HS1 HS2]
      · iexists _; iexists _; iexists _
        isplitr; swap
        · isplitl [HS0]; · iexact HS0
          isplitl [HS1]; · iexact HS1
          iexact HS2
        ipureintro; intro _ _; exact ⟨rfl, rfl, rfl⟩
      isplitl [HS3]; · iexact HS3
      isplitl [HS4]; · iexact HS4
      isplitl [HS5]; · iexact HS5
      isplitl [HS6]; · iexact HS6
      isplitl [Hg]; · iexact Hg
      isplitl [Hq]; · iexact Hq
      isplitl [Hh0]; · iexact Hh0
      isplitl [Hh1]; · iexact Hh1
      isplitl [HT0]; · iexact HT0
      isplitl [HT1]; · iexact HT1
      iexact HT2
    isplitl [HW']
    · iexists W'; isplitr; · ipureintro; exact fun _ _ => Or.inl trivial
      iexact HW'
    isplitl [H0]; · iexact H0
    iexact H1
  · iintro ⟨⟨⟨%g, %u, %d, -, HS0, HS1, HS2⟩, HS3, HS4, HS5, HS6, Hg, ⟨Hq0, Hq1, Hq2, Hq3, Hq4, Hq5⟩, Hh0, Hh1, HT0, HT1, HT2⟩, ⟨%W, -, HW⟩, ⟨%d0, H0⟩, ⟨%d1, H1⟩⟩
    iapply (runA 0 (grid0.coords t) (ms0_0 m hO t) (hs0_0 m hO t) (ms0_1 m hO t) (hs0_1 m hO t) scM0_0 (Memref.isWhole_whole _) scM0_1 (Memref.isWhole_whole _) scM0_2 (Memref.isWhole_whole _) scM0_3 (Memref.isWhole_whole _) scM0_4 (Memref.isWhole_whole _) scM0_5 (Memref.isWhole_whole _) scM0_6 (Memref.isWhole_whole _) (iblk m hO 0 0 t) (tbl m 0) (tbl m 1) (tbl m 2) (V m 0 main_arg3) (V m 0 main_arg4)
      (eAt m t.val) he hw (by rw [hV, hH, cond1_iff]; exact ⟨hv, hh⟩) (by rw [hV, hH, cond2_iff]; exact fun h => hh h.2) (by rw [hV, cond3_iff]; exact hv) W _)
    isplitl [H0]; · iexact H0
    isplitl [H1]; · iexists _; iexact H1
    isplitl [HS0]; · iexists _; iexact HS0
    isplitl [HS1]; · iexists _; iexact HS1
    isplitl [HS2]; · iexists _; iexact HS2
    isplitl [HS3]; · iexact HS3
    isplitl [HS4]; · iexact HS4
    isplitl [HS5]; · iexact HS5
    isplitl [HS6]; · iexact HS6
    isplitl [HT0]; · iexact HT0
    isplitl [HT1]; · iexact HT1
    isplitl [HT2]; · iexact HT2
    isplitl [Hq0]; · iexact Hq0
    isplitl [Hq1]; · iexact Hq1
    isplitl [Hq2]; · iexact Hq2
    isplitl [Hq3]; · iexact Hq3
    isplitl [Hq4]; · iexact Hq4
    isplitl [Hq5]; · iexact Hq5
    isplitl [Hh0]; · iexact Hh0
    isplitl [Hh1]; · iexact Hh1
    isplitl [HW]; · iexact HW
    iintro ⟨H0, H1, HS0, HS1, HS2, HS3, HS4, HS5, HS6, HT0, HT1, HT2, Hq0, Hq1, Hq2, Hq3, Hq4, Hq5, Hh0, Hh1, ⟨%W', HW'⟩⟩
    isplitl [HS0 HS1 HS2 HS3 HS4 HS5 HS6 Hg Hq0 Hq1 Hq2 Hq3 Hq4 Hq5 Hh0 Hh1 HT0 HT1 HT2]
    · isplitl [HS0 HS1 HS2]
      · iexists _; iexists _; iexists _
        isplitr; swap
        · isplitl [HS0]; · iexact HS0
          isplitl [HS1]; · iexact HS1
          iexact HS2
        ipureintro; intro _ _; exact ⟨rfl, rfl, rfl⟩
      isplitl [HS3]; · iexact HS3
      isplitl [HS4]; · iexact HS4
      isplitl [HS5]; · iexact HS5
      isplitl [HS6]; · iexact HS6
      isplitl [Hg]; · iexact Hg
      isplitl [Hq0 Hq1 Hq2 Hq3 Hq4 Hq5]
      · isplitl [Hq0]; · iexact Hq0
        isplitl [Hq1]; · iexact Hq1
        isplitl [Hq2]; · iexact Hq2
        isplitl [Hq3]; · iexact Hq3
        isplitl [Hq4]; · iexact Hq4
        iexact Hq5
      isplitl [Hh0]; · iexact Hh0
      isplitl [Hh1]; · iexact Hh1
      isplitl [HT0]; · iexact HT0
      isplitl [HT1]; · iexact HT1
      iexact HT2
    isplitl [HW']
    · iexists W'; isplitr; · ipureintro; exact fun _ _ => Or.inl trivial
      iexact HW'
    isplitl [H0]; · iexact H0
    iexact H1

/-- Every point writes its block back. -/
theorem flush0_1 (a : (pcfg0 (F := F)).Adm) : ∀ t : Fin (cfg0 a).N, ((cfg0 a).win 1).flush t = true :=
  (fun t => (Pipeline.Window.flushOf_reads cc0_transform_3 reads0_1 hreads0_1 0 (by decide) (by decide) (Pipeline.Window.sep_of_coord cc0_transform_3 0 0 (fun _ => rfl) (by decide)) (P := 1) (m := 0) (by decide) rfl t).mpr (Nat.mod_one _) : ∀ t : Fin grid0.N, Pipeline.Window.flushOf grid0 true cc0_transform_3 t = true)

theorem body_obligation (hO : Ok m) (hT : Tiles m) (c : Dev nD) : BodyObligation (dats (F := F) m hO 0 c) (defs₀ (F := F)) Variants.none () Set.univ := fun t => by
  rw [bigSep_W0, bigSep_W0, defs₀_row m hO]
  refine triple_restated (sound_body m hO hT c t) rfl .rfl fun _ => ?_
  have hf : ((pcfg0 (F := F)).win (adm m hO) 1).flush t = true := flush0_1 (adm m hO) t
  dsimp only
  split
  · split
    · rename_i h; exact absurd (hf.symm.trans h) (by decide)
    · exact .rfl
  · exact .rfl

/-! ## The run and the frame -/

set_option backward.isDefEq.respectTransparency.types false in
/-- The launch: every array as the proof data says, every counter at zero. -/
theorem run_main_quiescent (hO : Ok m) (hT : Tiles m) : θ_run defs (onTc (τ := τ) (main (F := F))) (s₀ m ρ) (fun r => (Pipeline.FramePost (Pipeline.pin pcfgs fun _ => adm m hO) (dats m hO) 0 (V m)) r ∧ r.2.sem = fun _ => 0) :=
  Pipeline.θ_run_frameP_dma (Q' := _) pcfgs (fun _ => adm m hO) (dats m hO) (0 : Fin 1) launch0 osem0 defs₀ Variants.none ownSemFacts0 H0 H0_sub m ρ main
    (hbody := fun c => (body_obligation m hO hT c).loose) (hshare := fun c => (dats m hO 0 c).share_full fun _ => rfl)
    (howed := fun _ _ => rfl) (V := V m) (hmain := hmain m Variants.none) (hA := A_eq m hO) (hpf := V_pre m)
    (hin := fun c => inv_in m c) (hout := fun c => inv_out m c _)

/-- The frame, with the output array at its read-off. -/
theorem run_value (hO : Ok m) (hT : Tiles m) : θ_run defs (onTc (τ := τ) (main (F := F))) ⟨m, fun _ => 0, ρ⟩ (fun r => (∀ c : Dev nD,
      (r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.mem ((c.tc : Thread nD τ).loc (Pipeline.arrRef spec0 1)) = (dats m hO 0 c).arrAt 1 (cfgM m hO).N)
      ∧ r.2.sem = fun _ => 0) :=
  (θ_run defs _ _).mono (fun _ h => ⟨fun c => ⟨⟨((h.1 c).2 main_arg0 (by decide : main_arg0 ∈ Pipeline.restRefs sig spec0)).trans (V_main_arg0 m c),
      ((h.1 c).2 main_arg1 (by decide : main_arg1 ∈ Pipeline.restRefs sig spec0)).trans (V_main_arg1 m c),
      ((h.1 c).1 0).trans (((dats m hO 0 c).arrAt_in 0 rfl _).trans ((A_eq m hO c 0).trans (V_main_arg2 m c))),
      ((h.1 c).2 main_arg3 (by decide : main_arg3 ∈ Pipeline.restRefs sig spec0)).trans (V_main_arg3 m c),
      ((h.1 c).2 main_arg4 (by decide : main_arg4 ∈ Pipeline.restRefs sig spec0)).trans (V_main_arg4 m c)⟩, (h.1 c).1 1⟩, h.2⟩) (run_main_quiescent m ρ hO hT)

end Cert.MoeIdeal.Gen

end
-- ==== Proof.MoeTiles.lean ====
/- What the tables of the expert call say of the routing arguments, and what the precondition gives. -/
module

public import proofs.«01_k».proof.Proof.MoeFrame
public import proofs.«01_k».proof.Defs
public import proofs.«01_k».proof.Proof.Gen.Pre_tiles
public import Idealize.ShloMosaic.Lib.Pointwise
public import Idealize.ShloMosaic.Lib.ReduceAll
public import Idealize.ShloMosaic.Lib.StableHlo.ReadAt

@[expose] public section

set_option maxRecDepth 16384

noncomputable section

namespace Cert.MoeIdeal.Gen

open Idealize.ShloMosaic Idealize.ShloMosaic.TcCoe Idealize.SL.Sem StableHlo

variable {F : FTy → Type} [FloatOps F]
variable (m : (ℓ : Loc nD τ sig) → Buf (Elt F) ℓ)

/-! ## The words of a point in the routing arguments -/

/-- The expert of each tile, and whether the tile is in use. -/
abbrev eids (c : Dev nD) : IVec S72 32 := m ((c : Thread nD τ).loc main_arg0)
abbrev vals (c : Dev nD) : IVec S72 32 := m ((c : Thread nD τ).loc main_arg1)
/-- The flags of the tiles that begin a group. -/
abbrev heads (c : Dev nD) : IVec S72 32 := V m c main_v7

theorem off1_val : ∀ t : Fin grid0.N, k0_off1 (grid0.coords t) = ![t.val] := by decide +kernel

theorem idx_at (n : ℕ) (hn : n < 72) (x : S1.Idx) (inb) (a : Fin 1) :
    ((Rect.unit (s := S72) (k0_off1 (grid0.coords (pt n))) S1.size inb).emb x a).val = n := by
  have h : (pt n).val = n := by simp [pt]; omega
  have e := (emb_unit _ _ inb x a).trans (congrArg (· + (x a).val) (congrFun (off1_val (pt n)) a))
  rw [e, h]
  match a with
  | ⟨0, _⟩ =>
    have : (x 0).val < 1 := (x 0).isLt
    show n + (x 0).val = n
    omega

theorem wE_eq (n : ℕ) (hn : n < 72) : wE m n = eids m 0 (ix1 ⟨n, hn⟩) :=
  Eq.trans (congrFun (V_main_arg0 m 0) _) (congrArg (eids m 0) (funext fun a => Fin.ext (by
    match a with
    | ⟨0, _⟩ => exact idx_at n hn _ _ 0)))
theorem wV_eq (n : ℕ) (hn : n < 72) : wV m n = vals m 0 (ix1 ⟨n, hn⟩) :=
  Eq.trans (congrFun (V_main_arg1 m 0) _) (congrArg (vals m 0) (funext fun a => Fin.ext (by
    match a with
    | ⟨0, _⟩ => exact idx_at n hn _ _ 0)))
theorem wH_eq (n : ℕ) (hn : n < 72) : wH m n = heads m 0 (ix1 ⟨n, hn⟩) :=
  congrArg (heads m 0) (funext fun a => Fin.ext (by
    match a with
    | ⟨0, _⟩ => exact idx_at n hn _ _ 0))

/-- A flag as the host computes it. -/
theorem flag_eq (v e p : BitVec 32) :
    BitVec.setWidth 32 (IntOp.andi (IntOp.cmpi CmpIPredicate.ne v 0#32) (IntOp.cmpi CmpIPredicate.ne e p)) = if v ≠ 0#32 ∧ e ≠ p then 1#32 else 0#32 := by
  rw [WordCmp.cmpi_ne_eq, WordCmp.cmpi_ne_eq, WordCmp.andi_ofBool]
  by_cases hv : v = 0#32 <;> by_cases he : e = p <;> simp [hv, he]

theorem heads_first : heads m 0 (ix1 0) = (if vals m 0 (ix1 0) ≠ 0#32 ∧ eids m 0 (ix1 0) ≠ 4294967295#32 then 1#32 else 0#32) := by
  after_reads_at
  rw [flag_eq]
  after_reads_at

theorem heads_next (n : ℕ) (hn : n + 1 < 72) : heads m 0 (ix1 ⟨n + 1, hn⟩) = (if vals m 0 (ix1 ⟨n + 1, hn⟩) ≠ 0#32 ∧ eids m 0 (ix1 ⟨n + 1, hn⟩) ≠ eids m 0 (ix1 ⟨n, by omega⟩) then 1#32 else 0#32) := by
  after_reads_at
  rw [flag_eq, dif_neg (by omega)]
  after_reads_at
  rfl

/-! ## The precondition -/

instance : Subsingleton (Cert.Pre_tiles.S_).Idx := ⟨fun a b => by funext i; exact i.elim0⟩

section
open Cert.Pre_tiles
variable (x0 x1 : IVec S72 32) (x2 : FVec F S36864x1024 .bf16) (x3 : FVec F S16x1024x7168 .f32) (x4 : FVec F S16x3584x1024 .f32)

/-- Every tile's expert is one of the sixteen. -/
theorem pre_lt (h : (fn (F := F) x0 x1 x2 x3 x4).1 = fun _ => 1#1) (n : Fin 72) : (x0 (ix1 n)).toNat < 16 := by
  unfold fn at h
  dsimp only at h
  have h' := Host.reduce_andi_all _ _ _ _ Idealize.ShloMosaic.ix0 (congrFun h Idealize.ShloMosaic.ix0) (ix1 n)
  have h'' : IntOp.andi (IntOp.cmpi .sge (x0 (ix1 n)) 0#32) (IntOp.cmpi .slt (x0 (ix1 n)) 16#32) = 1#1 := h'
  rw [show (16#32 : BitVec 32) = BitVec.ofNat 32 16 from rfl, WordCmp.andi_sge_zero_slt_ofNat (by decide)] at h''
  rw [WordCmp.ofBool_decide_eq_one_iff] at h''
  exact h''

/-- The tiles in use come first. -/
theorem pre_prefix (h : (fn (F := F) x0 x1 x2 x3 x4).2 = fun _ => 1#1) (n : ℕ) (hn : n + 1 < 72) (hv : x1 (ix1 ⟨n + 1, hn⟩) ≠ 0#32) :
    x1 (ix1 ⟨n, by omega⟩) ≠ 0#32 := by
  unfold fn at h
  dsimp only at h
  have h' := Host.reduce_andi_all _ _ _ _ Idealize.ShloMosaic.ix0 (congrFun h Idealize.ShloMosaic.ix0) (ix1 (⟨n, by omega⟩ : Fin 71))
  have e1 : extractStridedSlice S71 ![1] x1 Facts.slices_S72_S71_1 (ix1 (⟨n, by omega⟩ : Fin 71)) = x1 (ix1 ⟨n + 1, hn⟩) := by
    pointwise
    congr 2; exact Fin.ext (by show 1 + n = n + 1; omega)
  have e0 : extractStridedSlice S71 ![0] x1 Facts.slices_S72_S71_0 (ix1 (⟨n, by omega⟩ : Fin 71)) = x1 (ix1 ⟨n, by omega⟩) := by
    pointwise
  have h'' : IntOp.ori (IntOp.cmpi .eq (extractStridedSlice S71 ![1] x1 Facts.slices_S72_S71_1 (ix1 (⟨n, by omega⟩ : Fin 71))) 0#32)
      (IntOp.cmpi .ne (extractStridedSlice S71 ![0] x1 Facts.slices_S72_S71_0 (ix1 (⟨n, by omega⟩ : Fin 71))) 0#32) = 1#1 := h'
  rw [e0, e1, WordCmp.cmpi_eq_eq, WordCmp.cmpi_ne_eq, WordCmp.ori_ofBool, WordCmp.ofBool_eq_one_iff] at h''
  simpa [hv] using h''

end

/-- The tables of arguments the precondition admits. -/
theorem tiles_of (h1 : (Cert.Pre_tiles.fn (F := F) (eids m 0) (vals m 0) (m (((0 : Dev nD) : Thread nD τ).loc main_arg2)) (m (((0 : Dev nD) : Thread nD τ).loc main_arg3)) (m (((0 : Dev nD) : Thread nD τ).loc main_arg4))).1 = fun _ => 1#1)
    (h2 : (Cert.Pre_tiles.fn (F := F) (eids m 0) (vals m 0) (m (((0 : Dev nD) : Thread nD τ).loc main_arg2)) (m (((0 : Dev nD) : Thread nD τ).loc main_arg3)) (m (((0 : Dev nD) : Thread nD τ).loc main_arg4))).2 = fun _ => 1#1) :
    Tiles m := by
  have hl := pre_lt _ _ _ _ _ h1
  refine ⟨fun n => ?_, fun n hn hv hh => ?_⟩
  · have hp : pt n = pt (min n 71) := by simp [pt]
    unfold wE
    rw [hp]
    exact (congrArg BitVec.toNat (wE_eq m (min n 71) (by omega))).trans_lt (hl _)
  · rw [wV_eq m n hn] at hv
    rw [wH_eq m n hn] at hh
    obtain _ | n := n
    · have h := hh.symm.trans (heads_first m)
      rw [if_pos ⟨hv, fun e => by have := hl 0; rw [e] at this; exact absurd this (by decide)⟩] at h
      exact absurd h (by decide)
    · have hp := pre_prefix _ _ _ _ _ h2 n hn hv
      have h := hh.symm.trans (heads_next m n hn)
      have e : eids m 0 (ix1 ⟨n + 1, hn⟩) = eids m 0 (ix1 ⟨n, by omega⟩) := by
        by_contra he
        rw [if_pos ⟨hv, he⟩] at h
        exact absurd h (by decide)
      refine ⟨by omega, fun h0 => hp ((wV_eq m n (by omega)).symm.trans h0), Fin.ext ?_⟩
      show (wE m n).toNat % 16 = (wE m (n + 1)).toNat % 16
      rw [wE_eq m n (by omega), wE_eq m (n + 1) hn, e]

end Cert.MoeIdeal.Gen

end
-- ==== Proof.MoeOut.lean ====
/- The expert call's tile over the extended reals: the seven parts of the hidden layer are one sum. -/
module

public import proofs.«01_k».proof.Proof.MoeTiles

@[expose] public section

set_option maxRecDepth 16384

noncomputable section

namespace Cert.MoeIdeal.Gen

open Idealize.ShloMosaic Idealize.ShloMosaic.TcCoe Idealize.SL.Sem

/-- The hidden layer of one token, at one of its columns. -/
def act (x : Fin 1024 → EReal) (g u : Fin 1024 → EReal) : EReal :=
  (∑ q, x q * g q) * Ideal.logistic (∑ q, x q * g q) * ∑ q, x q * u q

theorem part_apply (x : FVec Ideal S512x1024 .bf16) (g u : FVec Ideal S1024x3584 .bf16) (d : FVec Ideal S3584x1024 .bf16) (o : ℕ) (ho : o + 512 ≤ 3584)
    (r : Fin 512) (j : Fin 1024) :
    part (F := Ideal) x g u d o ho (ix2 r j) = ∑ k : Fin 512, act (fun q => x (ix2 r q)) (fun q => g (ix2 q ⟨o + k.val, by omega⟩)) (fun q => u (ix2 q ⟨o + k.val, by omega⟩)) * d (ix2 ⟨o + k.val, by omega⟩ j) := by
  pointwise [part, con, hid]
  rfl

/-- Seven runs of 512 are one of 3584. -/
theorem sum_parts (h : Fin 3584 → EReal) :
    (∑ k : Fin 512, h ⟨0 + k.val, by omega⟩) + (∑ k : Fin 512, h ⟨512 + k.val, by omega⟩) + (∑ k : Fin 512, h ⟨1024 + k.val, by omega⟩)
      + (∑ k : Fin 512, h ⟨1536 + k.val, by omega⟩) + (∑ k : Fin 512, h ⟨2048 + k.val, by omega⟩) + (∑ k : Fin 512, h ⟨2560 + k.val, by omega⟩)
      + (∑ k : Fin 512, h ⟨3072 + k.val, by omega⟩) = ∑ f : Fin 3584, h f := by
  rw [← Equiv.sum_comp (finProdFinEquiv (m := 7) (n := 512)) h, Fintype.sum_prod_type, Fin.sum_univ_seven]
  have e : ∀ (p : Fin 7) (k : Fin 512) (o : ℕ) (hp : 512 * p.val = o) (hk : o + k.val < 3584), h ⟨o + k.val, hk⟩ = h (finProdFinEquiv (p, k)) := fun p k o hp hk =>
    congrArg h (Fin.ext (by show o + k.val = k.val + 512 * p.val; omega))
  exact congrArg₂ (· + ·) (congrArg₂ (· + ·) (congrArg₂ (· + ·) (congrArg₂ (· + ·) (congrArg₂ (· + ·) (congrArg₂ (· + ·)
    (Finset.sum_congr rfl fun k _ => e 0 k _ rfl _) (Finset.sum_congr rfl fun k _ => e 1 k _ rfl _)) (Finset.sum_congr rfl fun k _ => e 2 k _ rfl _))
    (Finset.sum_congr rfl fun k _ => e 3 k _ rfl _)) (Finset.sum_congr rfl fun k _ => e 4 k _ rfl _)) (Finset.sum_congr rfl fun k _ => e 5 k _ rfl _))
    (Finset.sum_congr rfl fun k _ => e 6 k _ rfl _)

/-- A tile in use. -/
theorem outV_apply (x : FVec Ideal S512x1024 .bf16) (g u : FVec Ideal S1024x3584 .bf16) (d : FVec Ideal S3584x1024 .bf16) (r : Fin 512) (j : Fin 1024) :
    outV (F := Ideal) x g u d (ix2 r j) = ∑ f : Fin 3584, act (fun q => x (ix2 r q)) (fun q => g (ix2 q f)) (fun q => u (ix2 q f)) * d (ix2 f j) := by
  unfold outV
  show (part (F := Ideal) x g u d 0 _ (ix2 r j) + part (F := Ideal) x g u d 512 _ (ix2 r j) + part (F := Ideal) x g u d 1024 _ (ix2 r j)
    + part (F := Ideal) x g u d 1536 _ (ix2 r j) + part (F := Ideal) x g u d 2048 _ (ix2 r j) + part (F := Ideal) x g u d 2560 _ (ix2 r j)
    + part (F := Ideal) x g u d 3072 _ (ix2 r j) : EReal) = _
  simp only [part_apply]
  exact sum_parts fun f => act (fun q => x (ix2 r q)) (fun q => g (ix2 q f)) (fun q => u (ix2 q f)) * d (ix2 f j)

/-- An empty tile is zero. -/
theorem pay5_apply (y : S512x1024.Idx) : (k0_pay5 (F := Ideal) : FVec Ideal S512x1024 .bf16) y = (0 : EReal) := by
  pointwise [k0_pay5]

end Cert.MoeIdeal.Gen

end
-- ==== Proof.MoeRef.lean ====
/- The expert reference over the extended reals: each token's row is its tile's expert at that row. -/
module

public import proofs.«01_k».proof.Proof.MoeOut
public import proofs.«01_k».proof.Proof.Consts
public import proofs.«01_k».proof.Proof.Gen.MoeReferenceIdeal.Read

@[expose] public section

set_option maxRecDepth 16384

noncomputable section

namespace Cert.MoeSpec

open Idealize.ShloMosaic Idealize.ShloMosaic.TcCoe Idealize.SL.Sem
open Cert.MoeReferenceIdeal Cert.MoeReferenceIdeal.Read
open Cert.MoeIdeal.Gen (act)

variable (x0 x1 : IVec S72 32) (x2 : FVec Ideal S36864x1024 .bf16) (x3 : FVec Ideal S16x1024x7168 .f32) (x4 : FVec Ideal S16x3584x1024 .f32)

/-- One expert at one token. -/
def expert (e : Fin 16) (R : Fin 36864) (j : Fin 1024) : EReal :=
  ∑ f : Fin 3584, act (fun q => x2 (ix2 R q)) (fun q => x3 (ix3 e q ⟨f.val, by omega⟩)) (fun q => x3 (ix3 e q ⟨3584 + f.val, by omega⟩)) * x4 (ix3 e f j)

/-- The tile of a token. -/
def tileOf (R : Fin 36864) : Fin 72 := ⟨R.val / 512, by omega⟩

/-- The layer: the tile's expert where the tile is in use, zero elsewhere. -/
def layer (R : Fin 36864) (j : Fin 1024) : EReal :=
  if x1 (ix1 (tileOf R)) = 0#32 then 0 else expert x2 x3 x4 ⟨(x0 (ix1 (tileOf R))).toNat % 16, Nat.mod_lt _ (by decide)⟩ R j

theorem proj (R : Fin 36864) (e : Fin 16) (f : Fin 7168) :
    val_main_v1 (F := Ideal) x2 x3 (ix3 R e f) = ∑ q : Fin 1024, x2 (ix2 R q) * x3 (ix3 e q f) := by
  rw [val_main_v1_apply]
  refine Finset.sum_congr rfl fun q _ => ?_
  rw [val_main_v0_apply]
  exact congrArg₂ (· * ·) (congrArg x2 (funext fun a => by match a with | ⟨0, _⟩ => rfl | ⟨1, _⟩ => rfl))
    (congrArg x3 (funext fun a => by match a with | ⟨0, _⟩ => rfl | ⟨1, _⟩ => rfl | ⟨2, _⟩ => rfl))

theorem gate (R : Fin 36864) (e : Fin 16) (f : Fin 3584) :
    val_main_v2 (F := Ideal) x2 x3 (ix3 R e f) = ∑ q : Fin 1024, x2 (ix2 R q) * x3 (ix3 e q ⟨f.val, by omega⟩) := by
  rw [val_main_v2_apply, ← proj]
  exact congrArg _ (funext fun a => by match a with | ⟨0, _⟩ => rfl | ⟨1, _⟩ => rfl | ⟨2, _⟩ => rfl)

theorem up (R : Fin 36864) (e : Fin 16) (f : Fin 3584) :
    val_main_v3 (F := Ideal) x2 x3 (ix3 R e f) = ∑ q : Fin 1024, x2 (ix2 R q) * x3 (ix3 e q ⟨3584 + f.val, by omega⟩) := by
  rw [val_main_v3_apply, ← proj]
  exact congrArg _ (funext fun a => by match a with | ⟨0, _⟩ => rfl | ⟨1, _⟩ => rfl | ⟨2, _⟩ => rfl)

theorem silu (R : Fin 36864) (e : Fin 16) (f : Fin 3584) :
    val_main_call0_v5 (F := Ideal) x2 x3 (ix3 R e f) = Ideal.logistic (val_main_v2 (F := Ideal) x2 x3 (ix3 R e f)) := by
  rw [val_main_call0_v5_apply, val_main_call0_v4_apply, val_main_call0_v3_apply, val_main_call0_v2_apply, val_main_call0_cst_apply, val_main_call0_cst_0_apply,
    val_main_call0_v1_apply, val_main_call0_v0_apply]
  rw [show (FloatOps.ofBits .f32 0x3F800000#32 : Ideal .f32) = (1 : EReal) from Cert.Consts.f32_one]
  rfl

theorem hidden (R : Fin 36864) (e : Fin 16) (f : Fin 3584) :
    val_main_v5 (F := Ideal) x2 x3 (ix3 R e f) = act (fun q => x2 (ix2 R q)) (fun q => x3 (ix3 e q ⟨f.val, by omega⟩)) (fun q => x3 (ix3 e q ⟨3584 + f.val, by omega⟩)) := by
  rw [val_main_v5_apply, val_main_v4_apply, silu, gate, up]
  rfl

theorem dense (R : Fin 36864) (e : Fin 16) (j : Fin 1024) :
    val_main_v7 (F := Ideal) x2 x3 x4 (ix3 R e j) = expert x2 x3 x4 e R j := by
  rw [val_main_v7_apply, val_main_v6_apply]
  refine Finset.sum_congr rfl fun f _ => ?_
  rw [← hidden, mul_comm]
  exact congrArg₂ (· * ·) (congrArg _ (funext fun a => by match a with | ⟨0, _⟩ => rfl | ⟨1, _⟩ => rfl | ⟨2, _⟩ => rfl))
    (congrArg x4 (funext fun a => by match a with | ⟨0, _⟩ => rfl | ⟨1, _⟩ => rfl | ⟨2, _⟩ => rfl))

theorem mask (R : Fin 36864) (e : Fin 16) (j : Fin 1024) :
    val_main_call1_v1 (F := Ideal) x0 x1 (ix3 R e j) = BitVec.ofBool (decide (x0 (ix1 (tileOf R)) = BitVec.ofNat 32 e.val ∧ x1 (ix1 (tileOf R)) ≠ 0#32)) := by
  rw [val_main_call1_v1_apply, val_main_v21_apply, val_main_v20_apply, val_main_v19_apply, val_main_v18_apply, val_main_v13_apply, val_main_v17_apply,
    val_main_v16_apply, val_main_v15_apply, val_main_v14_apply, val_main_c_apply, val_main_v11_apply, val_main_v8_apply, val_main_v12_apply, val_main_v10_apply,
    val_main_v9_apply, WordCmp.cmpi_eq_eq, WordCmp.cmpi_ne_eq, WordCmp.andi_ofBool, ← Bool.decide_and]
  have hR := R.isLt
  have he := e.isLt
  refine congrArg BitVec.ofBool (decide_eq_decide.mpr (and_congr (Eq.congr (congrArg x0 ?_) (congrArg _ ?_)) (not_congr (Eq.congr (congrArg x1 ?_) rfl))))
  · funext a; match a with
    | ⟨0, _⟩ => exact Fin.ext (by show (R.val * 16 + e.val) / 8192 = R.val / 512; omega)
  · show (R.val * 16 + e.val) % 16 = e.val; omega
  · funext a; match a with
    | ⟨0, _⟩ => exact Fin.ext (by show (R.val * 16 + e.val) / 8192 = R.val / 512; omega)

/-- The reference is the layer. -/
theorem reference (hl : ∀ n : Fin 72, (x0 (ix1 n)).toNat < 16) (R : Fin 36864) (j : Fin 1024) :
    val_main_v24 (F := Ideal) x0 x1 x2 x3 x4 (ix2 R j) = layer x0 x1 x2 x3 x4 R j := by
  rw [val_main_v24_apply]
  show val_main_v23 (F := Ideal) x0 x1 x2 x3 x4 (ix2 R j) = _
  rw [val_main_v23_apply, val_main_cst_0_apply, show (FloatOps.ofBits .f32 0x00000000#32 : Ideal .f32) = (0 : EReal) from by simp [Ideal.ofBits_def, Ideal.ofBits, Ideal.ieee]]
  have hs : ∀ e : Fin 16, val_main_v22 (F := Ideal) x0 x1 x2 x3 x4 (idx_main_v23 (ix2 R j) e)
      = if x0 (ix1 (tileOf R)) = BitVec.ofNat 32 e.val ∧ x1 (ix1 (tileOf R)) ≠ 0#32 then expert x2 x3 x4 e R j else (0 : EReal) := fun e => by
    have ei : idx_main_v23 (ix2 R j) e = ix3 R e j := funext fun a => by match a with | ⟨0, _⟩ => rfl | ⟨1, _⟩ => rfl | ⟨2, _⟩ => rfl
    rw [ei, val_main_v22_apply, mask, dense, WordCmp.select_decide, val_main_call1_v2_apply, val_main_call1_v0_apply, val_main_cst_apply,
      show (FloatOps.ofBits .f32 0x00000000#32 : Ideal .f32) = (0 : EReal) from by simp [Ideal.ofBits_def, Ideal.ofBits, Ideal.ieee]]
  simp only [hs]
  unfold layer
  rw [zero_add]
  by_cases hv : x1 (ix1 (tileOf R)) = 0#32
  · simp [hv]
  · have hx := hl (tileOf R)
    rw [if_neg hv, Finset.sum_eq_single_of_mem (⟨(x0 (ix1 (tileOf R))).toNat % 16, Nat.mod_lt _ (by decide)⟩ : Fin 16) (Finset.mem_univ _)]
    · refine if_pos ⟨BitVec.eq_of_toNat_eq ?_, hv⟩
      rw [BitVec.toNat_ofNat]
      show _ = (x0 (ix1 (tileOf R))).toNat % 16 % 2 ^ 32
      omega
    · intro e _ hne
      rw [if_neg]
      rintro ⟨h, -⟩
      refine hne (Fin.ext ?_)
      have he := e.isLt
      rw [h]; simp; omega

end Cert.MoeSpec

end
-- ==== Proof.MoeArray.lean ====
/- The expert call's result array: each point's block, and the blocks together. -/
module

public import proofs.«01_k».proof.Proof.MoeRef

@[expose] public section

set_option maxRecDepth 16384

noncomputable section

namespace Cert.MoeIdeal.Gen

open Idealize.ShloMosaic Idealize.ShloMosaic.TcCoe Idealize.SL.Sem
open Idealize.ShloMosaic.Pipeline (Dat)

variable (m : (ℓ : Loc nD τ sig) → Buf (Elt Ideal) ℓ)

/-- The tokens and the weights. -/
abbrev toks (c : Dev nD) : FVec Ideal S36864x1024 .bf16 := m ((c : Thread nD τ).loc main_arg2)
abbrev wgu (c : Dev nD) : FVec Ideal S16x1024x7168 .f32 := m ((c : Thread nD τ).loc main_arg3)
abbrev wdn (c : Dev nD) : FVec Ideal S16x3584x1024 .f32 := m ((c : Thread nD τ).loc main_arg4)

/-- The result array. -/
def moeOut (c : Dev nD) : FVec Ideal S36864x1024 .bf16 := fun y =>
  Cert.MoeSpec.layer (eids m c) (vals m c) (toks m c) (wgu m c) (wdn m c) (y 0) (y 1)

theorem tr0 : ∀ t : Fin grid0.N, cc0_transform_0 (grid0.coords t) = ![t.val, 0] := by decide +kernel
theorem tr3 : ∀ t : Fin grid0.N, cc0_transform_3 (grid0.coords t) = ![t.val, 0] := by decide +kernel

theorem t_lt (t : Fin grid0.N) : t.val < 72 := lt_of_lt_of_eq t.isLt N_0

/-- The token at row `r` of point `t`'s tile. -/
def rowAt (t : Fin grid0.N) (r : Fin 512) : Fin 36864 := ⟨512 * t.val + r.val, by have := t_lt t; omega⟩

theorem blk_apply (hO : Ok m) (t : Fin (cfgM m hO).N) (r : Fin 512) (q : Fin 1024) :
    (iblk m hO 0 0 t : FVec Ideal S512x1024 .bf16) (ix2 r q) = toks m 0 (ix2 (rowAt t r) q) := by
  unfold iblk
  refine Eq.trans (congrFun (V_main_arg2 m 0) _) (congrArg (toks m 0) (funext fun a => Fin.ext ?_))
  have e := tr0 t
  match a with
  | ⟨0, _⟩ => show cc0_transform_0 (grid0.coords t) 0 * 512 + 1 * r.val = 512 * t.val + r.val; rw [e]; show t.val * 512 + 1 * r.val = _; omega
  | ⟨1, _⟩ => show cc0_transform_0 (grid0.coords t) 1 * 1024 + 1 * q.val = q.val; rw [e]; show 0 * 1024 + 1 * q.val = _; omega

theorem gAt_apply (n : ℕ) (q : Fin 1024) (f : Fin 3584) :
    (gAt m 0 n : FVec Ideal S1024x3584 .bf16) (ix2 q f) = wgu m 0 (ix3 (eAt m n) q ⟨f.val, by omega⟩) :=
  congrFun (V_main_arg3 m 0) (ix3 (eAt m n) q ⟨f.val, by omega⟩)
theorem uAt_apply (n : ℕ) (q : Fin 1024) (f : Fin 3584) :
    (uAt m 0 n : FVec Ideal S1024x3584 .bf16) (ix2 q f) = wgu m 0 (ix3 (eAt m n) q ⟨3584 + f.val, by omega⟩) :=
  congrFun (V_main_arg3 m 0) (ix3 (eAt m n) q ⟨3584 + f.val, by omega⟩)
theorem dAt_apply (n : ℕ) (f : Fin 3584) (j : Fin 1024) :
    (dAt m 0 n : FVec Ideal S3584x1024 .bf16) (ix2 f j) = wdn m 0 (ix3 (eAt m n) f j) :=
  congrFun (V_main_arg4 m 0) (ix3 (eAt m n) f j)

/-- What a point leaves is its tile of the layer. -/
theorem outAt_apply (hO : Ok m) (t : Fin (cfgM m hO).N) (r : Fin 512) (j : Fin 1024) :
    (outAt m hO 0 t : FVec Ideal S512x1024 .bf16) (ix2 r j) = moeOut m 0 (ix2 (rowAt t r) j) := by
  have ht := t_lt t
  have er : Cert.MoeSpec.tileOf (rowAt t r) = ⟨t.val, ht⟩ := Fin.ext (by show (512 * t.val + r.val) / 512 = t.val; omega)
  show _ = Cert.MoeSpec.layer (eids m 0) (vals m 0) (toks m 0) (wgu m 0) (wdn m 0) (rowAt t r) j
  have hV : wV m t.val = vals m 0 (ix1 (Cert.MoeSpec.tileOf (rowAt t r))) := (wV_eq m t.val ht).trans (by rw [er])
  unfold outAt Cert.MoeSpec.layer
  by_cases hv : vals m 0 (ix1 (Cert.MoeSpec.tileOf (rowAt t r))) = 0#32
  · rw [if_pos hv]
    exact (congrFun (if_pos (hV.trans hv)) (ix2 r j)).trans (pay5_apply _)
  · rw [if_neg hv]
    refine (congrFun (if_neg fun h => hv (hV.symm.trans h)) (ix2 r j)).trans ?_
    refine (outV_apply (iblk m hO 0 0 t) (gAt m 0 t.val) (uAt m 0 t.val) (dAt m 0 t.val) r j).trans ?_
    unfold Cert.MoeSpec.expert
    have ee : eAt m t.val = ⟨(eids m 0 (ix1 (Cert.MoeSpec.tileOf (rowAt t r)))).toNat % 16, Nat.mod_lt _ (by decide)⟩ := Fin.ext (by
      show (wE m t.val).toNat % 16 = (eids m 0 (ix1 (Cert.MoeSpec.tileOf (rowAt t r)))).toNat % 16
      rw [wE_eq m t.val ht, er])
    rw [← ee]
    refine Finset.sum_congr rfl fun f _ => congrArg₂ (· * ·) ?_ (dAt_apply m t.val f j)
    exact congr (congr (congrArg act (funext fun q => blk_apply m hO t r q)) (funext fun q => gAt_apply m t.val q f)) (funext fun q => uAt_apply m t.val q f)

theorem flushed_eq (hO : Ok m) (t : Fin (cfgM m hO).N) (hf : ((cfgM m hO).win 1).flush t = true) :
    (dats m hO 0 0).flushed 1 t = (((cfgM m hO).win 1).blk t).view.read (Elt Ideal) (moeOut m 0) := by
  have h : (dats m hO 0 0).flushed 1 t = outAt m hO 0 t := by
    rw [Dat.flushed, after0_1]; rfl
  rw [h]
  funext y
  obtain ⟨r, j, rfl⟩ : ∃ (r : Fin 512) (j : Fin 1024), y = ix2 r j := ⟨y 0, y 1, eq_ix2 y⟩
  refine Eq.trans (outAt_apply m hO t r j) (congrArg (moeOut m 0) (funext fun a => Fin.ext ?_))
  have e := tr3 t
  match a with
  | ⟨0, _⟩ => show 512 * t.val + r.val = cc0_transform_3 (grid0.coords t) 0 * 512 + 1 * r.val; rw [e]; show _ = t.val * 512 + 1 * r.val; omega
  | ⟨1, _⟩ => show j.val = cc0_transform_3 (grid0.coords t) 1 * 1024 + 1 * j.val; rw [e]; show _ = 0 * 1024 + 1 * j.val; omega

theorem final (hO : Ok m) : (dats m hO 0 0).arrAt 1 (cfgM m hO).N = moeOut m 0 :=
  (dats m hO 0 0).arrAt_eq_of_cover 1 (moeOut m 0) (flushed_eq m hO) fun (y : S36864x1024.Idx) => by
    have h0 : (y 0 : Nat) < 36864 := (y 0).isLt
    have h1 : (y 1 : Nat) < 1024 := (y 1).isLt
    let p : Fin grid0.N := ⟨(y 0).val / 512, by rw [N_0]; omega⟩
    have hp := tr3 p
    refine ⟨p, flush0_1 (adm m hO) p, ?_⟩
    show y ∈ ((View.whole main_v8).slice (Rect.block (s := S36864x1024) S512x1024.size (cc0_transform_3 (grid0.coords p)) (hinb0_1 (grid0.coords p)))).set
    rw [View.set_slice_whole, Rect.mem_set_unit]
    intro a
    match a with
    | ⟨0, _⟩ => show cc0_transform_3 (grid0.coords p) 0 * 512 ≤ (y 0 : Nat) ∧ (y 0 : Nat) < cc0_transform_3 (grid0.coords p) 0 * 512 + 512
                rw [hp]; show (y 0).val / 512 * 512 ≤ (y 0).val ∧ (y 0).val < (y 0).val / 512 * 512 + 512; omega
    | ⟨1, _⟩ => show cc0_transform_3 (grid0.coords p) 1 * 1024 ≤ (y 1 : Nat) ∧ (y 1 : Nat) < cc0_transform_3 (grid0.coords p) 1 * 1024 + 1024
                rw [hp]; show 0 * 1024 ≤ (y 1).val ∧ (y 1).val < 0 * 1024 + 1024; omega

end Cert.MoeIdeal.Gen

end
-- ==== Proof.MoeClaims.lean ====
/- The claims about the expert call, assembled. -/
module

public import proofs.«01_k».proof.Defs
public import proofs.«01_k».proof.Proof.Gen.Moe
public import proofs.«01_k».proof.Proof.Gen.MoeReferenceIdeal.Run
public import proofs.«01_k».proof.Proof.MoeArray
public import Idealize.ShloMosaic.Adequacy
public import Idealize.ShloMosaic.Init

@[expose] public section

set_option maxRecDepth 65536

noncomputable section

open Idealize.ShloMosaic Idealize.ShloMosaic.TcCoe Idealize.SL.Sem

namespace Cert.MoeClaims

/-! ## The program and its idealization are one text -/

section
variable {F : FTy → Type} [FloatOps F]

theorem bodies_eq : Cert.Moe.defs₀ (F := F) = Cert.MoeIdeal.defs₀ (F := F) := by
  unfold Cert.Moe.defs₀ Cert.MoeIdeal.defs₀
  refine congrArg Defs.onTc ?_
  funext l a
  match l, a with
  | 0, (t, s) => rfl

theorem table_eq : Cert.Moe.defs (F := F) = Cert.MoeIdeal.defs (F := F) :=
  congrArg (Pipeline.defs (Cert.Moe.pcfgs (F := F))) bodies_eq

/-- What the idealization's run gives, the program's gives. -/
theorem transfer (m : (ℓ : Loc Cert.Moe.nD Cert.Moe.τ Cert.Moe.sig) → Buf (Elt F) ℓ) (ρ : Dev Cert.Moe.nD → PrngReg) (P)
    (h : θ_run (Cert.MoeIdeal.defs (F := F)) (onTc (τ := Cert.MoeIdeal.τ) (Cert.MoeIdeal.main (F := F))) ⟨m, fun _ => 0, ρ⟩ P) :
    θ_run (Cert.Moe.defs (F := F)) (onTc (τ := Cert.Moe.τ) (Cert.Moe.main (F := F))) ⟨m, fun _ => 0, ρ⟩ P := by
  rw [table_eq]
  exact h

end

/-! ## The frames -/

theorem frame_p : Cert.quiescent_Moe := by
  intro m ρ hpre
  have h := Cert.MoeIdeal.Gen.run_value (F := Bits) m ρ trivial (Cert.MoeIdeal.Gen.tiles_of m (hpre 0).1 (hpre 0).2)
  exact (θ_run Cert.Moe.defs _ _).mono (fun _ h => ⟨fun c => (h.1 c).1, h.2⟩) (transfer m ρ _ h)

theorem frame_pi : Cert.quiescent_MoeIdeal := fun m ρ hpre =>
  (θ_run Cert.MoeIdeal.defs _ _).mono (fun _ h => ⟨fun c => (h.1 c).1, h.2⟩)
    (Cert.MoeIdeal.Gen.run_value (F := Ideal) m ρ trivial (Cert.MoeIdeal.Gen.tiles_of m (hpre 0).1 (hpre 0).2))

theorem frame_ri : Cert.quiescent_MoeReferenceIdeal := fun m ρ _ =>
  (θ_run Cert.MoeReferenceIdeal.defs _ _).mono (fun r h => ⟨fun c => (h c).2, Idealize.ShloMosaic.sem_eq_zero_of_no_sems (by decide) r.2⟩)
    (Cert.MoeReferenceIdeal.Value.run (F := Ideal) m ρ)
theorem frame_ri_tiles : Cert.quiescent_MoeReferenceIdeal_pre_tiles := fun m ρ _ => frame_ri m ρ trivial

theorem preserves : Cert.preserves_Moe_MoeIdeal := trivial

/-- Both programs end at the layer of arguments that agree. -/
theorem algebraic : Cert.algebraic_MoeIdeal_MoeReferenceIdeal := by
  intro m ρ m' ρ' hpre hagree
  refine ⟨fun c => Cert.MoeIdeal.Gen.moeOut m c, ?_, ?_⟩
  · refine (θ_run Cert.MoeIdeal.defs _ _).mono (fun _ h c => ⟨?_, (h.1 c).1⟩)
      (Cert.MoeIdeal.Gen.run_value (F := Ideal) m ρ trivial (Cert.MoeIdeal.Gen.tiles_of m (hpre 0).1 (hpre 0).2))
    obtain rfl : c = 0 := Subsingleton.elim _ _
    exact (h.1 0).2.trans (Cert.MoeIdeal.Gen.final m trivial)
  · refine (θ_run Cert.MoeReferenceIdeal.defs _ _).mono (fun _ h c => ⟨(h c).1.trans ?_, (h c).2⟩) (Cert.MoeReferenceIdeal.Value.run (F := Ideal) m' ρ')
    obtain ⟨e0, e1, e2, e3, e4⟩ := hagree c
    rw [Cert.MoeReferenceIdeal.Read.val_main_v24_eq, e0, e1, e2, e3, e4]
    funext y
    obtain ⟨R, j, rfl⟩ : ∃ (R : Fin 36864) (j : Fin 1024), y = ix2 R j := ⟨y 0, y 1, eq_ix2 y⟩
    exact Cert.MoeSpec.reference _ _ _ _ _ (Cert.MoeIdeal.Gen.pre_lt _ _ _ _ _ (hpre c).1) R j

end Cert.MoeClaims

end
-- ==== Proof.FfnVal.lean ====
/- The dense call's block over the extended reals, entry by entry. -/
module

public import proofs.«01_k».proof.Proof.MoeOut
public import proofs.«01_k».proof.Proof.Gen.FfnIdeal.Value
public import Idealize.ShloMosaic.Lib.Pipeline.ValueKit
public import Idealize.ShloMosaic.Lib.Pointwise
public import Idealize.ShloMosaic.Lib.StableHlo.ReadAt

@[expose] public section

set_option maxRecDepth 16384

noncomputable section

/-! ## The specification, one token at a time -/

namespace Cert.FfnSpec

open Idealize.ShloMosaic
open Cert.MoeIdeal.Gen (act)

/-- The weight of the residual, the width, and the normalisation's small addend, as the programs spell them. -/
def alpha : EReal := Ideal.ofBits .f32 0x3FD744FD#32
def width : EReal := Ideal.ofBits .f32 0x44800000#32
def eps : EReal := Ideal.ofBits .f32 0x3727C5AC#32

/-- The residual sum. -/
def resid (x : Fin 1024 → EReal) (h : Fin 1024 → EReal) (j : Fin 1024) : EReal := alpha * x j + h j

/-- The dense feed-forward of one token. -/
def dense (x : Fin 1024 → EReal) (wg wu : Fin 2816 → Fin 1024 → EReal) (wd : Fin 2816 → Fin 1024 → EReal) (j : Fin 1024) : EReal :=
  ∑ f : Fin 2816, act x (wg f) (wu f) * wd f j

def mean (v : Fin 1024 → EReal) : EReal := Ideal.div (∑ q, v q) width
def centred (v : Fin 1024 → EReal) (j : Fin 1024) : EReal := v j - mean v

/-- Layer normalisation. -/
def norm (v g b : Fin 1024 → EReal) (j : Fin 1024) : EReal :=
  centred v j * Ideal.rsqrt (mean (fun q => centred v q * centred v q) + eps) * g j + b j

/-- The gated embedding added to a normalised token. -/
def ple (y : Fin 1024 → EReal) (p : Fin 256 → EReal) (wg : Fin 1024 → Fin 1024 → EReal) (wp : Fin 256 → Fin 1024 → EReal) (j : Fin 1024) : EReal :=
  y j + Ideal.logistic (∑ q, y q * wg q j) * ∑ q, p q * wp q j

end Cert.FfnSpec

namespace Cert.FfnIdeal.Gen

open Idealize.ShloMosaic Idealize.ShloMosaic.TcCoe Idealize.SL.Sem
open Cert.MoeIdeal.Gen (act)
open Cert.FfnSpec

/-! ## The payloads -/

theorem pay3_apply (x : FVec Ideal S512x1024 .bf16) (g u : FVec Ideal S1024x1408 .bf16) (d : FVec Ideal S1408x1024 .bf16) (r : Fin 512) (j : Fin 1024) :
    k0_pay3 (F := Ideal) x g u d (ix2 r j) = ∑ k : Fin 1408, act (fun q => x (ix2 r q)) (fun q => g (ix2 q k)) (fun q => u (ix2 q k)) * d (ix2 k j) := by
  pointwise [k0_pay3, k0_pay2]
  rfl

theorem pay4_apply (x : FVec Ideal S512x1024 .bf16) (g u : FVec Ideal S1024x1408 .bf16) (d : FVec Ideal S1408x1024 .bf16) (a : FVec Ideal S512x1024 .f32)
    (r : Fin 512) (j : Fin 1024) :
    k0_pay4 (F := Ideal) x g u d a (ix2 r j)
      = a (ix2 r j) + ∑ k : Fin 1408, act (fun q => x (ix2 r q)) (fun q => g (ix2 q k)) (fun q => u (ix2 q k)) * d (ix2 k j) := by
  pointwise [k0_pay4, k0_pay2]
  rfl

theorem pay6_apply (x h : FVec Ideal S512x1024 .f32) (g b : FVec Ideal S1x1024 .f32) (r : Fin 512) (j : Fin 1024) :
    k0_pay6 (F := Ideal) x h g b (ix2 r j)
      = norm (resid (fun q => x (ix2 r q)) (fun q => h (ix2 r q))) (fun q => g (ix2 0 q)) (fun q => b (ix2 0 q)) j := by
  pointwise [k0_pay6]
  rfl

theorem pay7_apply (x h : FVec Ideal S512x1024 .f32) (g b : FVec Ideal S1x1024 .f32) (w : FVec Ideal S1024x1024 .bf16) (r : Fin 512) (j : Fin 1024) :
    k0_pay7 (F := Ideal) x h g b w (ix2 r j) = Ideal.logistic (∑ q : Fin 1024, k0_pay6 (F := Ideal) x h g b (ix2 r q) * w (ix2 q j)) := by
  pointwise [k0_pay7]

theorem pay1_apply (y s : FVec Ideal S512x1024 .f32) (p : FVec Ideal S512x256 .f32) (w : FVec Ideal S256x1024 .bf16) (r : Fin 512) (j : Fin 1024) :
    k0_pay1 (F := Ideal) y s (k0_pay8 p) w (ix2 r j) = y (ix2 r j) + s (ix2 r j) * ∑ q : Fin 256, p (ix2 r q) * w (ix2 q j) := by
  pointwise [k0_pay1, k0_pay8]

/-! ## The block -/

/-- The two halves of the hidden layer, accumulated. -/
def hid (x : FVec Ideal S512x1024 .bf16) (w : FVec Ideal S1024x5632 .bf16) (d : FVec Ideal S2816x1024 .bf16) : FVec Ideal S512x1024 .f32 :=
  k0_pay5 (F := Ideal) (k0_pay4 (F := Ideal) x
    (View.ld w (Rect.unit (s := S1024x5632) ![0, 1408] S1024x1408.size inb_S1024x5632_S1024x1408_0_1408))
    (View.ld w (Rect.unit (s := S1024x5632) ![0, 4224] S1024x1408.size inb_S1024x5632_S1024x1408_0_4224))
    (View.ld d (Rect.unit (s := S2816x1024) ![1408, 0] S1408x1024.size inb_S2816x1024_S1408x1024_1408_0))
    (k0_pay3 (F := Ideal) x
      (View.ld w (Rect.unit (s := S1024x5632) ![0, 0] S1024x1408.size inb_S1024x5632_S1024x1408_0_0))
      (View.ld w (Rect.unit (s := S1024x5632) ![0, 2816] S1024x1408.size inb_S1024x5632_S1024x1408_0_2816))
      (View.ld d (Rect.unit (s := S2816x1024) ![0, 0] S1408x1024.size inb_S2816x1024_S1408x1024_0_0))))

theorem out_eq (c : Dev nD) (i : grid0.Coords) (a1 : Memref sig .tc .vmem S512x1024 .bf16) (h1 : a1.IsWhole) (a2 : Memref sig .tc .vmem S1024x5632 .bf16) (h2 : a2.IsWhole)
    (a3 : Memref sig .tc .vmem S2816x1024 .bf16) (h3 : a3.IsWhole) (a4 : Memref sig .tc .vmem S512x1024 .f32) (h4 : a4.IsWhole) (a5 : Memref sig .tc .vmem S1x1024 .f32) (h5 : a5.IsWhole)
    (a6 : Memref sig .tc .vmem S1x1024 .f32) (h6 : a6.IsWhole) (a7 : Memref sig .tc .vmem S512x256 .f32) (h7 : a7.IsWhole) (a8 : Memref sig .tc .vmem S1024x1024 .bf16) (h8 : a8.IsWhole)
    (a9 : Memref sig .tc .vmem S256x1024 .bf16) (h9 : a9.IsWhole) (a10 : Memref sig .tc .vmem S512x1024 .f32) (h10 : a10.IsWhole) (a11 : Memref sig .tc .vmem S512x1024 .f32) (h11 : a11.IsWhole)
    (x0 : Vec Ideal S512x1024 .bf16) (x1 : Vec Ideal S1024x5632 .bf16) (x2 : Vec Ideal S2816x1024 .bf16) (x3 : Vec Ideal S512x1024 .f32) (x4 x5 : Vec Ideal S1x1024 .f32)
    (x6 : Vec Ideal S512x256 .f32) (x7 : Vec Ideal S1024x1024 .bf16) (x8 : Vec Ideal S256x1024 .bf16) :
    out0_A_9 c i a1 h1 a2 h2 a3 h3 a4 h4 a5 h5 a6 h6 a7 h7 a8 h8 a9 h9 a10 h10 a11 h11 x0 x1 x2 x3 x4 x5 x6 x7 x8
      = k0_pay1 (F := Ideal) (k0_pay6 (F := Ideal) x3 (hid x0 x1 x2) x4 x5) (k0_pay7 (F := Ideal) x3 (hid x0 x1 x2) x4 x5 x7) (k0_pay8 x6) x8 := by
  frame_out
  rfl

/-- Two runs of 1408 are one of 2816. -/
theorem sum_halves (h : Fin 2816 → EReal) :
    (∑ k : Fin 1408, h ⟨k.val, by omega⟩) + (∑ k : Fin 1408, h ⟨1408 + k.val, by omega⟩) = ∑ f : Fin 2816, h f :=
  (Fin.sum_univ_add (a := 1408) (b := 1408) h).symm

theorem ld_w (w : Vec Ideal S1024x5632 .bf16) (o : ℕ) (ho : o + 1408 ≤ 5632) (inb) (q : Fin 1024) (k : Fin 1408) :
    View.ld w (Rect.unit (s := S1024x5632) ![0, o] S1024x1408.size inb) (ix2 q k) = w (ix2 q ⟨o + k.val, by omega⟩) := by
  refine View.ld_unit_apply_of w _ _ _ (ix2 q k) (ix2 q ⟨o + k.val, by omega⟩) fun a => ?_
  match a with
  | ⟨0, _⟩ => show q.val = 0 + q.val; omega
  | ⟨1, _⟩ => rfl

theorem ld_d (d : Vec Ideal S2816x1024 .bf16) (o : ℕ) (ho : o + 1408 ≤ 2816) (inb) (k : Fin 1408) (j : Fin 1024) :
    View.ld d (Rect.unit (s := S2816x1024) ![o, 0] S1408x1024.size inb) (ix2 k j) = d (ix2 ⟨o + k.val, by omega⟩ j) := by
  refine View.ld_unit_apply_of d _ _ _ (ix2 k j) (ix2 ⟨o + k.val, by omega⟩ j) fun a => ?_
  match a with
  | ⟨0, _⟩ => rfl
  | ⟨1, _⟩ => show j.val = 0 + j.val; omega

theorem hid_apply (x : FVec Ideal S512x1024 .bf16) (w : FVec Ideal S1024x5632 .bf16) (d : FVec Ideal S2816x1024 .bf16) (r : Fin 512) (j : Fin 1024) :
    hid x w d (ix2 r j) = dense (fun q => x (ix2 r q)) (fun f q => w (ix2 q ⟨f.val, by omega⟩)) (fun f q => w (ix2 q ⟨2816 + f.val, by omega⟩)) (fun f q => d (ix2 f q)) j := by
  unfold hid dense
  pointwise [k0_pay5]
  rw [pay4_apply, pay3_apply, ← sum_halves]
  refine congrArg₂ (· + ·) (Finset.sum_congr rfl fun k _ => congrArg₂ (· * ·) (congr (congr rfl ?_) ?_) ?_) (Finset.sum_congr rfl fun k _ => congrArg₂ (· * ·) (congr (congr rfl ?_) ?_) ?_)
  · funext q
    exact (ld_w w 0 (by omega) _ q k).trans (congrArg w (congrArg (ix2 q) (Fin.ext (by show 0 + k.val = k.val; omega))))
  · funext q
    exact ld_w w 2816 (by omega) _ q k
  · exact (ld_d d 0 (by omega) _ k j).trans (congrArg d (congrArg (ix2 · j) (Fin.ext (by show 0 + k.val = k.val; omega))))
  · funext q
    exact ld_w w 1408 (by omega) _ q k
  · funext q
    exact (ld_w w 4224 (by omega) _ q k).trans (congrArg w (congrArg (ix2 q) (Fin.ext (by show 4224 + k.val = 2816 + (1408 + k.val); omega))))
  · exact ld_d d 1408 (by omega) _ k j

/-- A block, row by row. -/
theorem block_apply (x0 : FVec Ideal S512x1024 .bf16) (x1 : FVec Ideal S1024x5632 .bf16) (x2 : FVec Ideal S2816x1024 .bf16) (x3 : FVec Ideal S512x1024 .f32) (x4 x5 : FVec Ideal S1x1024 .f32)
    (x6 : FVec Ideal S512x256 .f32) (x7 : FVec Ideal S1024x1024 .bf16) (x8 : FVec Ideal S256x1024 .bf16) (r : Fin 512) (j : Fin 1024) :
    k0_pay1 (F := Ideal) (k0_pay6 (F := Ideal) x3 (hid x0 x1 x2) x4 x5) (k0_pay7 (F := Ideal) x3 (hid x0 x1 x2) x4 x5 x7) (k0_pay8 x6) x8 (ix2 r j)
      = ple (norm (resid (fun q => x3 (ix2 r q)) (dense (fun q => x0 (ix2 r q)) (fun f q => x1 (ix2 q ⟨f.val, by omega⟩)) (fun f q => x1 (ix2 q ⟨2816 + f.val, by omega⟩)) (fun f q => x2 (ix2 f q))))
          (fun q => x4 (ix2 0 q)) (fun q => x5 (ix2 0 q))) (fun q => x6 (ix2 r q)) (fun q k => x7 (ix2 q k)) (fun q k => x8 (ix2 q k)) j := by
  rw [pay1_apply, pay7_apply]
  simp only [pay6_apply, hid_apply]
  rfl

end Cert.FfnIdeal.Gen

end
-- ==== Proof.FfnRef.lean ====
/- The dense reference over the extended reals, one token at a time. -/
module

public import proofs.«01_k».proof.Proof.FfnVal
public import proofs.«01_k».proof.Proof.Consts
public import proofs.«01_k».proof.Proof.Gen.FfnReferenceIdeal.Read

@[expose] public section

set_option maxRecDepth 16384

noncomputable section

namespace Cert.FfnSpec

open Idealize.ShloMosaic Idealize.ShloMosaic.TcCoe Idealize.SL.Sem
open Cert.FfnReferenceIdeal Cert.FfnReferenceIdeal.Read
open Cert.MoeIdeal.Gen (act)

variable (x0 : FVec Ideal S16384x1024 .f32) (x1 : FVec Ideal S1024x5632 .f32) (x2 : FVec Ideal S2816x1024 .f32) (x3 x4 : FVec Ideal S1024 .f32)
  (x5 : FVec Ideal S16384x256 .f32) (x6 : FVec Ideal S1024x1024 .f32) (x7 : FVec Ideal S256x1024 .f32)

/-- A token's residual sum. -/
def residAt (R : Fin 16384) : Fin 1024 → EReal :=
  resid (fun q => x0 (ix2 R q)) (dense (fun q => x0 (ix2 R q)) (fun f q => x1 (ix2 q ⟨f.val, by omega⟩)) (fun f q => x1 (ix2 q ⟨2816 + f.val, by omega⟩)) (fun f q => x2 (ix2 f q)))

/-- The same, normalised. -/
def normAt (R : Fin 16384) : Fin 1024 → EReal := norm (residAt x0 x1 x2 R) (fun q => x3 (ix1 q)) (fun q => x4 (ix1 q))

/-- The layer. -/
def layer (R : Fin 16384) : Fin 1024 → EReal :=
  ple (normAt x0 x1 x2 x3 x4 R) (fun q => x5 (ix2 R q)) (fun q k => x6 (ix2 q k)) (fun q k => x7 (ix2 q k))

theorem proj (R : Fin 16384) (f : Fin 5632) :
    val_main_v0 (F := Ideal) x0 x1 (ix2 R f) = ∑ q : Fin 1024, x0 (ix2 R q) * x1 (ix2 q f) := by
  rw [val_main_v0_apply]
  exact Finset.sum_congr rfl fun q _ => congrArg₂ (· * ·) (congrArg x0 (funext fun a => by match a with | ⟨0, _⟩ => rfl | ⟨1, _⟩ => rfl))
    (congrArg x1 (funext fun a => by match a with | ⟨0, _⟩ => rfl | ⟨1, _⟩ => rfl))

theorem gate (R : Fin 16384) (f : Fin 2816) :
    val_main_v1 (F := Ideal) x0 x1 (ix2 R f) = ∑ q : Fin 1024, x0 (ix2 R q) * x1 (ix2 q ⟨f.val, by omega⟩) := by
  rw [val_main_v1_apply, ← proj]
  exact congrArg _ (funext fun a => by match a with | ⟨0, _⟩ => rfl | ⟨1, _⟩ => rfl)

theorem up (R : Fin 16384) (f : Fin 2816) :
    val_main_v2 (F := Ideal) x0 x1 (ix2 R f) = ∑ q : Fin 1024, x0 (ix2 R q) * x1 (ix2 q ⟨2816 + f.val, by omega⟩) := by
  rw [val_main_v2_apply, ← proj]
  exact congrArg _ (funext fun a => by match a with | ⟨0, _⟩ => rfl | ⟨1, _⟩ => rfl)

theorem silu (R : Fin 16384) (f : Fin 2816) :
    val_main_call0_v5 (F := Ideal) x0 x1 (ix2 R f) = Ideal.logistic (val_main_v1 (F := Ideal) x0 x1 (ix2 R f)) := by
  rw [val_main_call0_v5_apply, val_main_call0_v4_apply, val_main_call0_v3_apply, val_main_call0_v2_apply, val_main_call0_cst_apply, val_main_call0_cst_0_apply,
    val_main_call0_v1_apply, val_main_call0_v0_apply]
  rw [show (FloatOps.ofBits .f32 0x3F800000#32 : Ideal .f32) = (1 : EReal) from Cert.Consts.f32_one]
  rfl

theorem hidden (R : Fin 16384) (f : Fin 2816) :
    val_main_v6 (F := Ideal) x0 x1 (ix2 R f) = act (fun q => x0 (ix2 R q)) (fun q => x1 (ix2 q ⟨f.val, by omega⟩)) (fun q => x1 (ix2 q ⟨2816 + f.val, by omega⟩)) := by
  rw [val_main_v6_apply, val_main_v5_apply, silu, gate, up]
  rfl

theorem residual (R : Fin 16384) (j : Fin 1024) : val_main_v8 (F := Ideal) x0 x1 x2 (ix2 R j) = residAt x0 x1 x2 R j := by
  rw [val_main_v8_apply, val_main_v4_apply, val_main_v3_apply, val_main_cst_apply, val_main_v7_apply]
  unfold residAt resid dense
  refine congrArg₂ (· + ·) rfl (Finset.sum_congr rfl fun f _ => ?_)
  rw [← hidden]
  exact congrArg₂ (· * ·) (congrArg _ (funext fun a => by match a with | ⟨0, _⟩ => rfl | ⟨1, _⟩ => rfl))
    (congrArg x2 (funext fun a => by match a with | ⟨0, _⟩ => rfl | ⟨1, _⟩ => rfl))

theorem zero_f32 : (FloatOps.ofBits .f32 0x00000000#32 : Ideal .f32) = (0 : EReal) := Cert.Consts.f32_zero

theorem average (R : Fin 16384) : val_main_v12 (F := Ideal) x0 x1 x2 (ix2 R 0) = mean (residAt x0 x1 x2 R) := by
  rw [val_main_v12_apply, val_main_v11_apply, val_main_cst_1_apply, val_main_v10_apply, val_main_v9_apply, val_main_cst_0_apply, zero_f32, zero_add]
  refine congrArg₂ Ideal.div (Finset.sum_congr rfl fun q _ => ?_) rfl
  rw [← residual]
  exact congrArg _ (funext fun a => by match a with | ⟨0, _⟩ => rfl | ⟨1, _⟩ => rfl)

theorem centre (R : Fin 16384) (j : Fin 1024) : val_main_v14 (F := Ideal) x0 x1 x2 (ix2 R j) = centred (residAt x0 x1 x2 R) j := by
  rw [val_main_v14_apply, val_main_v13_apply, residual]
  refine congrArg₂ (· - ·) rfl (Eq.trans (congrArg _ ?_) (average x0 x1 x2 R))
  exact funext fun a => by match a with | ⟨0, _⟩ => rfl | ⟨1, _⟩ => rfl

theorem variance (R : Fin 16384) :
    val_main_v19 (F := Ideal) x0 x1 x2 (ix2 R 0) = mean (fun q => centred (residAt x0 x1 x2 R) q * centred (residAt x0 x1 x2 R) q) := by
  rw [val_main_v19_apply, val_main_v18_apply, val_main_cst_3_apply, val_main_v17_apply, val_main_v16_apply, val_main_cst_2_apply, zero_f32, zero_add]
  refine congrArg₂ Ideal.div (Finset.sum_congr rfl fun q _ => ?_) rfl
  show _ = centred (residAt x0 x1 x2 R) q * centred (residAt x0 x1 x2 R) q
  rw [← centre, val_main_v15_apply]
  have e : idx_main_v16 (idx_main_v17 (ix2 R 0)) q = ix2 R q := funext fun a => by match a with | ⟨0, _⟩ => rfl | ⟨1, _⟩ => rfl
  rw [e]
  rfl

theorem scale (R : Fin 16384) (j : Fin 1024) :
    val_main_v23 (F := Ideal) x0 x1 x2 (ix2 R j)
      = Ideal.rsqrt (mean (fun q => centred (residAt x0 x1 x2 R) q * centred (residAt x0 x1 x2 R) q) + eps) := by
  rw [val_main_v23_apply]
  have e : idx_main_v23 (ix2 R j) = ix2 R 0 := funext fun a => by match a with | ⟨0, _⟩ => rfl | ⟨1, _⟩ => rfl
  rw [e, val_main_v22_apply, val_main_v21_apply, val_main_v20_apply, val_main_cst_4_apply, variance]
  rfl

theorem normalised (R : Fin 16384) (j : Fin 1024) : val_main_v30 (F := Ideal) x0 x1 x2 x3 x4 (ix2 R j) = normAt x0 x1 x2 x3 x4 R j := by
  rw [val_main_v30_apply, val_main_v27_apply, val_main_v24_apply, centre, scale, val_main_v26_apply, val_main_v25_apply, val_main_v29_apply, val_main_v28_apply]
  unfold normAt norm
  refine congrArg₂ (· + ·) (congrArg₂ (· * ·) rfl (congrArg x3 ?_)) (congrArg x4 ?_)
  · exact funext fun a => by match a with | ⟨0, _⟩ => rfl
  · exact funext fun a => by match a with | ⟨0, _⟩ => rfl

theorem sigm (R : Fin 16384) (j : Fin 1024) :
    val_main_v37 (F := Ideal) x0 x1 x2 x3 x4 x6 (ix2 R j) = Ideal.logistic (val_main_v31 (F := Ideal) x0 x1 x2 x3 x4 x6 (ix2 R j)) := by
  rw [val_main_v37_apply, val_main_v36_apply, val_main_v35_apply, val_main_v34_apply, val_main_cst_5_apply, val_main_cst_6_apply, val_main_v33_apply, val_main_v32_apply]
  rw [show (FloatOps.ofBits .f32 0x3F800000#32 : Ideal .f32) = (1 : EReal) from Cert.Consts.f32_one]
  rfl

/-- The reference is the layer. -/
theorem reference (R : Fin 16384) (j : Fin 1024) :
    val_main_v40 (F := Ideal) x0 x1 x2 x3 x4 x5 x6 x7 (ix2 R j) = layer x0 x1 x2 x3 x4 x5 x6 x7 R j := by
  rw [val_main_v40_apply, val_main_v39_apply, sigm, normalised, val_main_v31_apply, val_main_v38_apply]
  unfold layer ple
  refine congrArg₂ (· + ·) rfl (congrArg₂ (· * ·) (congrArg Ideal.logistic (Finset.sum_congr rfl fun q _ => ?_)) (Finset.sum_congr rfl fun q _ => ?_))
  · rw [← normalised]
    exact congrArg₂ (· * ·) (congrArg _ (funext fun a => by match a with | ⟨0, _⟩ => rfl | ⟨1, _⟩ => rfl))
      (congrArg x6 (funext fun a => by match a with | ⟨0, _⟩ => rfl | ⟨1, _⟩ => rfl))
  · exact congrArg₂ (· * ·) (congrArg x5 (funext fun a => by match a with | ⟨0, _⟩ => rfl | ⟨1, _⟩ => rfl))
      (congrArg x7 (funext fun a => by match a with | ⟨0, _⟩ => rfl | ⟨1, _⟩ => rfl))

end Cert.FfnSpec

end
-- ==== Proof.FfnArray.lean ====
/- The dense call's result array: each point's block is its tokens' part of the layer, and the blocks together. -/
module

public import proofs.«01_k».proof.Proof.FfnRef

@[expose] public section

set_option maxRecDepth 16384

noncomputable section

namespace Cert.FfnIdeal.Gen

open Idealize.ShloMosaic Idealize.ShloMosaic.TcCoe Idealize.SL.Sem StableHlo
open Idealize.ShloMosaic.Pipeline (Dat)
open Cert.FfnSpec

variable (m : (ℓ : Loc nD τ sig) → Buf (Elt Ideal) ℓ) (c : Dev nD)

/-- The arguments, at their shapes. -/
abbrev argX : FVec Ideal S16384x1024 .f32 := m ((c : Thread nD τ).loc main_arg0)
abbrev argGU : FVec Ideal S1024x5632 .f32 := m ((c : Thread nD τ).loc main_arg1)
abbrev argD : FVec Ideal S2816x1024 .f32 := m ((c : Thread nD τ).loc main_arg2)
abbrev argG : FVec Ideal S1024 .f32 := m ((c : Thread nD τ).loc main_arg3)
abbrev argB : FVec Ideal S1024 .f32 := m ((c : Thread nD τ).loc main_arg4)
abbrev argP : FVec Ideal S16384x256 .f32 := m ((c : Thread nD τ).loc main_arg5)
abbrev argWG : FVec Ideal S1024x1024 .f32 := m ((c : Thread nD τ).loc main_arg6)
abbrev argWP : FVec Ideal S256x1024 .f32 := m ((c : Thread nD τ).loc main_arg7)

/-- The arrays the host makes of them. -/
abbrev arrX : FVec Ideal S16384x1024 .bf16 := V m c main_v0
abbrev arrGU : FVec Ideal S1024x5632 .bf16 := V m c main_v1
abbrev arrD : FVec Ideal S2816x1024 .bf16 := V m c main_v2
abbrev arrG : FVec Ideal S1x1024 .f32 := V m c main_v3
abbrev arrB : FVec Ideal S1x1024 .f32 := V m c main_v4
abbrev arrWG : FVec Ideal S1024x1024 .bf16 := V m c main_v5
abbrev arrWP : FVec Ideal S256x1024 .bf16 := V m c main_v6

theorem arrX_apply (r : Fin 16384) (q : Fin 1024) : arrX m c (ix2 r q) = argX m c (ix2 r q) := by after_reads_at
theorem arrGU_apply (r : Fin 1024) (q : Fin 5632) : arrGU m c (ix2 r q) = argGU m c (ix2 r q) := by after_reads_at
theorem arrD_apply (r : Fin 2816) (q : Fin 1024) : arrD m c (ix2 r q) = argD m c (ix2 r q) := by after_reads_at
theorem arrG_apply (q : Fin 1024) : arrG m c (ix2 0 q) = argG m c (ix1 q) := by after_reads_at
theorem arrB_apply (q : Fin 1024) : arrB m c (ix2 0 q) = argB m c (ix1 q) := by after_reads_at
theorem arrWG_apply (r : Fin 1024) (q : Fin 1024) : arrWG m c (ix2 r q) = argWG m c (ix2 r q) := by after_reads_at
theorem arrWP_apply (r : Fin 256) (q : Fin 1024) : arrWP m c (ix2 r q) = argWP m c (ix2 r q) := by after_reads_at

/-- The result array. -/
def ffnOut : FVec Ideal S16384x1024 .f32 := fun y =>
  layer (argX m c) (argGU m c) (argD m c) (argG m c) (argB m c) (argP m c) (argWG m c) (argWP m c) (y 0) (y 1)

theorem t_lt (t : Fin grid0.N) : t.val < 32 := lt_of_lt_of_eq t.isLt N_0

/-- The token in row `r` of the point's block. -/
def rowAt (t : Fin grid0.N) (r : Fin 512) : Fin 16384 := ⟨512 * t.val + r.val, by have := t_lt t; omega⟩

theorem tr0 : ∀ t : Fin grid0.N, cc0_transform_0 (grid0.coords t) = ![t.val, 0] := by decide +kernel
theorem tr3 : ∀ t : Fin grid0.N, cc0_transform_3 (grid0.coords t) = ![t.val, 0] := by decide +kernel
theorem tr6 : ∀ t : Fin grid0.N, cc0_transform_6 (grid0.coords t) = ![t.val, 0] := by decide +kernel
theorem tr9 : ∀ t : Fin grid0.N, cc0_transform_9 (grid0.coords t) = ![t.val, 0] := by decide +kernel

/-! The input blocks of a point. -/

theorem blk0 (t : Fin cfg0.N) (r : Fin 512) (q : Fin 1024) : (iblk m c 0 t : FVec Ideal S512x1024 .bf16) (ix2 r q) = argX m c (ix2 (rowAt t r) q) := by
  unfold iblk
  rw [View.read_apply]
  refine Eq.trans (congrArg (arrX m c) (funext fun a => Fin.ext ?_)) (arrX_apply m c (rowAt t r) q)
  have e := tr0 t
  match a with
  | ⟨0, _⟩ => show cc0_transform_0 (grid0.coords t) 0 * 512 + 1 * r.val = 512 * t.val + r.val; rw [e]; show t.val * 512 + 1 * r.val = _; omega
  | ⟨1, _⟩ => show cc0_transform_0 (grid0.coords t) 1 * 1024 + 1 * q.val = q.val; rw [e]; show 0 * 1024 + 1 * q.val = _; omega

theorem blk3 (t : Fin cfg0.N) (r : Fin 512) (q : Fin 1024) : (iblk m c 3 t : FVec Ideal S512x1024 .f32) (ix2 r q) = argX m c (ix2 (rowAt t r) q) := by
  unfold iblk
  rw [View.read_apply]
  refine Eq.trans (congrFun (V_main_arg0 m c) _) (congrArg (argX m c) (funext fun a => Fin.ext ?_))
  have e := tr3 t
  match a with
  | ⟨0, _⟩ => show cc0_transform_3 (grid0.coords t) 0 * 512 + 1 * r.val = 512 * t.val + r.val; rw [e]; show t.val * 512 + 1 * r.val = _; omega
  | ⟨1, _⟩ => show cc0_transform_3 (grid0.coords t) 1 * 1024 + 1 * q.val = q.val; rw [e]; show 0 * 1024 + 1 * q.val = _; omega

theorem blk6 (t : Fin cfg0.N) (r : Fin 512) (q : Fin 256) : (iblk m c 6 t : FVec Ideal S512x256 .f32) (ix2 r q) = argP m c (ix2 (rowAt t r) q) := by
  unfold iblk
  rw [View.read_apply]
  refine Eq.trans (congrFun (V_main_arg5 m c) _) (congrArg (argP m c) (funext fun a => Fin.ext ?_))
  have e := tr6 t
  match a with
  | ⟨0, _⟩ => show cc0_transform_6 (grid0.coords t) 0 * 512 + 1 * r.val = 512 * t.val + r.val; rw [e]; show t.val * 512 + 1 * r.val = _; omega
  | ⟨1, _⟩ => show cc0_transform_6 (grid0.coords t) 1 * 256 + 1 * q.val = q.val; rw [e]; show 0 * 256 + 1 * q.val = _; omega

theorem blk1 (t : Fin cfg0.N) (r : Fin 1024) (q : Fin 5632) : (iblk m c 1 t : FVec Ideal S1024x5632 .bf16) (ix2 r q) = argGU m c (ix2 r q) := by
  unfold iblk
  rw [View.read_apply]
  refine Eq.trans (congrArg (arrGU m c) (funext fun a => Fin.ext ?_)) (arrGU_apply m c r q)
  match a with
  | ⟨0, _⟩ => show 0 * 1024 + 1 * r.val = r.val; omega
  | ⟨1, _⟩ => show 0 * 5632 + 1 * q.val = q.val; omega

theorem blk2 (t : Fin cfg0.N) (r : Fin 2816) (q : Fin 1024) : (iblk m c 2 t : FVec Ideal S2816x1024 .bf16) (ix2 r q) = argD m c (ix2 r q) := by
  unfold iblk
  rw [View.read_apply]
  refine Eq.trans (congrArg (arrD m c) (funext fun a => Fin.ext ?_)) (arrD_apply m c r q)
  match a with
  | ⟨0, _⟩ => show 0 * 2816 + 1 * r.val = r.val; omega
  | ⟨1, _⟩ => show 0 * 1024 + 1 * q.val = q.val; omega

theorem blk4 (t : Fin cfg0.N) (q : Fin 1024) : (iblk m c 4 t : FVec Ideal S1x1024 .f32) (ix2 0 q) = argG m c (ix1 q) := by
  unfold iblk
  rw [View.read_apply]
  refine Eq.trans (congrArg (arrG m c) (funext fun a => Fin.ext ?_)) (arrG_apply m c q)
  match a with
  | ⟨0, _⟩ => rfl
  | ⟨1, _⟩ => show 0 * 1024 + 1 * q.val = q.val; omega

theorem blk5 (t : Fin cfg0.N) (q : Fin 1024) : (iblk m c 5 t : FVec Ideal S1x1024 .f32) (ix2 0 q) = argB m c (ix1 q) := by
  unfold iblk
  rw [View.read_apply]
  refine Eq.trans (congrArg (arrB m c) (funext fun a => Fin.ext ?_)) (arrB_apply m c q)
  match a with
  | ⟨0, _⟩ => rfl
  | ⟨1, _⟩ => show 0 * 1024 + 1 * q.val = q.val; omega

theorem blk7 (t : Fin cfg0.N) (r : Fin 1024) (q : Fin 1024) : (iblk m c 7 t : FVec Ideal S1024x1024 .bf16) (ix2 r q) = argWG m c (ix2 r q) := by
  unfold iblk
  rw [View.read_apply]
  refine Eq.trans (congrArg (arrWG m c) (funext fun a => Fin.ext ?_)) (arrWG_apply m c r q)
  match a with
  | ⟨0, _⟩ => show 0 * 1024 + 1 * r.val = r.val; omega
  | ⟨1, _⟩ => show 0 * 1024 + 1 * q.val = q.val; omega

theorem blk8 (t : Fin cfg0.N) (r : Fin 256) (q : Fin 1024) : (iblk m c 8 t : FVec Ideal S256x1024 .bf16) (ix2 r q) = argWP m c (ix2 r q) := by
  unfold iblk
  rw [View.read_apply]
  refine Eq.trans (congrArg (arrWP m c) (funext fun a => Fin.ext ?_)) (arrWP_apply m c r q)
  match a with
  | ⟨0, _⟩ => show 0 * 256 + 1 * r.val = r.val; omega
  | ⟨1, _⟩ => show 0 * 1024 + 1 * q.val = q.val; omega

/-- What a point leaves is its tokens' part of the layer. -/
theorem outAt_apply (t : Fin cfg0.N) (r : Fin 512) (j : Fin 1024) :
    (outsAt0 m c t : FVec Ideal S512x1024 .f32) (ix2 r j) = ffnOut m c (ix2 (rowAt t r) j) := by
  unfold outsAt0
  rw [out_eq]
  refine (block_apply (iblk m c 0 t) (iblk m c 1 t) (iblk m c 2 t) (iblk m c 3 t) (iblk m c 4 t) (iblk m c 5 t) (iblk m c 6 t) (iblk m c 7 t) (iblk m c 8 t) r j).trans ?_
  show _ = layer (argX m c) (argGU m c) (argD m c) (argG m c) (argB m c) (argP m c) (argWG m c) (argWP m c) (rowAt t r) j
  unfold layer normAt residAt
  simp only [blk0, blk1, blk2, blk3, blk4, blk5, blk6, blk7, blk8]

theorem flushed_eq (t : Fin cfg0.N) (hf : (cfg0.win 9).flush t = true) :
    (dats m 0 c).flushed 9 t = ((cfg0.win 9).blk t).view.read (Elt Ideal) (ffnOut m c) := by
  rw [Value.flushed9]
  funext y
  obtain ⟨r, j, rfl⟩ : ∃ (r : Fin 512) (j : Fin 1024), y = ix2 r j := ⟨y 0, y 1, eq_ix2 y⟩
  rw [View.read_apply]
  refine Eq.trans (outAt_apply m c t r j) (congrArg (ffnOut m c) (funext fun a => Fin.ext ?_))
  have e := tr9 t
  match a with
  | ⟨0, _⟩ => show 512 * t.val + r.val = cc0_transform_9 (grid0.coords t) 0 * 512 + 1 * r.val; rw [e]; show _ = t.val * 512 + 1 * r.val; omega
  | ⟨1, _⟩ => show j.val = cc0_transform_9 (grid0.coords t) 1 * 1024 + 1 * j.val; rw [e]; show _ = 0 * 1024 + 1 * j.val; omega

theorem final : (dats m 0 c).arrAt 9 cfg0.N = ffnOut m c :=
  (dats m 0 c).arrAt_eq_of_cover 9 (ffnOut m c) (flushed_eq m c) fun (y : S16384x1024.Idx) => by
    have h0 : (y 0 : Nat) < 16384 := (y 0).isLt
    have h1 : (y 1 : Nat) < 1024 := (y 1).isLt
    let p : Fin grid0.N := ⟨(y 0).val / 512, by rw [N_0]; omega⟩
    have hp := tr9 p
    refine ⟨p, flush0_9 p, ?_⟩
    show y ∈ ((View.whole main_v7).slice (win0_9.rect p)).set
    rw [View.set_slice_whole, Rect.mem_set_unit]
    intro a
    match a with
    | ⟨0, _⟩ => show cc0_transform_9 (grid0.coords p) 0 * 512 ≤ (y 0 : Nat) ∧ (y 0 : Nat) < cc0_transform_9 (grid0.coords p) 0 * 512 + 512
                rw [hp]; show (y 0).val / 512 * 512 ≤ (y 0).val ∧ (y 0).val < (y 0).val / 512 * 512 + 512; omega
    | ⟨1, _⟩ => show cc0_transform_9 (grid0.coords p) 1 * 1024 ≤ (y 1 : Nat) ∧ (y 1 : Nat) < cc0_transform_9 (grid0.coords p) 1 * 1024 + 1024
                rw [hp]; show 0 * 1024 ≤ (y 1).val ∧ (y 1).val < 0 * 1024 + 1024; omega

end Cert.FfnIdeal.Gen

end
-- ==== Proof.FfnClaims.lean ====
/- The claims about the dense call, assembled. -/
module

public import proofs.«01_k».proof.Defs
public import proofs.«01_k».proof.Proof.Gen.Ffn
public import proofs.«01_k».proof.Proof.Gen.Ffn.Frame
public import proofs.«01_k».proof.Proof.Gen.FfnReferenceIdeal.Run
public import proofs.«01_k».proof.Proof.FfnArray
public import Idealize.ShloMosaic.Adequacy
public import Idealize.ShloMosaic.Init

@[expose] public section

noncomputable section

open Idealize.ShloMosaic Idealize.ShloMosaic.TcCoe Idealize.SL.Sem

namespace Cert.FfnClaims

theorem frame_p : Cert.quiescent_Ffn := fun m ρ _ => Cert.Ffn.Gen.frame m ρ
theorem frame_pi : Cert.quiescent_FfnIdeal := fun m ρ _ => Cert.FfnIdeal.Gen.frame m ρ
theorem frame_ri : Cert.quiescent_FfnReferenceIdeal := fun m ρ _ =>
  (θ_run Cert.FfnReferenceIdeal.defs _ _).mono (fun r h => ⟨fun c => (h c).2, Idealize.ShloMosaic.sem_eq_zero_of_no_sems (by decide) r.2⟩)
    (Cert.FfnReferenceIdeal.Value.run (F := Ideal) m ρ)

theorem preserves : Cert.preserves_Ffn_FfnIdeal := trivial

/-- Both programs end at the layer of arguments that agree. -/
theorem algebraic : Cert.algebraic_FfnIdeal_FfnReferenceIdeal := by
  intro m ρ m' ρ' _ hagree
  refine ⟨fun c => Cert.FfnIdeal.Gen.ffnOut m c, ?_, ?_⟩
  · exact (θ_run Cert.FfnIdeal.defs _ _).mono (fun _ h c => ⟨(h c).1.trans (Cert.FfnIdeal.Gen.final m c), (h c).2⟩)
      (Cert.FfnIdeal.Value.run_blocks (F := Ideal) m ρ)
  · refine (θ_run Cert.FfnReferenceIdeal.defs _ _).mono (fun _ h c => ⟨(h c).1.trans ?_, (h c).2⟩) (Cert.FfnReferenceIdeal.Value.run (F := Ideal) m' ρ')
    obtain ⟨e0, e1, e2, e3, e4, e5, e6, e7⟩ := hagree c
    rw [Cert.FfnReferenceIdeal.Read.val_main_v40_eq, e0, e1, e2, e3, e4, e5, e6, e7]
    funext y
    obtain ⟨R, j, rfl⟩ : ∃ (R : Fin 16384) (j : Fin 1024), y = ix2 R j := ⟨y 0, y 1, eq_ix2 y⟩
    exact Cert.FfnSpec.reference _ _ _ _ _ _ _ _ R j

end Cert.FfnClaims

end
-- ==== Proof.ProjVal.lean ====
/- The projection's blocks over the extended reals, entry by entry. -/
module

public import proofs.«01_k».proof.Proof.Consts
public import proofs.«01_k».proof.Proof.Gen.ProjIdeal.Value
public import Idealize.ShloMosaic.Lib.Pipeline.ValueKit
public import Idealize.ShloMosaic.Lib.Pointwise
public import Idealize.ShloMosaic.Lib.StableHlo.ReadAt

@[expose] public section

set_option maxRecDepth 16384

noncomputable section

/-! ## The specification, one token at a time -/

namespace Cert.ProjSpec

open Idealize.ShloMosaic

/-- log2(e) / 8, as the programs spell it. -/
def scale : EReal := Ideal.ofBits .f32 0x3E38AA3B#32

/-- A token's projection. -/
def proj (x : Fin 1024 → EReal) (w : Fin 1024 → Fin 3080 → EReal) (n : Fin 3080) : EReal := ∑ q, x q * w q n

/-- The keys of both groups, out of the 3080 columns. -/
def keyOf (h : Fin 3080 → EReal) (n : Fin 1024) : EReal :=
  if n.val < 512 then h ⟨n.val + 512, by omega⟩ else h ⟨n.val + 1544, by omega⟩

/-- The queries, scaled, and the values of both groups. -/
def restOf (h : Fin 3080 → EReal) (n : Fin 2048) : EReal :=
  if n.val < 512 then h ⟨n.val, by omega⟩ * scale
  else if n.val < 1024 then h ⟨n.val + 512, by omega⟩
  else if n.val < 1536 then h ⟨n.val + 520, by omega⟩ * scale
  else h ⟨n.val + 1032, by omega⟩

/-- A forget gate's input, zero in the lanes beyond the heads. -/
def gateOf (h : Fin 3080 → EReal) (b : Fin 8 → EReal) (n : Fin 128) : EReal :=
  if hn : n.val < 8 then h ⟨n.val + 1536, by omega⟩ + b ⟨n.val, hn⟩ else 0

/-- The logarithm of the sigmoid. -/
def lsig (z : EReal) : EReal := min z 0 - Ideal.log1p (Ideal.exp (0 - max z (-z)))

theorem scale_nonneg : 0 ≤ scale := by
  have h : scale = ((12102203 / 67108864 : ℝ) : EReal) := by
    unfold scale
    simp [Ideal.ofBits, Ideal.ieee, -EReal.coe_mul]; norm_num
  rw [h]
  exact_mod_cast (by norm_num : (0 : ℝ) ≤ 12102203 / 67108864)

theorem scale_ne_top : scale ≠ ⊤ := by
  have h : scale = ((12102203 / 67108864 : ℝ) : EReal) := by
    unfold scale
    simp [Ideal.ofBits, Ideal.ieee, -EReal.coe_mul]; norm_num
  rw [h]
  exact EReal.coe_ne_top _

theorem sum_scale {ι : Type} (s : Finset ι) (f : ι → EReal) : (∑ i ∈ s, f i) * scale = ∑ i ∈ s, f i * scale := by
  classical
  induction s using Finset.induction_on with
  | empty => simp
  | insert a s ha ih =>
      rw [Finset.sum_insert ha, Finset.sum_insert ha, ← ih, mul_comm, EReal.left_distrib_of_nonneg_of_ne_top scale_nonneg scale_ne_top,
        mul_comm scale, mul_comm scale]

theorem key_sum (x : Fin 1024 → EReal) (w : Fin 1024 → Fin 3080 → EReal) (n : Fin 1024) :
    ∑ q, x q * keyOf (w q) n = keyOf (proj x w) n := by
  unfold keyOf proj
  split_ifs <;> rfl

theorem rest_sum (x : Fin 1024 → EReal) (w : Fin 1024 → Fin 3080 → EReal) (n : Fin 2048) :
    ∑ q, restOf (w q) n * x q = restOf (proj x w) n := by
  unfold restOf proj
  split_ifs
  · rw [sum_scale]; exact Finset.sum_congr rfl fun q _ => by rw [mul_comm, mul_assoc]
  · exact Finset.sum_congr rfl fun q _ => mul_comm _ _
  · rw [sum_scale]; exact Finset.sum_congr rfl fun q _ => by rw [mul_comm, mul_assoc]
  · exact Finset.sum_congr rfl fun q _ => mul_comm _ _

theorem gate_sum (x : Fin 1024 → EReal) (w : Fin 1024 → Fin 3080 → EReal) (b : Fin 8 → EReal) (n : Fin 128) :
    (∑ q, x q * (if hn : n.val < 8 then w q ⟨n.val + 1536, by omega⟩ else 0)) + (if hn : n.val < 8 then b ⟨n.val, hn⟩ else 0)
      = gateOf (proj x w) b n := by
  unfold gateOf proj
  by_cases hn : n.val < 8
  · simp only [dif_pos hn]
  · simp only [dif_neg hn, mul_zero, Finset.sum_const_zero, add_zero]

/-- The small summand is a real number. -/
theorem log1p_real (z : EReal) : ∃ r : ℝ, Ideal.log1p (Ideal.exp (0 - max z (-z))) = (r : EReal) := by
  have e : Ideal.log (1 + Ideal.exp ⊥) = ((Real.log 1 : ℝ) : EReal) := by
    rw [show (1 : EReal) + Ideal.exp ⊥ = ((1 : ℝ) : EReal) from (add_zero (1 : EReal)), Ideal.log_coe, if_neg (by norm_num)]
  unfold Ideal.log1p
  induction z using EReal.rec with
  | bot => exact ⟨Real.log 1, by rw [show (0 : EReal) - max ⊥ (-⊥) = ⊥ by simp, e]⟩
  | top => exact ⟨Real.log 1, by rw [show (0 : EReal) - max ⊤ (-⊤) = ⊥ by simp, e]⟩
  | coe r =>
      refine ⟨Real.log (1 + Real.exp (0 - max r (-r))), ?_⟩
      rw [show (0 : EReal) - max (r : EReal) (-(r : EReal)) = ((0 - max r (-r) : ℝ) : EReal) by push_cast; rfl, Ideal.exp_coe,
        show (1 : EReal) + ((Real.exp (0 - max r (-r)) : ℝ) : EReal) = ((1 + Real.exp (0 - max r (-r)) : ℝ) : EReal) by push_cast; rfl,
        Ideal.log_coe, if_neg]
      have := Real.exp_pos (0 - max r (-r))
      linarith

/-- The softplus of the negation, negated. -/
theorem neg_softplus (z : EReal) : -(max (-z) 0 + Ideal.log1p (Ideal.exp (-(max (-z - 0) (-(-z - 0)))))) = lsig z := by
  unfold lsig
  rw [sub_zero, neg_neg, max_comm (-z) z, show -(max z (-z)) = 0 - max z (-z) from (zero_sub _).symm]
  obtain ⟨r, hr⟩ := log1p_real z
  rw [hr, EReal.neg_add (.inr (EReal.coe_ne_top r)) (.inr (EReal.coe_ne_bot r))]
  congr 1
  rcases le_total z 0 with h | h
  · rw [min_eq_left h, max_eq_left (by simpa using EReal.neg_le_neg_iff.2 h), neg_neg]
  · rw [min_eq_right h, max_eq_right (by simpa using EReal.neg_le_neg_iff.2 h), neg_zero]

end Cert.ProjSpec

namespace Cert.ProjIdeal.Gen

open Idealize.ShloMosaic Idealize.ShloMosaic.TcCoe Idealize.SL.Sem
open Cert.ProjSpec

/-! ## The blocks -/

theorem out5_apply (x0 : Vec Ideal S512x1024 .f32) (x1 : Vec Ideal S1024x1024 .bf16) (x2 : Vec Ideal S2048x1024 .bf16) (x3 : Vec Ideal S1024x128 .bf16) (x4 : Vec Ideal S1x128 .f32)
    (r : Fin 512) (j : Fin 1024) : out0_5 (F := Ideal) x0 x1 x2 x3 x4 (ix2 r j) = ∑ q : Fin 1024, x0 (ix2 r q) * x1 (ix2 q j) := by
  have e : out0_5 (F := Ideal) x0 x1 x2 x3 x4 = k0_pay2 x0 x1 := by
    unfold out0_5
    frame_out
  rw [e]
  pointwise [k0_pay2, k0_pay1]

theorem out6_apply (x0 : Vec Ideal S512x1024 .f32) (x1 : Vec Ideal S1024x1024 .bf16) (x2 : Vec Ideal S2048x1024 .bf16) (x3 : Vec Ideal S1024x128 .bf16) (x4 : Vec Ideal S1x128 .f32)
    (j : Fin 2048) (r : Fin 512) : out0_6 (F := Ideal) x0 x1 x2 x3 x4 (ix3 0 j r) = ∑ q : Fin 1024, x2 (ix2 j q) * x0 (ix2 r q) := by
  have e : out0_6 (F := Ideal) x0 x1 x2 x3 x4 = k0_pay3 x0 x2 := by
    unfold out0_6
    frame_out
  rw [e]
  pointwise [k0_pay3, k0_pay1]

theorem out7_apply (x0 : Vec Ideal S512x1024 .f32) (x1 : Vec Ideal S1024x1024 .bf16) (x2 : Vec Ideal S2048x1024 .bf16) (x3 : Vec Ideal S1024x128 .bf16) (x4 : Vec Ideal S1x128 .f32)
    (r : Fin 512) (j : Fin 128) :
    out0_7 (F := Ideal) x0 x1 x2 x3 x4 (ix2 r j) = lsig ((∑ q : Fin 1024, x0 (ix2 r q) * x3 (ix2 q j)) + x4 (ix2 0 j)) := by
  have e : out0_7 (F := Ideal) x0 x1 x2 x3 x4 = k0_pay4 x0 x3 x4 := by
    unfold out0_7
    frame_out
  rw [e]
  pointwise [k0_pay4, k0_pay1]
  rfl

end Cert.ProjIdeal.Gen

end
-- ==== Proof.ProjRef.lean ====
/- The projection's reference over the extended reals, one token at a time. -/
module

public import proofs.«01_k».proof.Proof.ProjVal
public import proofs.«01_k».proof.Proof.Gen.ProjReferenceIdeal.Read

@[expose] public section

set_option maxRecDepth 16384

noncomputable section

namespace Cert.ProjSpec

open Idealize.ShloMosaic Idealize.ShloMosaic.TcCoe Idealize.SL.Sem
open Cert.ProjReferenceIdeal Cert.ProjReferenceIdeal.Read

variable (x0 : FVec Ideal S16384x1024 .f32) (x1 : FVec Ideal S1024x3080 .f32) (x2 : FVec Ideal S8 .f32)

/-- The projection of token `R`. -/
def projAt (R : Fin 16384) : Fin 3080 → EReal := proj (fun q => x0 (ix2 R q)) (fun q n => x1 (ix2 q n))

theorem whole (R : Fin 16384) (n : Fin 3080) : val_main_v0 (F := Ideal) x0 x1 (ix2 R n) = projAt x0 x1 R n := by
  rw [val_main_v0_apply]
  unfold projAt proj
  refine Finset.sum_congr rfl fun q _ => congrArg₂ (· * ·) (congrArg x0 ?_) (congrArg x1 ?_)
  · exact funext fun a => by match a with | ⟨0, _⟩ => rfl | ⟨1, _⟩ => rfl
  · exact funext fun a => by match a with | ⟨0, _⟩ => rfl | ⟨1, _⟩ => rfl

/-- A column cut out of the projection. -/
theorem column (R : Fin 16384) (n : Fin 3080) (i : S16384x3080.Idx) (h0 : (i 0).val = R.val) (h1 : (i 1).val = n.val) :
    val_main_v0 (F := Ideal) x0 x1 i = projAt x0 x1 R n := by
  rw [← whole]
  exact congrArg _ (funext fun a => Fin.ext (by match a with | ⟨0, _⟩ => exact h0 | ⟨1, _⟩ => exact h1))

theorem keys (R : Fin 16384) (n : Fin 1024) : val_main_v9 (F := Ideal) x0 x1 (ix2 R n) = keyOf (projAt x0 x1 R) n := by
  rw [val_main_v9_apply]
  show val_main_v8 (F := Ideal) x0 x1 (ix2 R n) = _
  unfold keyOf
  pointwise [val_main_v8]
  by_cases h : n.val < 512
  · rw [dif_pos h, if_pos h, val_main_v2_apply]
    exact column x0 x1 R _ _ rfl (by show 512 + n.val = n.val + 512; omega)
  · rw [dif_neg h, if_neg h, val_main_v6_apply]
    exact column x0 x1 R _ _ rfl (by show 2056 + (n.val - 512) = n.val + 1544; omega)

theorem cats (R : Fin 16384) (n : Fin 2048) : val_main_v14 (F := Ideal) x0 x1 (ix2 R n) = restOf (projAt x0 x1 R) n := by
  unfold restOf
  pointwise [val_main_v14]
  by_cases h1 : n.val < 512
  · rw [dif_pos h1, if_pos h1, val_main_v11_apply, val_main_v1_apply, val_main_v10_apply, val_main_cst_apply]
    exact congrArg₂ (· * ·) (column x0 x1 R _ _ rfl rfl) rfl
  rw [dif_neg h1, if_neg h1]
  by_cases h2 : n.val < 1024
  · rw [dif_pos (by omega), if_pos h2, val_main_v3_apply]
    exact column x0 x1 R _ _ rfl (by show 1024 + (n.val - 512) = n.val + 512; omega)
  rw [dif_neg (by omega), if_neg h2]
  by_cases h3 : n.val < 1536
  · rw [dif_pos (by omega), if_pos h3, val_main_v13_apply, val_main_v5_apply, val_main_v12_apply, val_main_cst_0_apply]
    exact congrArg₂ (· * ·) (column x0 x1 R _ _ rfl (by show 1544 + (n.val - 512 - 512) = n.val + 520; omega)) rfl
  rw [dif_neg (by omega), if_neg h3, val_main_v7_apply]
  exact column x0 x1 R _ _ rfl (by show 2568 + (n.val - 512 - 512 - 512) = n.val + 1032; omega)

/-- Token `s` of sequence `b`. -/
def tokenAt (b : Fin 4) (s : Fin 4096) : Fin 16384 := ⟨b.val * 4096 + s.val, by omega⟩

theorem rest (b : Fin 4) (n : Fin 2048) (s : Fin 4096) :
    val_main_v17 (F := Ideal) x0 x1 (ix3 b n s) = restOf (projAt x0 x1 (tokenAt b s)) n := by
  rw [val_main_v17_apply, val_main_v16_apply, val_main_v15_apply, ← cats]
  refine congrArg (val_main_v14 (F := Ideal) x0 x1) (funext fun a => Fin.ext ?_)
  match a with
  | ⟨0, _⟩ => show ((b.val * 4096 + s.val) * 2048 + n.val) / 2048 = b.val * 4096 + s.val; omega
  | ⟨1, _⟩ => show ((b.val * 4096 + s.val) * 2048 + n.val) % 2048 = n.val; omega

theorem gates (R : Fin 16384) (n : Fin 128) :
    val_main_v21 (F := Ideal) x0 x1 x2 (ix2 R n) = gateOf (projAt x0 x1 R) (fun q => x2 (ix1 q)) n := by
  unfold gateOf
  pointwise [val_main_v21]
  split_ifs with h
  · rw [val_main_v20_apply, val_main_v4_apply, val_main_v19_apply, val_main_v18_apply]
    refine congrArg₂ (· + ·) (column x0 x1 R _ _ rfl (by show 1536 + n.val = n.val + 1536; omega)) (congrArg x2 ?_)
    exact funext fun a => by match a with | ⟨0, _⟩ => rfl
  · rw [val_main_call0_v0_apply, val_main_c_apply]
    show (((0#32 : BitVec 32).toInt : ℝ) : EReal) = 0
    simp

theorem zero_f32 : (FloatOps.ofBits .f32 0x00000000#32 : Ideal .f32) = (0 : EReal) := Cert.Consts.f32_zero

theorem log_gates (R : Fin 16384) (n : Fin 128) :
    val_main_v22 (F := Ideal) x0 x1 x2 (ix2 R n) = lsig (gateOf (projAt x0 x1 R) (fun q => x2 (ix1 q)) n) := by
  rw [val_main_v22_apply, val_main_call1_v1_apply, val_main_call1_call0_v4_apply, val_main_call1_call0_v11_apply, val_main_call1_call0_v10_apply,
    val_main_call1_call0_v9_apply, val_main_call1_call0_v8_apply, val_main_call1_call0_v7_apply, val_main_call1_call0_v1_apply, val_main_call1_call0_v3_apply,
    val_main_call1_call0_v0_apply, val_main_call1_call0_v2_apply, val_main_call1_call0_cst_apply, val_main_call1_v0_apply, gates, zero_f32,
    ← neg_softplus]
  generalize gateOf (projAt x0 x1 R) (fun q => x2 (ix1 q)) n = z
  have e : ∀ a : Ideal .f32, (FloatOps.cmpf .une a a : BitVec 1) = 0#1 := fun a => by
    show Ideal.cmp .une a a = 0#1
    simp [Ideal.cmp]
  rw [e]
  rfl

end Cert.ProjSpec

end
-- ==== Proof.ProjArray.lean ====
/- The projection's result arrays: each point's blocks are its tokens' parts of them, and the blocks together. -/
module

public import proofs.«01_k».proof.Proof.ProjRef

@[expose] public section

set_option maxRecDepth 16384

noncomputable section

namespace Cert.ProjIdeal.Gen

open Idealize.ShloMosaic Idealize.ShloMosaic.TcCoe Idealize.SL.Sem StableHlo
open Idealize.ShloMosaic.Pipeline (Dat)
open Cert.ProjSpec

variable (m : (ℓ : Loc nD τ sig) → Buf (Elt Ideal) ℓ) (c : Dev nD)

/-- The arguments, at their shapes. -/
abbrev argX : FVec Ideal S16384x1024 .f32 := m ((c : Thread nD τ).loc main_arg0)
abbrev argW : FVec Ideal S1024x3080 .f32 := m ((c : Thread nD τ).loc main_arg1)
abbrev argB : FVec Ideal S8 .f32 := m ((c : Thread nD τ).loc main_arg2)

/-- The weights the host makes of them: the keys', the others' transposed, the gates' and their bias. -/
abbrev arrK : FVec Ideal S1024x1024 .bf16 := V m c main_v7
abbrev arrT : FVec Ideal S2048x1024 .bf16 := V m c main_v14
abbrev arrF : FVec Ideal S1024x128 .bf16 := V m c main_v17
abbrev arrB : FVec Ideal S1x128 .f32 := V m c main_v19

theorem zero_word : (FloatOps.sitofp .f32 (0#32 : BitVec 32) : Ideal .f32) = (0 : EReal) := by
  show (((0#32 : BitVec 32).toInt : ℝ) : EReal) = 0
  simp

theorem arrK_apply (q : Fin 1024) (n : Fin 1024) : arrK m c (ix2 q n) = keyOf (fun n => argW m c (ix2 q n)) n := by
  unfold keyOf
  after_reads_at
  by_cases h : n.val < 512
  · rw [dif_pos h, if_pos h]
    after_reads_at
    exact congrArg (fun z => argW m c (ix2 q z)) (Fin.ext (by show 512 + n.val = n.val + 512; omega))
  · rw [dif_neg h, if_neg h]
    after_reads_at
    exact congrArg (fun z => argW m c (ix2 q z)) (Fin.ext (by show 2056 + (n.val - 512) = n.val + 1544; omega))

theorem arrT_apply (n : Fin 2048) (q : Fin 1024) : arrT m c (ix2 n q) = restOf (fun n => argW m c (ix2 q n)) n := by
  unfold restOf
  after_reads_at
  by_cases h1 : n.val < 512
  · rw [dif_pos h1, if_pos h1]
    after_reads_at
    exact congrArg (fun z => argW m c (ix2 q z) * scale) (Fin.ext rfl)
  rw [dif_neg h1, if_neg h1]
  by_cases h2 : n.val < 1024
  · rw [dif_pos (by omega), if_pos h2]
    after_reads_at
    exact congrArg (fun z => argW m c (ix2 q z)) (Fin.ext (by show 1024 + (n.val - 512) = n.val + 512; omega))
  rw [dif_neg (by omega), if_neg h2]
  by_cases h3 : n.val < 1536
  · rw [dif_pos (by omega), if_pos h3]
    after_reads_at
    exact congrArg (fun z => argW m c (ix2 q z) * scale) (Fin.ext (by show 1544 + (n.val - 512 - 512) = n.val + 520; omega))
  rw [dif_neg (by omega), if_neg h3]
  after_reads_at
  exact congrArg (fun z => argW m c (ix2 q z)) (Fin.ext (by show 2568 + (n.val - 512 - 512 - 512) = n.val + 1032; omega))

theorem arrF_apply (q : Fin 1024) (n : Fin 128) : arrF m c (ix2 q n) = if hn : n.val < 8 then argW m c (ix2 q ⟨n.val + 1536, by omega⟩) else 0 := by
  after_reads_at
  by_cases h : n.val < 8
  · rw [dif_pos h, dif_pos h]
    exact congrArg (fun z => argW m c (ix2 q z)) (Fin.ext (by show 1536 + n.val = n.val + 1536; omega))
  · rw [dif_neg h, dif_neg h, zero_word]

theorem arrB_apply (n : Fin 128) : arrB m c (ix2 0 n) = if hn : n.val < 8 then argB m c (ix1 ⟨n.val, hn⟩) else 0 := by
  after_reads_at
  by_cases h : n.val < 8
  · rw [dif_pos h, dif_pos h]
  · rw [dif_neg h, dif_neg h, zero_word]

/-- The result arrays. -/
def keysOut : FVec Ideal S16384x1024 .bf16 := fun y => keyOf (projAt (argX m c) (argW m c) (y 0)) (y 1)
def restOut : FVec Ideal S4x2048x4096 .bf16 := fun y => restOf (projAt (argX m c) (argW m c) (tokenAt (y 0) (y 2))) (y 1)
def gatesOut : FVec Ideal S16384x128 .f32 := fun y => lsig (gateOf (projAt (argX m c) (argW m c) (y 0)) (fun q => argB m c (ix1 q)) (y 1))

theorem t_lt (t : Fin grid0.N) : t.val < 32 := lt_of_lt_of_eq t.isLt N_0

/-- The token in row `r` of the point's block. -/
def rowAt (t : Fin grid0.N) (r : Fin 512) : Fin 16384 := ⟨512 * t.val + r.val, by have := t_lt t; omega⟩

theorem tr0 : ∀ t : Fin grid0.N, cc0_transform_0 (grid0.coords t) = ![t.val, 0] := by decide +kernel
theorem tr5 : ∀ t : Fin grid0.N, cc0_transform_5 (grid0.coords t) = ![t.val, 0] := by decide +kernel
theorem tr6 : ∀ t : Fin grid0.N, cc0_transform_6 (grid0.coords t) = ![t.val / 8, 0, t.val % 8] := by decide +kernel
theorem tr7 : ∀ t : Fin grid0.N, cc0_transform_7 (grid0.coords t) = ![t.val, 0] := by decide +kernel

/-! The input blocks of a point. -/

theorem blk0 (t : Fin cfg0.N) (r : Fin 512) (q : Fin 1024) : (iblk m c 0 t : FVec Ideal S512x1024 .f32) (ix2 r q) = argX m c (ix2 (rowAt t r) q) := by
  unfold iblk
  rw [View.read_apply]
  refine Eq.trans (congrFun (V_main_arg0 m c) _) (congrArg (argX m c) (funext fun a => Fin.ext ?_))
  have e := tr0 t
  match a with
  | ⟨0, _⟩ => show cc0_transform_0 (grid0.coords t) 0 * 512 + 1 * r.val = 512 * t.val + r.val; rw [e]; show t.val * 512 + 1 * r.val = _; omega
  | ⟨1, _⟩ => show cc0_transform_0 (grid0.coords t) 1 * 1024 + 1 * q.val = q.val; rw [e]; show 0 * 1024 + 1 * q.val = _; omega

theorem blk1 (t : Fin cfg0.N) (q : Fin 1024) (n : Fin 1024) :
    (iblk m c 1 t : FVec Ideal S1024x1024 .bf16) (ix2 q n) = keyOf (fun n => argW m c (ix2 q n)) n := by
  unfold iblk
  rw [View.read_apply]
  refine Eq.trans (congrArg (arrK m c) (funext fun a => Fin.ext ?_)) (arrK_apply m c q n)
  match a with
  | ⟨0, _⟩ => show 0 * 1024 + 1 * q.val = q.val; omega
  | ⟨1, _⟩ => show 0 * 1024 + 1 * n.val = n.val; omega

theorem blk2 (t : Fin cfg0.N) (n : Fin 2048) (q : Fin 1024) :
    (iblk m c 2 t : FVec Ideal S2048x1024 .bf16) (ix2 n q) = restOf (fun n => argW m c (ix2 q n)) n := by
  unfold iblk
  rw [View.read_apply]
  refine Eq.trans (congrArg (arrT m c) (funext fun a => Fin.ext ?_)) (arrT_apply m c n q)
  match a with
  | ⟨0, _⟩ => show 0 * 2048 + 1 * n.val = n.val; omega
  | ⟨1, _⟩ => show 0 * 1024 + 1 * q.val = q.val; omega

theorem blk3 (t : Fin cfg0.N) (q : Fin 1024) (n : Fin 128) :
    (iblk m c 3 t : FVec Ideal S1024x128 .bf16) (ix2 q n) = if hn : n.val < 8 then argW m c (ix2 q ⟨n.val + 1536, by omega⟩) else 0 := by
  unfold iblk
  rw [View.read_apply]
  refine Eq.trans (congrArg (arrF m c) (funext fun a => Fin.ext ?_)) (arrF_apply m c q n)
  match a with
  | ⟨0, _⟩ => show 0 * 1024 + 1 * q.val = q.val; omega
  | ⟨1, _⟩ => show 0 * 128 + 1 * n.val = n.val; omega

theorem blk4 (t : Fin cfg0.N) (n : Fin 128) :
    (iblk m c 4 t : FVec Ideal S1x128 .f32) (ix2 0 n) = if hn : n.val < 8 then argB m c (ix1 ⟨n.val, hn⟩) else 0 := by
  unfold iblk
  rw [View.read_apply]
  refine Eq.trans (congrArg (arrB m c) (funext fun a => Fin.ext ?_)) (arrB_apply m c n)
  match a with
  | ⟨0, _⟩ => rfl
  | ⟨1, _⟩ => show 0 * 128 + 1 * n.val = n.val; omega

/-! What a point leaves is its tokens' part of the results. -/

theorem left5 (t : Fin cfg0.N) (r : Fin 512) (j : Fin 1024) :
    out0_5 (F := Ideal) (iblk m c 0 t) (iblk m c 1 t) (iblk m c 2 t) (iblk m c 3 t) (iblk m c 4 t) (ix2 r j) = keysOut m c (ix2 (rowAt t r) j) := by
  refine (out5_apply (iblk m c 0 t) (iblk m c 1 t) (iblk m c 2 t) (iblk m c 3 t) (iblk m c 4 t) r j).trans ?_
  simp only [blk0, blk1]
  exact key_sum _ _ j

theorem left6 (t : Fin cfg0.N) (j : Fin 2048) (r : Fin 512) :
    out0_6 (F := Ideal) (iblk m c 0 t) (iblk m c 1 t) (iblk m c 2 t) (iblk m c 3 t) (iblk m c 4 t) (ix3 0 j r)
      = restOf (projAt (argX m c) (argW m c) (rowAt t r)) j := by
  refine (out6_apply (iblk m c 0 t) (iblk m c 1 t) (iblk m c 2 t) (iblk m c 3 t) (iblk m c 4 t) j r).trans ?_
  simp only [blk0, blk2]
  exact rest_sum (fun q => argX m c (ix2 (rowAt t r) q)) (fun q n => argW m c (ix2 q n)) j

theorem left7 (t : Fin cfg0.N) (r : Fin 512) (j : Fin 128) :
    out0_7 (F := Ideal) (iblk m c 0 t) (iblk m c 1 t) (iblk m c 2 t) (iblk m c 3 t) (iblk m c 4 t) (ix2 r j) = gatesOut m c (ix2 (rowAt t r) j) := by
  refine (out7_apply (iblk m c 0 t) (iblk m c 1 t) (iblk m c 2 t) (iblk m c 3 t) (iblk m c 4 t) r j).trans ?_
  simp only [blk0, blk3, blk4]
  exact congrArg lsig (gate_sum (fun q => argX m c (ix2 (rowAt t r) q)) (fun q n => argW m c (ix2 q n)) (fun q => argB m c (ix1 q)) j)

/-! The arrays. -/

theorem flushed5_eq (t : Fin cfg0.N) (hf : (cfg0.win 5).flush t = true) :
    (dats m 0 c).flushed 5 t = ((cfg0.win 5).blk t).view.read (Elt Ideal) (keysOut m c) := by
  rw [Value.flushed5]
  funext y
  obtain ⟨r, j, rfl⟩ : ∃ (r : Fin 512) (j : Fin 1024), y = ix2 r j := ⟨y 0, y 1, eq_ix2 y⟩
  rw [View.read_apply]
  refine Eq.trans (left5 m c t r j) (congrArg (keysOut m c) (funext fun a => Fin.ext ?_))
  have e := tr5 t
  match a with
  | ⟨0, _⟩ => show 512 * t.val + r.val = cc0_transform_5 (grid0.coords t) 0 * 512 + 1 * r.val; rw [e]; show _ = t.val * 512 + 1 * r.val; omega
  | ⟨1, _⟩ => show j.val = cc0_transform_5 (grid0.coords t) 1 * 1024 + 1 * j.val; rw [e]; show _ = 0 * 1024 + 1 * j.val; omega

theorem final5 : (dats m 0 c).arrAt 5 cfg0.N = keysOut m c :=
  (dats m 0 c).arrAt_eq_of_cover 5 (keysOut m c) (flushed5_eq m c) fun (y : S16384x1024.Idx) => by
    have h0 : (y 0 : Nat) < 16384 := (y 0).isLt
    have h1 : (y 1 : Nat) < 1024 := (y 1).isLt
    let p : Fin grid0.N := ⟨(y 0).val / 512, by rw [N_0]; omega⟩
    have hp := tr5 p
    refine ⟨p, flush0_5 p, ?_⟩
    show y ∈ ((View.whole main_v20_0).slice (win0_5.rect p)).set
    rw [View.set_slice_whole, Rect.mem_set_unit]
    intro a
    match a with
    | ⟨0, _⟩ => show cc0_transform_5 (grid0.coords p) 0 * 512 ≤ (y 0 : Nat) ∧ (y 0 : Nat) < cc0_transform_5 (grid0.coords p) 0 * 512 + 512
                rw [hp]; show (y 0).val / 512 * 512 ≤ (y 0).val ∧ (y 0).val < (y 0).val / 512 * 512 + 512; omega
    | ⟨1, _⟩ => show cc0_transform_5 (grid0.coords p) 1 * 1024 ≤ (y 1 : Nat) ∧ (y 1 : Nat) < cc0_transform_5 (grid0.coords p) 1 * 1024 + 1024
                rw [hp]; show 0 * 1024 ≤ (y 1).val ∧ (y 1).val < 0 * 1024 + 1024; omega

theorem flushed7_eq (t : Fin cfg0.N) (hf : (cfg0.win 7).flush t = true) :
    (dats m 0 c).flushed 7 t = ((cfg0.win 7).blk t).view.read (Elt Ideal) (gatesOut m c) := by
  rw [Value.flushed7]
  funext y
  obtain ⟨r, j, rfl⟩ : ∃ (r : Fin 512) (j : Fin 128), y = ix2 r j := ⟨y 0, y 1, eq_ix2 y⟩
  rw [View.read_apply]
  refine Eq.trans (left7 m c t r j) (congrArg (gatesOut m c) (funext fun a => Fin.ext ?_))
  have e := tr7 t
  match a with
  | ⟨0, _⟩ => show 512 * t.val + r.val = cc0_transform_7 (grid0.coords t) 0 * 512 + 1 * r.val; rw [e]; show _ = t.val * 512 + 1 * r.val; omega
  | ⟨1, _⟩ => show j.val = cc0_transform_7 (grid0.coords t) 1 * 128 + 1 * j.val; rw [e]; show _ = 0 * 128 + 1 * j.val; omega

theorem final7 : (dats m 0 c).arrAt 7 cfg0.N = gatesOut m c :=
  (dats m 0 c).arrAt_eq_of_cover 7 (gatesOut m c) (flushed7_eq m c) fun (y : S16384x128.Idx) => by
    have h0 : (y 0 : Nat) < 16384 := (y 0).isLt
    have h1 : (y 1 : Nat) < 128 := (y 1).isLt
    let p : Fin grid0.N := ⟨(y 0).val / 512, by rw [N_0]; omega⟩
    have hp := tr7 p
    refine ⟨p, flush0_7 p, ?_⟩
    show y ∈ ((View.whole main_v20_2).slice (win0_7.rect p)).set
    rw [View.set_slice_whole, Rect.mem_set_unit]
    intro a
    match a with
    | ⟨0, _⟩ => show cc0_transform_7 (grid0.coords p) 0 * 512 ≤ (y 0 : Nat) ∧ (y 0 : Nat) < cc0_transform_7 (grid0.coords p) 0 * 512 + 512
                rw [hp]; show (y 0).val / 512 * 512 ≤ (y 0).val ∧ (y 0).val < (y 0).val / 512 * 512 + 512; omega
    | ⟨1, _⟩ => show cc0_transform_7 (grid0.coords p) 1 * 128 ≤ (y 1 : Nat) ∧ (y 1 : Nat) < cc0_transform_7 (grid0.coords p) 1 * 128 + 128
                rw [hp]; show 0 * 128 ≤ (y 1).val ∧ (y 1).val < 0 * 128 + 128; omega

/-- The third axis' place of a point's row, in its sequence. -/
def seqOf (t : Fin grid0.N) : Fin 4 := ⟨t.val / 8, by have := t_lt t; omega⟩
def placeOf (t : Fin grid0.N) (r : Fin 512) : Fin 4096 := ⟨512 * (t.val % 8) + r.val, by have := r.isLt; omega⟩

theorem row_eq (t : Fin grid0.N) (r : Fin 512) : rowAt t r = tokenAt (seqOf t) (placeOf t r) :=
  Fin.ext (by show 512 * t.val + r.val = t.val / 8 * 4096 + (512 * (t.val % 8) + r.val); omega)

theorem flushed6_eq (t : Fin cfg0.N) (hf : (cfg0.win 6).flush t = true) :
    (dats m 0 c).flushed 6 t = ((cfg0.win 6).blk t).view.read (Elt Ideal) (restOut m c) := by
  rw [Value.flushed6]
  funext y
  obtain ⟨j, r, rfl⟩ : ∃ (j : Fin 2048) (r : Fin 512), y = ix3 0 j r :=
    ⟨y 1, y 2, (eq_ix3 y).trans (congrArg (fun z : Fin 1 => ix3 z (y 1) (y 2)) (Subsingleton.elim (α := Fin 1) (y 0) 0))⟩
  rw [View.read_apply]
  have el : restOf (projAt (argX m c) (argW m c) (rowAt t r)) j = restOut m c (ix3 (seqOf t) j (placeOf t r)) := by rw [row_eq]; rfl
  refine Eq.trans ((left6 m c t j r).trans el) (congrArg (restOut m c) (funext fun a => Fin.ext ?_))
  have e := tr6 t
  match a with
  | ⟨0, _⟩ => show t.val / 8 = cc0_transform_6 (grid0.coords t) 0 * 1 + 1 * 0; rw [e]; show _ = t.val / 8 * 1 + 1 * 0; omega
  | ⟨1, _⟩ => show j.val = cc0_transform_6 (grid0.coords t) 1 * 2048 + 1 * j.val; rw [e]; show _ = 0 * 2048 + 1 * j.val; omega
  | ⟨2, _⟩ => show 512 * (t.val % 8) + r.val = cc0_transform_6 (grid0.coords t) 2 * 512 + 1 * r.val; rw [e]; show _ = t.val % 8 * 512 + 1 * r.val; omega

theorem final6 : (dats m 0 c).arrAt 6 cfg0.N = restOut m c :=
  (dats m 0 c).arrAt_eq_of_cover 6 (restOut m c) (flushed6_eq m c) fun (y : S4x2048x4096.Idx) => by
    have h0 : (y 0 : Nat) < 4 := (y 0).isLt
    have h1 : (y 1 : Nat) < 2048 := (y 1).isLt
    have h2 : (y 2 : Nat) < 4096 := (y 2).isLt
    let p : Fin grid0.N := ⟨8 * (y 0).val + (y 2).val / 512, by rw [N_0]; omega⟩
    have hp := tr6 p
    refine ⟨p, flush0_6 p, ?_⟩
    show y ∈ ((View.whole main_v20_1).slice (win0_6.rect p)).set
    rw [View.set_slice_whole, Rect.mem_set_unit]
    intro a
    match a with
    | ⟨0, _⟩ => show cc0_transform_6 (grid0.coords p) 0 * 1 ≤ (y 0 : Nat) ∧ (y 0 : Nat) < cc0_transform_6 (grid0.coords p) 0 * 1 + 1
                rw [hp]
                show (8 * (y 0).val + (y 2).val / 512) / 8 * 1 ≤ (y 0).val ∧ (y 0).val < (8 * (y 0).val + (y 2).val / 512) / 8 * 1 + 1
                omega
    | ⟨1, _⟩ => show cc0_transform_6 (grid0.coords p) 1 * 2048 ≤ (y 1 : Nat) ∧ (y 1 : Nat) < cc0_transform_6 (grid0.coords p) 1 * 2048 + 2048
                rw [hp]; show 0 * 2048 ≤ (y 1).val ∧ (y 1).val < 0 * 2048 + 2048; omega
    | ⟨2, _⟩ => show cc0_transform_6 (grid0.coords p) 2 * 512 ≤ (y 2 : Nat) ∧ (y 2 : Nat) < cc0_transform_6 (grid0.coords p) 2 * 512 + 512
                rw [hp]
                show (8 * (y 0).val + (y 2).val / 512) % 8 * 512 ≤ (y 2).val ∧ (y 2).val < (8 * (y 0).val + (y 2).val / 512) % 8 * 512 + 512
                omega

end Cert.ProjIdeal.Gen

end
-- ==== Proof.ProjClaims.lean ====
/- The claims about the even layers' projection, assembled. -/
module

public import proofs.«01_k».proof.Defs
public import proofs.«01_k».proof.Proof.Gen.Proj
public import proofs.«01_k».proof.Proof.Gen.Proj.Frame
public import proofs.«01_k».proof.Proof.Gen.ProjReferenceIdeal.Run
public import proofs.«01_k».proof.Proof.ProjArray
public import Idealize.ShloMosaic.Adequacy
public import Idealize.ShloMosaic.Init

@[expose] public section

noncomputable section

open Idealize.ShloMosaic Idealize.ShloMosaic.TcCoe Idealize.SL.Sem

namespace Cert.ProjClaims

theorem frame_p : Cert.quiescent_Proj := fun m ρ _ => Cert.Proj.Gen.frame m ρ
theorem frame_pi : Cert.quiescent_ProjIdeal := fun m ρ _ => Cert.ProjIdeal.Gen.frame m ρ
theorem frame_ri : Cert.quiescent_ProjReferenceIdeal := fun m ρ _ =>
  (θ_run Cert.ProjReferenceIdeal.defs _ _).mono (fun r h => ⟨fun c => (h c).2.2.2, Idealize.ShloMosaic.sem_eq_zero_of_no_sems (by decide) r.2⟩)
    (Cert.ProjReferenceIdeal.Value.run (F := Ideal) m ρ)

theorem preserves : Cert.preserves_Proj_ProjIdeal := trivial

/-- Both programs end at the three results of arguments that agree. -/
theorem algebraic : Cert.algebraic_ProjIdeal_ProjReferenceIdeal := by
  intro m ρ m' ρ' _ hagree
  refine ⟨fun c => Cert.ProjIdeal.Gen.keysOut m c, fun c => Cert.ProjIdeal.Gen.restOut m c, fun c => Cert.ProjIdeal.Gen.gatesOut m c, ?_, ?_⟩
  · exact (θ_run Cert.ProjIdeal.defs _ _).mono
      (fun _ h c => ⟨(h c).1.trans (Cert.ProjIdeal.Gen.final5 m c), (h c).2.1.trans (Cert.ProjIdeal.Gen.final6 m c),
        (h c).2.2.1.trans (Cert.ProjIdeal.Gen.final7 m c), (h c).2.2.2⟩)
      (Cert.ProjIdeal.Value.run_blocks (F := Ideal) m ρ)
  · refine (θ_run Cert.ProjReferenceIdeal.defs _ _).mono
      (fun _ h c => ⟨(h c).1.trans ?_, (h c).2.1.trans ?_, (h c).2.2.1.trans ?_, (h c).2.2.2⟩)
      (Cert.ProjReferenceIdeal.Value.run (F := Ideal) m' ρ')
    · obtain ⟨e0, e1, e2⟩ := hagree c
      rw [Cert.ProjReferenceIdeal.Read.val_main_v9_eq, e0, e1]
      funext y
      obtain ⟨R, n, rfl⟩ : ∃ (R : Fin 16384) (n : Fin 1024), y = ix2 R n := ⟨y 0, y 1, eq_ix2 y⟩
      exact Cert.ProjSpec.keys _ _ R n
    · obtain ⟨e0, e1, e2⟩ := hagree c
      rw [Cert.ProjReferenceIdeal.Read.val_main_v17_eq, e0, e1]
      funext y
      obtain ⟨b, n, s, rfl⟩ : ∃ (b : Fin 4) (n : Fin 2048) (s : Fin 4096), y = ix3 b n s := ⟨y 0, y 1, y 2, eq_ix3 y⟩
      exact Cert.ProjSpec.rest _ _ b n s
    · obtain ⟨e0, e1, e2⟩ := hagree c
      rw [Cert.ProjReferenceIdeal.Read.val_main_v22_eq, e0, e1, e2]
      funext y
      obtain ⟨R, n, rfl⟩ : ∃ (R : Fin 16384) (n : Fin 128), y = ix2 R n := ⟨y 0, y 1, eq_ix2 y⟩
      exact Cert.ProjSpec.log_gates _ _ _ R n

end Cert.ProjClaims

end
-- ==== Proof.OutVal.lean ====
/- The output projection's block over the extended reals, entry by entry. -/
module

public import proofs.«01_k».proof.Proof.FfnVal
public import proofs.«01_k».proof.Proof.Gen.OutIdeal.Value
public import Idealize.ShloMosaic.Lib.Pipeline.ValueKit
public import Idealize.ShloMosaic.Lib.Pointwise
public import Idealize.ShloMosaic.Lib.StableHlo.ReadAt

@[expose] public section

set_option maxRecDepth 16384

noncomputable section

namespace Cert.OutSpec

open Cert.FfnSpec

/-- The two groups' heads through the output weights' two halves. -/
def mix (oa ob : Fin 512 → EReal) (w : Fin 1024 → Fin 1024 → EReal) (j : Fin 1024) : EReal :=
  (∑ q : Fin 512, oa q * w ⟨q.val, by omega⟩ j) + ∑ q : Fin 512, ob q * w ⟨512 + q.val, by omega⟩ j

/-- The token after it, normalised. -/
def token (oa ob : Fin 512 → EReal) (w : Fin 1024 → Fin 1024 → EReal) (x g b : Fin 1024 → EReal) : Fin 1024 → EReal :=
  norm (resid x (mix oa ob w)) g b

end Cert.OutSpec

namespace Cert.OutIdeal.Gen

open Idealize.ShloMosaic Idealize.ShloMosaic.TcCoe Idealize.SL.Sem
open Cert.FfnSpec (norm resid)
open Cert.OutSpec

theorem pay2_apply (a : FVec Ideal S512x512 .bf16) (u : FVec Ideal S512x1024 .bf16) (b : FVec Ideal S512x512 .bf16) (v : FVec Ideal S512x1024 .bf16)
    (x : FVec Ideal S512x1024 .f32) (g h : FVec Ideal S1x1024 .f32) (r : Fin 512) (j : Fin 1024) :
    k0_pay2 (F := Ideal) a u b v x g h (ix2 r j)
      = norm (resid (fun q => x (ix2 r q)) (fun j => (∑ q : Fin 512, a (ix2 r q) * u (ix2 q j)) + ∑ q : Fin 512, b (ix2 r q) * v (ix2 q j)))
          (fun q => g (ix2 0 q)) (fun q => h (ix2 0 q)) j := by
  pointwise [k0_pay2]
  rfl

theorem origin : (![0, 0] : Fin 2 → ℕ) = fun _ => 0 := funext fun a => by match a with | ⟨0, _⟩ => rfl | ⟨1, _⟩ => rfl

theorem ld_w (w : Vec Ideal S1024x1024 .bf16) (o : ℕ) (ho : o + 512 ≤ 1024) (inb) (q : Fin 512) (j : Fin 1024) :
    View.ld w (Rect.unit (s := S1024x1024) ![o, 0] S512x1024.size inb) (ix2 q j) = w (ix2 ⟨o + q.val, by omega⟩ j) := by
  refine View.ld_unit_apply_of w _ _ _ (ix2 q j) (ix2 ⟨o + q.val, by omega⟩ j) fun a => ?_
  match a with
  | ⟨0, _⟩ => rfl
  | ⟨1, _⟩ => show j.val = 0 + j.val; omega

variable (x0 x1 : Vec Ideal S512x512 .bf16) (x2 : Vec Ideal S1024x1024 .bf16) (x3 : Vec Ideal S512x1024 .f32) (x4 x5 : Vec Ideal S1x1024 .f32)

theorem pay3_eq : k0_pay3 (F := Ideal) x0 x1 x2 x3 x4 x5 = k0_pay2 (F := Ideal) x0 (View.ld x2 r0_1) x1 (View.ld x2 r0_2) x3 x4 x5 := by
  unfold k0_pay3
  rw [View.ld_unit_zero, View.ld_unit_zero, View.ld_unit_zero, View.ld_unit_zero, View.ld_unit_zero] <;> exact origin

theorem pay3_apply (r : Fin 512) (j : Fin 1024) :
    k0_pay3 (F := Ideal) x0 x1 x2 x3 x4 x5 (ix2 r j)
      = token (fun q => x0 (ix2 r q)) (fun q => x1 (ix2 r q)) (fun q k => x2 (ix2 q k)) (fun q => x3 (ix2 r q)) (fun q => x4 (ix2 0 q)) (fun q => x5 (ix2 0 q)) j := by
  rw [pay3_eq, pay2_apply]
  unfold token
  refine congrArg (fun h => norm (resid (fun q => x3 (ix2 r q)) h) (fun q => x4 (ix2 0 q)) (fun q => x5 (ix2 0 q)) j) (funext fun k => ?_)
  unfold mix
  refine congrArg₂ (· + ·) (Finset.sum_congr rfl fun q _ => congrArg₂ (· * ·) rfl ?_) (Finset.sum_congr rfl fun q _ => congrArg₂ (· * ·) rfl ?_)
  · exact (ld_w x2 0 (by omega) _ q k).trans (congrArg x2 (congrArg (ix2 · k) (Fin.ext (by show 0 + q.val = q.val; omega))))
  · exact ld_w x2 512 (by omega) _ q k

theorem out6_apply (r : Fin 512) (j : Fin 1024) :
    out0_6 (F := Ideal) x0 x1 x2 x3 x4 x5 (ix2 r j)
      = token (fun q => x0 (ix2 r q)) (fun q => x1 (ix2 r q)) (fun q k => x2 (ix2 q k)) (fun q => x3 (ix2 r q)) (fun q => x4 (ix2 0 q)) (fun q => x5 (ix2 0 q)) j := by
  have e : out0_6 (F := Ideal) x0 x1 x2 x3 x4 x5 = k0_pay3 (F := Ideal) x0 x1 x2 x3 x4 x5 := by
    unfold out0_6
    exact View.canon_cons_unit_zero (h := origin) ..
  rw [e, pay3_apply]

theorem out7_apply (r : Fin 512) (j : Fin 1024) :
    out0_7 (F := Ideal) x0 x1 x2 x3 x4 x5 (ix2 r j)
      = token (fun q => x0 (ix2 r q)) (fun q => x1 (ix2 r q)) (fun q k => x2 (ix2 q k)) (fun q => x3 (ix2 r q)) (fun q => x4 (ix2 0 q)) (fun q => x5 (ix2 0 q)) j := by
  have e : out0_7 (F := Ideal) x0 x1 x2 x3 x4 x5 = k0_pay1 (F := Ideal) (k0_pay3 (F := Ideal) x0 x1 x2 x3 x4 x5) := by
    unfold out0_7
    exact View.canon_cons_unit_zero (h := origin) ..
  rw [e]
  refine Eq.trans ?_ (pay3_apply x0 x1 x2 x3 x4 x5 r j)
  pointwise [k0_pay1]

end Cert.OutIdeal.Gen

end
-- ==== Proof.OutRef.lean ====
/- The output projection's reference over the extended reals, one token at a time. -/
module

public import proofs.«01_k».proof.Proof.OutVal
public import proofs.«01_k».proof.Proof.Consts
public import proofs.«01_k».proof.Proof.Gen.OutReferenceIdeal.Read

@[expose] public section

set_option maxRecDepth 16384

noncomputable section

namespace Cert.OutSpec

open Idealize.ShloMosaic Idealize.ShloMosaic.TcCoe Idealize.SL.Sem
open Cert.OutReferenceIdeal Cert.OutReferenceIdeal.Read
open Cert.FfnSpec

variable (x0 x1 : FVec Ideal S16384x512 .bf16) (x2 : FVec Ideal S1024x1024 .f32) (x3 : FVec Ideal S16384x1024 .f32) (x4 x5 : FVec Ideal S1024 .f32)

/-- A token's residual sum. -/
def residAt (R : Fin 16384) : Fin 1024 → EReal :=
  resid (fun q => x3 (ix2 R q)) (mix (fun q => x0 (ix2 R q)) (fun q => x1 (ix2 R q)) (fun q k => x2 (ix2 q k)))

/-- The token after the projection. -/
def tokenAt (R : Fin 16384) : Fin 1024 → EReal :=
  token (fun q => x0 (ix2 R q)) (fun q => x1 (ix2 R q)) (fun q k => x2 (ix2 q k)) (fun q => x3 (ix2 R q)) (fun q => x4 (ix1 q)) (fun q => x5 (ix1 q))

theorem first (R : Fin 16384) (q : Fin 512) : val_main_v2 (F := Ideal) x0 x1 (ix2 R ⟨q.val, by omega⟩) = x0 (ix2 R q) := by
  pointwise [val_main_v2]
  rfl

theorem second (R : Fin 16384) (q : Fin 512) : val_main_v2 (F := Ideal) x0 x1 (ix2 R ⟨512 + q.val, by omega⟩) = x1 (ix2 R q) := by
  pointwise [val_main_v2]
  rfl

theorem mixed (R : Fin 16384) (j : Fin 1024) :
    val_main_v5 (F := Ideal) x0 x1 x2 (ix2 R j) = mix (fun q => x0 (ix2 R q)) (fun q => x1 (ix2 R q)) (fun q k => x2 (ix2 q k)) j := by
  rw [val_main_v5_apply]
  refine (Fin.sum_univ_add (a := 512) (b := 512) _).trans ?_
  unfold mix
  refine congrArg₂ (· + ·) (Finset.sum_congr rfl fun q _ => congrArg₂ (· * ·) (Eq.trans (congrArg _ ?_) (first x0 x1 R q)) (congrArg x2 ?_))
    (Finset.sum_congr rfl fun q _ => congrArg₂ (· * ·) (Eq.trans (congrArg _ ?_) (second x0 x1 R q)) (congrArg x2 ?_))
  all_goals exact funext fun a => by match a with | ⟨0, _⟩ => rfl | ⟨1, _⟩ => rfl

theorem residual (R : Fin 16384) (j : Fin 1024) : val_main_v6 (F := Ideal) x0 x1 x2 x3 (ix2 R j) = residAt x0 x1 x2 x3 R j := by
  rw [val_main_v6_apply, val_main_v4_apply, val_main_v3_apply, val_main_cst_apply, mixed]
  rfl

theorem zero_f32 : (FloatOps.ofBits .f32 0x00000000#32 : Ideal .f32) = (0 : EReal) := Cert.Consts.f32_zero

theorem average (R : Fin 16384) : val_main_v10 (F := Ideal) x0 x1 x2 x3 (ix2 R 0) = mean (residAt x0 x1 x2 x3 R) := by
  rw [val_main_v10_apply, val_main_v9_apply, val_main_cst_1_apply, val_main_v8_apply, val_main_v7_apply, val_main_cst_0_apply, zero_f32, zero_add]
  refine congrArg₂ Ideal.div (Finset.sum_congr rfl fun q _ => ?_) rfl
  rw [← residual]
  exact congrArg _ (funext fun a => by match a with | ⟨0, _⟩ => rfl | ⟨1, _⟩ => rfl)

theorem centre (R : Fin 16384) (j : Fin 1024) : val_main_v12 (F := Ideal) x0 x1 x2 x3 (ix2 R j) = centred (residAt x0 x1 x2 x3 R) j := by
  rw [val_main_v12_apply, val_main_v11_apply, residual]
  refine congrArg₂ (· - ·) rfl (Eq.trans (congrArg _ ?_) (average x0 x1 x2 x3 R))
  exact funext fun a => by match a with | ⟨0, _⟩ => rfl | ⟨1, _⟩ => rfl

theorem variance (R : Fin 16384) :
    val_main_v17 (F := Ideal) x0 x1 x2 x3 (ix2 R 0) = mean (fun q => centred (residAt x0 x1 x2 x3 R) q * centred (residAt x0 x1 x2 x3 R) q) := by
  rw [val_main_v17_apply, val_main_v16_apply, val_main_cst_3_apply, val_main_v15_apply, val_main_v14_apply, val_main_cst_2_apply, zero_f32, zero_add]
  refine congrArg₂ Ideal.div (Finset.sum_congr rfl fun q _ => ?_) rfl
  show _ = centred (residAt x0 x1 x2 x3 R) q * centred (residAt x0 x1 x2 x3 R) q
  rw [← centre, val_main_v13_apply]
  have e : idx_main_v14 (idx_main_v15 (ix2 R 0)) q = ix2 R q := funext fun a => by match a with | ⟨0, _⟩ => rfl | ⟨1, _⟩ => rfl
  rw [e]
  rfl

theorem scale (R : Fin 16384) (j : Fin 1024) :
    val_main_v21 (F := Ideal) x0 x1 x2 x3 (ix2 R j)
      = Ideal.rsqrt (mean (fun q => centred (residAt x0 x1 x2 x3 R) q * centred (residAt x0 x1 x2 x3 R) q) + eps) := by
  rw [val_main_v21_apply]
  have e : idx_main_v21 (ix2 R j) = ix2 R 0 := funext fun a => by match a with | ⟨0, _⟩ => rfl | ⟨1, _⟩ => rfl
  rw [e, val_main_v20_apply, val_main_v19_apply, val_main_v18_apply, val_main_cst_4_apply, variance]
  rfl

theorem reference (R : Fin 16384) (j : Fin 1024) : val_main_v28 (F := Ideal) x0 x1 x2 x3 x4 x5 (ix2 R j) = tokenAt x0 x1 x2 x3 x4 x5 R j := by
  rw [val_main_v28_apply, val_main_v25_apply, val_main_v22_apply, centre, scale, val_main_v24_apply, val_main_v23_apply, val_main_v27_apply, val_main_v26_apply]
  unfold tokenAt token FfnSpec.norm
  refine congrArg₂ (· + ·) (congrArg₂ (· * ·) rfl (congrArg x4 ?_)) (congrArg x5 ?_)
  · exact funext fun a => by match a with | ⟨0, _⟩ => rfl
  · exact funext fun a => by match a with | ⟨0, _⟩ => rfl

theorem reference_narrow (R : Fin 16384) (j : Fin 1024) : val_main_v29 (F := Ideal) x0 x1 x2 x3 x4 x5 (ix2 R j) = tokenAt x0 x1 x2 x3 x4 x5 R j := by
  rw [val_main_v29_apply]
  exact reference x0 x1 x2 x3 x4 x5 R j

end Cert.OutSpec

end
-- ==== Proof.OutArray.lean ====
/- The output projection's result arrays: each point's blocks are its tokens' parts of them, and the blocks together. -/
module

public import proofs.«01_k».proof.Proof.OutRef

@[expose] public section

set_option maxRecDepth 16384

noncomputable section

namespace Cert.OutIdeal.Gen

open Idealize.ShloMosaic Idealize.ShloMosaic.TcCoe Idealize.SL.Sem StableHlo
open Idealize.ShloMosaic.Pipeline (Dat)
open Cert.OutSpec

variable (m : (ℓ : Loc nD τ sig) → Buf (Elt Ideal) ℓ) (c : Dev nD)

/-- The arguments, at their shapes. -/
abbrev argOA : FVec Ideal S16384x512 .bf16 := m ((c : Thread nD τ).loc main_arg0)
abbrev argOB : FVec Ideal S16384x512 .bf16 := m ((c : Thread nD τ).loc main_arg1)
abbrev argW : FVec Ideal S1024x1024 .f32 := m ((c : Thread nD τ).loc main_arg2)
abbrev argX : FVec Ideal S16384x1024 .f32 := m ((c : Thread nD τ).loc main_arg3)
abbrev argG : FVec Ideal S1024 .f32 := m ((c : Thread nD τ).loc main_arg4)
abbrev argB : FVec Ideal S1024 .f32 := m ((c : Thread nD τ).loc main_arg5)

/-- The arrays the host makes of them. -/
abbrev arrW : FVec Ideal S1024x1024 .bf16 := V m c main_v0
abbrev arrG : FVec Ideal S1x1024 .f32 := V m c main_v1
abbrev arrB : FVec Ideal S1x1024 .f32 := V m c main_v2

theorem arrW_apply (r : Fin 1024) (q : Fin 1024) : arrW m c (ix2 r q) = argW m c (ix2 r q) := by after_reads_at
theorem arrG_apply (q : Fin 1024) : arrG m c (ix2 0 q) = argG m c (ix1 q) := by after_reads_at
theorem arrB_apply (q : Fin 1024) : arrB m c (ix2 0 q) = argB m c (ix1 q) := by after_reads_at

/-- The result arrays, the second a narrower copy of the first. -/
def wideOut : FVec Ideal S16384x1024 .f32 := fun y => tokenAt (argOA m c) (argOB m c) (argW m c) (argX m c) (argG m c) (argB m c) (y 0) (y 1)
def narrowOut : FVec Ideal S16384x1024 .bf16 := fun y => tokenAt (argOA m c) (argOB m c) (argW m c) (argX m c) (argG m c) (argB m c) (y 0) (y 1)

theorem t_lt (t : Fin grid0.N) : t.val < 32 := lt_of_lt_of_eq t.isLt N_0

/-- The token in row `r` of the point's block. -/
def rowAt (t : Fin grid0.N) (r : Fin 512) : Fin 16384 := ⟨512 * t.val + r.val, by have := t_lt t; omega⟩

theorem tr0 : ∀ t : Fin grid0.N, cc0_transform_0 (grid0.coords t) = ![t.val, 0] := by decide +kernel
theorem tr1 : ∀ t : Fin grid0.N, cc0_transform_1 (grid0.coords t) = ![t.val, 0] := by decide +kernel
theorem tr3 : ∀ t : Fin grid0.N, cc0_transform_3 (grid0.coords t) = ![t.val, 0] := by decide +kernel
theorem tr6 : ∀ t : Fin grid0.N, cc0_transform_6 (grid0.coords t) = ![t.val, 0] := by decide +kernel
theorem tr7 : ∀ t : Fin grid0.N, cc0_transform_7 (grid0.coords t) = ![t.val, 0] := by decide +kernel

/-! The input blocks of a point. -/

theorem blk0 (t : Fin cfg0.N) (r : Fin 512) (q : Fin 512) : (iblk m c 0 t : FVec Ideal S512x512 .bf16) (ix2 r q) = argOA m c (ix2 (rowAt t r) q) := by
  unfold iblk
  rw [View.read_apply]
  refine Eq.trans (congrFun (V_main_arg0 m c) _) (congrArg (argOA m c) (funext fun a => Fin.ext ?_))
  have e := tr0 t
  match a with
  | ⟨0, _⟩ => show cc0_transform_0 (grid0.coords t) 0 * 512 + 1 * r.val = 512 * t.val + r.val; rw [e]; show t.val * 512 + 1 * r.val = _; omega
  | ⟨1, _⟩ => show cc0_transform_0 (grid0.coords t) 1 * 512 + 1 * q.val = q.val; rw [e]; show 0 * 512 + 1 * q.val = _; omega

theorem blk1 (t : Fin cfg0.N) (r : Fin 512) (q : Fin 512) : (iblk m c 1 t : FVec Ideal S512x512 .bf16) (ix2 r q) = argOB m c (ix2 (rowAt t r) q) := by
  unfold iblk
  rw [View.read_apply]
  refine Eq.trans (congrFun (V_main_arg1 m c) _) (congrArg (argOB m c) (funext fun a => Fin.ext ?_))
  have e := tr1 t
  match a with
  | ⟨0, _⟩ => show cc0_transform_1 (grid0.coords t) 0 * 512 + 1 * r.val = 512 * t.val + r.val; rw [e]; show t.val * 512 + 1 * r.val = _; omega
  | ⟨1, _⟩ => show cc0_transform_1 (grid0.coords t) 1 * 512 + 1 * q.val = q.val; rw [e]; show 0 * 512 + 1 * q.val = _; omega

theorem blk3 (t : Fin cfg0.N) (r : Fin 512) (q : Fin 1024) : (iblk m c 3 t : FVec Ideal S512x1024 .f32) (ix2 r q) = argX m c (ix2 (rowAt t r) q) := by
  unfold iblk
  rw [View.read_apply]
  refine Eq.trans (congrFun (V_main_arg3 m c) _) (congrArg (argX m c) (funext fun a => Fin.ext ?_))
  have e := tr3 t
  match a with
  | ⟨0, _⟩ => show cc0_transform_3 (grid0.coords t) 0 * 512 + 1 * r.val = 512 * t.val + r.val; rw [e]; show t.val * 512 + 1 * r.val = _; omega
  | ⟨1, _⟩ => show cc0_transform_3 (grid0.coords t) 1 * 1024 + 1 * q.val = q.val; rw [e]; show 0 * 1024 + 1 * q.val = _; omega

theorem blk2 (t : Fin cfg0.N) (r : Fin 1024) (q : Fin 1024) : (iblk m c 2 t : FVec Ideal S1024x1024 .bf16) (ix2 r q) = argW m c (ix2 r q) := by
  unfold iblk
  rw [View.read_apply]
  refine Eq.trans (congrArg (arrW m c) (funext fun a => Fin.ext ?_)) (arrW_apply m c r q)
  match a with
  | ⟨0, _⟩ => show 0 * 1024 + 1 * r.val = r.val; omega
  | ⟨1, _⟩ => show 0 * 1024 + 1 * q.val = q.val; omega

theorem blk4 (t : Fin cfg0.N) (q : Fin 1024) : (iblk m c 4 t : FVec Ideal S1x1024 .f32) (ix2 0 q) = argG m c (ix1 q) := by
  unfold iblk
  rw [View.read_apply]
  refine Eq.trans (congrArg (arrG m c) (funext fun a => Fin.ext ?_)) (arrG_apply m c q)
  match a with
  | ⟨0, _⟩ => rfl
  | ⟨1, _⟩ => show 0 * 1024 + 1 * q.val = q.val; omega

theorem blk5 (t : Fin cfg0.N) (q : Fin 1024) : (iblk m c 5 t : FVec Ideal S1x1024 .f32) (ix2 0 q) = argB m c (ix1 q) := by
  unfold iblk
  rw [View.read_apply]
  refine Eq.trans (congrArg (arrB m c) (funext fun a => Fin.ext ?_)) (arrB_apply m c q)
  match a with
  | ⟨0, _⟩ => rfl
  | ⟨1, _⟩ => show 0 * 1024 + 1 * q.val = q.val; omega

/-! What a point leaves is its tokens' part of the results, and so the arrays. -/

theorem left6 (t : Fin cfg0.N) (r : Fin 512) (j : Fin 1024) :
    out0_6 (F := Ideal) (iblk m c 0 t) (iblk m c 1 t) (iblk m c 2 t) (iblk m c 3 t) (iblk m c 4 t) (iblk m c 5 t) (ix2 r j) = wideOut m c (ix2 (rowAt t r) j) := by
  refine (out6_apply (iblk m c 0 t) (iblk m c 1 t) (iblk m c 2 t) (iblk m c 3 t) (iblk m c 4 t) (iblk m c 5 t) r j).trans ?_
  show _ = tokenAt (argOA m c) (argOB m c) (argW m c) (argX m c) (argG m c) (argB m c) (rowAt t r) j
  unfold tokenAt
  simp only [blk0, blk1, blk2, blk3, blk4, blk5]

theorem flushed6_eq (t : Fin cfg0.N) (hf : (cfg0.win 6).flush t = true) :
    (dats m 0 c).flushed 6 t = ((cfg0.win 6).blk t).view.read (Elt Ideal) (wideOut m c) := by
  rw [Value.flushed6]
  funext y
  obtain ⟨r, j, rfl⟩ : ∃ (r : Fin 512) (j : Fin 1024), y = ix2 r j := ⟨y 0, y 1, eq_ix2 y⟩
  rw [View.read_apply]
  refine Eq.trans (left6 m c t r j) (congrArg (wideOut m c) (funext fun a => Fin.ext ?_))
  have e := tr6 t
  match a with
  | ⟨0, _⟩ => show 512 * t.val + r.val = cc0_transform_6 (grid0.coords t) 0 * 512 + 1 * r.val; rw [e]; show _ = t.val * 512 + 1 * r.val; omega
  | ⟨1, _⟩ => show j.val = cc0_transform_6 (grid0.coords t) 1 * 1024 + 1 * j.val; rw [e]; show _ = 0 * 1024 + 1 * j.val; omega

theorem final6 : (dats m 0 c).arrAt 6 cfg0.N = wideOut m c :=
  (dats m 0 c).arrAt_eq_of_cover 6 (wideOut m c) (flushed6_eq m c) fun (y : S16384x1024.Idx) => by
    have h0 : (y 0 : Nat) < 16384 := (y 0).isLt
    have h1 : (y 1 : Nat) < 1024 := (y 1).isLt
    let p : Fin grid0.N := ⟨(y 0).val / 512, by rw [N_0]; omega⟩
    have hp := tr6 p
    refine ⟨p, flush0_6 p, ?_⟩
    show y ∈ ((View.whole main_v3_0).slice (win0_6.rect p)).set
    rw [View.set_slice_whole, Rect.mem_set_unit]
    intro a
    match a with
    | ⟨0, _⟩ => show cc0_transform_6 (grid0.coords p) 0 * 512 ≤ (y 0 : Nat) ∧ (y 0 : Nat) < cc0_transform_6 (grid0.coords p) 0 * 512 + 512
                rw [hp]; show (y 0).val / 512 * 512 ≤ (y 0).val ∧ (y 0).val < (y 0).val / 512 * 512 + 512; omega
    | ⟨1, _⟩ => show cc0_transform_6 (grid0.coords p) 1 * 1024 ≤ (y 1 : Nat) ∧ (y 1 : Nat) < cc0_transform_6 (grid0.coords p) 1 * 1024 + 1024
                rw [hp]; show 0 * 1024 ≤ (y 1).val ∧ (y 1).val < 0 * 1024 + 1024; omega

theorem left7 (t : Fin cfg0.N) (r : Fin 512) (j : Fin 1024) :
    out0_7 (F := Ideal) (iblk m c 0 t) (iblk m c 1 t) (iblk m c 2 t) (iblk m c 3 t) (iblk m c 4 t) (iblk m c 5 t) (ix2 r j) = narrowOut m c (ix2 (rowAt t r) j) := by
  refine (out7_apply (iblk m c 0 t) (iblk m c 1 t) (iblk m c 2 t) (iblk m c 3 t) (iblk m c 4 t) (iblk m c 5 t) r j).trans ?_
  show _ = tokenAt (argOA m c) (argOB m c) (argW m c) (argX m c) (argG m c) (argB m c) (rowAt t r) j
  unfold tokenAt
  simp only [blk0, blk1, blk2, blk3, blk4, blk5]

theorem flushed7_eq (t : Fin cfg0.N) (hf : (cfg0.win 7).flush t = true) :
    (dats m 0 c).flushed 7 t = ((cfg0.win 7).blk t).view.read (Elt Ideal) (narrowOut m c) := by
  rw [Value.flushed7]
  funext y
  obtain ⟨r, j, rfl⟩ : ∃ (r : Fin 512) (j : Fin 1024), y = ix2 r j := ⟨y 0, y 1, eq_ix2 y⟩
  rw [View.read_apply]
  refine Eq.trans (left7 m c t r j) (congrArg (narrowOut m c) (funext fun a => Fin.ext ?_))
  have e := tr7 t
  match a with
  | ⟨0, _⟩ => show 512 * t.val + r.val = cc0_transform_7 (grid0.coords t) 0 * 512 + 1 * r.val; rw [e]; show _ = t.val * 512 + 1 * r.val; omega
  | ⟨1, _⟩ => show j.val = cc0_transform_7 (grid0.coords t) 1 * 1024 + 1 * j.val; rw [e]; show _ = 0 * 1024 + 1 * j.val; omega

theorem final7 : (dats m 0 c).arrAt 7 cfg0.N = narrowOut m c :=
  (dats m 0 c).arrAt_eq_of_cover 7 (narrowOut m c) (flushed7_eq m c) fun (y : S16384x1024.Idx) => by
    have h0 : (y 0 : Nat) < 16384 := (y 0).isLt
    have h1 : (y 1 : Nat) < 1024 := (y 1).isLt
    let p : Fin grid0.N := ⟨(y 0).val / 512, by rw [N_0]; omega⟩
    have hp := tr7 p
    refine ⟨p, flush0_7 p, ?_⟩
    show y ∈ ((View.whole main_v3_1).slice (win0_7.rect p)).set
    rw [View.set_slice_whole, Rect.mem_set_unit]
    intro a
    match a with
    | ⟨0, _⟩ => show cc0_transform_7 (grid0.coords p) 0 * 512 ≤ (y 0 : Nat) ∧ (y 0 : Nat) < cc0_transform_7 (grid0.coords p) 0 * 512 + 512
                rw [hp]; show (y 0).val / 512 * 512 ≤ (y 0).val ∧ (y 0).val < (y 0).val / 512 * 512 + 512; omega
    | ⟨1, _⟩ => show cc0_transform_7 (grid0.coords p) 1 * 1024 ≤ (y 1 : Nat) ∧ (y 1 : Nat) < cc0_transform_7 (grid0.coords p) 1 * 1024 + 1024
                rw [hp]; show 0 * 1024 ≤ (y 1).val ∧ (y 1).val < 0 * 1024 + 1024; omega

end Cert.OutIdeal.Gen

end
-- ==== Proof.OutClaims.lean ====
/- The claims about the even layers' output projection, assembled. -/
module

public import proofs.«01_k».proof.Defs
public import proofs.«01_k».proof.Proof.Gen.Out
public import proofs.«01_k».proof.Proof.Gen.Out.Frame
public import proofs.«01_k».proof.Proof.Gen.OutReferenceIdeal.Run
public import proofs.«01_k».proof.Proof.OutArray
public import Idealize.ShloMosaic.Adequacy
public import Idealize.ShloMosaic.Init

@[expose] public section

noncomputable section

open Idealize.ShloMosaic Idealize.ShloMosaic.TcCoe Idealize.SL.Sem

namespace Cert.OutClaims

theorem frame_p : Cert.quiescent_Out := fun m ρ _ => Cert.Out.Gen.frame m ρ
theorem frame_pi : Cert.quiescent_OutIdeal := fun m ρ _ => Cert.OutIdeal.Gen.frame m ρ
theorem frame_ri : Cert.quiescent_OutReferenceIdeal := fun m ρ _ =>
  (θ_run Cert.OutReferenceIdeal.defs _ _).mono (fun r h => ⟨fun c => (h c).2.2, Idealize.ShloMosaic.sem_eq_zero_of_no_sems (by decide) r.2⟩)
    (Cert.OutReferenceIdeal.Value.run (F := Ideal) m ρ)

theorem preserves : Cert.preserves_Out_OutIdeal := trivial

/-- Both programs end at the normalised tokens of arguments that agree. -/
theorem algebraic : Cert.algebraic_OutIdeal_OutReferenceIdeal := by
  intro m ρ m' ρ' _ hagree
  refine ⟨fun c => Cert.OutIdeal.Gen.wideOut m c, fun c => Cert.OutIdeal.Gen.narrowOut m c, ?_, ?_⟩
  · exact (θ_run Cert.OutIdeal.defs _ _).mono
      (fun _ h c => ⟨(h c).1.trans (Cert.OutIdeal.Gen.final6 m c), (h c).2.1.trans (Cert.OutIdeal.Gen.final7 m c), (h c).2.2⟩)
      (Cert.OutIdeal.Value.run_blocks (F := Ideal) m ρ)
  · refine (θ_run Cert.OutReferenceIdeal.defs _ _).mono (fun _ h c => ⟨(h c).1.trans ?_, (h c).2.1.trans ?_, (h c).2.2⟩)
      (Cert.OutReferenceIdeal.Value.run (F := Ideal) m' ρ')
    · obtain ⟨e0, e1, e2, e3, e4, e5⟩ := hagree c
      rw [Cert.OutReferenceIdeal.Read.val_main_v28_eq, e0, e1, e2, e3, e4, e5]
      funext y
      obtain ⟨R, j, rfl⟩ : ∃ (R : Fin 16384) (j : Fin 1024), y = ix2 R j := ⟨y 0, y 1, eq_ix2 y⟩
      exact Cert.OutSpec.reference _ _ _ _ _ _ R j
    · obtain ⟨e0, e1, e2, e3, e4, e5⟩ := hagree c
      rw [Cert.OutReferenceIdeal.Read.val_main_v29_eq, e0, e1, e2, e3, e4, e5]
      funext y
      obtain ⟨R, j, rfl⟩ : ∃ (R : Fin 16384) (j : Fin 1024), y = ix2 R j := ⟨y 0, y 1, eq_ix2 y⟩
      exact Cert.OutSpec.reference_narrow _ _ _ _ _ _ R j

end Cert.OutClaims

end
-- ==== Proof.QkvVal.lean ====
/- The odd layers' projection over the extended reals: its blocks, entry by entry. -/
module

public import proofs.«01_k».proof.Proof.ProjVal
public import proofs.«01_k».proof.Proof.Gen.QkvIdeal.Value
public import Idealize.ShloMosaic.Lib.Pipeline.ValueKit
public import Idealize.ShloMosaic.Lib.Pointwise
public import Idealize.ShloMosaic.Lib.StableHlo.ReadAt

@[expose] public section

set_option maxRecDepth 16384

noncomputable section

/-! ## The specification, one token at a time -/

namespace Cert.QkvSpec

open Idealize.ShloMosaic
open Cert.ProjSpec (scale)

/-- A token's projection. -/
def proj (x : Fin 1024 → EReal) (w : Fin 1024 → Fin 1280 → EReal) (n : Fin 1280) : EReal := ∑ q, x q * w q n

/-- The partial rotation of heads of 64 lanes: lanes 0..7 with lanes 8..15, the rest as they are. -/
def rope (N : ℕ) (hN : N % 64 = 0) (y : Fin N → EReal) (c s : Fin 8 → EReal) (n : Fin N) : EReal :=
  if h : n.val % 64 < 8 then y n * c ⟨n.val % 64, h⟩ - y ⟨n.val + 8, by omega⟩ * s ⟨n.val % 64, h⟩
  else if h' : n.val % 64 < 16 then
    y n * c ⟨n.val % 64 - 8, by omega⟩ + y ⟨n.val - 8, by omega⟩ * s ⟨n.val % 64 - 8, by omega⟩
  else y n

theorem rope_lo {N : ℕ} (hN : N % 64 = 0) (y : Fin N → EReal) (c s : Fin 8 → EReal) (n n' : Fin N) (l : Fin 8)
    (hl : n.val % 64 = l.val) (hn : n'.val = n.val + 8) : rope N hN y c s n = y n * c l - y n' * s l := by
  unfold rope
  rw [dif_pos (by omega : n.val % 64 < 8), show (⟨n.val % 64, by omega⟩ : Fin 8) = l from Fin.ext hl,
    show (⟨n.val + 8, by omega⟩ : Fin N) = n' from Fin.ext hn.symm]

theorem rope_mid {N : ℕ} (hN : N % 64 = 0) (y : Fin N → EReal) (c s : Fin 8 → EReal) (n n' : Fin N) (l : Fin 8)
    (hl : n.val % 64 = l.val + 8) (hn : n'.val + 8 = n.val) : rope N hN y c s n = y n * c l + y n' * s l := by
  unfold rope
  rw [dif_neg (by omega : ¬ n.val % 64 < 8), dif_pos (by omega : n.val % 64 < 16),
    show (⟨n.val % 64 - 8, by omega⟩ : Fin 8) = l from Fin.ext (by show n.val % 64 - 8 = l.val; omega),
    show (⟨n.val - 8, by omega⟩ : Fin N) = n' from Fin.ext (by show n.val - 8 = n'.val; omega)]

theorem rope_hi {N : ℕ} (hN : N % 64 = 0) (y : Fin N → EReal) (c s : Fin 8 → EReal) (n : Fin N)
    (hl : 16 ≤ n.val % 64) : rope N hN y c s n = y n := by
  unfold rope
  rw [dif_neg (by omega : ¬ n.val % 64 < 8), dif_neg (by omega : ¬ n.val % 64 < 16)]

/-- The keys before their rotation, every head twice; the scaled queries; the values, every head twice. -/
def keyIn (h : Fin 1280 → EReal) (n : Fin 256) : EReal := h ⟨1024 + n.val / 128 * 64 + n.val % 64, by omega⟩
def queryIn (h : Fin 1280 → EReal) (n : Fin 1024) : EReal := h ⟨n.val, by omega⟩ * scale
def valueOf (h : Fin 1280 → EReal) (n : Fin 256) : EReal := h ⟨1152 + n.val / 128 * 64 + n.val % 64, by omega⟩

/-- The keys and the queries at a place whose angles have the cosines `c` and the sines `s`. -/
def keyOf (h : Fin 1280 → EReal) (c s : Fin 8 → EReal) : Fin 256 → EReal := rope 256 rfl (keyIn h) c s
def queryOf (h : Fin 1280 → EReal) (c s : Fin 8 → EReal) : Fin 1024 → EReal := rope 1024 rfl (queryIn h) c s

/-- The rotation by whole-row shifts and tables. -/
theorem rope_tables (y : Fin 256 → EReal) (c s : Fin 8 → EReal) (n : Fin 256) :
    y n * (if n.val % 64 < 16 then c ⟨n.val % 8, by omega⟩ else 1)
        + y ⟨n.val / 128 * 128 + (n.val % 128 + 120) % 128, by omega⟩ * (if 8 ≤ n.val % 64 ∧ n.val % 64 < 16 then s ⟨n.val % 8, by omega⟩ else 0)
        + y ⟨n.val / 128 * 128 + (n.val % 128 + 8) % 128, by omega⟩ * (if n.val % 64 < 8 then -s ⟨n.val % 8, by omega⟩ else 0)
      = rope 256 rfl y c s n := by
  by_cases h1 : n.val % 64 < 8
  · rw [if_pos (by omega), if_neg (by omega), if_pos h1, mul_zero, add_zero, mul_neg, ← sub_eq_add_neg]
    exact (rope_lo rfl y c s n _ _ (by show n.val % 64 = n.val % 8; omega) (by show n.val / 128 * 128 + (n.val % 128 + 8) % 128 = n.val + 8; omega)).symm
  by_cases h2 : n.val % 64 < 16
  · rw [if_pos h2, if_pos ⟨by omega, h2⟩, if_neg h1, mul_zero, add_zero]
    exact (rope_mid rfl y c s n _ _ (by show n.val % 64 = n.val % 8 + 8; omega) (by show n.val / 128 * 128 + (n.val % 128 + 120) % 128 + 8 = n.val; omega)).symm
  · rw [if_neg h2, if_neg (by omega), if_neg h1, mul_zero, mul_zero, add_zero, add_zero, mul_one]
    exact (rope_hi rfl y c s n (by omega)).symm

end Cert.QkvSpec

namespace Cert.QkvIdeal.Gen

open Idealize.ShloMosaic Idealize.ShloMosaic.TcCoe Idealize.SL.Sem
open Cert.QkvSpec

/-! ## The blocks -/

section
variable (c : Dev nD) (i : grid0.Coords)
  (arg1 : Memref sig .tc .vmem S512x1024 .f32) (harg1 : arg1.IsWhole) (arg2 : Memref sig .tc .vmem S1024x256 .bf16) (harg2 : arg2.IsWhole)
  (arg3 : Memref sig .tc .vmem S1280x1024 .bf16) (harg3 : arg3.IsWhole) (arg4 : Memref sig .tc .vmem S512x128 .f32) (harg4 : arg4.IsWhole)
  (arg5 : Memref sig .tc .vmem S512x128 .f32) (harg5 : arg5.IsWhole) (arg6 : Memref sig .tc .vmem S512x128 .f32) (harg6 : arg6.IsWhole)
  (arg7 : Memref sig .tc .vmem S8x512 .f32) (harg7 : arg7.IsWhole) (arg8 : Memref sig .tc .vmem S8x512 .f32) (harg8 : arg8.IsWhole)
  (arg9 : Memref sig .tc .vmem S512x256 .bf16) (harg9 : arg9.IsWhole) (arg10 : Memref sig .tc .vmem S1x1024x512 .bf16) (harg10 : arg10.IsWhole)
  (arg11 : Memref sig .tc .vmem S1x256x512 .bf16) (harg11 : arg11.IsWhole)
  (x0 : Vec Ideal S512x1024 .f32) (x1 : Vec Ideal S1024x256 .bf16) (x2 : Vec Ideal S1280x1024 .bf16) (x3 x4 x5 : Vec Ideal S512x128 .f32)
  (x6 x7 : Vec Ideal S8x512 .f32)

theorem yt_apply (j : Fin 1280) (r : Fin 512) : k0_pay9 (F := Ideal) (k0_pay4 x0) x2 (ix2 j r) = ∑ q : Fin 1024, x2 (ix2 j q) * x0 (ix2 r q) := by
  pointwise [k0_pay9, k0_pay4]

theorem yk_apply (r : Fin 512) (j : Fin 256) : k0_pay5 (F := Ideal) x0 x1 (ix2 r j) = ∑ q : Fin 1024, x0 (ix2 r q) * x1 (ix2 q j) := by
  pointwise [k0_pay5, k0_pay4]

/-- A row of the values' block. -/
def valueRow (j : Fin 256) (r : Fin 512) : EReal := ∑ q : Fin 1024, x2 (ix2 ⟨1024 + j.val, by omega⟩ q) * x0 (ix2 r q)

theorem out10_apply (j : Fin 256) (r : Fin 512) :
    out0_A_10 (F := Ideal) c i arg1 harg1 arg2 harg2 arg3 harg3 arg4 harg4 arg5 harg5 arg6 harg6 arg7 harg7 arg8 harg8 arg9 harg9 arg10 harg10 arg11 harg11
        x0 x1 x2 x3 x4 x5 x6 x7 (ix3 0 j r) = valueRow x0 x2 j r := by
  unfold valueRow
  rw [← yt_apply]
  have e : out0_A_10 (F := Ideal) c i arg1 harg1 arg2 harg2 arg3 harg3 arg4 harg4 arg5 harg5 arg6 harg6 arg7 harg7 arg8 harg8 arg9 harg9 arg10 harg10 arg11 harg11
        x0 x1 x2 x3 x4 x5 x6 x7 = k0_pay3 (k0_pay9 (k0_pay4 x0) x2) := by
    unfold out0_A_10
    frame_out
  rw [e]
  pointwise [k0_pay3]

theorem pay6_apply (r : Fin 512) (l : Fin 128) : k0_pay6 (F := Ideal) x0 x1 x3 x4 x5 (ix2 r l)
    = k0_pay5 (F := Ideal) x0 x1 (ix2 r ⟨l.val, by omega⟩) * x3 (ix2 r l)
      + k0_pay5 (F := Ideal) x0 x1 (ix2 r ⟨(l.val + 120) % 128, by omega⟩) * x4 (ix2 r l)
      + k0_pay5 (F := Ideal) x0 x1 (ix2 r ⟨(l.val + 8) % 128, by omega⟩) * x5 (ix2 r l) := by
  pointwise [k0_pay6]
  exact congrArg₂ (fun a b => k0_pay5 (F := Ideal) x0 x1 (ix2 r ⟨l.val, by omega⟩) * x3 (ix2 r l) + k0_pay5 (F := Ideal) x0 x1 (ix2 r a) * x4 (ix2 r l)
      + k0_pay5 (F := Ideal) x0 x1 (ix2 r b) * x5 (ix2 r l))
    (Fin.ext (by show (l.val + 128 - 8) % 128 = (l.val + 120) % 128; omega)) (Fin.ext (by show (l.val + 128 - 120) % 128 = (l.val + 8) % 128; omega))

theorem pay7_apply (r : Fin 512) (l : Fin 128) : k0_pay8 (F := Ideal) (k0_pay7 x0 x1 x3 x4 x5) (ix2 r l)
    = k0_pay5 (F := Ideal) x0 x1 (ix2 r ⟨128 + l.val, by omega⟩) * x3 (ix2 r l)
      + k0_pay5 (F := Ideal) x0 x1 (ix2 r ⟨128 + (l.val + 120) % 128, by omega⟩) * x4 (ix2 r l)
      + k0_pay5 (F := Ideal) x0 x1 (ix2 r ⟨128 + (l.val + 8) % 128, by omega⟩) * x5 (ix2 r l) := by
  pointwise [k0_pay7, k0_pay8]
  exact congrArg₂ (fun a b => k0_pay5 (F := Ideal) x0 x1 (ix2 r ⟨128 + l.val, by omega⟩) * x3 (ix2 r l) + k0_pay5 (F := Ideal) x0 x1 (ix2 r a) * x4 (ix2 r l)
      + k0_pay5 (F := Ideal) x0 x1 (ix2 r b) * x5 (ix2 r l))
    (Fin.ext (by show 128 + (l.val + 128 - 8) % 128 = 128 + (l.val + 120) % 128; omega))
    (Fin.ext (by show 128 + (l.val + 128 - 120) % 128 = 128 + (l.val + 8) % 128; omega))

/-- The keys' block, of their product and the tables. -/
def keyRow (r : Fin 512) (n : Fin 256) : EReal :=
  k0_pay5 (F := Ideal) x0 x1 (ix2 r n) * x3 (ix2 r ⟨n.val % 128, by omega⟩)
    + k0_pay5 (F := Ideal) x0 x1 (ix2 r ⟨n.val / 128 * 128 + (n.val % 128 + 120) % 128, by omega⟩) * x4 (ix2 r ⟨n.val % 128, by omega⟩)
    + k0_pay5 (F := Ideal) x0 x1 (ix2 r ⟨n.val / 128 * 128 + (n.val % 128 + 8) % 128, by omega⟩) * x5 (ix2 r ⟨n.val % 128, by omega⟩)

theorem keyRow_eq (r : Fin 512) (l : Fin 128) (n n1 n2 : Fin 256) (h : n.val % 128 = l.val)
    (h1 : n1.val = n.val / 128 * 128 + (l.val + 120) % 128) (h2 : n2.val = n.val / 128 * 128 + (l.val + 8) % 128) :
    k0_pay5 (F := Ideal) x0 x1 (ix2 r n) * x3 (ix2 r l) + k0_pay5 (F := Ideal) x0 x1 (ix2 r n1) * x4 (ix2 r l)
      + k0_pay5 (F := Ideal) x0 x1 (ix2 r n2) * x5 (ix2 r l) = keyRow x0 x1 x3 x4 x5 r n := by
  obtain ⟨l, hl⟩ := l
  obtain ⟨n1, hn1⟩ := n1
  obtain ⟨n2, hn2⟩ := n2
  change n.val % 128 = l at h
  change n1 = n.val / 128 * 128 + (l + 120) % 128 at h1
  change n2 = n.val / 128 * 128 + (l + 8) % 128 at h2
  subst h h1 h2
  rfl

def keyBlock (y : S512x256.Idx) : EReal := keyRow x0 x1 x3 x4 x5 (y 0) (y 1)

theorem out8_apply (r : Fin 512) (n : Fin 256) :
    out0_A_8 (F := Ideal) c i arg1 harg1 arg2 harg2 arg3 harg3 arg4 harg4 arg5 harg5 arg6 harg6 arg7 harg7 arg8 harg8 arg9 harg9 arg10 harg10 arg11 harg11
        x0 x1 x2 x3 x4 x5 x6 x7 (ix2 r n) = keyBlock x0 x1 x3 x4 x5 (ix2 r n) := by
  unfold out0_A_8
  frame_out
  refine View.canon_apply_of_pieces (Val := Elt Ideal) (e := .bf16) (keyBlock x0 x1 x3 x4 x5) _ ?_ _ (View.cover_of_tiledBy (s := S512x256) _ ![512, 128] (by sl_kernel_rfl) _)
  simp only [List.forall_mem_cons]
  refine ⟨?_, ?_, fun _ h => absurd h List.not_mem_nil⟩
  · intro x
    obtain ⟨r, l, rfl⟩ : ∃ (r : Fin 512) (l : Fin 128), x = ix2 r l := ⟨x 0, x 1, eq_ix2 x⟩
    refine (pay7_apply x0 x1 x3 x4 x5 r l).trans ((keyRow_eq x0 x1 x3 x4 x5 r l _ _ _ ?_ ?_ ?_).trans (congrArg₂ (keyRow x0 x1 x3 x4 x5) ?_ ?_))
    · show (128 + l.val) % 128 = l.val; omega
    · show 128 + (l.val + 120) % 128 = (128 + l.val) / 128 * 128 + (l.val + 120) % 128; omega
    · show 128 + (l.val + 8) % 128 = (128 + l.val) / 128 * 128 + (l.val + 8) % 128; omega
    · exact Fin.ext (by show r.val = 0 + 1 * r.val; omega)
    · exact Fin.ext (by show 128 + l.val = 128 + 1 * l.val; omega)
  · intro x
    obtain ⟨r, l, rfl⟩ : ∃ (r : Fin 512) (l : Fin 128), x = ix2 r l := ⟨x 0, x 1, eq_ix2 x⟩
    refine (pay6_apply x0 x1 x3 x4 x5 r l).trans ((keyRow_eq x0 x1 x3 x4 x5 r l _ _ _ ?_ ?_ ?_).trans (congrArg₂ (keyRow x0 x1 x3 x4 x5) ?_ ?_))
    · show l.val % 128 = l.val; omega
    · show (l.val + 120) % 128 = l.val / 128 * 128 + (l.val + 120) % 128; omega
    · show (l.val + 8) % 128 = l.val / 128 * 128 + (l.val + 8) % 128; omega
    · exact Fin.ext (by show r.val = 0 + 1 * r.val; omega)
    · exact Fin.ext (by show l.val = 0 + 1 * l.val; omega)

/-- The queries' block, of the product above and the tables. -/
def queryRow (n : Fin 1024) (r : Fin 512) : EReal :=
  rope 1024 rfl (fun n => k0_pay9 (F := Ideal) (k0_pay4 x0) x2 (ix2 ⟨n.val, by omega⟩ r)) (fun l => x6 (ix2 l r)) (fun l => x7 (ix2 l r)) n

def queryBlock (y : S1x1024x512.Idx) : EReal := queryRow x0 x2 x6 x7 (y 1) (y 2)

theorem queryBlock_eq (n : Fin 1024) (r : Fin 512) (y : S1x1024x512.Idx) (h1 : (y 1).val = n.val) (h2 : (y 2).val = r.val) :
    queryBlock x0 x2 x6 x7 y = queryRow x0 x2 x6 x7 n r := congrArg₂ (queryRow x0 x2 x6 x7) (Fin.ext h1) (Fin.ext h2)

theorem row_lo (j j' : Fin 1280) (l : Fin 8) (r : Fin 512) (y : S1x1024x512.Idx) (h1 : (y 1).val = j.val) (h2 : (y 2).val = r.val)
    (hl : j.val % 64 = l.val) (hj : j'.val = j.val + 8) :
    k0_pay9 (F := Ideal) (k0_pay4 x0) x2 (ix2 j r) * x6 (ix2 l r) - k0_pay9 (F := Ideal) (k0_pay4 x0) x2 (ix2 j' r) * x7 (ix2 l r)
      = queryBlock x0 x2 x6 x7 y := by
  have hy : (y 1).val < 1024 := (y 1).isLt
  rw [queryBlock_eq x0 x2 x6 x7 ⟨j.val, by omega⟩ r y h1 h2]
  unfold queryRow
  exact (rope_lo (N := 1024) rfl (fun n => k0_pay9 (F := Ideal) (k0_pay4 x0) x2 (ix2 ⟨n.val, by omega⟩ r)) (fun l => x6 (ix2 l r)) (fun l => x7 (ix2 l r))
    ⟨j.val, by omega⟩ ⟨j'.val, by omega⟩ l hl hj).symm

theorem row_mid (j j' : Fin 1280) (l : Fin 8) (r : Fin 512) (y : S1x1024x512.Idx) (h1 : (y 1).val = j.val) (h2 : (y 2).val = r.val)
    (hl : j.val % 64 = l.val + 8) (hj : j'.val + 8 = j.val) :
    k0_pay9 (F := Ideal) (k0_pay4 x0) x2 (ix2 j r) * x6 (ix2 l r) + k0_pay9 (F := Ideal) (k0_pay4 x0) x2 (ix2 j' r) * x7 (ix2 l r)
      = queryBlock x0 x2 x6 x7 y := by
  have hy : (y 1).val < 1024 := (y 1).isLt
  rw [queryBlock_eq x0 x2 x6 x7 ⟨j.val, by omega⟩ r y h1 h2]
  unfold queryRow
  exact (rope_mid (N := 1024) rfl (fun n => k0_pay9 (F := Ideal) (k0_pay4 x0) x2 (ix2 ⟨n.val, by omega⟩ r)) (fun l => x6 (ix2 l r)) (fun l => x7 (ix2 l r))
    ⟨j.val, by omega⟩ ⟨j'.val, by omega⟩ l hl hj).symm

theorem row_hi (j : Fin 1280) (r : Fin 512) (y : S1x1024x512.Idx) (h1 : (y 1).val = j.val) (h2 : (y 2).val = r.val) (hl : 16 ≤ j.val % 64) :
    k0_pay9 (F := Ideal) (k0_pay4 x0) x2 (ix2 j r) = queryBlock x0 x2 x6 x7 y := by
  have hy : (y 1).val < 1024 := (y 1).isLt
  rw [queryBlock_eq x0 x2 x6 x7 ⟨j.val, by omega⟩ r y h1 h2]
  unfold queryRow
  exact (rope_hi (N := 1024) rfl (fun n => k0_pay9 (F := Ideal) (k0_pay4 x0) x2 (ix2 ⟨n.val, by omega⟩ r)) (fun l => x6 (ix2 l r)) (fun l => x7 (ix2 l r))
    ⟨j.val, by omega⟩ hl).symm

theorem out9_apply (j : Fin 1024) (r : Fin 512) :
    out0_A_9 (F := Ideal) c i arg1 harg1 arg2 harg2 arg3 harg3 arg4 harg4 arg5 harg5 arg6 harg6 arg7 harg7 arg8 harg8 arg9 harg9 arg10 harg10 arg11 harg11
        x0 x1 x2 x3 x4 x5 x6 x7 (ix3 0 j r) = queryBlock x0 x2 x6 x7 (ix3 0 j r) := by
  unfold out0_A_9
  frame_out
  refine View.canon_apply_of_pieces (Val := Elt Ideal) (e := .bf16) (queryBlock x0 x2 x6 x7) _ ?_ _ (View.cover_of_tiledBy (s := S1x1024x512) _ ![1, 16, 512] (by sl_kernel_rfl) _)
  simp only [List.forall_mem_cons]
  repeat' refine And.intro ?_ ?_
  all_goals first
    | exact fun _ h => absurd h List.not_mem_nil
    | (intro x
       obtain ⟨a, r, rfl⟩ : ∃ (a : Fin 48) (r : Fin 512), x = ix3 0 a r :=
         ⟨x 1, x 2, (eq_ix3 x).trans (congrArg (fun z : Fin 1 => ix3 z (x 1) (x 2)) (Subsingleton.elim (α := Fin 1) (x 0) 0))⟩
       pointwise [k0_pay2, k0_pay13, k0_pay16, k0_pay18, k0_pay20, k0_pay21, k0_pay23, k0_pay25, k0_pay30, k0_pay32, k0_pay35, k0_pay37, k0_pay39,
         k0_pay40, k0_pay42, k0_pay44, k0_pay49, k0_pay51]
       refine row_hi x0 x2 x6 x7 _ r _ ?_ ?_ ?_
       · simp [Rect.emb, Rect.unit]
       · simp [Rect.emb, Rect.unit]
       · dsimp only
         omega)
    | (intro x
       obtain ⟨a, r, rfl⟩ : ∃ (a : Fin 16) (r : Fin 512), x = ix3 0 a r :=
         ⟨x 1, x 2, (eq_ix3 x).trans (congrArg (fun z : Fin 1 => ix3 z (x 1) (x 2)) (Subsingleton.elim (α := Fin 1) (x 0) 0))⟩
       pointwise [k0_pay1, k0_pay10, k0_pay11, k0_pay12, k0_pay14, k0_pay15, k0_pay17, k0_pay19, k0_pay22, k0_pay24, k0_pay26, k0_pay27, k0_pay28,
         k0_pay29, k0_pay31, k0_pay33, k0_pay34, k0_pay36, k0_pay38, k0_pay41, k0_pay43, k0_pay45, k0_pay46, k0_pay47, k0_pay48, k0_pay50, k0_pay52]
       by_cases h : a.val < 8
       · rw [dif_pos h]
         refine row_lo x0 x2 x6 x7 _ _ _ r _ ?_ ?_ ?_ ?_
         · simp [Rect.emb, Rect.unit]
         · simp [Rect.emb, Rect.unit]
         · dsimp only
           omega
         · dsimp only
           omega
       · rw [dif_neg h]
         refine row_mid x0 x2 x6 x7 _ _ _ r _ ?_ ?_ ?_ ?_
         · simp [Rect.emb, Rect.unit] <;> omega
         · simp [Rect.emb, Rect.unit]
         · dsimp only
           omega
         · dsimp only
           omega)

end

end Cert.QkvIdeal.Gen

end
-- ==== Proof.QkvRef.lean ====
/- The odd layers' projection's reference over the extended reals, one token at a time. -/
module

public import proofs.«01_k».proof.Proof.QkvVal
public import proofs.«01_k».proof.Proof.ProjRef
public import proofs.«01_k».proof.Proof.Gen.QkvReferenceIdeal.Read

@[expose] public section

set_option maxRecDepth 16384

noncomputable section

namespace Cert.QkvSpec

open Idealize.ShloMosaic Idealize.ShloMosaic.TcCoe Idealize.SL.Sem
open Cert.QkvReferenceIdeal Cert.QkvReferenceIdeal.Read
open Cert.ProjSpec (scale tokenAt)

/-- The angle of pair `l` at place `s`, as the programs spell it. -/
def angle (s l : ℕ) : EReal :=
  FloatOps.sitofp (F := Ideal) .f32 (BitVec.ofNat 32 s)
    * Ideal.pow (Ideal.ofBits .f32 0x48F42400#32)
        (Ideal.div (-FloatOps.sitofp (F := Ideal) .f32 (BitVec.ofNat 32 l) * Ideal.ofBits .f32 0x40000000#32) (Ideal.ofBits .f32 0x41800000#32))

/-- Its cosine and its sine. -/
def cosAt (s : Fin 4096) (l : Fin 8) : EReal := Ideal.cos (angle s.val l.val)
def sinAt (s : Fin 4096) (l : Fin 8) : EReal := Ideal.sin (angle s.val l.val)

variable (x0 : FVec Ideal S16384x1024 .f32) (x1 : FVec Ideal S1024x1280 .f32)

/-- The projection of token `R`. -/
def projAt (R : Fin 16384) : Fin 1280 → EReal := proj (fun q => x0 (ix2 R q)) (fun q n => x1 (ix2 q n))

theorem whole (R : Fin 16384) (n : Fin 1280) : val_main_v0 (F := Ideal) x0 x1 (ix2 R n) = projAt x0 x1 R n := by
  rw [val_main_v0_apply]
  unfold projAt proj
  refine Finset.sum_congr rfl fun q _ => congrArg₂ (· * ·) (congrArg x0 ?_) (congrArg x1 ?_)
  · exact funext fun a => by match a with | ⟨0, _⟩ => rfl | ⟨1, _⟩ => rfl
  · exact funext fun a => by match a with | ⟨0, _⟩ => rfl | ⟨1, _⟩ => rfl

/-- A column cut out of the projection. -/
theorem column (R : Fin 16384) (n : Fin 1280) (i : S16384x1280.Idx) (h0 : (i 0).val = R.val) (h1 : (i 1).val = n.val) :
    val_main_v0 (F := Ideal) x0 x1 i = projAt x0 x1 R n := by
  rw [← whole]
  exact congrArg _ (funext fun a => Fin.ext (by match a with | ⟨0, _⟩ => exact h0 | ⟨1, _⟩ => exact h1))

/-! The tables. -/

theorem cos_table (s : Fin 4096) (l : Fin 8) : val_main_v19 (F := Ideal) (ix2 s l) = cosAt s l := by
  rw [val_main_v19_apply, val_main_v18_apply, val_main_v16_apply, val_main_v14_apply, val_main_v13_apply, val_main_v12_apply, val_main_v17_apply,
    val_main_v15_apply, val_main_v11_apply, val_main_v10_apply, val_main_cst_1_apply, val_main_v9_apply, val_main_v8_apply, val_main_cst_0_apply,
    val_main_v7_apply, val_main_v6_apply, val_main_cst_apply, val_main_v5_apply]
  rfl

theorem sin_table (s : Fin 4096) (l : Fin 8) : val_main_v21 (F := Ideal) (ix2 s l) = sinAt s l := by
  rw [val_main_v21_apply, val_main_v18_apply, val_main_v16_apply, val_main_v14_apply, val_main_v13_apply, val_main_v12_apply, val_main_v17_apply,
    val_main_v15_apply, val_main_v11_apply, val_main_v10_apply, val_main_cst_1_apply, val_main_v9_apply, val_main_v8_apply, val_main_cst_0_apply,
    val_main_v7_apply, val_main_v6_apply, val_main_cst_apply, val_main_v5_apply]
  rfl

theorem cos_at (i : S1x4096x1x8.Idx) (s : Fin 4096) (l : Fin 8) (hs : (i 1).val = s.val) (hl : (i 3).val = l.val) :
    val_main_v20 (F := Ideal) i = cosAt s l := by
  rw [val_main_v20_apply, ← cos_table]
  exact congrArg _ (funext fun a => Fin.ext (by match a with | ⟨0, _⟩ => exact hs | ⟨1, _⟩ => exact hl))

theorem sin_at (i : S1x4096x1x8.Idx) (s : Fin 4096) (l : Fin 8) (hs : (i 1).val = s.val) (hl : (i 3).val = l.val) :
    val_main_v22 (F := Ideal) i = sinAt s l := by
  rw [val_main_v22_apply, ← sin_table]
  exact congrArg _ (funext fun a => Fin.ext (by match a with | ⟨0, _⟩ => exact hs | ⟨1, _⟩ => exact hl))

/-! The queries. -/

theorem query_at (i : S4x4096x16x64.Idx) (b : Fin 4) (s : Fin 4096) (n : Fin 1024) (hb : (i 0).val = b.val) (hs : (i 1).val = s.val)
    (hn : (i 2).val * 64 + (i 3).val = n.val) : val_main_v25 (F := Ideal) x0 x1 i = queryIn (projAt x0 x1 (tokenAt b s)) n := by
  rw [val_main_v25_apply, val_main_v24_apply, val_main_v23_apply, val_main_cst_2_apply, val_main_v1_apply]
  unfold queryIn
  refine congrArg₂ (· * ·) (column x0 x1 _ _ _ ?_ ?_) rfl
  · show ((((i 0).val * 4096 + (i 1).val) * 16 + (i 2).val) * 64 + (i 3).val) / 1024 = b.val * 4096 + s.val
    rw [hb, hs]; omega
  · show ((((i 0).val * 4096 + (i 1).val) * 16 + (i 2).val) * 64 + (i 3).val) % 1024 = n.val
    rw [hb, hs]; omega

theorem queries (b : Fin 4) (s : Fin 4096) (h : Fin 16) (d : Fin 64) : val_main_v39 (F := Ideal) x0 x1 (ix4 b s h d)
    = queryOf (projAt x0 x1 (tokenAt b s)) (cosAt s) (sinAt s) ⟨h.val * 64 + d.val, by omega⟩ := by
  unfold queryOf
  pointwise [val_main_v39]
  by_cases h1 : d.val < 8
  · rw [dif_pos h1, val_main_v32_apply, val_main_v29_apply, val_main_v31_apply, val_main_v26_apply, val_main_v27_apply, val_main_v28_apply, val_main_v30_apply,
      rope_lo rfl _ _ _ ⟨h.val * 64 + d.val, by omega⟩ ⟨h.val * 64 + d.val + 8, by omega⟩ ⟨d.val, h1⟩ (by show (h.val * 64 + d.val) % 64 = d.val; omega) rfl]
    refine congrArg₂ (· - ·) (congrArg₂ (· * ·) (query_at x0 x1 _ b s _ rfl rfl rfl) (cos_at _ _ _ rfl rfl))
      (congrArg₂ (· * ·) (query_at x0 x1 _ b s _ rfl rfl ?_) (sin_at _ _ _ rfl rfl))
    show h.val * 64 + (8 + d.val) = h.val * 64 + d.val + 8
    omega
  rw [dif_neg h1]
  by_cases h2 : d.val < 16
  · rw [dif_pos (by omega), val_main_v37_apply, val_main_v34_apply, val_main_v36_apply, val_main_v26_apply, val_main_v27_apply, val_main_v33_apply, val_main_v35_apply,
      rope_mid rfl _ _ _ ⟨h.val * 64 + d.val, by omega⟩ ⟨h.val * 64 + d.val - 8, by omega⟩ ⟨d.val - 8, by omega⟩
        (by show (h.val * 64 + d.val) % 64 = d.val - 8 + 8; omega) (by show h.val * 64 + d.val - 8 + 8 = h.val * 64 + d.val; omega)]
    refine congrArg₂ (· + ·) (congrArg₂ (· * ·) (query_at x0 x1 _ b s _ rfl rfl ?_) (cos_at _ _ _ rfl rfl))
      (congrArg₂ (· * ·) (query_at x0 x1 _ b s _ rfl rfl ?_) (sin_at _ _ _ rfl rfl))
    · show h.val * 64 + (8 + (d.val - 8)) = h.val * 64 + d.val
      omega
    · show h.val * 64 + (d.val - 8) = h.val * 64 + d.val - 8
      omega
  · rw [dif_neg (by omega), val_main_v38_apply, rope_hi rfl _ _ _ ⟨h.val * 64 + d.val, by omega⟩ (by show 16 ≤ (h.val * 64 + d.val) % 64; omega)]
    refine query_at x0 x1 _ b s _ rfl rfl ?_
    show h.val * 64 + (16 + (d.val - 8 - 8)) = h.val * 64 + d.val
    omega

theorem queries_out (b : Fin 4) (n : Fin 1024) (s : Fin 4096) : val_main_v65 (F := Ideal) x0 x1 (ix3 b n s)
    = queryOf (projAt x0 x1 (tokenAt b s)) (cosAt s) (sinAt s) n := by
  rw [val_main_v65_apply, val_main_v64_apply, val_main_v40_apply]
  have e : n = ⟨(⟨n.val / 64, by omega⟩ : Fin 16).val * 64 + (⟨n.val % 64, by omega⟩ : Fin 64).val, by show n.val / 64 * 64 + n.val % 64 < 1024; omega⟩ :=
    Fin.ext (by show n.val = n.val / 64 * 64 + n.val % 64; omega)
  conv_rhs => rw [e]
  rw [← queries]
  refine congrArg (val_main_v39 (F := Ideal) x0 x1) (funext fun a => Fin.ext ?_)
  match a with
  | ⟨0, _⟩ => show ((b.val * 4096 + s.val) * 1024 + n.val) / 4194304 = b.val; omega
  | ⟨1, _⟩ => show ((b.val * 4096 + s.val) * 1024 + n.val) / 1024 % 4096 = s.val; omega
  | ⟨2, _⟩ => show ((b.val * 4096 + s.val) * 1024 + n.val) / 64 % 16 = n.val / 64; omega
  | ⟨3, _⟩ => show ((b.val * 4096 + s.val) * 1024 + n.val) % 64 = n.val % 64; omega

/-! The keys: head `g` of the two is heads `2 g` and `2 g + 1` of the result's four. -/

theorem key_at (i : S4x4096x2x64.Idx) (b : Fin 4) (s : Fin 4096) (n : Fin 256) (hb : (i 0).val = b.val) (hs : (i 1).val = s.val)
    (hg : (i 2).val = n.val / 128) (hd : (i 3).val = n.val % 64) : val_main_v41 (F := Ideal) x0 x1 i = keyIn (projAt x0 x1 (tokenAt b s)) n := by
  rw [val_main_v41_apply, val_main_v2_apply]
  unfold keyIn
  refine column x0 x1 _ _ _ ?_ ?_
  · show ((((i 0).val * 4096 + (i 1).val) * 2 + (i 2).val) * 64 + (i 3).val) / 128 = b.val * 4096 + s.val
    rw [hb, hs, hg, hd]; omega
  · show 1024 + ((((i 0).val * 4096 + (i 1).val) * 2 + (i 2).val) * 64 + (i 3).val) % 128 = 1024 + n.val / 128 * 64 + n.val % 64
    rw [hb, hs, hg, hd]; omega

theorem keys (b : Fin 4) (s : Fin 4096) (g : Fin 2) (d : Fin 64) (n : Fin 256) (hg : g.val = n.val / 128) (hd : d.val = n.val % 64) :
    val_main_v55 (F := Ideal) x0 x1 (ix4 b s g d) = keyOf (projAt x0 x1 (tokenAt b s)) (cosAt s) (sinAt s) n := by
  unfold keyOf
  pointwise [val_main_v55]
  by_cases h1 : d.val < 8
  · rw [dif_pos h1, val_main_v48_apply, val_main_v45_apply, val_main_v47_apply, val_main_v42_apply, val_main_v43_apply, val_main_v44_apply, val_main_v46_apply,
      rope_lo rfl _ _ _ n ⟨n.val + 8, by omega⟩ ⟨d.val, h1⟩ hd.symm rfl]
    refine congrArg₂ (· - ·) (congrArg₂ (· * ·) (key_at x0 x1 _ b s _ rfl rfl hg hd) (cos_at _ _ _ rfl rfl))
      (congrArg₂ (· * ·) (key_at x0 x1 _ b s _ rfl rfl ?_ ?_) (sin_at _ _ _ rfl rfl))
    · show g.val = (n.val + 8) / 128
      omega
    · show 8 + d.val = (n.val + 8) % 64
      omega
  rw [dif_neg h1]
  by_cases h2 : d.val < 16
  · rw [dif_pos (by omega), val_main_v53_apply, val_main_v50_apply, val_main_v52_apply, val_main_v42_apply, val_main_v43_apply, val_main_v49_apply, val_main_v51_apply,
      rope_mid rfl _ _ _ n ⟨n.val - 8, by omega⟩ ⟨d.val - 8, by omega⟩ (by show n.val % 64 = d.val - 8 + 8; omega) (by show n.val - 8 + 8 = n.val; omega)]
    refine congrArg₂ (· + ·) (congrArg₂ (· * ·) (key_at x0 x1 _ b s _ rfl rfl hg ?_) (cos_at _ _ _ rfl rfl))
      (congrArg₂ (· * ·) (key_at x0 x1 _ b s _ rfl rfl ?_ ?_) (sin_at _ _ _ rfl rfl))
    · show 8 + (d.val - 8) = n.val % 64
      omega
    · show g.val = (n.val - 8) / 128
      omega
    · show d.val - 8 = (n.val - 8) % 64
      omega
  · rw [dif_neg (by omega), val_main_v54_apply, rope_hi rfl _ _ _ n (by omega)]
    refine key_at x0 x1 _ b s _ rfl rfl hg ?_
    show 16 + (d.val - 8 - 8) = n.val % 64
    omega

theorem keys_four (b : Fin 4) (s : Fin 4096) (q : Fin 4) (d : Fin 64) :
    val_main_v57 (F := Ideal) x0 x1 (ix4 b s q d) = val_main_v55 (F := Ideal) x0 x1 (ix4 b s ⟨q.val / 2, by omega⟩ d) := by
  rw [val_main_v57_apply, val_main_v56_apply]
  refine congrArg (val_main_v55 (F := Ideal) x0 x1) (funext fun a => Fin.ext ?_)
  match a with
  | ⟨0, _⟩ => show (((b.val * 4096 + s.val) * 4 + q.val) * 64 + d.val) / 1048576 = b.val; omega
  | ⟨1, _⟩ => show (((b.val * 4096 + s.val) * 4 + q.val) * 64 + d.val) / 256 % 4096 = s.val; omega
  | ⟨2, _⟩ => show (((b.val * 4096 + s.val) * 4 + q.val) * 64 + d.val) / 128 % 2 = q.val / 2; omega
  | ⟨3, _⟩ => show (((b.val * 4096 + s.val) * 4 + q.val) * 64 + d.val) % 64 = d.val; omega

theorem keys_out (b : Fin 4) (s : Fin 4096) (n : Fin 256) : val_main_v63 (F := Ideal) x0 x1 (ix2 (tokenAt b s) n)
    = keyOf (projAt x0 x1 (tokenAt b s)) (cosAt s) (sinAt s) n := by
  rw [val_main_v63_apply, val_main_v58_apply, ← keys x0 x1 b s ⟨(⟨n.val / 64, by omega⟩ : Fin 4).val / 2, by show n.val / 64 / 2 < 2; omega⟩
    ⟨n.val % 64, by omega⟩ n (by show n.val / 64 / 2 = n.val / 128; omega) rfl, ← keys_four]
  refine congrArg (val_main_v57 (F := Ideal) x0 x1) (funext fun a => Fin.ext ?_)
  match a with
  | ⟨0, _⟩ => show ((b.val * 4096 + s.val) * 256 + n.val) / 1048576 = b.val; omega
  | ⟨1, _⟩ => show ((b.val * 4096 + s.val) * 256 + n.val) / 256 % 4096 = s.val; omega
  | ⟨2, _⟩ => show ((b.val * 4096 + s.val) * 256 + n.val) / 64 % 4 = n.val / 64; omega
  | ⟨3, _⟩ => show ((b.val * 4096 + s.val) * 256 + n.val) % 64 = n.val % 64; omega

/-! The values, likewise. -/

theorem values (b : Fin 4) (s : Fin 4096) (g : Fin 2) (d : Fin 64) (n : Fin 256) (hg : g.val = n.val / 128) (hd : d.val = n.val % 64) :
    val_main_v59 (F := Ideal) x0 x1 (ix4 b s g d) = valueOf (projAt x0 x1 (tokenAt b s)) n := by
  rw [val_main_v59_apply, val_main_v3_apply]
  unfold valueOf
  refine column x0 x1 _ _ _ ?_ ?_
  · show (((b.val * 4096 + s.val) * 2 + g.val) * 64 + d.val) / 128 = b.val * 4096 + s.val
    omega
  · show 1152 + (((b.val * 4096 + s.val) * 2 + g.val) * 64 + d.val) % 128 = 1152 + n.val / 128 * 64 + n.val % 64
    omega

theorem values_four (b : Fin 4) (s : Fin 4096) (q : Fin 4) (d : Fin 64) :
    val_main_v61 (F := Ideal) x0 x1 (ix4 b s q d) = val_main_v59 (F := Ideal) x0 x1 (ix4 b s ⟨q.val / 2, by omega⟩ d) := by
  rw [val_main_v61_apply, val_main_v60_apply]
  refine congrArg (val_main_v59 (F := Ideal) x0 x1) (funext fun a => Fin.ext ?_)
  match a with
  | ⟨0, _⟩ => show (((b.val * 4096 + s.val) * 4 + q.val) * 64 + d.val) / 1048576 = b.val; omega
  | ⟨1, _⟩ => show (((b.val * 4096 + s.val) * 4 + q.val) * 64 + d.val) / 256 % 4096 = s.val; omega
  | ⟨2, _⟩ => show (((b.val * 4096 + s.val) * 4 + q.val) * 64 + d.val) / 128 % 2 = q.val / 2; omega
  | ⟨3, _⟩ => show (((b.val * 4096 + s.val) * 4 + q.val) * 64 + d.val) % 64 = d.val; omega

theorem values_out (b : Fin 4) (n : Fin 256) (s : Fin 4096) : val_main_v67 (F := Ideal) x0 x1 (ix3 b n s) = valueOf (projAt x0 x1 (tokenAt b s)) n := by
  rw [val_main_v67_apply, val_main_v66_apply, val_main_v62_apply, ← values x0 x1 b s ⟨(⟨n.val / 64, by omega⟩ : Fin 4).val / 2, by show n.val / 64 / 2 < 2; omega⟩
    ⟨n.val % 64, by omega⟩ n (by show n.val / 64 / 2 = n.val / 128; omega) rfl, ← values_four]
  refine congrArg (val_main_v61 (F := Ideal) x0 x1) (funext fun a => Fin.ext ?_)
  match a with
  | ⟨0, _⟩ => show ((b.val * 4096 + s.val) * 256 + n.val) / 1048576 = b.val; omega
  | ⟨1, _⟩ => show ((b.val * 4096 + s.val) * 256 + n.val) / 256 % 4096 = s.val; omega
  | ⟨2, _⟩ => show ((b.val * 4096 + s.val) * 256 + n.val) / 64 % 4 = n.val / 64; omega
  | ⟨3, _⟩ => show ((b.val * 4096 + s.val) * 256 + n.val) % 64 = n.val % 64; omega

end Cert.QkvSpec

end
-- ==== Proof.QkvArray.lean ====
/- The odd layers' projection's result arrays: each point's blocks are its tokens' parts of them, and the blocks together. -/
module

public import proofs.«01_k».proof.Proof.QkvRef

@[expose] public section

set_option maxRecDepth 16384

noncomputable section

namespace Cert.QkvIdeal.Gen

open Idealize.ShloMosaic Idealize.ShloMosaic.TcCoe Idealize.SL.Sem StableHlo
open Idealize.ShloMosaic.Pipeline (Dat)
open Cert.QkvSpec
open Cert.ProjSpec (tokenAt scale sum_scale)

/-- The tables' gather: every lane takes the column that its index names. -/
@[pointwise] theorem gather_lane {α : Type} (x : S4096x8.Idx → α) (idx : IVec S128x1 32) (s : Fin 4096) (l : Fin 128) :
    Host.gather gather_S4096x8_S128x1_S4096x128_0_1_n_n_1_1_40961 x idx (ix2 s l)
      = x (ix2 s ⟨min (idx (ix2 l 0)).toInt.toNat 7, by omega⟩) := by
  unfold Host.gather
  refine congrArg x (funext fun a => Fin.ext ?_)
  match a with
  | ⟨0, _⟩ =>
    show 0 + 0 + s.val = s.val
    omega
  | ⟨1, _⟩ =>
    show min (idx _).toInt.toNat (8 - 1) + 0 + 0 = min (idx (ix2 l 0)).toInt.toNat 7
    have e : ∀ i : S128x1.Idx, (i 0).val = l.val → i = ix2 l 0 := fun i h => funext fun b => Fin.ext (by
      match b with
      | ⟨0, _⟩ => exact h
      | ⟨1, _⟩ => show (i 1).val = 0; have := (i 1).isLt; change (i 1).val < 1 at this; omega)
    refine congrArg (fun j => min (idx j).toInt.toNat 7) (e _ ?_)
    rfl

/-! A choice by a lane's number, out of a table that the lane's number names. -/

theorem pick_cos (s : Fin 4096) (l : Fin 128) (b : BitVec 1) (k : ℕ) (o : EReal) (p : Prop) [Decidable p] (hb : b = if p then 1#1 else 0#1)
    (hk : k = l.val % 8) :
    Scalar.select b (Ideal.cos (FloatOps.sitofp (F := Ideal) .f32 (BitVec.ofNat 32 s.val)
        * Ideal.pow (Ideal.ofBits .f32 0x48F42400#32)
            (Ideal.div (-FloatOps.sitofp (F := Ideal) .f32 (BitVec.ofNat 32 k) * Ideal.ofBits .f32 0x40000000#32) (Ideal.ofBits .f32 0x41800000#32)))) o
      = if p then cosAt s ⟨l.val % 8, by omega⟩ else o := by
  subst hb hk
  split_ifs <;> rfl

theorem pick_sin (s : Fin 4096) (l : Fin 128) (b : BitVec 1) (k : ℕ) (o : EReal) (p : Prop) [Decidable p] (hb : b = if p then 1#1 else 0#1)
    (hk : k = l.val % 8) :
    Scalar.select b (Ideal.sin (FloatOps.sitofp (F := Ideal) .f32 (BitVec.ofNat 32 s.val)
        * Ideal.pow (Ideal.ofBits .f32 0x48F42400#32)
            (Ideal.div (-FloatOps.sitofp (F := Ideal) .f32 (BitVec.ofNat 32 k) * Ideal.ofBits .f32 0x40000000#32) (Ideal.ofBits .f32 0x41800000#32)))) o
      = if p then sinAt s ⟨l.val % 8, by omega⟩ else o := by
  subst hb hk
  split_ifs <;> rfl

theorem pick_neg_sin (s : Fin 4096) (l : Fin 128) (b : BitVec 1) (k : ℕ) (o : EReal) (p : Prop) [Decidable p] (hb : b = if p then 1#1 else 0#1)
    (hk : k = l.val % 8) :
    Scalar.select b (-Ideal.sin (FloatOps.sitofp (F := Ideal) .f32 (BitVec.ofNat 32 s.val)
        * Ideal.pow (Ideal.ofBits .f32 0x48F42400#32)
            (Ideal.div (-FloatOps.sitofp (F := Ideal) .f32 (BitVec.ofNat 32 k) * Ideal.ofBits .f32 0x40000000#32) (Ideal.ofBits .f32 0x41800000#32)))) o
      = if p then -sinAt s ⟨l.val % 8, by omega⟩ else o := by
  subst hb hk
  split_ifs <;> rfl

variable (m : (ℓ : Loc nD τ sig) → Buf (Elt Ideal) ℓ) (c : Dev nD)

/-- The arguments, at their shapes. -/
abbrev argX : FVec Ideal S16384x1024 .f32 := m ((c : Thread nD τ).loc main_arg0)
abbrev argW : FVec Ideal S1024x1280 .f32 := m ((c : Thread nD τ).loc main_arg1)

/-- What the host makes: the keys' tables, the keys' weights, the others' transposed, the queries' tables. -/
abbrev arrC : FVec Ideal S4096x128 .f32 := V m c main_v41
abbrev arrA : FVec Ideal S4096x128 .f32 := V m c main_v56
abbrev arrB : FVec Ideal S4096x128 .f32 := V m c main_v68
abbrev arrK : FVec Ideal S1024x256 .bf16 := V m c main_v6
abbrev arrT : FVec Ideal S1280x1024 .bf16 := V m c main_v11
abbrev arrCt : FVec Ideal S8x4096 .f32 := V m c main_v69
abbrev arrSt : FVec Ideal S8x4096 .f32 := V m c main_v70

theorem arrC_apply (s : Fin 4096) (l : Fin 128) : arrC m c (ix2 s l) = if l.val % 64 < 16 then cosAt s ⟨l.val % 8, by omega⟩ else 1 := by
  after_reads_at
  refine (pick_cos s l _ _ _ (l.val % 64 < 16) ?_ ?_).trans ?_
  · clear s
    revert l
    decide +kernel
  · clear s
    revert l
    decide +kernel
  · exact congrArg (fun o => if l.val % 64 < 16 then cosAt s ⟨l.val % 8, by omega⟩ else o) Cert.Consts.f32_one

theorem arrA_apply (s : Fin 4096) (l : Fin 128) :
    arrA m c (ix2 s l) = if 8 ≤ l.val % 64 ∧ l.val % 64 < 16 then sinAt s ⟨l.val % 8, by omega⟩ else 0 := by
  after_reads_at
  refine (pick_sin s l _ _ _ (8 ≤ l.val % 64 ∧ l.val % 64 < 16) ?_ ?_).trans ?_
  · clear s
    revert l
    decide +kernel
  · clear s
    revert l
    decide +kernel
  · exact congrArg (fun o => if 8 ≤ l.val % 64 ∧ l.val % 64 < 16 then sinAt s ⟨l.val % 8, by omega⟩ else o) Cert.Consts.f32_zero

theorem arrB_apply (s : Fin 4096) (l : Fin 128) : arrB m c (ix2 s l) = if l.val % 64 < 8 then -sinAt s ⟨l.val % 8, by omega⟩ else 0 := by
  after_reads_at
  refine (pick_neg_sin s l _ _ _ (l.val % 64 < 8) ?_ ?_).trans ?_
  · clear s
    revert l
    decide +kernel
  · clear s
    revert l
    decide +kernel
  · exact congrArg (fun o => if l.val % 64 < 8 then -sinAt s ⟨l.val % 8, by omega⟩ else o) Cert.Consts.f32_zero

theorem arrCt_apply (l : Fin 8) (s : Fin 4096) : arrCt m c (ix2 l s) = cosAt s l := by
  after_reads_at
  rfl

theorem arrSt_apply (l : Fin 8) (s : Fin 4096) : arrSt m c (ix2 l s) = sinAt s l := by
  after_reads_at
  rfl

theorem arrK_apply (q : Fin 1024) (n : Fin 256) : arrK m c (ix2 q n) = keyIn (fun n => argW m c (ix2 q n)) n := by
  unfold keyIn
  after_reads_at
  by_cases h1 : n.val < 64
  · rw [dif_pos h1]
    after_reads_at
    exact congrArg (fun z => argW m c (ix2 q z)) (Fin.ext (by show 1024 + n.val = 1024 + n.val / 128 * 64 + n.val % 64; omega))
  rw [dif_neg h1]
  by_cases h2 : n.val < 128
  · rw [dif_pos (by omega)]
    after_reads_at
    exact congrArg (fun z => argW m c (ix2 q z)) (Fin.ext (by show 1024 + (n.val - 64) = 1024 + n.val / 128 * 64 + n.val % 64; omega))
  rw [dif_neg (by omega)]
  by_cases h3 : n.val < 192
  · rw [dif_pos (by omega)]
    after_reads_at
    exact congrArg (fun z => argW m c (ix2 q z)) (Fin.ext (by show 1088 + (n.val - 64 - 64) = 1024 + n.val / 128 * 64 + n.val % 64; omega))
  rw [dif_neg (by omega)]
  after_reads_at
  exact congrArg (fun z => argW m c (ix2 q z)) (Fin.ext (by show 1088 + (n.val - 64 - 64 - 64) = 1024 + n.val / 128 * 64 + n.val % 64; omega))

theorem arrT_query (n : Fin 1280) (q : Fin 1024) (hn : n.val < 1024) : arrT m c (ix2 n q) = queryIn (fun n => argW m c (ix2 q n)) ⟨n.val, hn⟩ := by
  unfold queryIn
  after_reads_at
  rw [dif_pos hn]
  after_reads_at
  rfl

theorem arrT_value (n : Fin 1280) (j : Fin 256) (q : Fin 1024) (hn : n.val = 1024 + j.val) : arrT m c (ix2 n q) = valueOf (fun n => argW m c (ix2 q n)) j := by
  unfold valueOf
  after_reads_at
  rw [dif_neg (by omega)]
  by_cases h1 : j.val < 64
  · rw [dif_pos (by omega)]
    after_reads_at
    exact congrArg (fun z => argW m c (ix2 q z)) (Fin.ext (by show 1152 + (n.val - 1024) = 1152 + j.val / 128 * 64 + j.val % 64; omega))
  rw [dif_neg (by omega)]
  by_cases h2 : j.val < 128
  · rw [dif_pos (by omega)]
    after_reads_at
    exact congrArg (fun z => argW m c (ix2 q z)) (Fin.ext (by show 1152 + (n.val - 1024 - 64) = 1152 + j.val / 128 * 64 + j.val % 64; omega))
  rw [dif_neg (by omega)]
  by_cases h3 : j.val < 192
  · rw [dif_pos (by omega)]
    after_reads_at
    exact congrArg (fun z => argW m c (ix2 q z)) (Fin.ext (by show 1216 + (n.val - 1024 - 64 - 64) = 1152 + j.val / 128 * 64 + j.val % 64; omega))
  rw [dif_neg (by omega)]
  after_reads_at
  exact congrArg (fun z => argW m c (ix2 q z)) (Fin.ext (by show 1216 + (n.val - 1024 - 64 - 64 - 64) = 1152 + j.val / 128 * 64 + j.val % 64; omega))

/-- The result arrays. -/
def keysOut : FVec Ideal S16384x256 .bf16 := fun y =>
  keyOf (projAt (argX m c) (argW m c) (y 0)) (cosAt ⟨(y 0).val % 4096, by omega⟩) (sinAt ⟨(y 0).val % 4096, by omega⟩) (y 1)
def queriesOut : FVec Ideal S4x1024x4096 .bf16 := fun y => queryOf (projAt (argX m c) (argW m c) (tokenAt (y 0) (y 2))) (cosAt (y 2)) (sinAt (y 2)) (y 1)
def valuesOut : FVec Ideal S4x256x4096 .bf16 := fun y => valueOf (projAt (argX m c) (argW m c) (tokenAt (y 0) (y 2))) (y 1)

theorem t_lt (t : Fin grid0.N) : t.val < 32 := lt_of_lt_of_eq t.isLt N_0

/-- The token in row `r` of the point's block, its sequence and its place there. -/
def rowAt (t : Fin grid0.N) (r : Fin 512) : Fin 16384 := ⟨512 * t.val + r.val, by have := t_lt t; omega⟩
def seqOf (t : Fin grid0.N) : Fin 4 := ⟨t.val / 8, by have := t_lt t; omega⟩
def placeOf (t : Fin grid0.N) (r : Fin 512) : Fin 4096 := ⟨512 * (t.val % 8) + r.val, by have := r.isLt; omega⟩

theorem row_eq (t : Fin grid0.N) (r : Fin 512) : rowAt t r = tokenAt (seqOf t) (placeOf t r) :=
  Fin.ext (by show 512 * t.val + r.val = t.val / 8 * 4096 + (512 * (t.val % 8) + r.val); omega)

theorem tr0 : ∀ t : Fin grid0.N, cc0_transform_0 (grid0.coords t) = ![t.val, 0] := by decide +kernel
theorem tr3 : ∀ t : Fin grid0.N, cc0_transform_3 (grid0.coords t) = ![t.val % 8, 0] := by decide +kernel
theorem tr4 : ∀ t : Fin grid0.N, cc0_transform_4 (grid0.coords t) = ![t.val % 8, 0] := by decide +kernel
theorem tr5 : ∀ t : Fin grid0.N, cc0_transform_5 (grid0.coords t) = ![t.val % 8, 0] := by decide +kernel
theorem tr6 : ∀ t : Fin grid0.N, cc0_transform_6 (grid0.coords t) = ![0, t.val % 8] := by decide +kernel
theorem tr7 : ∀ t : Fin grid0.N, cc0_transform_7 (grid0.coords t) = ![0, t.val % 8] := by decide +kernel
theorem tr8 : ∀ t : Fin grid0.N, cc0_transform_8 (grid0.coords t) = ![t.val, 0] := by decide +kernel
theorem tr9 : ∀ t : Fin grid0.N, cc0_transform_9 (grid0.coords t) = ![t.val / 8, 0, t.val % 8] := by decide +kernel
theorem tr10 : ∀ t : Fin grid0.N, cc0_transform_10 (grid0.coords t) = ![t.val / 8, 0, t.val % 8] := by decide +kernel

/-! The input blocks of a point. -/

theorem blk0 (t : Fin cfg0.N) (r : Fin 512) (q : Fin 1024) : (iblk m c 0 t : FVec Ideal S512x1024 .f32) (ix2 r q) = argX m c (ix2 (rowAt t r) q) := by
  unfold iblk
  rw [View.read_apply]
  refine Eq.trans (congrFun (V_main_arg0 m c) _) (congrArg (argX m c) (funext fun a => Fin.ext ?_))
  have e := tr0 t
  match a with
  | ⟨0, _⟩ => show cc0_transform_0 (grid0.coords t) 0 * 512 + 1 * r.val = 512 * t.val + r.val; rw [e]; show t.val * 512 + 1 * r.val = _; omega
  | ⟨1, _⟩ => show cc0_transform_0 (grid0.coords t) 1 * 1024 + 1 * q.val = q.val; rw [e]; show 0 * 1024 + 1 * q.val = _; omega

theorem blk1 (t : Fin cfg0.N) (q : Fin 1024) (n : Fin 256) :
    (iblk m c 1 t : FVec Ideal S1024x256 .bf16) (ix2 q n) = keyIn (fun n => argW m c (ix2 q n)) n := by
  unfold iblk
  rw [View.read_apply]
  refine Eq.trans (congrArg (arrK m c) (funext fun a => Fin.ext ?_)) (arrK_apply m c q n)
  match a with
  | ⟨0, _⟩ => show 0 * 1024 + 1 * q.val = q.val; omega
  | ⟨1, _⟩ => show 0 * 256 + 1 * n.val = n.val; omega

theorem blk2 (t : Fin cfg0.N) (n : Fin 1280) (q : Fin 1024) :
    (iblk m c 2 t : FVec Ideal S1280x1024 .bf16) (ix2 n q) = arrT m c (ix2 n q) := by
  unfold iblk
  rw [View.read_apply]
  refine congrArg (arrT m c) (funext fun a => Fin.ext ?_)
  match a with
  | ⟨0, _⟩ => show 0 * 1280 + 1 * n.val = n.val; omega
  | ⟨1, _⟩ => show 0 * 1024 + 1 * q.val = q.val; omega

theorem blk3 (t : Fin cfg0.N) (r : Fin 512) (l : Fin 128) :
    (iblk m c 3 t : FVec Ideal S512x128 .f32) (ix2 r l) = if l.val % 64 < 16 then cosAt (placeOf t r) ⟨l.val % 8, by omega⟩ else 1 := by
  unfold iblk
  rw [View.read_apply]
  refine Eq.trans (congrArg (arrC m c) (funext fun a => Fin.ext ?_)) (arrC_apply m c (placeOf t r) l)
  have e := tr3 t
  match a with
  | ⟨0, _⟩ => show cc0_transform_3 (grid0.coords t) 0 * 512 + 1 * r.val = 512 * (t.val % 8) + r.val; rw [e]; show t.val % 8 * 512 + 1 * r.val = _; omega
  | ⟨1, _⟩ => show cc0_transform_3 (grid0.coords t) 1 * 128 + 1 * l.val = l.val; rw [e]; show 0 * 128 + 1 * l.val = _; omega

theorem blk4 (t : Fin cfg0.N) (r : Fin 512) (l : Fin 128) :
    (iblk m c 4 t : FVec Ideal S512x128 .f32) (ix2 r l) = if 8 ≤ l.val % 64 ∧ l.val % 64 < 16 then sinAt (placeOf t r) ⟨l.val % 8, by omega⟩ else 0 := by
  unfold iblk
  rw [View.read_apply]
  refine Eq.trans (congrArg (arrA m c) (funext fun a => Fin.ext ?_)) (arrA_apply m c (placeOf t r) l)
  have e := tr4 t
  match a with
  | ⟨0, _⟩ => show cc0_transform_4 (grid0.coords t) 0 * 512 + 1 * r.val = 512 * (t.val % 8) + r.val; rw [e]; show t.val % 8 * 512 + 1 * r.val = _; omega
  | ⟨1, _⟩ => show cc0_transform_4 (grid0.coords t) 1 * 128 + 1 * l.val = l.val; rw [e]; show 0 * 128 + 1 * l.val = _; omega

theorem blk5 (t : Fin cfg0.N) (r : Fin 512) (l : Fin 128) :
    (iblk m c 5 t : FVec Ideal S512x128 .f32) (ix2 r l) = if l.val % 64 < 8 then -sinAt (placeOf t r) ⟨l.val % 8, by omega⟩ else 0 := by
  unfold iblk
  rw [View.read_apply]
  refine Eq.trans (congrArg (arrB m c) (funext fun a => Fin.ext ?_)) (arrB_apply m c (placeOf t r) l)
  have e := tr5 t
  match a with
  | ⟨0, _⟩ => show cc0_transform_5 (grid0.coords t) 0 * 512 + 1 * r.val = 512 * (t.val % 8) + r.val; rw [e]; show t.val % 8 * 512 + 1 * r.val = _; omega
  | ⟨1, _⟩ => show cc0_transform_5 (grid0.coords t) 1 * 128 + 1 * l.val = l.val; rw [e]; show 0 * 128 + 1 * l.val = _; omega

theorem blk6 (t : Fin cfg0.N) (l : Fin 8) (r : Fin 512) : (iblk m c 6 t : FVec Ideal S8x512 .f32) (ix2 l r) = cosAt (placeOf t r) l := by
  unfold iblk
  rw [View.read_apply]
  refine Eq.trans (congrArg (arrCt m c) (funext fun a => Fin.ext ?_)) (arrCt_apply m c l (placeOf t r))
  have e := tr6 t
  match a with
  | ⟨0, _⟩ => show cc0_transform_6 (grid0.coords t) 0 * 8 + 1 * l.val = l.val; rw [e]; show 0 * 8 + 1 * l.val = _; omega
  | ⟨1, _⟩ => show cc0_transform_6 (grid0.coords t) 1 * 512 + 1 * r.val = 512 * (t.val % 8) + r.val; rw [e]; show t.val % 8 * 512 + 1 * r.val = _; omega

theorem blk7 (t : Fin cfg0.N) (l : Fin 8) (r : Fin 512) : (iblk m c 7 t : FVec Ideal S8x512 .f32) (ix2 l r) = sinAt (placeOf t r) l := by
  unfold iblk
  rw [View.read_apply]
  refine Eq.trans (congrArg (arrSt m c) (funext fun a => Fin.ext ?_)) (arrSt_apply m c l (placeOf t r))
  have e := tr7 t
  match a with
  | ⟨0, _⟩ => show cc0_transform_7 (grid0.coords t) 0 * 8 + 1 * l.val = l.val; rw [e]; show 0 * 8 + 1 * l.val = _; omega
  | ⟨1, _⟩ => show cc0_transform_7 (grid0.coords t) 1 * 512 + 1 * r.val = 512 * (t.val % 8) + r.val; rw [e]; show t.val % 8 * 512 + 1 * r.val = _; omega

/-! What a point leaves is its tokens' part of the results. -/

theorem left8 (t : Fin cfg0.N) (r : Fin 512) (n : Fin 256) :
    keyBlock (iblk m c 0 t) (iblk m c 1 t) (iblk m c 3 t) (iblk m c 4 t) (iblk m c 5 t) (ix2 r n) = keysOut m c (ix2 (rowAt t r) n) := by
  have hk : ∀ j : Fin 256, k0_pay5 (F := Ideal) (iblk m c 0 t) (iblk m c 1 t) (ix2 r j) = keyIn (projAt (argX m c) (argW m c) (rowAt t r)) j := fun j => by
    refine (yk_apply (iblk m c 0 t) (iblk m c 1 t) r j).trans ?_
    simp only [blk0, blk1]
    rfl
  have hp : (⟨(rowAt t r).val % 4096, by omega⟩ : Fin 4096) = placeOf t r :=
    Fin.ext (by show (512 * t.val + r.val) % 4096 = 512 * (t.val % 8) + r.val; omega)
  show keyRow (iblk m c 0 t) (iblk m c 1 t) (iblk m c 3 t) (iblk m c 4 t) (iblk m c 5 t) r n
    = keyOf (projAt (argX m c) (argW m c) (rowAt t r)) (cosAt ⟨(rowAt t r).val % 4096, by omega⟩) (sinAt ⟨(rowAt t r).val % 4096, by omega⟩) n
  rw [hp]
  unfold keyRow keyOf
  rw [← rope_tables]
  have e64 : n.val % 128 % 64 = n.val % 64 := by omega
  have e8 : n.val % 128 % 8 = n.val % 8 := by omega
  simp only [hk, blk3, blk4, blk5, e64, e8]

theorem left9 (t : Fin cfg0.N) (n : Fin 1024) (r : Fin 512) :
    queryBlock (iblk m c 0 t) (iblk m c 2 t) (iblk m c 6 t) (iblk m c 7 t) (ix3 0 n r) = queriesOut m c (ix3 (seqOf t) n (placeOf t r)) := by
  have hq : ∀ j : Fin 1024, k0_pay9 (F := Ideal) (k0_pay4 (iblk m c 0 t)) (iblk m c 2 t) (ix2 ⟨j.val, by omega⟩ r)
      = queryIn (projAt (argX m c) (argW m c) (tokenAt (seqOf t) (placeOf t r))) j := fun j => by
    refine (yt_apply (iblk m c 0 t) (iblk m c 2 t) ⟨j.val, by omega⟩ r).trans ?_
    simp only [blk0, blk2]
    rw [← row_eq]
    unfold queryIn projAt proj
    rw [sum_scale]
    refine Finset.sum_congr rfl fun q _ => ?_
    rw [arrT_query m c _ q j.isLt]
    unfold queryIn
    rw [mul_comm, mul_assoc]
  show queryRow (iblk m c 0 t) (iblk m c 2 t) (iblk m c 6 t) (iblk m c 7 t) n r
    = queryOf (projAt (argX m c) (argW m c) (tokenAt (seqOf t) (placeOf t r))) (cosAt (placeOf t r)) (sinAt (placeOf t r)) n
  unfold queryRow queryOf
  simp only [hq, blk6, blk7]

theorem left10 (t : Fin cfg0.N) (j : Fin 256) (r : Fin 512) :
    valueRow (iblk m c 0 t) (iblk m c 2 t) j r = valuesOut m c (ix3 (seqOf t) j (placeOf t r)) := by
  show _ = valueOf (projAt (argX m c) (argW m c) (tokenAt (seqOf t) (placeOf t r))) j
  rw [← row_eq]
  unfold valueRow
  simp only [blk0, blk2]
  unfold valueOf projAt proj
  refine Finset.sum_congr rfl fun q _ => ?_
  rw [arrT_value m c _ j q rfl]
  exact mul_comm _ _

/-! The arrays. -/

theorem flushed8_eq (t : Fin cfg0.N) (hf : (cfg0.win 8).flush t = true) :
    (dats m 0 c).flushed 8 t = ((cfg0.win 8).blk t).view.read (Elt Ideal) (keysOut m c) := by
  rw [Value.flushed8_A]
  funext y
  obtain ⟨r, j, rfl⟩ : ∃ (r : Fin 512) (j : Fin 256), y = ix2 r j := ⟨y 0, y 1, eq_ix2 y⟩
  rw [View.read_apply]
  refine Eq.trans ((out8_apply _ _ _ _ _ _ _ _ _ _ _ _ _ _ _ _ _ _ _ _ _ _ _ _ _ _ _ _ _ _ _ _ r j).trans (left8 m c t r j)) (congrArg (keysOut m c) (funext fun a => Fin.ext ?_))
  have e := tr8 t
  match a with
  | ⟨0, _⟩ => show 512 * t.val + r.val = cc0_transform_8 (grid0.coords t) 0 * 512 + 1 * r.val; rw [e]; show _ = t.val * 512 + 1 * r.val; omega
  | ⟨1, _⟩ => show j.val = cc0_transform_8 (grid0.coords t) 1 * 256 + 1 * j.val; rw [e]; show _ = 0 * 256 + 1 * j.val; omega

theorem final8 : (dats m 0 c).arrAt 8 cfg0.N = keysOut m c :=
  (dats m 0 c).arrAt_eq_of_cover 8 (keysOut m c) (flushed8_eq m c) fun (y : S16384x256.Idx) => by
    have h0 : (y 0 : Nat) < 16384 := (y 0).isLt
    have h1 : (y 1 : Nat) < 256 := (y 1).isLt
    let p : Fin grid0.N := ⟨(y 0).val / 512, by rw [N_0]; omega⟩
    have hp := tr8 p
    refine ⟨p, flush0_8 p, ?_⟩
    show y ∈ ((View.whole main_v71_0).slice (win0_8.rect p)).set
    rw [View.set_slice_whole, Rect.mem_set_unit]
    intro a
    match a with
    | ⟨0, _⟩ => show cc0_transform_8 (grid0.coords p) 0 * 512 ≤ (y 0 : Nat) ∧ (y 0 : Nat) < cc0_transform_8 (grid0.coords p) 0 * 512 + 512
                rw [hp]; show (y 0).val / 512 * 512 ≤ (y 0).val ∧ (y 0).val < (y 0).val / 512 * 512 + 512; omega
    | ⟨1, _⟩ => show cc0_transform_8 (grid0.coords p) 1 * 256 ≤ (y 1 : Nat) ∧ (y 1 : Nat) < cc0_transform_8 (grid0.coords p) 1 * 256 + 256
                rw [hp]; show 0 * 256 ≤ (y 1).val ∧ (y 1).val < 0 * 256 + 256; omega

theorem flushed9_eq (t : Fin cfg0.N) (hf : (cfg0.win 9).flush t = true) :
    (dats m 0 c).flushed 9 t = ((cfg0.win 9).blk t).view.read (Elt Ideal) (queriesOut m c) := by
  rw [Value.flushed9_A]
  funext y
  obtain ⟨j, r, rfl⟩ : ∃ (j : Fin 1024) (r : Fin 512), y = ix3 0 j r :=
    ⟨y 1, y 2, (eq_ix3 y).trans (congrArg (fun z : Fin 1 => ix3 z (y 1) (y 2)) (Subsingleton.elim (α := Fin 1) (y 0) 0))⟩
  rw [View.read_apply]
  refine Eq.trans ((out9_apply _ _ _ _ _ _ _ _ _ _ _ _ _ _ _ _ _ _ _ _ _ _ _ _ _ _ _ _ _ _ _ _ j r).trans (left9 m c t j r)) (congrArg (queriesOut m c) (funext fun a => Fin.ext ?_))
  have e := tr9 t
  match a with
  | ⟨0, _⟩ => show t.val / 8 = cc0_transform_9 (grid0.coords t) 0 * 1 + 1 * 0; rw [e]; show _ = t.val / 8 * 1 + 1 * 0; omega
  | ⟨1, _⟩ => show j.val = cc0_transform_9 (grid0.coords t) 1 * 1024 + 1 * j.val; rw [e]; show _ = 0 * 1024 + 1 * j.val; omega
  | ⟨2, _⟩ => show 512 * (t.val % 8) + r.val = cc0_transform_9 (grid0.coords t) 2 * 512 + 1 * r.val; rw [e]; show _ = t.val % 8 * 512 + 1 * r.val; omega

theorem final9 : (dats m 0 c).arrAt 9 cfg0.N = queriesOut m c :=
  (dats m 0 c).arrAt_eq_of_cover 9 (queriesOut m c) (flushed9_eq m c) fun (y : S4x1024x4096.Idx) => by
    have h0 : (y 0 : Nat) < 4 := (y 0).isLt
    have h1 : (y 1 : Nat) < 1024 := (y 1).isLt
    have h2 : (y 2 : Nat) < 4096 := (y 2).isLt
    let p : Fin grid0.N := ⟨8 * (y 0).val + (y 2).val / 512, by rw [N_0]; omega⟩
    have hp := tr9 p
    refine ⟨p, flush0_9 p, ?_⟩
    show y ∈ ((View.whole main_v71_1).slice (win0_9.rect p)).set
    rw [View.set_slice_whole, Rect.mem_set_unit]
    intro a
    match a with
    | ⟨0, _⟩ => show cc0_transform_9 (grid0.coords p) 0 * 1 ≤ (y 0 : Nat) ∧ (y 0 : Nat) < cc0_transform_9 (grid0.coords p) 0 * 1 + 1
                rw [hp]
                show (8 * (y 0).val + (y 2).val / 512) / 8 * 1 ≤ (y 0).val ∧ (y 0).val < (8 * (y 0).val + (y 2).val / 512) / 8 * 1 + 1
                omega
    | ⟨1, _⟩ => show cc0_transform_9 (grid0.coords p) 1 * 1024 ≤ (y 1 : Nat) ∧ (y 1 : Nat) < cc0_transform_9 (grid0.coords p) 1 * 1024 + 1024
                rw [hp]; show 0 * 1024 ≤ (y 1).val ∧ (y 1).val < 0 * 1024 + 1024; omega
    | ⟨2, _⟩ => show cc0_transform_9 (grid0.coords p) 2 * 512 ≤ (y 2 : Nat) ∧ (y 2 : Nat) < cc0_transform_9 (grid0.coords p) 2 * 512 + 512
                rw [hp]
                show (8 * (y 0).val + (y 2).val / 512) % 8 * 512 ≤ (y 2).val ∧ (y 2).val < (8 * (y 0).val + (y 2).val / 512) % 8 * 512 + 512
                omega

theorem flushed10_eq (t : Fin cfg0.N) (hf : (cfg0.win 10).flush t = true) :
    (dats m 0 c).flushed 10 t = ((cfg0.win 10).blk t).view.read (Elt Ideal) (valuesOut m c) := by
  rw [Value.flushed10_A]
  funext y
  obtain ⟨j, r, rfl⟩ : ∃ (j : Fin 256) (r : Fin 512), y = ix3 0 j r :=
    ⟨y 1, y 2, (eq_ix3 y).trans (congrArg (fun z : Fin 1 => ix3 z (y 1) (y 2)) (Subsingleton.elim (α := Fin 1) (y 0) 0))⟩
  rw [View.read_apply]
  refine Eq.trans ((out10_apply _ _ _ _ _ _ _ _ _ _ _ _ _ _ _ _ _ _ _ _ _ _ _ _ _ _ _ _ _ _ _ _ j r).trans (left10 m c t j r)) (congrArg (valuesOut m c) (funext fun a => Fin.ext ?_))
  have e := tr10 t
  match a with
  | ⟨0, _⟩ => show t.val / 8 = cc0_transform_10 (grid0.coords t) 0 * 1 + 1 * 0; rw [e]; show _ = t.val / 8 * 1 + 1 * 0; omega
  | ⟨1, _⟩ => show j.val = cc0_transform_10 (grid0.coords t) 1 * 256 + 1 * j.val; rw [e]; show _ = 0 * 256 + 1 * j.val; omega
  | ⟨2, _⟩ => show 512 * (t.val % 8) + r.val = cc0_transform_10 (grid0.coords t) 2 * 512 + 1 * r.val; rw [e]; show _ = t.val % 8 * 512 + 1 * r.val; omega

theorem final10 : (dats m 0 c).arrAt 10 cfg0.N = valuesOut m c :=
  (dats m 0 c).arrAt_eq_of_cover 10 (valuesOut m c) (flushed10_eq m c) fun (y : S4x256x4096.Idx) => by
    have h0 : (y 0 : Nat) < 4 := (y 0).isLt
    have h1 : (y 1 : Nat) < 256 := (y 1).isLt
    have h2 : (y 2 : Nat) < 4096 := (y 2).isLt
    let p : Fin grid0.N := ⟨8 * (y 0).val + (y 2).val / 512, by rw [N_0]; omega⟩
    have hp := tr10 p
    refine ⟨p, flush0_10 p, ?_⟩
    show y ∈ ((View.whole main_v71_2).slice (win0_10.rect p)).set
    rw [View.set_slice_whole, Rect.mem_set_unit]
    intro a
    match a with
    | ⟨0, _⟩ => show cc0_transform_10 (grid0.coords p) 0 * 1 ≤ (y 0 : Nat) ∧ (y 0 : Nat) < cc0_transform_10 (grid0.coords p) 0 * 1 + 1
                rw [hp]
                show (8 * (y 0).val + (y 2).val / 512) / 8 * 1 ≤ (y 0).val ∧ (y 0).val < (8 * (y 0).val + (y 2).val / 512) / 8 * 1 + 1
                omega
    | ⟨1, _⟩ => show cc0_transform_10 (grid0.coords p) 1 * 256 ≤ (y 1 : Nat) ∧ (y 1 : Nat) < cc0_transform_10 (grid0.coords p) 1 * 256 + 256
                rw [hp]; show 0 * 256 ≤ (y 1).val ∧ (y 1).val < 0 * 256 + 256; omega
    | ⟨2, _⟩ => show cc0_transform_10 (grid0.coords p) 2 * 512 ≤ (y 2 : Nat) ∧ (y 2 : Nat) < cc0_transform_10 (grid0.coords p) 2 * 512 + 512
                rw [hp]
                show (8 * (y 0).val + (y 2).val / 512) % 8 * 512 ≤ (y 2).val ∧ (y 2).val < (8 * (y 0).val + (y 2).val / 512) % 8 * 512 + 512
                omega

end Cert.QkvIdeal.Gen

end
-- ==== Proof.QkvClaims.lean ====
/- The claims about the odd layers' projection, assembled. -/
module

public import proofs.«01_k».proof.Defs
public import proofs.«01_k».proof.Proof.Gen.Qkv
public import proofs.«01_k».proof.Proof.Gen.Qkv.Frame
public import proofs.«01_k».proof.Proof.Gen.QkvReferenceIdeal.Run
public import proofs.«01_k».proof.Proof.QkvArray
public import Idealize.ShloMosaic.Adequacy
public import Idealize.ShloMosaic.Init

@[expose] public section

noncomputable section

open Idealize.ShloMosaic Idealize.ShloMosaic.TcCoe Idealize.SL.Sem

namespace Cert.QkvClaims

theorem frame_p : Cert.quiescent_Qkv := fun m ρ _ => Cert.Qkv.Gen.frame m ρ
theorem frame_pi : Cert.quiescent_QkvIdeal := fun m ρ _ => Cert.QkvIdeal.Gen.frame m ρ
theorem frame_ri : Cert.quiescent_QkvReferenceIdeal := fun m ρ _ =>
  (θ_run Cert.QkvReferenceIdeal.defs _ _).mono (fun r h => ⟨fun c => (h c).2.2.2, Idealize.ShloMosaic.sem_eq_zero_of_no_sems (by decide) r.2⟩)
    (Cert.QkvReferenceIdeal.Value.run (F := Ideal) m ρ)

theorem preserves : Cert.preserves_Qkv_QkvIdeal := trivial

/-- Both programs end at the three results of arguments that agree. -/
theorem algebraic : Cert.algebraic_QkvIdeal_QkvReferenceIdeal := by
  intro m ρ m' ρ' _ hagree
  refine ⟨fun c => Cert.QkvIdeal.Gen.keysOut m c, fun c => Cert.QkvIdeal.Gen.queriesOut m c, fun c => Cert.QkvIdeal.Gen.valuesOut m c, ?_, ?_⟩
  · exact (θ_run Cert.QkvIdeal.defs _ _).mono
      (fun _ h c => ⟨(h c).1.trans (Cert.QkvIdeal.Gen.final8 m c), (h c).2.1.trans (Cert.QkvIdeal.Gen.final9 m c),
        (h c).2.2.1.trans (Cert.QkvIdeal.Gen.final10 m c), (h c).2.2.2⟩)
      (Cert.QkvIdeal.Value.run_blocks (F := Ideal) m ρ)
  · refine (θ_run Cert.QkvReferenceIdeal.defs _ _).mono
      (fun _ h c => ⟨(h c).1.trans ?_, (h c).2.1.trans ?_, (h c).2.2.1.trans ?_, (h c).2.2.2⟩)
      (Cert.QkvReferenceIdeal.Value.run (F := Ideal) m' ρ')
    · obtain ⟨e0, e1⟩ := hagree c
      rw [Cert.QkvReferenceIdeal.Read.val_main_v63_eq, e0, e1]
      funext y
      obtain ⟨R, n, rfl⟩ : ∃ (R : Fin 16384) (n : Fin 256), y = ix2 R n := ⟨y 0, y 1, eq_ix2 y⟩
      have hR : R = Cert.ProjSpec.tokenAt ⟨R.val / 4096, by omega⟩ ⟨R.val % 4096, by omega⟩ :=
        Fin.ext (by show R.val = R.val / 4096 * 4096 + R.val % 4096; omega)
      refine Eq.trans (congrArg (fun R => Cert.QkvReferenceIdeal.Read.val_main_v63 (F := Ideal) _ _ (ix2 R n)) hR) ((Cert.QkvSpec.keys_out _ _ _ _ n).trans ?_)
      rw [← hR]
      rfl
    · obtain ⟨e0, e1⟩ := hagree c
      rw [Cert.QkvReferenceIdeal.Read.val_main_v65_eq, e0, e1]
      funext y
      obtain ⟨b, n, s, rfl⟩ : ∃ (b : Fin 4) (n : Fin 1024) (s : Fin 4096), y = ix3 b n s := ⟨y 0, y 1, y 2, eq_ix3 y⟩
      exact Cert.QkvSpec.queries_out _ _ b n s
    · obtain ⟨e0, e1⟩ := hagree c
      rw [Cert.QkvReferenceIdeal.Read.val_main_v67_eq, e0, e1]
      funext y
      obtain ⟨b, n, s, rfl⟩ : ∃ (b : Fin 4) (n : Fin 256) (s : Fin 4096), y = ix3 b n s := ⟨y 0, y 1, y 2, eq_ix3 y⟩
      exact Cert.QkvSpec.values_out _ _ b n s

end Cert.QkvClaims

end
-- ==== Proof.OddVal.lean ====
/- The odd layers' output projection over the extended reals, one token at a time: the kernel's block, and the reference. -/
module

public import proofs.«01_k».proof.Proof.FfnVal
public import proofs.«01_k».proof.Proof.Consts
public import proofs.«01_k».proof.Proof.Gen.OddIdeal.Value
public import proofs.«01_k».proof.Proof.Gen.OddReferenceIdeal.Read
public import Idealize.ShloMosaic.Lib.Pipeline.ValueKit
public import Idealize.ShloMosaic.Lib.Pointwise
public import Idealize.ShloMosaic.Lib.StableHlo.ReadAt

@[expose] public section

set_option maxRecDepth 16384

noncomputable section

namespace Cert.OddSpec

open Cert.FfnSpec

/-- A token's heads through the output weights, onto the token. -/
def raw (o : Fin 1024 → EReal) (w : Fin 1024 → Fin 1024 → EReal) (x : Fin 1024 → EReal) : Fin 1024 → EReal :=
  resid x fun j => ∑ q : Fin 1024, o q * w q j

/-- The token after it, normalised. -/
def token (o : Fin 1024 → EReal) (w : Fin 1024 → Fin 1024 → EReal) (x g b : Fin 1024 → EReal) : Fin 1024 → EReal := norm (raw o w x) g b

end Cert.OddSpec

namespace Cert.OddIdeal.Gen

open Idealize.ShloMosaic Idealize.ShloMosaic.TcCoe Idealize.SL.Sem
open Cert.FfnSpec (norm resid)
open Cert.OddSpec

theorem origin : (![0, 0] : Fin 2 → ℕ) = fun _ => 0 := funext fun a => by match a with | ⟨0, _⟩ => rfl | ⟨1, _⟩ => rfl

theorem pay3_apply (o : FVec Ideal S512x1024 .bf16) (w : FVec Ideal S1024x1024 .bf16) (x : FVec Ideal S512x1024 .f32) (g b : FVec Ideal S1x1024 .f32)
    (r : Fin 512) (j : Fin 1024) :
    k0_pay3 (F := Ideal) o w x g b (ix2 r j)
      = token (fun q => o (ix2 r q)) (fun q k => w (ix2 q k)) (fun q => x (ix2 r q)) (fun q => g (ix2 0 q)) (fun q => b (ix2 0 q)) j := by
  pointwise [k0_pay3]
  rfl

variable (x0 : Vec Ideal S512x1024 .bf16) (x1 : Vec Ideal S1024x1024 .bf16) (x2 : Vec Ideal S512x1024 .f32) (x3 x4 : Vec Ideal S1x1024 .f32)
  (x5 : Vec Ideal S1024x128 .f32) (x6 : Vec Ideal S1x128 .f32)

theorem pay18_eq : k0_pay18 (F := Ideal) x0 x1 x2 x3 x4 x5 x6 = k0_pay3 (F := Ideal) x0 x1 x2 x3 x4 := by
  unfold k0_pay18
  rw [View.ld_unit_zero, View.ld_unit_zero, View.ld_unit_zero, View.ld_unit_zero, View.ld_unit_zero] <;> exact origin

theorem out7_apply (r : Fin 512) (j : Fin 1024) :
    out0_7 (F := Ideal) x0 x1 x2 x3 x4 x5 x6 (ix2 r j)
      = token (fun q => x0 (ix2 r q)) (fun q k => x1 (ix2 q k)) (fun q => x2 (ix2 r q)) (fun q => x3 (ix2 0 q)) (fun q => x4 (ix2 0 q)) j := by
  have e : out0_7 (F := Ideal) x0 x1 x2 x3 x4 x5 x6 = k0_pay18 (F := Ideal) x0 x1 x2 x3 x4 x5 x6 := by
    unfold out0_7
    exact View.canon_cons_unit_zero (h := origin) ..
  rw [e, pay18_eq, pay3_apply]

theorem out8_apply (r : Fin 512) (j : Fin 1024) :
    out0_8 (F := Ideal) x0 x1 x2 x3 x4 x5 x6 (ix2 r j)
      = token (fun q => x0 (ix2 r q)) (fun q k => x1 (ix2 q k)) (fun q => x2 (ix2 r q)) (fun q => x3 (ix2 0 q)) (fun q => x4 (ix2 0 q)) j := by
  have e : out0_8 (F := Ideal) x0 x1 x2 x3 x4 x5 x6 = k0_pay2 (F := Ideal) (k0_pay18 (F := Ideal) x0 x1 x2 x3 x4 x5 x6) := by
    unfold out0_8
    exact View.canon_cons_unit_zero (h := origin) ..
  rw [e, pay18_eq]
  refine Eq.trans ?_ (pay3_apply x0 x1 x2 x3 x4 r j)
  pointwise [k0_pay2]

end Cert.OddIdeal.Gen

namespace Cert.OddSpec

open Idealize.ShloMosaic Idealize.ShloMosaic.TcCoe Idealize.SL.Sem
open Cert.OddReferenceIdeal Cert.OddReferenceIdeal.Read
open Cert.FfnSpec

variable (x0 : FVec Ideal S16384x1024 .bf16) (x1 : FVec Ideal S1024x1024 .f32) (x2 : FVec Ideal S16384x1024 .f32) (x3 x4 : FVec Ideal S1024 .f32)

/-- A token's residual sum. -/
def rawAt (R : Fin 16384) : Fin 1024 → EReal := raw (fun q => x0 (ix2 R q)) (fun q k => x1 (ix2 q k)) (fun q => x2 (ix2 R q))

/-- The token after the projection. -/
def tokenAt (R : Fin 16384) : Fin 1024 → EReal :=
  token (fun q => x0 (ix2 R q)) (fun q k => x1 (ix2 q k)) (fun q => x2 (ix2 R q)) (fun q => x3 (ix1 q)) (fun q => x4 (ix1 q))

theorem residual (R : Fin 16384) (j : Fin 1024) : val_main_v4 (F := Ideal) x0 x1 x2 (ix2 R j) = rawAt x0 x1 x2 R j := by
  rw [val_main_v4_apply, val_main_v1_apply, val_main_v0_apply, val_main_cst_apply, val_main_v3_apply]
  refine congrArg₂ (· + ·) rfl (Finset.sum_congr rfl fun q _ => congrArg₂ (· * ·) (congrArg x0 ?_) (congrArg x1 ?_))
  all_goals exact funext fun a => by match a with | ⟨0, _⟩ => rfl | ⟨1, _⟩ => rfl

theorem zero_f32 : (FloatOps.ofBits .f32 0x00000000#32 : Ideal .f32) = (0 : EReal) := Cert.Consts.f32_zero

theorem average (R : Fin 16384) : val_main_v8 (F := Ideal) x0 x1 x2 (ix2 R 0) = mean (rawAt x0 x1 x2 R) := by
  rw [val_main_v8_apply, val_main_v7_apply, val_main_cst_1_apply, val_main_v6_apply, val_main_v5_apply, val_main_cst_0_apply, zero_f32, zero_add]
  refine congrArg₂ Ideal.div (Finset.sum_congr rfl fun q _ => ?_) rfl
  rw [← residual]
  exact congrArg _ (funext fun a => by match a with | ⟨0, _⟩ => rfl | ⟨1, _⟩ => rfl)

theorem centre (R : Fin 16384) (j : Fin 1024) : val_main_v10 (F := Ideal) x0 x1 x2 (ix2 R j) = centred (rawAt x0 x1 x2 R) j := by
  rw [val_main_v10_apply, val_main_v9_apply, residual]
  refine congrArg₂ (· - ·) rfl (Eq.trans (congrArg _ ?_) (average x0 x1 x2 R))
  exact funext fun a => by match a with | ⟨0, _⟩ => rfl | ⟨1, _⟩ => rfl

theorem variance (R : Fin 16384) :
    val_main_v15 (F := Ideal) x0 x1 x2 (ix2 R 0) = mean (fun q => centred (rawAt x0 x1 x2 R) q * centred (rawAt x0 x1 x2 R) q) := by
  rw [val_main_v15_apply, val_main_v14_apply, val_main_cst_3_apply, val_main_v13_apply, val_main_v12_apply, val_main_cst_2_apply, zero_f32, zero_add]
  refine congrArg₂ Ideal.div (Finset.sum_congr rfl fun q _ => ?_) rfl
  show _ = centred (rawAt x0 x1 x2 R) q * centred (rawAt x0 x1 x2 R) q
  rw [← centre, val_main_v11_apply]
  have e : idx_main_v12 (idx_main_v13 (ix2 R 0)) q = ix2 R q := funext fun a => by match a with | ⟨0, _⟩ => rfl | ⟨1, _⟩ => rfl
  rw [e]
  rfl

theorem scale (R : Fin 16384) (j : Fin 1024) :
    val_main_v19 (F := Ideal) x0 x1 x2 (ix2 R j)
      = Ideal.rsqrt (mean (fun q => centred (rawAt x0 x1 x2 R) q * centred (rawAt x0 x1 x2 R) q) + eps) := by
  rw [val_main_v19_apply]
  have e : idx_main_v19 (ix2 R j) = ix2 R 0 := funext fun a => by match a with | ⟨0, _⟩ => rfl | ⟨1, _⟩ => rfl
  rw [e, val_main_v18_apply, val_main_v17_apply, val_main_v16_apply, val_main_cst_4_apply, variance]
  rfl

theorem reference (R : Fin 16384) (j : Fin 1024) : val_main_v26 (F := Ideal) x0 x1 x2 x3 x4 (ix2 R j) = tokenAt x0 x1 x2 x3 x4 R j := by
  rw [val_main_v26_apply, val_main_v23_apply, val_main_v20_apply, centre, scale, val_main_v22_apply, val_main_v21_apply, val_main_v25_apply, val_main_v24_apply]
  unfold tokenAt token FfnSpec.norm
  refine congrArg₂ (· + ·) (congrArg₂ (· * ·) rfl (congrArg x3 ?_)) (congrArg x4 ?_)
  · exact funext fun a => by match a with | ⟨0, _⟩ => rfl
  · exact funext fun a => by match a with | ⟨0, _⟩ => rfl

theorem reference_narrow (R : Fin 16384) (j : Fin 1024) : val_main_v27 (F := Ideal) x0 x1 x2 x3 x4 (ix2 R j) = tokenAt x0 x1 x2 x3 x4 R j := by
  rw [val_main_v27_apply]
  exact reference x0 x1 x2 x3 x4 R j

end Cert.OddSpec

end
-- ==== Proof.OddArray.lean ====
/- The odd layers' output projection's result arrays: each point's blocks are its tokens' parts of them, and the blocks together. -/
module

public import proofs.«01_k».proof.Proof.OddVal

@[expose] public section

set_option maxRecDepth 16384

noncomputable section

namespace Cert.OddIdeal.Gen

open Idealize.ShloMosaic Idealize.ShloMosaic.TcCoe Idealize.SL.Sem StableHlo
open Idealize.ShloMosaic.Pipeline (Dat)
open Cert.OddSpec

variable (m : (ℓ : Loc nD τ sig) → Buf (Elt Ideal) ℓ) (c : Dev nD)

/-- The arguments, at their shapes. -/
abbrev argO : FVec Ideal S16384x1024 .bf16 := m ((c : Thread nD τ).loc main_arg0)
abbrev argW : FVec Ideal S1024x1024 .f32 := m ((c : Thread nD τ).loc main_arg1)
abbrev argX : FVec Ideal S16384x1024 .f32 := m ((c : Thread nD τ).loc main_arg2)
abbrev argG : FVec Ideal S1024 .f32 := m ((c : Thread nD τ).loc main_arg3)
abbrev argB : FVec Ideal S1024 .f32 := m ((c : Thread nD τ).loc main_arg4)

/-- The arrays the host makes of them. -/
abbrev arrW : FVec Ideal S1024x1024 .bf16 := V m c main_v3
abbrev arrG : FVec Ideal S1x1024 .f32 := V m c main_v4
abbrev arrB : FVec Ideal S1x1024 .f32 := V m c main_v5

theorem arrW_apply (r : Fin 1024) (q : Fin 1024) : arrW m c (ix2 r q) = argW m c (ix2 r q) := by after_reads_at
theorem arrG_apply (q : Fin 1024) : arrG m c (ix2 0 q) = argG m c (ix1 q) := by after_reads_at
theorem arrB_apply (q : Fin 1024) : arrB m c (ix2 0 q) = argB m c (ix1 q) := by after_reads_at

/-- The result arrays, the second a narrower copy of the first. -/
def wideOut : FVec Ideal S16384x1024 .f32 := fun y => tokenAt (argO m c) (argW m c) (argX m c) (argG m c) (argB m c) (y 0) (y 1)
def narrowOut : FVec Ideal S16384x1024 .bf16 := fun y => tokenAt (argO m c) (argW m c) (argX m c) (argG m c) (argB m c) (y 0) (y 1)

theorem t_lt (t : Fin grid0.N) : t.val < 32 := lt_of_lt_of_eq t.isLt N_0

/-- The token in row `r` of the point's block. -/
def rowAt (t : Fin grid0.N) (r : Fin 512) : Fin 16384 := ⟨512 * t.val + r.val, by have := t_lt t; omega⟩

theorem tr0 : ∀ t : Fin grid0.N, cc0_transform_0 (grid0.coords t) = ![t.val, 0] := by decide +kernel
theorem tr2 : ∀ t : Fin grid0.N, cc0_transform_2 (grid0.coords t) = ![t.val, 0] := by decide +kernel
theorem tr7 : ∀ t : Fin grid0.N, cc0_transform_7 (grid0.coords t) = ![t.val, 0] := by decide +kernel
theorem tr8 : ∀ t : Fin grid0.N, cc0_transform_8 (grid0.coords t) = ![t.val, 0] := by decide +kernel

/-! The input blocks of a point. -/

theorem blk0 (t : Fin cfg0.N) (r : Fin 512) (q : Fin 1024) : (iblk m c 0 t : FVec Ideal S512x1024 .bf16) (ix2 r q) = argO m c (ix2 (rowAt t r) q) := by
  unfold iblk
  rw [View.read_apply]
  refine Eq.trans (congrFun (V_main_arg0 m c) _) (congrArg (argO m c) (funext fun a => Fin.ext ?_))
  have e := tr0 t
  match a with
  | ⟨0, _⟩ => show cc0_transform_0 (grid0.coords t) 0 * 512 + 1 * r.val = 512 * t.val + r.val; rw [e]; show t.val * 512 + 1 * r.val = _; omega
  | ⟨1, _⟩ => show cc0_transform_0 (grid0.coords t) 1 * 1024 + 1 * q.val = q.val; rw [e]; show 0 * 1024 + 1 * q.val = _; omega

theorem blk2 (t : Fin cfg0.N) (r : Fin 512) (q : Fin 1024) : (iblk m c 2 t : FVec Ideal S512x1024 .f32) (ix2 r q) = argX m c (ix2 (rowAt t r) q) := by
  unfold iblk
  rw [View.read_apply]
  refine Eq.trans (congrFun (V_main_arg2 m c) _) (congrArg (argX m c) (funext fun a => Fin.ext ?_))
  have e := tr2 t
  match a with
  | ⟨0, _⟩ => show cc0_transform_2 (grid0.coords t) 0 * 512 + 1 * r.val = 512 * t.val + r.val; rw [e]; show t.val * 512 + 1 * r.val = _; omega
  | ⟨1, _⟩ => show cc0_transform_2 (grid0.coords t) 1 * 1024 + 1 * q.val = q.val; rw [e]; show 0 * 1024 + 1 * q.val = _; omega

theorem blk1 (t : Fin cfg0.N) (r : Fin 1024) (q : Fin 1024) : (iblk m c 1 t : FVec Ideal S1024x1024 .bf16) (ix2 r q) = argW m c (ix2 r q) := by
  unfold iblk
  rw [View.read_apply]
  refine Eq.trans (congrArg (arrW m c) (funext fun a => Fin.ext ?_)) (arrW_apply m c r q)
  match a with
  | ⟨0, _⟩ => show 0 * 1024 + 1 * r.val = r.val; omega
  | ⟨1, _⟩ => show 0 * 1024 + 1 * q.val = q.val; omega

theorem blk3 (t : Fin cfg0.N) (q : Fin 1024) : (iblk m c 3 t : FVec Ideal S1x1024 .f32) (ix2 0 q) = argG m c (ix1 q) := by
  unfold iblk
  rw [View.read_apply]
  refine Eq.trans (congrArg (arrG m c) (funext fun a => Fin.ext ?_)) (arrG_apply m c q)
  match a with
  | ⟨0, _⟩ => rfl
  | ⟨1, _⟩ => show 0 * 1024 + 1 * q.val = q.val; omega

theorem blk4 (t : Fin cfg0.N) (q : Fin 1024) : (iblk m c 4 t : FVec Ideal S1x1024 .f32) (ix2 0 q) = argB m c (ix1 q) := by
  unfold iblk
  rw [View.read_apply]
  refine Eq.trans (congrArg (arrB m c) (funext fun a => Fin.ext ?_)) (arrB_apply m c q)
  match a with
  | ⟨0, _⟩ => rfl
  | ⟨1, _⟩ => show 0 * 1024 + 1 * q.val = q.val; omega

/-! What a point leaves is its tokens' part of the results, and so the arrays. -/

theorem left7 (t : Fin cfg0.N) (r : Fin 512) (j : Fin 1024) :
    out0_7 (F := Ideal) (iblk m c 0 t) (iblk m c 1 t) (iblk m c 2 t) (iblk m c 3 t) (iblk m c 4 t) (iblk m c 5 t) (iblk m c 6 t) (ix2 r j)
      = wideOut m c (ix2 (rowAt t r) j) := by
  refine (out7_apply (iblk m c 0 t) (iblk m c 1 t) (iblk m c 2 t) (iblk m c 3 t) (iblk m c 4 t) (iblk m c 5 t) (iblk m c 6 t) r j).trans ?_
  show _ = tokenAt (argO m c) (argW m c) (argX m c) (argG m c) (argB m c) (rowAt t r) j
  unfold tokenAt
  simp only [blk0, blk1, blk2, blk3, blk4]

theorem flushed7_eq (t : Fin cfg0.N) (hf : (cfg0.win 7).flush t = true) :
    (dats m 0 c).flushed 7 t = ((cfg0.win 7).blk t).view.read (Elt Ideal) (wideOut m c) := by
  rw [Value.flushed7]
  funext y
  obtain ⟨r, j, rfl⟩ : ∃ (r : Fin 512) (j : Fin 1024), y = ix2 r j := ⟨y 0, y 1, eq_ix2 y⟩
  rw [View.read_apply]
  refine Eq.trans (left7 m c t r j) (congrArg (wideOut m c) (funext fun a => Fin.ext ?_))
  have e := tr7 t
  match a with
  | ⟨0, _⟩ => show 512 * t.val + r.val = cc0_transform_7 (grid0.coords t) 0 * 512 + 1 * r.val; rw [e]; show _ = t.val * 512 + 1 * r.val; omega
  | ⟨1, _⟩ => show j.val = cc0_transform_7 (grid0.coords t) 1 * 1024 + 1 * j.val; rw [e]; show _ = 0 * 1024 + 1 * j.val; omega

theorem final7 : (dats m 0 c).arrAt 7 cfg0.N = wideOut m c :=
  (dats m 0 c).arrAt_eq_of_cover 7 (wideOut m c) (flushed7_eq m c) fun (y : S16384x1024.Idx) => by
    have h0 : (y 0 : Nat) < 16384 := (y 0).isLt
    have h1 : (y 1 : Nat) < 1024 := (y 1).isLt
    let p : Fin grid0.N := ⟨(y 0).val / 512, by rw [N_0]; omega⟩
    have hp := tr7 p
    refine ⟨p, flush0_7 p, ?_⟩
    show y ∈ ((View.whole main_v6_0).slice (win0_7.rect p)).set
    rw [View.set_slice_whole, Rect.mem_set_unit]
    intro a
    match a with
    | ⟨0, _⟩ => show cc0_transform_7 (grid0.coords p) 0 * 512 ≤ (y 0 : Nat) ∧ (y 0 : Nat) < cc0_transform_7 (grid0.coords p) 0 * 512 + 512
                rw [hp]; show (y 0).val / 512 * 512 ≤ (y 0).val ∧ (y 0).val < (y 0).val / 512 * 512 + 512; omega
    | ⟨1, _⟩ => show cc0_transform_7 (grid0.coords p) 1 * 1024 ≤ (y 1 : Nat) ∧ (y 1 : Nat) < cc0_transform_7 (grid0.coords p) 1 * 1024 + 1024
                rw [hp]; show 0 * 1024 ≤ (y 1).val ∧ (y 1).val < 0 * 1024 + 1024; omega

theorem left8 (t : Fin cfg0.N) (r : Fin 512) (j : Fin 1024) :
    out0_8 (F := Ideal) (iblk m c 0 t) (iblk m c 1 t) (iblk m c 2 t) (iblk m c 3 t) (iblk m c 4 t) (iblk m c 5 t) (iblk m c 6 t) (ix2 r j)
      = narrowOut m c (ix2 (rowAt t r) j) := by
  refine (out8_apply (iblk m c 0 t) (iblk m c 1 t) (iblk m c 2 t) (iblk m c 3 t) (iblk m c 4 t) (iblk m c 5 t) (iblk m c 6 t) r j).trans ?_
  show _ = tokenAt (argO m c) (argW m c) (argX m c) (argG m c) (argB m c) (rowAt t r) j
  unfold tokenAt
  simp only [blk0, blk1, blk2, blk3, blk4]

theorem flushed8_eq (t : Fin cfg0.N) (hf : (cfg0.win 8).flush t = true) :
    (dats m 0 c).flushed 8 t = ((cfg0.win 8).blk t).view.read (Elt Ideal) (narrowOut m c) := by
  rw [Value.flushed8]
  funext y
  obtain ⟨r, j, rfl⟩ : ∃ (r : Fin 512) (j : Fin 1024), y = ix2 r j := ⟨y 0, y 1, eq_ix2 y⟩
  rw [View.read_apply]
  refine Eq.trans (left8 m c t r j) (congrArg (narrowOut m c) (funext fun a => Fin.ext ?_))
  have e := tr8 t
  match a with
  | ⟨0, _⟩ => show 512 * t.val + r.val = cc0_transform_8 (grid0.coords t) 0 * 512 + 1 * r.val; rw [e]; show _ = t.val * 512 + 1 * r.val; omega
  | ⟨1, _⟩ => show j.val = cc0_transform_8 (grid0.coords t) 1 * 1024 + 1 * j.val; rw [e]; show _ = 0 * 1024 + 1 * j.val; omega

theorem final8 : (dats m 0 c).arrAt 8 cfg0.N = narrowOut m c :=
  (dats m 0 c).arrAt_eq_of_cover 8 (narrowOut m c) (flushed8_eq m c) fun (y : S16384x1024.Idx) => by
    have h0 : (y 0 : Nat) < 16384 := (y 0).isLt
    have h1 : (y 1 : Nat) < 1024 := (y 1).isLt
    let p : Fin grid0.N := ⟨(y 0).val / 512, by rw [N_0]; omega⟩
    have hp := tr8 p
    refine ⟨p, flush0_8 p, ?_⟩
    show y ∈ ((View.whole main_v6_1).slice (win0_8.rect p)).set
    rw [View.set_slice_whole, Rect.mem_set_unit]
    intro a
    match a with
    | ⟨0, _⟩ => show cc0_transform_8 (grid0.coords p) 0 * 512 ≤ (y 0 : Nat) ∧ (y 0 : Nat) < cc0_transform_8 (grid0.coords p) 0 * 512 + 512
                rw [hp]; show (y 0).val / 512 * 512 ≤ (y 0).val ∧ (y 0).val < (y 0).val / 512 * 512 + 512; omega
    | ⟨1, _⟩ => show cc0_transform_8 (grid0.coords p) 1 * 1024 ≤ (y 1 : Nat) ∧ (y 1 : Nat) < cc0_transform_8 (grid0.coords p) 1 * 1024 + 1024
                rw [hp]; show 0 * 1024 ≤ (y 1).val ∧ (y 1).val < 0 * 1024 + 1024; omega

end Cert.OddIdeal.Gen

end
-- ==== Proof.OddClaims.lean ====
/- The claims about the odd layers' output projection, assembled. -/
module

public import proofs.«01_k».proof.Defs
public import proofs.«01_k».proof.Proof.Gen.Odd
public import proofs.«01_k».proof.Proof.Gen.Odd.Frame
public import proofs.«01_k».proof.Proof.Gen.OddReferenceIdeal.Run
public import proofs.«01_k».proof.Proof.OddArray
public import Idealize.ShloMosaic.Adequacy
public import Idealize.ShloMosaic.Init

@[expose] public section

noncomputable section

open Idealize.ShloMosaic Idealize.ShloMosaic.TcCoe Idealize.SL.Sem

namespace Cert.OddClaims

theorem frame_p : Cert.quiescent_Odd := fun m ρ _ => Cert.Odd.Gen.frame m ρ
theorem frame_pi : Cert.quiescent_OddIdeal := fun m ρ _ => Cert.OddIdeal.Gen.frame m ρ
theorem frame_ri : Cert.quiescent_OddReferenceIdeal := fun m ρ _ =>
  (θ_run Cert.OddReferenceIdeal.defs _ _).mono (fun r h => ⟨fun c => (h c).2.2, Idealize.ShloMosaic.sem_eq_zero_of_no_sems (by decide) r.2⟩)
    (Cert.OddReferenceIdeal.Value.run (F := Ideal) m ρ)

theorem preserves : Cert.preserves_Odd_OddIdeal := trivial

/-- Both programs end at the normalised tokens of arguments that agree. -/
theorem algebraic : Cert.algebraic_OddIdeal_OddReferenceIdeal := by
  intro m ρ m' ρ' _ hagree
  refine ⟨fun c => Cert.OddIdeal.Gen.wideOut m c, fun c => Cert.OddIdeal.Gen.narrowOut m c, ?_, ?_⟩
  · exact (θ_run Cert.OddIdeal.defs _ _).mono
      (fun _ h c => ⟨(h c).1.trans (Cert.OddIdeal.Gen.final7 m c), (h c).2.1.trans (Cert.OddIdeal.Gen.final8 m c), (h c).2.2.2⟩)
      (Cert.OddIdeal.Value.run_blocks (F := Ideal) m ρ)
  · refine (θ_run Cert.OddReferenceIdeal.defs _ _).mono (fun _ h c => ⟨(h c).1.trans ?_, (h c).2.1.trans ?_, (h c).2.2⟩)
      (Cert.OddReferenceIdeal.Value.run (F := Ideal) m' ρ')
    · obtain ⟨e0, e1, e2, e3, e4, _⟩ := hagree c
      rw [Cert.OddReferenceIdeal.Read.val_main_v26_eq, e0, e1, e2, e3, e4]
      funext y
      obtain ⟨R, j, rfl⟩ : ∃ (R : Fin 16384) (j : Fin 1024), y = ix2 R j := ⟨y 0, y 1, eq_ix2 y⟩
      exact Cert.OddSpec.reference _ _ _ _ _ R j
    · obtain ⟨e0, e1, e2, e3, e4, _⟩ := hagree c
      rw [Cert.OddReferenceIdeal.Read.val_main_v27_eq, e0, e1, e2, e3, e4]
      funext y
      obtain ⟨R, j, rfl⟩ : ∃ (R : Fin 16384) (j : Fin 1024), y = ix2 R j := ⟨y 0, y 1, eq_ix2 y⟩
      exact Cert.OddSpec.reference_narrow _ _ _ _ _ R j

end Cert.OddClaims

end
-- ==== Proof.lean ====
module

public import proofs.«01_k».proof.Defs
public import proofs.«01_k».proof.Proof.SwaClaims
public import proofs.«01_k».proof.Proof.MoeClaims
public import proofs.«01_k».proof.Proof.FfnClaims
public import proofs.«01_k».proof.Proof.ProjClaims
public import proofs.«01_k».proof.Proof.OutClaims
public import proofs.«01_k».proof.Proof.QkvClaims
public import proofs.«01_k».proof.Proof.OddClaims

@[expose] public section

noncomputable section

namespace Cert.Proof

theorem claim : Cert.Claim :=
  ⟨Cert.Kernel.Gen.facts, Cert.KernelIdeal.Gen.facts, Cert.ReferenceIdeal.Gen.facts, Cert.Moe.Gen.facts, Cert.MoeIdeal.Gen.facts,
    Cert.MoeReferenceIdeal.Gen.facts, Cert.Ffn.Gen.facts, Cert.FfnIdeal.Gen.facts, Cert.FfnReferenceIdeal.Gen.facts,
    Cert.Proj.Gen.facts, Cert.ProjIdeal.Gen.facts, Cert.ProjReferenceIdeal.Gen.facts,
    Cert.Out.Gen.facts, Cert.OutIdeal.Gen.facts, Cert.OutReferenceIdeal.Gen.facts,
    Cert.Qkv.Gen.facts, Cert.QkvIdeal.Gen.facts, Cert.QkvReferenceIdeal.Gen.facts,
    Cert.Odd.Gen.facts, Cert.OddIdeal.Gen.facts, Cert.OddReferenceIdeal.Gen.facts,
    Cert.Pre_finite.Gen.facts, Cert.Pre_tiles.Gen.facts,
    SwaClaims.frame_p, SwaClaims.frame_pi, SwaClaims.frame_pi_finite, SwaClaims.frame_ri, SwaClaims.frame_ri_finite,
    MoeClaims.frame_p, MoeClaims.frame_pi, MoeClaims.frame_ri, MoeClaims.frame_ri_tiles,
    FfnClaims.frame_p, FfnClaims.frame_pi, FfnClaims.frame_ri,
    ProjClaims.frame_p, ProjClaims.frame_pi, ProjClaims.frame_ri, OutClaims.frame_p, OutClaims.frame_pi, OutClaims.frame_ri,
    QkvClaims.frame_p, QkvClaims.frame_pi, QkvClaims.frame_ri, OddClaims.frame_p, OddClaims.frame_pi, OddClaims.frame_ri,
    SwaClaims.preserves, SwaClaims.algebraic, MoeClaims.preserves, MoeClaims.algebraic,
    FfnClaims.preserves, FfnClaims.algebraic, ProjClaims.preserves, ProjClaims.algebraic,
    OutClaims.preserves, OutClaims.algebraic, QkvClaims.preserves, QkvClaims.algebraic, OddClaims.preserves, OddClaims.algebraic⟩

end Cert.Proof

end
